-- ==== Defs.lean ====
def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_Gather [hPre_rows_named : Cert.Pre_rows_named.Facts] (m : (ℓ : Loc Cert.Gather.nD Cert.Gather.τ Cert.Gather.sig) → Buf (Elt Bits) ℓ) : Prop :=
  ∀ c : Dev Cert.Gather.nD,
    (Cert.Pre_rows_named.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_rows_named : Cert.Pre_rows_named.Facts] (m : (ℓ : Loc Cert.GatherIdeal.nD Cert.GatherIdeal.τ Cert.GatherIdeal.sig) → Buf (Elt Ideal) ℓ) : Prop :=
  ∀ c : Dev Cert.GatherIdeal.nD,
    (Cert.Pre_rows_named.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_RowsIdeal [hPre_rows_named : Cert.Pre_rows_named.Facts] (m : (ℓ : Loc Cert.RowsIdeal.nD Cert.RowsIdeal.τ Cert.RowsIdeal.sig) → Buf (Elt Ideal) ℓ) : Prop :=
  ∀ c : Dev Cert.RowsIdeal.nD,
    (Cert.Pre_rows_named.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_WrittenIdeal (m : (ℓ : Loc Cert.WrittenIdeal.nD Cert.WrittenIdeal.τ Cert.WrittenIdeal.sig) → Buf (Elt Ideal) ℓ) : Prop :=
  True

def Pre_WrittenIdeal_scaled_away [hPre_scaled_away : Cert.Pre_scaled_away.Facts] (m : (ℓ : Loc Cert.WrittenIdeal.nD Cert.WrittenIdeal.τ Cert.WrittenIdeal.sig) → Buf (Elt Ideal) ℓ) : Prop :=
  ∀ c : Dev Cert.WrittenIdeal.nD,
    (Cert.Pre_scaled_away.fn (F := Ideal) (m ((c.tc : Thread Cert.WrittenIdeal.nD Cert.WrittenIdeal.τ).loc Cert.WrittenIdeal.main_arg0)) (m ((c.tc : Thread Cert.WrittenIdeal.nD Cert.WrittenIdeal.τ).loc Cert.WrittenIdeal.main_arg1)) (m ((c.tc : Thread Cert.WrittenIdeal.nD Cert.WrittenIdeal.τ).loc Cert.WrittenIdeal.main_arg2)) (m ((c.tc : Thread Cert.WrittenIdeal.nD Cert.WrittenIdeal.τ).loc Cert.WrittenIdeal.main_arg3)) (m ((c.tc : Thread Cert.WrittenIdeal.nD Cert.WrittenIdeal.τ).loc Cert.WrittenIdeal.main_arg4)) (m ((c.tc : Thread Cert.WrittenIdeal.nD Cert.WrittenIdeal.τ).loc Cert.WrittenIdeal.main_arg5)) (m ((c.tc : Thread Cert.WrittenIdeal.nD Cert.WrittenIdeal.τ).loc Cert.WrittenIdeal.main_arg6)) (m ((c.tc : Thread Cert.WrittenIdeal.nD Cert.WrittenIdeal.τ).loc Cert.WrittenIdeal.main_arg7)) (m ((c.tc : Thread Cert.WrittenIdeal.nD Cert.WrittenIdeal.τ).loc Cert.WrittenIdeal.main_arg8)) (m ((c.tc : Thread Cert.WrittenIdeal.nD Cert.WrittenIdeal.τ).loc Cert.WrittenIdeal.main_arg9)) (m ((c.tc : Thread Cert.WrittenIdeal.nD Cert.WrittenIdeal.τ).loc Cert.WrittenIdeal.main_arg10)) (m ((c.tc : Thread Cert.WrittenIdeal.nD Cert.WrittenIdeal.τ).loc Cert.WrittenIdeal.main_arg11)) (m ((c.tc : Thread Cert.WrittenIdeal.nD Cert.WrittenIdeal.τ).loc Cert.WrittenIdeal.main_arg12)) (m ((c.tc : Thread Cert.WrittenIdeal.nD Cert.WrittenIdeal.τ).loc Cert.WrittenIdeal.main_arg13)) (m ((c.tc : Thread Cert.WrittenIdeal.nD Cert.WrittenIdeal.τ).loc Cert.WrittenIdeal.main_arg14)) (m ((c.tc : Thread Cert.WrittenIdeal.nD Cert.WrittenIdeal.τ).loc Cert.WrittenIdeal.main_arg15)) (m ((c.tc : Thread Cert.WrittenIdeal.nD Cert.WrittenIdeal.τ).loc Cert.WrittenIdeal.main_arg16))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Gather [hGather : Cert.Gather.Facts] [hPre_rows_named : Cert.Pre_rows_named.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_rows_named : Cert.Pre_rows_named.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_RowsIdeal [hRowsIdeal : Cert.RowsIdeal.Facts] [hPre_rows_named : Cert.Pre_rows_named.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3)
      ∧ r.2.mem ((c.tc : Thread Cert.Mixed.nD Cert.Mixed.τ).loc Cert.Mixed.main_arg4) = m ((c.tc : Thread Cert.Mixed.nD Cert.Mixed.τ).loc Cert.Mixed.main_arg4)
      ∧ r.2.mem ((c.tc : Thread Cert.Mixed.nD Cert.Mixed.τ).loc Cert.Mixed.main_arg5) = m ((c.tc : Thread Cert.Mixed.nD Cert.Mixed.τ).loc Cert.Mixed.main_arg5)
      ∧ r.2.mem ((c.tc : Thread Cert.Mixed.nD Cert.Mixed.τ).loc Cert.Mixed.main_arg6) = m ((c.tc : Thread Cert.Mixed.nD Cert.Mixed.τ).loc Cert.Mixed.main_arg6)
      ∧ r.2.mem ((c.tc : Thread Cert.Mixed.nD Cert.Mixed.τ).loc Cert.Mixed.main_arg7) = m ((c.tc : Thread Cert.Mixed.nD Cert.Mixed.τ).loc Cert.Mixed.main_arg7)
      ∧ r.2.mem ((c.tc : Thread Cert.Mixed.nD Cert.Mixed.τ).loc Cert.Mixed.main_arg8) = m ((c.tc : Thread Cert.Mixed.nD Cert.Mixed.τ).loc Cert.Mixed.main_arg8))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
      ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7)
      ∧ r.2.mem ((c.tc : Thread Cert.MixedIdeal.nD Cert.MixedIdeal.τ).loc Cert.MixedIdeal.main_arg8) = m ((c.tc : Thread Cert.MixedIdeal.nD Cert.MixedIdeal.τ).loc Cert.MixedIdeal.main_arg8))
      ∧ r.2.sem = fun _ => 0)

def quiescent_WrittenIdeal [hWrittenIdeal : Cert.WrittenIdeal.Facts] : Prop :=
  ∀ (m : (ℓ : Loc Cert.WrittenIdeal.nD Cert.WrittenIdeal.τ Cert.WrittenIdeal.sig) → Buf (Elt Ideal) ℓ) (g : Dev Cert.WrittenIdeal.nD → PrngReg), Pre_WrittenIdeal m →
    θ_run (Cert.WrittenIdeal.defs (F := Ideal)) (Cert.WrittenIdeal.threads (F := Ideal)) ⟨m, fun _ => 0, g⟩ (fun r => (∀ c : Dev Cert.WrittenIdeal.nD,
      r.2.mem ((c.tc : Thread Cert.WrittenIdeal.nD Cert.WrittenIdeal.τ).loc Cert.WrittenIdeal.main_arg0) = m ((c.tc : Thread Cert.WrittenIdeal.nD Cert.WrittenIdeal.τ).loc Cert.WrittenIdeal.main_arg0)
      ∧ r.2.mem ((c.tc : Thread Cert.WrittenIdeal.nD Cert.WrittenIdeal.τ).loc Cert.WrittenIdeal.main_arg1) = m ((c.tc : Thread Cert.WrittenIdeal.nD Cert.WrittenIdeal.τ).loc Cert.WrittenIdeal.main_arg1)
      ∧ r.2.mem ((c.tc : Thread Cert.WrittenIdeal.nD Cert.WrittenIdeal.τ).loc Cert.WrittenIdeal.main_arg2) = m ((c.tc : Thread Cert.WrittenIdeal.nD Cert.WrittenIdeal.τ).loc Cert.WrittenIdeal.main_arg2)
      ∧ r.2.mem ((c.tc : Thread Cert.WrittenIdeal.nD Cert.WrittenIdeal.τ).loc Cert.WrittenIdeal.main_arg3) = m ((c.tc : Thread Cert.WrittenIdeal.nD Cert.WrittenIdeal.τ).loc Cert.WrittenIdeal.main_arg3)
      ∧ r.2.mem ((c.tc : Thread Cert.WrittenIdeal.nD Cert.WrittenIdeal.τ).loc Cert.WrittenIdeal.main_arg4) = m ((c.tc : Thread Cert.WrittenIdeal.nD Cert.WrittenIdeal.τ).loc Cert.WrittenIdeal.main_arg4)
      ∧ r.2.mem ((c.tc : Thread Cert.WrittenIdeal.nD Cert.WrittenIdeal.τ).loc Cert.WrittenIdeal.main_arg5) = m ((c.tc : Thread Cert.WrittenIdeal.nD Cert.WrittenIdeal.τ).loc Cert.WrittenIdeal.main_arg5)
      ∧ r.2.mem ((c.tc : Thread Cert.WrittenIdeal.nD Cert.WrittenIdeal.τ).loc Cert.WrittenIdeal.main_arg6) = m ((c.tc : Thread Cert.WrittenIdeal.nD Cert.WrittenIdeal.τ).loc Cert.WrittenIdeal.main_arg6)
      ∧ r.2.mem ((c.tc : Thread Cert.WrittenIdeal.nD Cert.WrittenIdeal.τ).loc Cert.WrittenIdeal.main_arg7) = m ((c.tc : Thread Cert.WrittenIdeal.nD Cert.WrittenIdeal.τ).loc Cert.WrittenIdeal.main_arg7)
      ∧ r.2.mem ((c.tc : Thread Cert.WrittenIdeal.nD Cert.WrittenIdeal.τ).loc Cert.WrittenIdeal.main_arg8) = m ((c.tc : Thread Cert.WrittenIdeal.nD Cert.WrittenIdeal.τ).loc Cert.WrittenIdeal.main_arg8)
      ∧ r.2.mem ((c.tc : Thread Cert.WrittenIdeal.nD Cert.WrittenIdeal.τ).loc Cert.WrittenIdeal.main_arg9) = m ((c.tc : Thread Cert.WrittenIdeal.nD Cert.WrittenIdeal.τ).loc Cert.WrittenIdeal.main_arg9)
      ∧ r.2.mem ((c.tc : Thread Cert.WrittenIdeal.nD Cert.WrittenIdeal.τ).loc Cert.WrittenIdeal.main_arg10) = m ((c.tc : Thread Cert.WrittenIdeal.nD Cert.WrittenIdeal.τ).loc Cert.WrittenIdeal.main_arg10)
      ∧ r.2.mem ((c.tc : Thread Cert.WrittenIdeal.nD Cert.WrittenIdeal.τ).loc Cert.WrittenIdeal.main_arg11) = m ((c.tc : Thread Cert.WrittenIdeal.nD Cert.WrittenIdeal.τ).loc Cert.WrittenIdeal.main_arg11)
      ∧ r.2.mem ((c.tc : Thread Cert.WrittenIdeal.nD Cert.WrittenIdeal.τ).loc Cert.WrittenIdeal.main_arg12) = m ((c.tc : Thread Cert.WrittenIdeal.nD Cert.WrittenIdeal.τ).loc Cert.WrittenIdeal.main_arg12)
      ∧ r.2.mem ((c.tc : Thread Cert.WrittenIdeal.nD Cert.WrittenIdeal.τ).loc Cert.WrittenIdeal.main_arg13) = m ((c.tc : Thread Cert.WrittenIdeal.nD Cert.WrittenIdeal.τ).loc Cert.WrittenIdeal.main_arg13)
      ∧ r.2.mem ((c.tc : Thread Cert.WrittenIdeal.nD Cert.WrittenIdeal.τ).loc Cert.WrittenIdeal.main_arg14) = m ((c.tc : Thread Cert.WrittenIdeal.nD Cert.WrittenIdeal.τ).loc Cert.WrittenIdeal.main_arg14)
      ∧ r.2.mem ((c.tc : Thread Cert.WrittenIdeal.nD Cert.WrittenIdeal.τ).loc Cert.WrittenIdeal.main_arg15) = m ((c.tc : Thread Cert.WrittenIdeal.nD Cert.WrittenIdeal.τ).loc Cert.WrittenIdeal.main_arg15)
      ∧ r.2.mem ((c.tc : Thread Cert.WrittenIdeal.nD Cert.WrittenIdeal.τ).loc Cert.WrittenIdeal.main_arg16) = m ((c.tc : Thread Cert.WrittenIdeal.nD Cert.WrittenIdeal.τ).loc Cert.WrittenIdeal.main_arg16))
      ∧ r.2.sem = fun _ => 0)

def quiescent_WrittenIdeal_pre_scaled_away [hWrittenIdeal : Cert.WrittenIdeal.Facts] [hPre_scaled_away : Cert.Pre_scaled_away.Facts] : Prop :=
  ∀ (m : (ℓ : Loc Cert.WrittenIdeal.nD Cert.WrittenIdeal.τ Cert.WrittenIdeal.sig) → Buf (Elt Ideal) ℓ) (g : Dev Cert.WrittenIdeal.nD → PrngReg), Pre_WrittenIdeal_scaled_away m →
    θ_run (Cert.WrittenIdeal.defs (F := Ideal)) (Cert.WrittenIdeal.threads (F := Ideal)) ⟨m, fun _ => 0, g⟩ (fun r => (∀ c : Dev Cert.WrittenIdeal.nD,
      r.2.mem ((c.tc : Thread Cert.WrittenIdeal.nD Cert.WrittenIdeal.τ).loc Cert.WrittenIdeal.main_arg0) = m ((c.tc : Thread Cert.WrittenIdeal.nD Cert.WrittenIdeal.τ).loc Cert.WrittenIdeal.main_arg0)
      ∧ r.2.mem ((c.tc : Thread Cert.WrittenIdeal.nD Cert.WrittenIdeal.τ).loc Cert.WrittenIdeal.main_arg1) = m ((c.tc : Thread Cert.WrittenIdeal.nD Cert.WrittenIdeal.τ).loc Cert.WrittenIdeal.main_arg1)
      ∧ r.2.mem ((c.tc : Thread Cert.WrittenIdeal.nD Cert.WrittenIdeal.τ).loc Cert.WrittenIdeal.main_arg2) = m ((c.tc : Thread Cert.WrittenIdeal.nD Cert.WrittenIdeal.τ).loc Cert.WrittenIdeal.main_arg2)
      ∧ r.2.mem ((c.tc : Thread Cert.WrittenIdeal.nD Cert.WrittenIdeal.τ).loc Cert.WrittenIdeal.main_arg3) = m ((c.tc : Thread Cert.WrittenIdeal.nD Cert.WrittenIdeal.τ).loc Cert.WrittenIdeal.main_arg3)
      ∧ r.2.mem ((c.tc : Thread Cert.WrittenIdeal.nD Cert.WrittenIdeal.τ).loc Cert.WrittenIdeal.main_arg4) = m ((c.tc : Thread Cert.WrittenIdeal.nD Cert.WrittenIdeal.τ).loc Cert.WrittenIdeal.main_arg4)
      ∧ r.2.mem ((c.tc : Thread Cert.WrittenIdeal.nD Cert.WrittenIdeal.τ).loc Cert.WrittenIdeal.main_arg5) = m ((c.tc : Thread Cert.WrittenIdeal.nD Cert.WrittenIdeal.τ).loc Cert.WrittenIdeal.main_arg5)
      ∧ r.2.mem ((c.tc : Thread Cert.WrittenIdeal.nD Cert.WrittenIdeal.τ).loc Cert.WrittenIdeal.main_arg6) = m ((c.tc : Thread Cert.WrittenIdeal.nD Cert.WrittenIdeal.τ).loc Cert.WrittenIdeal.main_arg6)
      ∧ r.2.mem ((c.tc : Thread Cert.WrittenIdeal.nD Cert.WrittenIdeal.τ).loc Cert.WrittenIdeal.main_arg7) = m ((c.tc : Thread Cert.WrittenIdeal.nD Cert.WrittenIdeal.τ).loc Cert.WrittenIdeal.main_arg7)
      ∧ r.2.mem ((c.tc : Thread Cert.WrittenIdeal.nD Cert.WrittenIdeal.τ).loc Cert.WrittenIdeal.main_arg8) = m ((c.tc : Thread Cert.WrittenIdeal.nD Cert.WrittenIdeal.τ).loc Cert.WrittenIdeal.main_arg8)
      ∧ r.2.mem ((c.tc : Thread Cert.WrittenIdeal.nD Cert.WrittenIdeal.τ).loc Cert.WrittenIdeal.main_arg9) = m ((c.tc : Thread Cert.WrittenIdeal.nD Cert.WrittenIdeal.τ).loc Cert.WrittenIdeal.main_arg9)
      ∧ r.2.mem ((c.tc : Thread Cert.WrittenIdeal.nD Cert.WrittenIdeal.τ).loc Cert.WrittenIdeal.main_arg10) = m ((c.tc : Thread Cert.WrittenIdeal.nD Cert.WrittenIdeal.τ).loc Cert.WrittenIdeal.main_arg10)
      ∧ r.2.mem ((c.tc : Thread Cert.WrittenIdeal.nD Cert.WrittenIdeal.τ).loc Cert.WrittenIdeal.main_arg11) = m ((c.tc : Thread Cert.WrittenIdeal.nD Cert.WrittenIdeal.τ).loc Cert.WrittenIdeal.main_arg11)
      ∧ r.2.mem ((c.tc : Thread Cert.WrittenIdeal.nD Cert.WrittenIdeal.τ).loc Cert.WrittenIdeal.main_arg12) = m ((c.tc : Thread Cert.WrittenIdeal.nD Cert.WrittenIdeal.τ).loc Cert.WrittenIdeal.main_arg12)
      ∧ r.2.mem ((c.tc : Thread Cert.WrittenIdeal.nD Cert.WrittenIdeal.τ).loc Cert.WrittenIdeal.main_arg13) = m ((c.tc : Thread Cert.WrittenIdeal.nD Cert.WrittenIdeal.τ).loc Cert.WrittenIdeal.main_arg13)
      ∧ r.2.mem ((c.tc : Thread Cert.WrittenIdeal.nD Cert.WrittenIdeal.τ).loc Cert.WrittenIdeal.main_arg14) = m ((c.tc : Thread Cert.WrittenIdeal.nD Cert.WrittenIdeal.τ).loc Cert.WrittenIdeal.main_arg14)
      ∧ r.2.mem ((c.tc : Thread Cert.WrittenIdeal.nD Cert.WrittenIdeal.τ).loc Cert.WrittenIdeal.main_arg15) = m ((c.tc : Thread Cert.WrittenIdeal.nD Cert.WrittenIdeal.τ).loc Cert.WrittenIdeal.main_arg15)
      ∧ r.2.mem ((c.tc : Thread Cert.WrittenIdeal.nD Cert.WrittenIdeal.τ).loc Cert.WrittenIdeal.main_arg16) = m ((c.tc : Thread Cert.WrittenIdeal.nD Cert.WrittenIdeal.τ).loc Cert.WrittenIdeal.main_arg16))
      ∧ r.2.sem = fun _ => 0)

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Gather_GatherIdeal : Prop :=
  True

def algebraic_GatherIdeal_RowsIdeal [hGatherIdeal : Cert.GatherIdeal.Facts] [hRowsIdeal : Cert.RowsIdeal.Facts] [hPre_rows_named : Cert.Pre_rows_named.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.RowsIdeal.nD Cert.RowsIdeal.τ Cert.RowsIdeal.sig) → Buf (Elt Ideal) ℓ) (g' : Dev Cert.RowsIdeal.nD → PrngReg), Pre_GatherIdeal m →
    (∀ c : Dev Cert.GatherIdeal.nD,
      m' ((c.tc : Thread Cert.RowsIdeal.nD Cert.RowsIdeal.τ).loc Cert.RowsIdeal.main_arg0) = m ((c.tc : Thread Cert.GatherIdeal.nD Cert.GatherIdeal.τ).loc Cert.GatherIdeal.main_arg0)
      ∧ m' ((c.tc : Thread Cert.RowsIdeal.nD Cert.RowsIdeal.τ).loc Cert.RowsIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.RowsIdeal.defs (F := Ideal)) (onTc (τ := Cert.RowsIdeal.τ) (Cert.RowsIdeal.main (F := Ideal))) ⟨m', fun _ => 0, g'⟩ (fun r => ∀ c : Dev Cert.RowsIdeal.nD,
          r.2.mem ((c.tc : Thread Cert.RowsIdeal.nD Cert.RowsIdeal.τ).loc Cert.RowsIdeal.main_v6) = v0 c
          ∧ r.2.mem ((c.tc : Thread Cert.RowsIdeal.nD Cert.RowsIdeal.τ).loc Cert.RowsIdeal.main_arg0) = m' ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m' ((c.tc : Thread Cert.RowsIdeal.nD Cert.RowsIdeal.τ).loc Cert.RowsIdeal.main_arg1))

def preserves_Nearest_NearestIdeal : Prop :=
  True

def preserves_Mixed_MixedIdeal : Prop :=
  IdealRules.named_const.Statement Cert.MixedIdeal.κ "inv_sigma" .f32 0x3F4CCCCD#32 ((4 / 5 : ℝ) : EReal)

def holds_WrittenIdeal_one_number [hWrittenIdeal : Cert.WrittenIdeal.Facts] [hPost_one_number : Cert.Post_one_number.Facts] : Prop :=
  ∀ (m : (ℓ : Loc Cert.WrittenIdeal.nD Cert.WrittenIdeal.τ Cert.WrittenIdeal.sig) → Buf (Elt Ideal) ℓ) (g : Dev Cert.WrittenIdeal.nD → PrngReg), Pre_WrittenIdeal m →
    θ_run (Cert.WrittenIdeal.defs (F := Ideal)) (Cert.WrittenIdeal.threads (F := Ideal)) ⟨m, fun _ => 0, g⟩ (fun r => ∀ c : Dev Cert.WrittenIdeal.nD,
      r.2.mem ((c.tc : Thread Cert.WrittenIdeal.nD Cert.WrittenIdeal.τ).loc Cert.WrittenIdeal.main_arg0) = m ((c.tc : Thread Cert.WrittenIdeal.nD Cert.WrittenIdeal.τ).loc Cert.WrittenIdeal.main_arg0)
      ∧ r.2.mem ((c.tc : Thread Cert.WrittenIdeal.nD Cert.WrittenIdeal.τ).loc Cert.WrittenIdeal.main_arg1) = m ((c.tc : Thread Cert.WrittenIdeal.nD Cert.WrittenIdeal.τ).loc Cert.WrittenIdeal.main_arg1)
      ∧ r.2.mem ((c.tc : Thread Cert.WrittenIdeal.nD Cert.WrittenIdeal.τ).loc Cert.WrittenIdeal.main_arg2) = m ((c.tc : Thread Cert.WrittenIdeal.nD Cert.WrittenIdeal.τ).loc Cert.WrittenIdeal.main_arg2)
      ∧ r.2.mem ((c.tc : Thread Cert.WrittenIdeal.nD Cert.WrittenIdeal.τ).loc Cert.WrittenIdeal.main_arg3) = m ((c.tc : Thread Cert.WrittenIdeal.nD Cert.WrittenIdeal.τ).loc Cert.WrittenIdeal.main_arg3)
      ∧ r.2.mem ((c.tc : Thread Cert.WrittenIdeal.nD Cert.WrittenIdeal.τ).loc Cert.WrittenIdeal.main_arg4) = m ((c.tc : Thread Cert.WrittenIdeal.nD Cert.WrittenIdeal.τ).loc Cert.WrittenIdeal.main_arg4)
      ∧ r.2.mem ((c.tc : Thread Cert.WrittenIdeal.nD Cert.WrittenIdeal.τ).loc Cert.WrittenIdeal.main_arg5) = m ((c.tc : Thread Cert.WrittenIdeal.nD Cert.WrittenIdeal.τ).loc Cert.WrittenIdeal.main_arg5)
      ∧ r.2.mem ((c.tc : Thread Cert.WrittenIdeal.nD Cert.WrittenIdeal.τ).loc Cert.WrittenIdeal.main_arg6) = m ((c.tc : Thread Cert.WrittenIdeal.nD Cert.WrittenIdeal.τ).loc Cert.WrittenIdeal.main_arg6)
      ∧ r.2.mem ((c.tc : Thread Cert.WrittenIdeal.nD Cert.WrittenIdeal.τ).loc Cert.WrittenIdeal.main_arg7) = m ((c.tc : Thread Cert.WrittenIdeal.nD Cert.WrittenIdeal.τ).loc Cert.WrittenIdeal.main_arg7)
      ∧ r.2.mem ((c.tc : Thread Cert.WrittenIdeal.nD Cert.WrittenIdeal.τ).loc Cert.WrittenIdeal.main_arg8) = m ((c.tc : Thread Cert.WrittenIdeal.nD Cert.WrittenIdeal.τ).loc Cert.WrittenIdeal.main_arg8)
      ∧ r.2.mem ((c.tc : Thread Cert.WrittenIdeal.nD Cert.WrittenIdeal.τ).loc Cert.WrittenIdeal.main_arg9) = m ((c.tc : Thread Cert.WrittenIdeal.nD Cert.WrittenIdeal.τ).loc Cert.WrittenIdeal.main_arg9)
      ∧ r.2.mem ((c.tc : Thread Cert.WrittenIdeal.nD Cert.WrittenIdeal.τ).loc Cert.WrittenIdeal.main_arg10) = m ((c.tc : Thread Cert.WrittenIdeal.nD Cert.WrittenIdeal.τ).loc Cert.WrittenIdeal.main_arg10)
      ∧ r.2.mem ((c.tc : Thread Cert.WrittenIdeal.nD Cert.WrittenIdeal.τ).loc Cert.WrittenIdeal.main_arg11) = m ((c.tc : Thread Cert.WrittenIdeal.nD Cert.WrittenIdeal.τ).loc Cert.WrittenIdeal.main_arg11)
      ∧ r.2.mem ((c.tc : Thread Cert.WrittenIdeal.nD Cert.WrittenIdeal.τ).loc Cert.WrittenIdeal.main_arg12) = m ((c.tc : Thread Cert.WrittenIdeal.nD Cert.WrittenIdeal.τ).loc Cert.WrittenIdeal.main_arg12)
      ∧ r.2.mem ((c.tc : Thread Cert.WrittenIdeal.nD Cert.WrittenIdeal.τ).loc Cert.WrittenIdeal.main_arg13) = m ((c.tc : Thread Cert.WrittenIdeal.nD Cert.WrittenIdeal.τ).loc Cert.WrittenIdeal.main_arg13)
      ∧ r.2.mem ((c.tc : Thread Cert.WrittenIdeal.nD Cert.WrittenIdeal.τ).loc Cert.WrittenIdeal.main_arg14) = m ((c.tc : Thread Cert.WrittenIdeal.nD Cert.WrittenIdeal.τ).loc Cert.WrittenIdeal.main_arg14)
      ∧ r.2.mem ((c.tc : Thread Cert.WrittenIdeal.nD Cert.WrittenIdeal.τ).loc Cert.WrittenIdeal.main_arg15) = m ((c.tc : Thread Cert.WrittenIdeal.nD Cert.WrittenIdeal.τ).loc Cert.WrittenIdeal.main_arg15)
      ∧ r.2.mem ((c.tc : Thread Cert.WrittenIdeal.nD Cert.WrittenIdeal.τ).loc Cert.WrittenIdeal.main_arg16) = m ((c.tc : Thread Cert.WrittenIdeal.nD Cert.WrittenIdeal.τ).loc Cert.WrittenIdeal.main_arg16)
      ∧ (Cert.Post_one_number.fn (F := Ideal) (m ((c.tc : Thread Cert.WrittenIdeal.nD Cert.WrittenIdeal.τ).loc Cert.WrittenIdeal.main_arg0)) (m ((c.tc : Thread Cert.WrittenIdeal.nD Cert.WrittenIdeal.τ).loc Cert.WrittenIdeal.main_arg1)) (m ((c.tc : Thread Cert.WrittenIdeal.nD Cert.WrittenIdeal.τ).loc Cert.WrittenIdeal.main_arg2)) (m ((c.tc : Thread Cert.WrittenIdeal.nD Cert.WrittenIdeal.τ).loc Cert.WrittenIdeal.main_arg3)) (m ((c.tc : Thread Cert.WrittenIdeal.nD Cert.WrittenIdeal.τ).loc Cert.WrittenIdeal.main_arg4)) (m ((c.tc : Thread Cert.WrittenIdeal.nD Cert.WrittenIdeal.τ).loc Cert.WrittenIdeal.main_arg5)) (m ((c.tc : Thread Cert.WrittenIdeal.nD Cert.WrittenIdeal.τ).loc Cert.WrittenIdeal.main_arg6)) (m ((c.tc : Thread Cert.WrittenIdeal.nD Cert.WrittenIdeal.τ).loc Cert.WrittenIdeal.main_arg7)) (m ((c.tc : Thread Cert.WrittenIdeal.nD Cert.WrittenIdeal.τ).loc Cert.WrittenIdeal.main_arg8)) (m ((c.tc : Thread Cert.WrittenIdeal.nD Cert.WrittenIdeal.τ).loc Cert.WrittenIdeal.main_arg9)) (m ((c.tc : Thread Cert.WrittenIdeal.nD Cert.WrittenIdeal.τ).loc Cert.WrittenIdeal.main_arg10)) (m ((c.tc : Thread Cert.WrittenIdeal.nD Cert.WrittenIdeal.τ).loc Cert.WrittenIdeal.main_arg11)) (m ((c.tc : Thread Cert.WrittenIdeal.nD Cert.WrittenIdeal.τ).loc Cert.WrittenIdeal.main_arg12)) (m ((c.tc : Thread Cert.WrittenIdeal.nD Cert.WrittenIdeal.τ).loc Cert.WrittenIdeal.main_arg13)) (m ((c.tc : Thread Cert.WrittenIdeal.nD Cert.WrittenIdeal.τ).loc Cert.WrittenIdeal.main_arg14)) (m ((c.tc : Thread Cert.WrittenIdeal.nD Cert.WrittenIdeal.τ).loc Cert.WrittenIdeal.main_arg15)) (m ((c.tc : Thread Cert.WrittenIdeal.nD Cert.WrittenIdeal.τ).loc Cert.WrittenIdeal.main_arg16)) (r.2.mem ((c.tc : Thread Cert.WrittenIdeal.nD Cert.WrittenIdeal.τ).loc Cert.WrittenIdeal.main_v59)) (r.2.mem ((c.tc : Thread Cert.WrittenIdeal.nD Cert.WrittenIdeal.τ).loc Cert.WrittenIdeal.main_v7_0))) = (fun _ => 1#1))

def holds_WrittenIdeal_not_the_reference_pre_scaled_away [hWrittenIdeal : Cert.WrittenIdeal.Facts] [hPre_scaled_away : Cert.Pre_scaled_away.Facts] [hPost_not_the_reference : Cert.Post_not_the_reference.Facts] : Prop :=
  ∀ (m : (ℓ : Loc Cert.WrittenIdeal.nD Cert.WrittenIdeal.τ Cert.WrittenIdeal.sig) → Buf (Elt Ideal) ℓ) (g : Dev Cert.WrittenIdeal.nD → PrngReg), Pre_WrittenIdeal_scaled_away m →
    θ_run (Cert.WrittenIdeal.defs (F := Ideal)) (Cert.WrittenIdeal.threads (F := Ideal)) ⟨m, fun _ => 0, g⟩ (fun r => ∀ c : Dev Cert.WrittenIdeal.nD,
      r.2.mem ((c.tc : Thread Cert.WrittenIdeal.nD Cert.WrittenIdeal.τ).loc Cert.WrittenIdeal.main_arg0) = m ((c.tc : Thread Cert.WrittenIdeal.nD Cert.WrittenIdeal.τ).loc Cert.WrittenIdeal.main_arg0)
      ∧ r.2.mem ((c.tc : Thread Cert.WrittenIdeal.nD Cert.WrittenIdeal.τ).loc Cert.WrittenIdeal.main_arg1) = m ((c.tc : Thread Cert.WrittenIdeal.nD Cert.WrittenIdeal.τ).loc Cert.WrittenIdeal.main_arg1)
      ∧ r.2.mem ((c.tc : Thread Cert.WrittenIdeal.nD Cert.WrittenIdeal.τ).loc Cert.WrittenIdeal.main_arg2) = m ((c.tc : Thread Cert.WrittenIdeal.nD Cert.WrittenIdeal.τ).loc Cert.WrittenIdeal.main_arg2)
      ∧ r.2.mem ((c.tc : Thread Cert.WrittenIdeal.nD Cert.WrittenIdeal.τ).loc Cert.WrittenIdeal.main_arg3) = m ((c.tc : Thread Cert.WrittenIdeal.nD Cert.WrittenIdeal.τ).loc Cert.WrittenIdeal.main_arg3)
      ∧ r.2.mem ((c.tc : Thread Cert.WrittenIdeal.nD Cert.WrittenIdeal.τ).loc Cert.WrittenIdeal.main_arg4) = m ((c.tc : Thread Cert.WrittenIdeal.nD Cert.WrittenIdeal.τ).loc Cert.WrittenIdeal.main_arg4)
      ∧ r.2.mem ((c.tc : Thread Cert.WrittenIdeal.nD Cert.WrittenIdeal.τ).loc Cert.WrittenIdeal.main_arg5) = m ((c.tc : Thread Cert.WrittenIdeal.nD Cert.WrittenIdeal.τ).loc Cert.WrittenIdeal.main_arg5)
      ∧ r.2.mem ((c.tc : Thread Cert.WrittenIdeal.nD Cert.WrittenIdeal.τ).loc Cert.WrittenIdeal.main_arg6) = m ((c.tc : Thread Cert.WrittenIdeal.nD Cert.WrittenIdeal.τ).loc Cert.WrittenIdeal.main_arg6)
      ∧ r.2.mem ((c.tc : Thread Cert.WrittenIdeal.nD Cert.WrittenIdeal.τ).loc Cert.WrittenIdeal.main_arg7) = m ((c.tc : Thread Cert.WrittenIdeal.nD Cert.WrittenIdeal.τ).loc Cert.WrittenIdeal.main_arg7)
      ∧ r.2.mem ((c.tc : Thread Cert.WrittenIdeal.nD Cert.WrittenIdeal.τ).loc Cert.WrittenIdeal.main_arg8) = m ((c.tc : Thread Cert.WrittenIdeal.nD Cert.WrittenIdeal.τ).loc Cert.WrittenIdeal.main_arg8)
      ∧ r.2.mem ((c.tc : Thread Cert.WrittenIdeal.nD Cert.WrittenIdeal.τ).loc Cert.WrittenIdeal.main_arg9) = m ((c.tc : Thread Cert.WrittenIdeal.nD Cert.WrittenIdeal.τ).loc Cert.WrittenIdeal.main_arg9)
      ∧ r.2.mem ((c.tc : Thread Cert.WrittenIdeal.nD Cert.WrittenIdeal.τ).loc Cert.WrittenIdeal.main_arg10) = m ((c.tc : Thread Cert.WrittenIdeal.nD Cert.WrittenIdeal.τ).loc Cert.WrittenIdeal.main_arg10)
      ∧ r.2.mem ((c.tc : Thread Cert.WrittenIdeal.nD Cert.WrittenIdeal.τ).loc Cert.WrittenIdeal.main_arg11) = m ((c.tc : Thread Cert.WrittenIdeal.nD Cert.WrittenIdeal.τ).loc Cert.WrittenIdeal.main_arg11)
      ∧ r.2.mem ((c.tc : Thread Cert.WrittenIdeal.nD Cert.WrittenIdeal.τ).loc Cert.WrittenIdeal.main_arg12) = m ((c.tc : Thread Cert.WrittenIdeal.nD Cert.WrittenIdeal.τ).loc Cert.WrittenIdeal.main_arg12)
      ∧ r.2.mem ((c.tc : Thread Cert.WrittenIdeal.nD Cert.WrittenIdeal.τ).loc Cert.WrittenIdeal.main_arg13) = m ((c.tc : Thread Cert.WrittenIdeal.nD Cert.WrittenIdeal.τ).loc Cert.WrittenIdeal.main_arg13)
      ∧ r.2.mem ((c.tc : Thread Cert.WrittenIdeal.nD Cert.WrittenIdeal.τ).loc Cert.WrittenIdeal.main_arg14) = m ((c.tc : Thread Cert.WrittenIdeal.nD Cert.WrittenIdeal.τ).loc Cert.WrittenIdeal.main_arg14)
      ∧ r.2.mem ((c.tc : Thread Cert.WrittenIdeal.nD Cert.WrittenIdeal.τ).loc Cert.WrittenIdeal.main_arg15) = m ((c.tc : Thread Cert.WrittenIdeal.nD Cert.WrittenIdeal.τ).loc Cert.WrittenIdeal.main_arg15)
      ∧ r.2.mem ((c.tc : Thread Cert.WrittenIdeal.nD Cert.WrittenIdeal.τ).loc Cert.WrittenIdeal.main_arg16) = m ((c.tc : Thread Cert.WrittenIdeal.nD Cert.WrittenIdeal.τ).loc Cert.WrittenIdeal.main_arg16)
      ∧ (Cert.Post_not_the_reference.fn (F := Ideal) (m ((c.tc : Thread Cert.WrittenIdeal.nD Cert.WrittenIdeal.τ).loc Cert.WrittenIdeal.main_arg0)) (m ((c.tc : Thread Cert.WrittenIdeal.nD Cert.WrittenIdeal.τ).loc Cert.WrittenIdeal.main_arg1)) (m ((c.tc : Thread Cert.WrittenIdeal.nD Cert.WrittenIdeal.τ).loc Cert.WrittenIdeal.main_arg2)) (m ((c.tc : Thread Cert.WrittenIdeal.nD Cert.WrittenIdeal.τ).loc Cert.WrittenIdeal.main_arg3)) (m ((c.tc : Thread Cert.WrittenIdeal.nD Cert.WrittenIdeal.τ).loc Cert.WrittenIdeal.main_arg4)) (m ((c.tc : Thread Cert.WrittenIdeal.nD Cert.WrittenIdeal.τ).loc Cert.WrittenIdeal.main_arg5)) (m ((c.tc : Thread Cert.WrittenIdeal.nD Cert.WrittenIdeal.τ).loc Cert.WrittenIdeal.main_arg6)) (m ((c.tc : Thread Cert.WrittenIdeal.nD Cert.WrittenIdeal.τ).loc Cert.WrittenIdeal.main_arg7)) (m ((c.tc : Thread Cert.WrittenIdeal.nD Cert.WrittenIdeal.τ).loc Cert.WrittenIdeal.main_arg8)) (m ((c.tc : Thread Cert.WrittenIdeal.nD Cert.WrittenIdeal.τ).loc Cert.WrittenIdeal.main_arg9)) (m ((c.tc : Thread Cert.WrittenIdeal.nD Cert.WrittenIdeal.τ).loc Cert.WrittenIdeal.main_arg10)) (m ((c.tc : Thread Cert.WrittenIdeal.nD Cert.WrittenIdeal.τ).loc Cert.WrittenIdeal.main_arg11)) (m ((c.tc : Thread Cert.WrittenIdeal.nD Cert.WrittenIdeal.τ).loc Cert.WrittenIdeal.main_arg12)) (m ((c.tc : Thread Cert.WrittenIdeal.nD Cert.WrittenIdeal.τ).loc Cert.WrittenIdeal.main_arg13)) (m ((c.tc : Thread Cert.WrittenIdeal.nD Cert.WrittenIdeal.τ).loc Cert.WrittenIdeal.main_arg14)) (m ((c.tc : Thread Cert.WrittenIdeal.nD Cert.WrittenIdeal.τ).loc Cert.WrittenIdeal.main_arg15)) (m ((c.tc : Thread Cert.WrittenIdeal.nD Cert.WrittenIdeal.τ).loc Cert.WrittenIdeal.main_arg16)) (r.2.mem ((c.tc : Thread Cert.WrittenIdeal.nD Cert.WrittenIdeal.τ).loc Cert.WrittenIdeal.main_v59)) (r.2.mem ((c.tc : Thread Cert.WrittenIdeal.nD Cert.WrittenIdeal.τ).loc Cert.WrittenIdeal.main_v7_0))) = (fun _ => 1#1))

def Claim : Prop :=
  ∃ (hKernelIdeal : Cert.KernelIdeal.Facts) (hReferenceIdeal : Cert.ReferenceIdeal.Facts) (hGather : Cert.Gather.Facts) (hGatherIdeal : Cert.GatherIdeal.Facts) (hRowsIdeal : Cert.RowsIdeal.Facts) (hNearest : Cert.Nearest.Facts) (hNearestIdeal : Cert.NearestIdeal.Facts) (hMixed : Cert.Mixed.Facts) (hMixedIdeal : Cert.MixedIdeal.Facts) (hWrittenIdeal : Cert.WrittenIdeal.Facts) (hPre_as_drawn : Cert.Pre_as_drawn.Facts) (hPre_rows_named : Cert.Pre_rows_named.Facts) (hPre_scaled_away : Cert.Pre_scaled_away.Facts) (hPost_one_number : Cert.Post_one_number.Facts) (hPost_not_the_reference : Cert.Post_not_the_reference.Facts),
    quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ quiescent_Gather (hGather := hGather) (hPre_rows_named := hPre_rows_named)
    ∧ quiescent_GatherIdeal (hGatherIdeal := hGatherIdeal) (hPre_rows_named := hPre_rows_named)
    ∧ quiescent_RowsIdeal (hRowsIdeal := hRowsIdeal) (hPre_rows_named := hPre_rows_named)
    ∧ quiescent_Nearest (hNearest := hNearest)
    ∧ quiescent_NearestIdeal (hNearestIdeal := hNearestIdeal)
    ∧ quiescent_Mixed (hMixed := hMixed)
    ∧ quiescent_MixedIdeal (hMixedIdeal := hMixedIdeal)
    ∧ quiescent_WrittenIdeal (hWrittenIdeal := hWrittenIdeal)
    ∧ quiescent_WrittenIdeal_pre_scaled_away (hWrittenIdeal := hWrittenIdeal) (hPre_scaled_away := hPre_scaled_away)
    ∧ algebraic_KernelIdeal_ReferenceIdeal_pre_as_drawn (hKernelIdeal := hKernelIdeal) (hReferenceIdeal := hReferenceIdeal) (hPre_as_drawn := hPre_as_drawn)
    ∧ preserves_Gather_GatherIdeal
    ∧ algebraic_GatherIdeal_RowsIdeal (hGatherIdeal := hGatherIdeal) (hRowsIdeal := hRowsIdeal) (hPre_rows_named := hPre_rows_named)
    ∧ preserves_Nearest_NearestIdeal
    ∧ preserves_Mixed_MixedIdeal
    ∧ holds_WrittenIdeal_one_number (hWrittenIdeal := hWrittenIdeal) (hPost_one_number := hPost_one_number)
    ∧ holds_WrittenIdeal_not_the_reference_pre_scaled_away (hWrittenIdeal := hWrittenIdeal) (hPre_scaled_away := hPre_scaled_away) (hPost_not_the_reference := hPost_not_the_reference)
-- ==== Post_not_the_reference.lean ====
abbrev S4x512x3 : Shape := ⟨3, ![4, 512, 3]⟩
abbrev S4x512 : Shape := ⟨2, ![4, 512]⟩
abbrev S4x1024x5x3 : Shape := ⟨4, ![4, 1024, 5, 3]⟩
abbrev S4x1024x25x3 : Shape := ⟨4, ![4, 1024, 25, 3]⟩
abbrev S4x1024x25 : Shape := ⟨3, ![4, 1024, 25]⟩
abbrev S4 : Shape := ⟨1, ![4]⟩
abbrev S4x1024 : Shape := ⟨2, ![4, 1024]⟩
abbrev S4x1024x37 : Shape := ⟨3, ![4, 1024, 37]⟩
abbrev S4x1024x3 : Shape := ⟨3, ![4, 1024, 3]⟩
abbrev S66x16 : Shape := ⟨2, ![66, 16]⟩
abbrev S16 : Shape := ⟨1, ![16]⟩
abbrev S416x128 : Shape := ⟨2, ![416, 128]⟩
abbrev S128 : Shape := ⟨1, ![128]⟩
abbrev S4x1024x48x128 : Shape := ⟨4, ![4, 1024, 48, 128]⟩
abbrev S4x1024x48 : Shape := ⟨3, ![4, 1024, 48]⟩
abbrev S24 : Shape := ⟨1, ![24]⟩
abbrev S4x1024x1x3 : Shape := ⟨4, ![4, 1024, 1, 3]⟩
abbrev S4x1024x1 : Shape := ⟨3, ![4, 1024, 1]⟩
abbrev S_ : Shape := ⟨0, ![]⟩
abbrev S4x1x1024 : Shape := ⟨3, ![4, 1, 1024]⟩
abbrev S4x1024x1024 : Shape := ⟨3, ![4, 1024, 1024]⟩
abbrev S4x1x1024x3 : Shape := ⟨4, ![4, 1, 1024, 3]⟩
abbrev S4x1024x1024x3 : Shape := ⟨4, ![4, 1024, 1024, 3]⟩
abbrev S24x1 : Shape := ⟨2, ![24, 1]⟩
abbrev S4x1024x24x3 : Shape := ⟨4, ![4, 1024, 24, 3]⟩
abbrev S4x1024x1x24x3 : Shape := ⟨5, ![4, 1024, 1, 24, 3]⟩
abbrev S4x1x1024x24x3 : Shape := ⟨5, ![4, 1, 1024, 24, 3]⟩
abbrev S4x1024x1024x24x3 : Shape := ⟨5, ![4, 1024, 1024, 24, 3]⟩
abbrev S4x1024x1024x24 : Shape := ⟨4, ![4, 1024, 1024, 24]⟩
abbrev S4x1024x48x1 : Shape := ⟨4, ![4, 1024, 48, 1]⟩
abbrev S4x1024x48x24 : Shape := ⟨4, ![4, 1024, 48, 24]⟩
abbrev S4x1024x48x25 : Shape := ⟨4, ![4, 1024, 48, 25]⟩
abbrev S4x1024x48x25x1 : Shape := ⟨5, ![4, 1024, 48, 25, 1]⟩
abbrev S1x1x1x1x16 : Shape := ⟨5, ![1, 1, 1, 1, 16]⟩
abbrev S4x1024x48x25x16 : Shape := ⟨5, ![4, 1024, 48, 25, 16]⟩
abbrev S4x1024x48x400 : Shape := ⟨4, ![4, 1024, 48, 400]⟩
abbrev S1x1x1x66 : Shape := ⟨4, ![1, 1, 1, 66]⟩
abbrev S4x1024x48x66 : Shape := ⟨4, ![4, 1024, 48, 66]⟩
abbrev S4x1024x48x16 : Shape := ⟨4, ![4, 1024, 48, 16]⟩
abbrev S1x1x1x16 : Shape := ⟨4, ![1, 1, 1, 16]⟩
abbrev S4x1024x48x416 : Shape := ⟨4, ![4, 1024, 48, 416]⟩
abbrev S1x1x1x128 : Shape := ⟨4, ![1, 1, 1, 128]⟩

class Facts : Prop where
  slices_S4x1024x5x3_S4x1024x1x3_0_0_1_0 : S4x1024x5x3.Slices ![0, 0, 1, 0] S4x1024x1x3
  shapeCasts_S4x1024x1x3_S4x1024x3 : S4x1024x1x3.ShapeCasts S4x1024x3
  slices_S4x1024x5x3_S4x1024x1x3_0_0_0_0 : S4x1024x5x3.Slices ![0, 0, 0, 0] S4x1024x1x3
  slices_S4x1024x5x3_S4x1024x1x3_0_0_2_0 : S4x1024x5x3.Slices ![0, 0, 2, 0] S4x1024x1x3
  slices_S4x1024x3_S4x1024x1_0_0_1 : S4x1024x3.Slices ![0, 0, 1] S4x1024x1
  shapeCasts_S4x1024x1_S4x1024 : S4x1024x1.ShapeCasts S4x1024
  slices_S4x1024x3_S4x1024x1_0_0_2 : S4x1024x3.Slices ![0, 0, 2] S4x1024x1
  slices_S4x1024x3_S4x1024x1_0_0_0 : S4x1024x3.Slices ![0, 0, 0] S4x1024x1
  bcast_S4x1024_S4x1024x1_0_1 : S4x1024.BroadcastsInDim S4x1024x1 (![0, 1] : Fin 2 → Fin S4x1024x1.rank)
  concatenates_S4x1024x1_S4x1024x1_S4x1024x1_S4x1024x3_d2 : Shape.Concatenates [S4x1024x1, S4x1024x1, S4x1024x1] S4x1024x3 2
  bcast_S_S4x1024x3 : S_.BroadcastsInDim S4x1024x3 (![] : Fin 0 → Fin S4x1024x3.rank)
  bcast_S4x1024_S4x1x1024_0_2 : S4x1024.BroadcastsInDim S4x1x1024 (![0, 2] : Fin 2 → Fin S4x1x1024.rank)
  bcast_S4x1x1024_S4x1024x1024_0_1_2 : S4x1x1024.BroadcastsInDim S4x1024x1024 (![0, 1, 2] : Fin 3 → Fin S4x1024x1024.rank)
  bcast_S4x1024x1_S4x1024x1024_0_1_2 : S4x1024x1.BroadcastsInDim S4x1024x1024 (![0, 1, 2] : Fin 3 → Fin S4x1024x1024.rank)
  bcast_S4x1024x3_S4x1x1024x3_0_2_3 : S4x1024x3.BroadcastsInDim S4x1x1024x3 (![0, 2, 3] : Fin 3 → Fin S4x1x1024x3.rank)
  bcast_S4x1024x3_S4x1024x1x3_0_1_3 : S4x1024x3.BroadcastsInDim S4x1024x1x3 (![0, 1, 3] : Fin 3 → Fin S4x1024x1x3.rank)
  bcast_S4x1x1024x3_S4x1024x1024x3_0_1_2_3 : S4x1x1024x3.BroadcastsInDim S4x1024x1024x3 (![0, 1, 2, 3] : Fin 4 → Fin S4x1024x1024x3.rank)
  bcast_S4x1024x1x3_S4x1024x1024x3_0_1_2_3 : S4x1024x1x3.BroadcastsInDim S4x1024x1024x3 (![0, 1, 2, 3] : Fin 4 → Fin S4x1024x1024x3.rank)
  reducesTo_S4x1024x1024x3_S4x1024x1024_d3 : S4x1024x1024x3.ReducesTo [3] S4x1024x1024
  h_S_ : 0 < S_.numel
  bcast_S_S4x1024x1024 : S_.BroadcastsInDim S4x1024x1024 (![] : Fin 0 → Fin S4x1024x1024.rank)
  reducesTo_S4x1024x1024_S4x1024_d2 : S4x1024x1024.ReducesTo [2] S4x1024
  sliceFits_S4x1024x1024_S4x1024x48 : S4x1024x1024.Slices (fun _ => 0) S4x1024x48
  slices_S4x1024x5x3_S4x1024x1x3_0_0_4_0 : S4x1024x5x3.Slices ![0, 0, 4, 0] S4x1024x1x3
  concatenates_S4x1024x1x3_S4x1024x1x3_S4x1024x1x3_S4x1024x1x3_S4x1024x1x3_S4x1024x5x3_d2 : Shape.Concatenates [S4x1024x1x3, S4x1024x1x3, S4x1024x1x3, S4x1024x1x3, S4x1024x1x3] S4x1024x5x3 2
  bcast_S24_S24x1_0 : S24.BroadcastsInDim S24x1 (![0] : Fin 1 → Fin S24x1.rank)
  bcast_S4x1024x24x3_S4x1024x1x24x3_0_1_3_4 : S4x1024x24x3.BroadcastsInDim S4x1024x1x24x3 (![0, 1, 3, 4] : Fin 4 → Fin S4x1024x1x24x3.rank)
  bcast_S4x1024x24x3_S4x1x1024x24x3_0_2_3_4 : S4x1024x24x3.BroadcastsInDim S4x1x1024x24x3 (![0, 2, 3, 4] : Fin 4 → Fin S4x1x1024x24x3.rank)
  bcast_S4x1024x1x24x3_S4x1024x1024x24x3_0_1_2_3_4 : S4x1024x1x24x3.BroadcastsInDim S4x1024x1024x24x3 (![0, 1, 2, 3, 4] : Fin 5 → Fin S4x1024x1024x24x3.rank)
  bcast_S4x1x1024x24x3_S4x1024x1024x24x3_0_1_2_3_4 : S4x1x1024x24x3.BroadcastsInDim S4x1024x1024x24x3 (![0, 1, 2, 3, 4] : Fin 5 → Fin S4x1024x1024x24x3.rank)
  reducesTo_S4x1024x1024x24x3_S4x1024x1024x24_d4 : S4x1024x1024x24x3.ReducesTo [4] S4x1024x1024x24
  bcast_S_S4x1024x1024x24 : S_.BroadcastsInDim S4x1024x1024x24 (![] : Fin 0 → Fin S4x1024x1024x24.rank)
  bcast_S4x1024x48_S4x1024x48x1_0_1_2 : S4x1024x48.BroadcastsInDim S4x1024x48x1 (![0, 1, 2] : Fin 3 → Fin S4x1024x48x1.rank)
  bcast_S_S4x1024x48x1 : S_.BroadcastsInDim S4x1024x48x1 (![] : Fin 0 → Fin S4x1024x48x1.rank)
  concatenates_S4x1024x48x1_S4x1024x48x24_S4x1024x48x25_d3 : Shape.Concatenates [S4x1024x48x1, S4x1024x48x24] S4x1024x48x25 3
  bcast_S4x1024x48x25_S4x1024x48x25x1_0_1_2_3 : S4x1024x48x25.BroadcastsInDim S4x1024x48x25x1 (![0, 1, 2, 3] : Fin 4 → Fin S4x1024x48x25x1.rank)
  bcast_S16_S1x1x1x1x16_4 : S16.BroadcastsInDim S1x1x1x1x16 (![4] : Fin 1 → Fin S1x1x1x1x16.rank)
  bcast_S4x1024x48x25x1_S4x1024x48x25x16_0_1_2_3_4 : S4x1024x48x25x1.BroadcastsInDim S4x1024x48x25x16 (![0, 1, 2, 3, 4] : Fin 5 → Fin S4x1024x48x25x16.rank)
  bcast_S1x1x1x1x16_S4x1024x48x25x16_0_1_2_3_4 : S1x1x1x1x16.BroadcastsInDim S4x1024x48x25x16 (![0, 1, 2, 3, 4] : Fin 5 → Fin S4x1024x48x25x16.rank)
  bcast_S_S4x1024x48x25x16 : S_.BroadcastsInDim S4x1024x48x25x16 (![] : Fin 0 → Fin S4x1024x48x25x16.rank)
  shapeCasts_S4x1024x48x25x16_S4x1024x48x400 : S4x1024x48x25x16.ShapeCasts S4x1024x48x400
  bcast_S_S4x1024x48 : S_.BroadcastsInDim S4x1024x48 (![] : Fin 0 → Fin S4x1024x48.rank)
  shapeCasts_S4x1024x48_S4x1024x48x1 : S4x1024x48.ShapeCasts S4x1024x48x1
  natLt_1_32 : 1 < 32
  bcast_S4x1024x48x1_S4x1024x48x66_0_1_2_3 : S4x1024x48x1.BroadcastsInDim S4x1024x48x66 (![0, 1, 2, 3] : Fin 4 → Fin S4x1024x48x66.rank)
  bcast_S1x1x1x66_S4x1024x48x66_0_1_2_3 : S1x1x1x66.BroadcastsInDim S4x1024x48x66 (![0, 1, 2, 3] : Fin 4 → Fin S4x1024x48x66.rank)
  bcast_S16_S1x1x1x16_3 : S16.BroadcastsInDim S1x1x1x16 (![3] : Fin 1 → Fin S1x1x1x16.rank)
  bcast_S1x1x1x16_S4x1024x48x16_0_1_2_3 : S1x1x1x16.BroadcastsInDim S4x1024x48x16 (![0, 1, 2, 3] : Fin 4 → Fin S4x1024x48x16.rank)
  concatenates_S4x1024x48x16_S4x1024x48x400_S4x1024x48x416_d3 : Shape.Concatenates [S4x1024x48x16, S4x1024x48x400] S4x1024x48x416 3
  reducesTo_S4x1024x48x128_S4x1024x48_d3 : S4x1024x48x128.ReducesTo [3] S4x1024x48
  bcast_S4x1024x48x1_S4x1024x48x128_0_1_2_3 : S4x1024x48x1.BroadcastsInDim S4x1024x48x128 (![0, 1, 2, 3] : Fin 4 → Fin S4x1024x48x128.rank)
  bcast_S128_S1x1x1x128_3 : S128.BroadcastsInDim S1x1x1x128 (![3] : Fin 1 → Fin S1x1x1x128.rank)
  bcast_S1x1x1x128_S4x1024x48x128_0_1_2_3 : S1x1x1x128.BroadcastsInDim S4x1024x48x128 (![0, 1, 2, 3] : Fin 4 → Fin S4x1024x48x128.rank)
  reducesTo_S4x1024x48x128_S_d0_1_2_3 : S4x1024x48x128.ReducesTo [0, 1, 2, 3] S_
  gather_S4x1024x5x3_S24x1_S4x1024x24x3_013_2_n_n_2_1_4102413_wf : GatherDims.WF S4x1024x5x3 S24x1 S4x1024x24x3 [0, 1, 3] [2] [] [2] [] 1 ![4, 1024, 1, 3]
  gather_S4x1024x1024x24_S4x1024x48x1_S4x1024x48x24_3_2_01_01_2_3_11124_wf : GatherDims.WF S4x1024x1024x24 S4x1024x48x1 S4x1024x48x24 [3] [2] [0, 1] [2] [0, 1] 3 ![1, 1, 1, 24]
  gather_S4x1024x1024_S4x1024x48x1_S4x1024x48_n_2_01_01_2_3_111_wf : GatherDims.WF S4x1024x1024 S4x1024x48x1 S4x1024x48 [] [2] [0, 1] [2] [0, 1] 3 ![1, 1, 1]
  dot_S4x1024x48x66_S66x16_S4x1024x48x16_3_0_012_1_n_n_wf : DotDims.WF S4x1024x48x66 S66x16 S4x1024x48x16 [3] [0] [0, 1, 2] [1] [] []
  dot_S4x1024x48x416_S416x128_S4x1024x48x128_3_0_012_1_n_n_wf : DotDims.WF S4x1024x48x416 S416x128 S4x1024x48x128 [3] [0] [0, 1, 2] [1] [] []

variable [Facts]

def gather_S4x1024x5x3_S24x1_S4x1024x24x3_013_2_n_n_2_1_4102413 : GatherDims S4x1024x5x3 S24x1 S4x1024x24x3 where
  offsetDims := [0, 1, 3]
  collapsedSliceDims := [2]
  operandBatchingDims := []
  startIndicesBatchingDims := []
  startIndexMap := [2]
  indexVectorDim := 1
  sliceSizes := ![4, 1024, 1, 3]
  wf := gather_S4x1024x5x3_S24x1_S4x1024x24x3_013_2_n_n_2_1_4102413_wf
def gather_S4x1024x1024x24_S4x1024x48x1_S4x1024x48x24_3_2_01_01_2_3_11124 : GatherDims S4x1024x1024x24 S4x1024x48x1 S4x1024x48x24 where
  offsetDims := [3]
  collapsedSliceDims := [2]
  operandBatchingDims := [0, 1]
  startIndicesBatchingDims := [0, 1]
  startIndexMap := [2]
  indexVectorDim := 3
  sliceSizes := ![1, 1, 1, 24]
  wf := gather_S4x1024x1024x24_S4x1024x48x1_S4x1024x48x24_3_2_01_01_2_3_11124_wf
def gather_S4x1024x1024_S4x1024x48x1_S4x1024x48_n_2_01_01_2_3_111 : GatherDims S4x1024x1024 S4x1024x48x1 S4x1024x48 where
  offsetDims := []
  collapsedSliceDims := [2]
  operandBatchingDims := [0, 1]
  startIndicesBatchingDims := [0, 1]
  startIndexMap := [2]
  indexVectorDim := 3
  sliceSizes := ![1, 1, 1]
  wf := gather_S4x1024x1024_S4x1024x48x1_S4x1024x48_n_2_01_01_2_3_111_wf
def dot_S4x1024x48x66_S66x16_S4x1024x48x16_3_0_012_1_n_n : DotDims S4x1024x48x66 S66x16 S4x1024x48x16 where
  lhsContracting := [3]
  rhsContracting := [0]
  lhsNonContracting := [0, 1, 2]
  rhsNonContracting := [1]
  lhsBatch := []
  rhsBatch := []
  wf := dot_S4x1024x48x66_S66x16_S4x1024x48x16_3_0_012_1_n_n_wf
def dot_S4x1024x48x416_S416x128_S4x1024x48x128_3_0_012_1_n_n : DotDims S4x1024x48x416 S416x128 S4x1024x48x128 where
  lhsContracting := [3]
  rhsContracting := [0]
  lhsNonContracting := [0, 1, 2]
  rhsNonContracting := [1]
  lhsBatch := []
  rhsBatch := []
  wf := dot_S4x1024x48x416_S416x128_S4x1024x48x128_3_0_012_1_n_n_wf

noncomputable abbrev lit0 : Fin 24 → BitVec 32 := fun
  | 0 => 0#32 | 1 => 2#32 | 2 => 3#32 | 3 => 4#32 | 4 => 1#32 | 5 => 1#32 | 6 => 1#32 | 7 => 1#32
  | 8 => 0#32 | 9 => 0#32 | 10 => 0#32 | 11 => 4#32 | 12 => 4#32 | 13 => 3#32 | 14 => 0#32 | 15 => 2#32
  | 16 => 3#32 | 17 => 4#32 | 18 => 2#32 | 19 => 3#32 | 20 => 4#32 | 21 => 2#32 | 22 => 3#32 | 23 => 2#32
  | _ => 0#32

noncomputable abbrev lit1 : Fin 24 → BitVec 32 := fun
  | 0 => 0#32 | 1 => 2#32 | 2 => 3#32 | 3 => 4#32 | 4 => 0#32 | 5 => 2#32 | 6 => 3#32 | 7 => 4#32
  | 8 => 2#32 | 9 => 3#32 | 10 => 4#32 | 11 => 2#32 | 12 => 3#32 | 13 => 2#32 | 14 => 1#32 | 15 => 1#32
  | 16 => 1#32 | 17 => 1#32 | 18 => 0#32 | 19 => 0#32 | 20 => 0#32 | 21 => 4#32 | 22 => 4#32 | 23 => 3#32
  | _ => 0#32

noncomputable abbrev lit2 : Fin 16 → BitVec 32 := fun
  | 0 => 0x40000000#32 | 1 => 0x40555555#32 | 2 => 0x40955555#32 | 3 => 0x40C00000#32 | 4 => 0x40EAAAAB#32 | 5 => 0x410AAAAB#32 | 6 => 0x41200000#32 | 7 => 0x41355555#32
  | 8 => 0x414AAAAB#32 | 9 => 0x41600000#32 | 10 => 0x41755555#32 | 11 => 0x41855555#32 | 12 => 0x41900000#32 | 13 => 0x419AAAAB#32 | 14 => 0x41A55555#32 | 15 => 0x41B00000#32
  | _ => 0#32

def fn_take {F : FTy → Type} [FloatOps F] (arg0 : FVec F S4x1024x5x3 .f32) (arg1 : IVec S24 32) : FVec F S4x1024x24x3 .f32 :=
  let v0 : IVec S24x1 32 := broadcastInDim S24x1 ![0] bcast_S24_S24x1_0 arg1
  let v1 : FVec F S4x1024x24x3 .f32 := (fun x i => Host.gather gather_S4x1024x5x3_S24x1_S4x1024x24x3_013_2_n_n_2_1_4102413 x i) arg0 v0
  v1

def fn_take_along_axis {F : FTy → Type} [FloatOps F] (arg0 : FVec F S4x1024x1024x24 .f32) (arg1 : IVec S4x1024x48x1 32) : FVec F S4x1024x48x24 .f32 :=
  let c : IVec S_ 32 := constantI S_ 32 0#32
  let v0 : IVec S4x1024x48x1 32 := broadcastInDim S4x1024x48x1 ![] bcast_S_S4x1024x48x1 c
  let v1 : IVec S4x1024x48x1 1 := cmpi .slt arg1 v0
  let c_0 : IVec S_ 32 := constantI S_ 32 1024#32
  let v2 : IVec S4x1024x48x1 32 := broadcastInDim S4x1024x48x1 ![] bcast_S_S4x1024x48x1 c_0
  let v3 : IVec S4x1024x48x1 32 := addi arg1 v2
  let v4 : IVec S4x1024x48x1 32 := select v1 v3 arg1
  let v5 : FVec F S4x1024x48x24 .f32 := (fun x i => Host.gather gather_S4x1024x1024x24_S4x1024x48x1_S4x1024x48x24_3_2_01_01_2_3_11124 x i) arg0 v4
  v5

def fn_take_along_axis_0 {F : FTy → Type} [FloatOps F] (arg0 : IVec S4x1024x1024 32) (arg1 : IVec S4x1024x48 32) : IVec S4x1024x48 32 :=
  let c : IVec S_ 32 := constantI S_ 32 0#32
  let v0 : IVec S4x1024x48 32 := broadcastInDim S4x1024x48 ![] bcast_S_S4x1024x48 c
  let v1 : IVec S4x1024x48 1 := cmpi .slt arg1 v0
  let c_0 : IVec S_ 32 := constantI S_ 32 1024#32
  let v2 : IVec S4x1024x48 32 := broadcastInDim S4x1024x48 ![] bcast_S_S4x1024x48 c_0
  let v3 : IVec S4x1024x48 32 := addi arg1 v2
  let v4 : IVec S4x1024x48 32 := select v1 v3 arg1
  let v5 : IVec S4x1024x48x1 32 := shapeCast S4x1024x48x1 v4 shapeCasts_S4x1024x48_S4x1024x48x1
  let v6 : IVec S4x1024x48 32 := (fun x i => Host.gather gather_S4x1024x1024_S4x1024x48x1_S4x1024x48_n_2_01_01_2_3_111 x i) arg0 v5
  v6

def fn_clip {F : FTy → Type} [FloatOps F] (arg0 : IVec S4x1024x48 32) (arg1 : IVec S_ 32) (arg2 : IVec S_ 32) : IVec S4x1024x48 32 :=
  let v0 : IVec S_ 32 := id arg1
  let v1 : IVec S4x1024x48 32 := broadcastInDim S4x1024x48 ![] bcast_S_S4x1024x48 v0
  let v2 : IVec S4x1024x48 32 := maxsi v1 arg0
  let v3 : IVec S_ 32 := id arg2
  let v4 : IVec S4x1024x48 32 := broadcastInDim S4x1024x48 ![] bcast_S_S4x1024x48 v3
  let v5 : IVec S4x1024x48 32 := minsi v4 v2
  v5

def fn_one_hot {F : FTy → Type} [FloatOps F] (arg0 : IVec S4x1024x48 32) : FVec F S4x1024x48x66 .f32 :=
  let v0 : IVec S4x1024x48x1 32 := broadcastInDim S4x1024x48x1 ![0, 1, 2] bcast_S4x1024x48_S4x1024x48x1_0_1_2 arg0
  let v1 : IVec S1x1x1x66 32 := iotaInDim S1x1x1x66 32 3
  let v2 : IVec S4x1024x48x66 32 := broadcastInDim S4x1024x48x66 ![0, 1, 2, 3] bcast_S4x1024x48x1_S4x1024x48x66_0_1_2_3 v0
  let v3 : IVec S4x1024x48x66 32 := broadcastInDim S4x1024x48x66 ![0, 1, 2, 3] bcast_S1x1x1x66_S4x1024x48x66_0_1_2_3 v1
  let v4 : IVec S4x1024x48x66 1 := cmpi .eq v2 v3
  let v5 : FVec F S4x1024x48x66 .f32 := uitofp .f32 v4
  v5

def fn_part8 {F : FTy → Type} [FloatOps F] (main_arg15 : FVec F S128 .f32) (main_arg16 : FVec F S128 .f32) (main_arg17 : FVec F S4x1024x48x128 .f32) (main_v163 : FVec F S4x1024x48x1 .f32) (main_v165 : FVec F S4x1024x48x128 .f32) (main_v166 : FVec F S4x1024x48x1 .f32) : IVec S_ 1 :=
  let main_v167 : FVec F S4x1024x48x1 .f32 := addf main_v163 main_v166
  let main_v168 : FVec F S4x1024x48x1 .f32 := Host.sqrt main_v167
  let main_v169 : FVec F S4x1024x48x128 .f32 := broadcastInDim S4x1024x48x128 ![0, 1, 2, 3] bcast_S4x1024x48x1_S4x1024x48x128_0_1_2_3 main_v168
  let main_v170 : FVec F S4x1024x48x128 .f32 := Host.divf main_v165 main_v169
  let main_v171 : FVec F S1x1x1x128 .f32 := broadcastInDim S1x1x1x128 ![3] bcast_S128_S1x1x1x128_3 main_arg15
  let main_v172 : FVec F S4x1024x48x128 .f32 := broadcastInDim S4x1024x48x128 ![0, 1, 2, 3] bcast_S1x1x1x128_S4x1024x48x128_0_1_2_3 main_v171
  let main_v173 : FVec F S4x1024x48x128 .f32 := mulf main_v170 main_v172
  let main_v174 : FVec F S1x1x1x128 .f32 := broadcastInDim S1x1x1x128 ![3] bcast_S128_S1x1x1x128_3 main_arg16
  let main_v175 : FVec F S4x1024x48x128 .f32 := broadcastInDim S4x1024x48x128 ![0, 1, 2, 3] bcast_S1x1x1x128_S4x1024x48x128_0_1_2_3 main_v174
  let main_v176 : FVec F S4x1024x48x128 .f32 := addf main_v173 main_v175
  let main_v177 : IVec S4x1024x48x128 1 := cmpf .oeq main_arg17 main_v176
  let main_c_21 : IVec S_ 1 := constantI S_ 1 1#1
  let main_v178 : IVec S_ 1 := (fun x v => Host.reduce IntOp.andi x v reducesTo_S4x1024x48x128_S_d0_1_2_3 h_S_) main_v177 main_c_21
  let main_v179 : IVec S_ 1 := noti main_v178
  main_v179

def fn_part7 {F : FTy → Type} [FloatOps F] (main_arg13 : FVec F S16 .f32) (main_arg14 : FVec F S416x128 .f32) (main_arg15 : FVec F S128 .f32) (main_arg16 : FVec F S128 .f32) (main_arg17 : FVec F S4x1024x48x128 .f32) (main_v123 : FVec F S4x1024x48x400 .f32) (main_v147 : FVec F S4x1024x48x16 .f32) : IVec S_ 1 :=
  let main_v148 : FVec F S1x1x1x16 .f32 := broadcastInDim S1x1x1x16 ![3] bcast_S16_S1x1x1x16_3 main_arg13
  let main_v149 : FVec F S4x1024x48x16 .f32 := broadcastInDim S4x1024x48x16 ![0, 1, 2, 3] bcast_S1x1x1x16_S4x1024x48x16_0_1_2_3 main_v148
  let main_v150 : FVec F S4x1024x48x16 .f32 := addf main_v147 main_v149
  let main_v151 : FVec F S4x1024x48x416 .f32 := (fun a b => concatenate S4x1024x48x416 3 [⟨S4x1024x48x16, a⟩, ⟨S4x1024x48x400, b⟩] concatenates_S4x1024x48x16_S4x1024x48x400_S4x1024x48x416_d3) main_v150 main_v123
  let main_v152 : FVec F S4x1024x48x128 .f32 := (fun l r => Host.dotGeneral dot_S4x1024x48x416_S416x128_S4x1024x48x128_3_0_012_1_n_n none l r) main_v151 main_arg14
  let main_cst_16 : FVec F S_ .f32 := constant S_ .f32 0x00000000#32
  let main_v153 : FVec F S4x1024x48 .f32 := (fun x v => Host.reduceAdd x v reducesTo_S4x1024x48x128_S4x1024x48_d3 h_S_) main_v152 main_cst_16
  let main_v154 : FVec F S4x1024x48x1 .f32 := broadcastInDim S4x1024x48x1 ![0, 1, 2] bcast_S4x1024x48_S4x1024x48x1_0_1_2 main_v153
  let main_cst_17 : FVec F S_ .f32 := constant S_ .f32 0x43000000#32
  let main_v155 : FVec F S4x1024x48x1 .f32 := broadcastInDim S4x1024x48x1 ![] bcast_S_S4x1024x48x1 main_cst_17
  let main_v156 : FVec F S4x1024x48x1 .f32 := Host.divf main_v154 main_v155
  let main_v157 : FVec F S4x1024x48x128 .f32 := broadcastInDim S4x1024x48x128 ![0, 1, 2, 3] bcast_S4x1024x48x1_S4x1024x48x128_0_1_2_3 main_v156
  let main_v158 : FVec F S4x1024x48x128 .f32 := subf main_v152 main_v157
  let main_v159 : FVec F S4x1024x48x128 .f32 := mulf main_v158 main_v158
  let main_cst_18 : FVec F S_ .f32 := constant S_ .f32 0x00000000#32
  let main_v160 : FVec F S4x1024x48 .f32 := (fun x v => Host.reduceAdd x v reducesTo_S4x1024x48x128_S4x1024x48_d3 h_S_) main_v159 main_cst_18
  let main_v161 : FVec F S4x1024x48x1 .f32 := broadcastInDim S4x1024x48x1 ![0, 1, 2] bcast_S4x1024x48_S4x1024x48x1_0_1_2 main_v160
  let main_cst_19 : FVec F S_ .f32 := constant S_ .f32 0x43000000#32
  let main_v162 : FVec F S4x1024x48x1 .f32 := broadcastInDim S4x1024x48x1 ![] bcast_S_S4x1024x48x1 main_cst_19
  let main_v163 : FVec F S4x1024x48x1 .f32 := Host.divf main_v161 main_v162
  let main_v164 : FVec F S4x1024x48x128 .f32 := broadcastInDim S4x1024x48x128 ![0, 1, 2, 3] bcast_S4x1024x48x1_S4x1024x48x128_0_1_2_3 main_v156
  let main_v165 : FVec F S4x1024x48x128 .f32 := subf main_v152 main_v164
  let main_cst_20 : FVec F S_ .f32 := constant S_ .f32 0x3727C5AC#32
  let main_v166 : FVec F S4x1024x48x1 .f32 := broadcastInDim S4x1024x48x1 ![] bcast_S_S4x1024x48x1 main_cst_20
  fn_part8 (F := F) main_arg15 main_arg16 main_arg17 main_v163 main_v165 main_v166

def fn_part6 {F : FTy → Type} [FloatOps F] (main_arg11 : IVec S4x1024 32) (main_arg12 : FVec F S66x16 .f32) (main_arg13 : FVec F S16 .f32) (main_arg14 : FVec F S416x128 .f32) (main_arg15 : FVec F S128 .f32) (main_arg16 : FVec F S128 .f32) (main_arg17 : FVec F S4x1024x48x128 .f32) (main_indices : IVec S4x1024x48 32) (main_v123 : FVec F S4x1024x48x400 .f32) (main_v128 : IVec S4x1024x1024 32) : IVec S_ 1 :=
  let main_v129 : IVec S4x1024x48 32 := fn_take_along_axis_0 (F := F) main_v128 main_indices
  let main_v130 : IVec S4x1024x1 32 := broadcastInDim S4x1024x1 ![0, 1] bcast_S4x1024_S4x1024x1_0_1 main_arg11
  let main_v131 : IVec S4x1x1024 32 := broadcastInDim S4x1x1024 ![0, 2] bcast_S4x1024_S4x1x1024_0_2 main_arg11
  let main_v132 : IVec S4x1024x1024 32 := broadcastInDim S4x1024x1024 ![0, 1, 2] bcast_S4x1024x1_S4x1024x1024_0_1_2 main_v130
  let main_v133 : IVec S4x1024x1024 32 := broadcastInDim S4x1024x1024 ![0, 1, 2] bcast_S4x1x1024_S4x1024x1024_0_1_2 main_v131
  let main_v134 : IVec S4x1024x1024 1 := cmpi .eq main_v132 main_v133
  let main_v135 : IVec S4x1024x1024 32 := (extui 32 · natLt_1_32) main_v134
  let main_v136 : IVec S4x1024x48 32 := fn_take_along_axis_0 (F := F) main_v135 main_indices
  let main_c_11 : IVec S_ 32 := constantI S_ 32 32#32
  let main_v137 : IVec S4x1024x48 32 := broadcastInDim S4x1024x48 ![] bcast_S_S4x1024x48 main_c_11
  let main_v138 : IVec S4x1024x48 32 := addi main_v129 main_v137
  let main_c_12 : IVec S_ 32 := constantI S_ 32 0#32
  let main_c_13 : IVec S_ 32 := constantI S_ 32 64#32
  let main_v139 : IVec S4x1024x48 32 := fn_clip (F := F) main_v138 main_c_12 main_c_13
  let main_v140 : IVec S4x1024x48 32 := muli main_v139 main_v136
  let main_c_14 : IVec S_ 32 := constantI S_ 32 1#32
  let main_v141 : IVec S4x1024x48 32 := broadcastInDim S4x1024x48 ![] bcast_S_S4x1024x48 main_c_14
  let main_v142 : IVec S4x1024x48 32 := subi main_v141 main_v136
  let main_c_15 : IVec S_ 32 := constantI S_ 32 65#32
  let main_v143 : IVec S4x1024x48 32 := broadcastInDim S4x1024x48 ![] bcast_S_S4x1024x48 main_c_15
  let main_v144 : IVec S4x1024x48 32 := muli main_v142 main_v143
  let main_v145 : IVec S4x1024x48 32 := addi main_v140 main_v144
  let main_v146 : FVec F S4x1024x48x66 .f32 := fn_one_hot (F := F) main_v145
  let main_v147 : FVec F S4x1024x48x16 .f32 := (fun l r => Host.dotGeneral dot_S4x1024x48x66_S66x16_S4x1024x48x16_3_0_012_1_n_n none l r) main_v146 main_arg12
  fn_part7 (F := F) main_arg13 main_arg14 main_arg15 main_arg16 main_arg17 main_v123 main_v147

def fn_part5 {F : FTy → Type} [FloatOps F] (main_arg9 : IVec S4x1024 32) (main_arg11 : IVec S4x1024 32) (main_arg12 : FVec F S66x16 .f32) (main_arg13 : FVec F S16 .f32) (main_arg14 : FVec F S416x128 .f32) (main_arg15 : FVec F S128 .f32) (main_arg16 : FVec F S128 .f32) (main_arg17 : FVec F S4x1024x48x128 .f32) (main_cst : FVec F S16 .f32) (main_values : FVec F S4x1024x48 .f32) (main_indices : IVec S4x1024x48 32) (main_v104 : FVec F S4x1024x1024x24 .f32) (main_v105 : FVec F S4x1024x1024x24 .f32) : IVec S_ 1 :=
  let main_v106 : FVec F S4x1024x1024x24 .f32 := addf main_v104 main_v105
  let main_v107 : FVec F S4x1024x1024x24 .f32 := Host.sqrt main_v106
  let main_v108 : IVec S4x1024x48x1 32 := broadcastInDim S4x1024x48x1 ![0, 1, 2] bcast_S4x1024x48_S4x1024x48x1_0_1_2 main_indices
  let main_v109 : FVec F S4x1024x48x24 .f32 := fn_take_along_axis (F := F) main_v107 main_v108
  let main_v110 : FVec F S4x1024x48x1 .f32 := broadcastInDim S4x1024x48x1 ![0, 1, 2] bcast_S4x1024x48_S4x1024x48x1_0_1_2 main_values
  let main_v111 : FVec F S4x1024x48x1 .f32 := Host.negf main_v110
  let main_v112 : FVec F S4x1024x48x25 .f32 := (fun a b => concatenate S4x1024x48x25 3 [⟨S4x1024x48x1, a⟩, ⟨S4x1024x48x24, b⟩] concatenates_S4x1024x48x1_S4x1024x48x24_S4x1024x48x25_d3) main_v111 main_v109
  let main_v113 : FVec F S4x1024x48x25x1 .f32 := broadcastInDim S4x1024x48x25x1 ![0, 1, 2, 3] bcast_S4x1024x48x25_S4x1024x48x25x1_0_1_2_3 main_v112
  let main_v114 : FVec F S1x1x1x1x16 .f32 := broadcastInDim S1x1x1x1x16 ![4] bcast_S16_S1x1x1x1x16_4 main_cst
  let main_v115 : FVec F S4x1024x48x25x16 .f32 := broadcastInDim S4x1024x48x25x16 ![0, 1, 2, 3, 4] bcast_S4x1024x48x25x1_S4x1024x48x25x16_0_1_2_3_4 main_v113
  let main_v116 : FVec F S4x1024x48x25x16 .f32 := broadcastInDim S4x1024x48x25x16 ![0, 1, 2, 3, 4] bcast_S1x1x1x1x16_S4x1024x48x25x16_0_1_2_3_4 main_v114
  let main_v117 : FVec F S4x1024x48x25x16 .f32 := subf main_v115 main_v116
  let main_cst_10 : FVec F S_ .f32 := constant S_ .f32 0x3FA00000#32
  let main_v118 : FVec F S4x1024x48x25x16 .f32 := broadcastInDim S4x1024x48x25x16 ![] bcast_S_S4x1024x48x25x16 main_cst_10
  let main_v119 : FVec F S4x1024x48x25x16 .f32 := Host.divf main_v117 main_v118
  let main_v120 : FVec F S4x1024x48x25x16 .f32 := mulf main_v119 main_v119
  let main_v121 : FVec F S4x1024x48x25x16 .f32 := Host.negf main_v120
  let main_v122 : FVec F S4x1024x48x25x16 .f32 := Host.exp main_v121
  let main_v123 : FVec F S4x1024x48x400 .f32 := shapeCast S4x1024x48x400 main_v122 shapeCasts_S4x1024x48x25x16_S4x1024x48x400
  let main_v124 : IVec S4x1024x1 32 := broadcastInDim S4x1024x1 ![0, 1] bcast_S4x1024_S4x1024x1_0_1 main_arg9
  let main_v125 : IVec S4x1x1024 32 := broadcastInDim S4x1x1024 ![0, 2] bcast_S4x1024_S4x1x1024_0_2 main_arg9
  let main_v126 : IVec S4x1024x1024 32 := broadcastInDim S4x1024x1024 ![0, 1, 2] bcast_S4x1024x1_S4x1024x1024_0_1_2 main_v124
  let main_v127 : IVec S4x1024x1024 32 := broadcastInDim S4x1024x1024 ![0, 1, 2] bcast_S4x1x1024_S4x1024x1024_0_1_2 main_v125
  let main_v128 : IVec S4x1024x1024 32 := subi main_v126 main_v127
  fn_part6 (F := F) main_arg11 main_arg12 main_arg13 main_arg14 main_arg15 main_arg16 main_arg17 main_indices main_v123 main_v128

def fn_part4 {F : FTy → Type} [FloatOps F] (main_arg3 : FVec F S4x1024x5x3 .f32) (main_arg9 : IVec S4x1024 32) (main_arg11 : IVec S4x1024 32) (main_arg12 : FVec F S66x16 .f32) (main_arg13 : FVec F S16 .f32) (main_arg14 : FVec F S416x128 .f32) (main_arg15 : FVec F S128 .f32) (main_arg16 : FVec F S128 .f32) (main_arg17 : FVec F S4x1024x48x128 .f32) (main_c : IVec S24 32) (main_c_0 : IVec S24 32) (main_cst : FVec F S16 .f32) (main_v57 : FVec F S4x1024x3 .f32) (main_v59 : FVec F S4x1024x3 .f32) (main_values : FVec F S4x1024x48 .f32) (main_indices : IVec S4x1024x48 32) : IVec S_ 1 :=
  let main_v84 : FVec F S4x1024x1x3 .f32 := (extractStridedSlice S4x1024x1x3 ![0, 0, 0, 0] · slices_S4x1024x5x3_S4x1024x1x3_0_0_0_0) main_arg3
  let main_v85 : FVec F S4x1024x3 .f32 := shapeCast S4x1024x3 main_v84 shapeCasts_S4x1024x1x3_S4x1024x3
  let main_v86 : FVec F S4x1024x1x3 .f32 := (extractStridedSlice S4x1024x1x3 ![0, 0, 2, 0] · slices_S4x1024x5x3_S4x1024x1x3_0_0_2_0) main_arg3
  let main_v87 : FVec F S4x1024x3 .f32 := shapeCast S4x1024x3 main_v86 shapeCasts_S4x1024x1x3_S4x1024x3
  let main_v88 : FVec F S4x1024x1x3 .f32 := (extractStridedSlice S4x1024x1x3 ![0, 0, 4, 0] · slices_S4x1024x5x3_S4x1024x1x3_0_0_4_0) main_arg3
  let main_v89 : FVec F S4x1024x3 .f32 := shapeCast S4x1024x3 main_v88 shapeCasts_S4x1024x1x3_S4x1024x3
  let main_v90 : FVec F S4x1024x1x3 .f32 := broadcastInDim S4x1024x1x3 ![0, 1, 3] bcast_S4x1024x3_S4x1024x1x3_0_1_3 main_v85
  let main_v91 : FVec F S4x1024x1x3 .f32 := broadcastInDim S4x1024x1x3 ![0, 1, 3] bcast_S4x1024x3_S4x1024x1x3_0_1_3 main_v59
  let main_v92 : FVec F S4x1024x1x3 .f32 := broadcastInDim S4x1024x1x3 ![0, 1, 3] bcast_S4x1024x3_S4x1024x1x3_0_1_3 main_v87
  let main_v93 : FVec F S4x1024x1x3 .f32 := broadcastInDim S4x1024x1x3 ![0, 1, 3] bcast_S4x1024x3_S4x1024x1x3_0_1_3 main_v89
  let main_v94 : FVec F S4x1024x1x3 .f32 := broadcastInDim S4x1024x1x3 ![0, 1, 3] bcast_S4x1024x3_S4x1024x1x3_0_1_3 main_v57
  let main_v95 : FVec F S4x1024x5x3 .f32 := concatenate S4x1024x5x3 2 [⟨S4x1024x1x3, main_v90⟩, ⟨S4x1024x1x3, main_v91⟩, ⟨S4x1024x1x3, main_v92⟩, ⟨S4x1024x1x3, main_v93⟩, ⟨S4x1024x1x3, main_v94⟩] concatenates_S4x1024x1x3_S4x1024x1x3_S4x1024x1x3_S4x1024x1x3_S4x1024x1x3_S4x1024x5x3_d2
  let main_v96 : FVec F S4x1024x24x3 .f32 := fn_take (F := F) main_v95 main_c
  let main_v97 : FVec F S4x1024x24x3 .f32 := fn_take (F := F) main_v95 main_c_0
  let main_v98 : FVec F S4x1024x1x24x3 .f32 := broadcastInDim S4x1024x1x24x3 ![0, 1, 3, 4] bcast_S4x1024x24x3_S4x1024x1x24x3_0_1_3_4 main_v96
  let main_v99 : FVec F S4x1x1024x24x3 .f32 := broadcastInDim S4x1x1024x24x3 ![0, 2, 3, 4] bcast_S4x1024x24x3_S4x1x1024x24x3_0_2_3_4 main_v97
  let main_v100 : FVec F S4x1024x1024x24x3 .f32 := broadcastInDim S4x1024x1024x24x3 ![0, 1, 2, 3, 4] bcast_S4x1024x1x24x3_S4x1024x1024x24x3_0_1_2_3_4 main_v98
  let main_v101 : FVec F S4x1024x1024x24x3 .f32 := broadcastInDim S4x1024x1024x24x3 ![0, 1, 2, 3, 4] bcast_S4x1x1024x24x3_S4x1024x1024x24x3_0_1_2_3_4 main_v99
  let main_v102 : FVec F S4x1024x1024x24x3 .f32 := subf main_v100 main_v101
  let main_v103 : FVec F S4x1024x1024x24x3 .f32 := mulf main_v102 main_v102
  let main_cst_8 : FVec F S_ .f32 := constant S_ .f32 0x00000000#32
  let main_v104 : FVec F S4x1024x1024x24 .f32 := (fun x v => Host.reduceAdd x v reducesTo_S4x1024x1024x24x3_S4x1024x1024x24_d4 h_S_) main_v103 main_cst_8
  let main_cst_9 : FVec F S_ .f32 := constant S_ .f32 0x358637BD#32
  let main_v105 : FVec F S4x1024x1024x24 .f32 := broadcastInDim S4x1024x1024x24 ![] bcast_S_S4x1024x1024x24 main_cst_9
  fn_part5 (F := F) main_arg9 main_arg11 main_arg12 main_arg13 main_arg14 main_arg15 main_arg16 main_arg17 main_cst main_values main_indices main_v104 main_v105

def fn_part3 {F : FTy → Type} [FloatOps F] (main_arg3 : FVec F S4x1024x5x3 .f32) (main_arg9 : IVec S4x1024 32) (main_arg11 : IVec S4x1024 32) (main_arg12 : FVec F S66x16 .f32) (main_arg13 : FVec F S16 .f32) (main_arg14 : FVec F S416x128 .f32) (main_arg15 : FVec F S128 .f32) (main_arg16 : FVec F S128 .f32) (main_arg17 : FVec F S4x1024x48x128 .f32) (main_c : IVec S24 32) (main_c_0 : IVec S24 32) (main_cst : FVec F S16 .f32) (main_v57 : FVec F S4x1024x3 .f32) (main_v59 : FVec F S4x1024x3 .f32) (main_v64 : FVec F S4x1024x1024 .f32) (main_v65 : FVec F S4x1x1024x3 .f32) : IVec S_ 1 :=
  let main_v66 : FVec F S4x1024x1x3 .f32 := broadcastInDim S4x1024x1x3 ![0, 1, 3] bcast_S4x1024x3_S4x1024x1x3_0_1_3 main_v59
  let main_v67 : FVec F S4x1024x1024x3 .f32 := broadcastInDim S4x1024x1024x3 ![0, 1, 2, 3] bcast_S4x1x1024x3_S4x1024x1024x3_0_1_2_3 main_v65
  let main_v68 : FVec F S4x1024x1024x3 .f32 := broadcastInDim S4x1024x1024x3 ![0, 1, 2, 3] bcast_S4x1024x1x3_S4x1024x1024x3_0_1_2_3 main_v66
  let main_v69 : FVec F S4x1024x1024x3 .f32 := subf main_v67 main_v68
  let main_v70 : FVec F S4x1024x1024x3 .f32 := mulf main_v69 main_v69
  let main_cst_4 : FVec F S_ .f32 := constant S_ .f32 0x00000000#32
  let main_v71 : FVec F S4x1024x1024 .f32 := (fun x v => Host.reduceAdd x v reducesTo_S4x1024x1024x3_S4x1024x1024_d3 h_S_) main_v70 main_cst_4
  let main_cst_5 : FVec F S_ .f32 := constant S_ .f32 0x358637BD#32
  let main_v72 : FVec F S4x1024x1024 .f32 := broadcastInDim S4x1024x1024 ![] bcast_S_S4x1024x1024 main_cst_5
  let main_v73 : FVec F S4x1024x1024 .f32 := addf main_v71 main_v72
  let main_v74 : FVec F S4x1024x1024 .f32 := Host.sqrt main_v73
  let main_v75 : FVec F S4x1024x1024 .f32 := mulf main_v64 main_v74
  let main_cst_6 : FVec F S_ .f32 := constant S_ .f32 0xFF800000#32
  let main_v76 : FVec F S4x1024 .f32 := (fun x v => Host.reduce FloatOps.maximumf x v reducesTo_S4x1024x1024_S4x1024_d2 h_S_) main_v75 main_cst_6
  let main_v77 : FVec F S4x1024x1 .f32 := broadcastInDim S4x1024x1 ![0, 1] bcast_S4x1024_S4x1024x1_0_1 main_v76
  let main_cst_7 : FVec F S_ .f32 := constant S_ .f32 0x3F800000#32
  let main_v78 : FVec F S4x1024x1024 .f32 := broadcastInDim S4x1024x1024 ![] bcast_S_S4x1024x1024 main_cst_7
  let main_v79 : FVec F S4x1024x1024 .f32 := subf main_v78 main_v64
  let main_v80 : FVec F S4x1024x1024 .f32 := broadcastInDim S4x1024x1024 ![0, 1, 2] bcast_S4x1024x1_S4x1024x1024_0_1_2 main_v77
  let main_v81 : FVec F S4x1024x1024 .f32 := mulf main_v79 main_v80
  let main_v82 : FVec F S4x1024x1024 .f32 := addf main_v75 main_v81
  let main_v83 : FVec F S4x1024x1024 .f32 := Host.negf main_v82
  let main_values : FVec F S4x1024x48 .f32 := (fun x => (Host.topK S4x1024x48 2 (FloatOps.cmpfTotal .gt) x sliceFits_S4x1024x1024_S4x1024x48).1) main_v83
  let main_indices : IVec S4x1024x48 32 := (fun x => (Host.topK S4x1024x48 2 (FloatOps.cmpfTotal .gt) x sliceFits_S4x1024x1024_S4x1024x48).2) main_v83
  fn_part4 (F := F) main_arg3 main_arg9 main_arg11 main_arg12 main_arg13 main_arg14 main_arg15 main_arg16 main_arg17 main_c main_c_0 main_cst main_v57 main_v59 main_values main_indices

def fn_part2 {F : FTy → Type} [FloatOps F] (main_arg3 : FVec F S4x1024x5x3 .f32) (main_arg7 : FVec F S4x1024 .f32) (main_arg9 : IVec S4x1024 32) (main_arg11 : IVec S4x1024 32) (main_arg12 : FVec F S66x16 .f32) (main_arg13 : FVec F S16 .f32) (main_arg14 : FVec F S416x128 .f32) (main_arg15 : FVec F S128 .f32) (main_arg16 : FVec F S128 .f32) (main_arg17 : FVec F S4x1024x48x128 .f32) (main_c : IVec S24 32) (main_c_0 : IVec S24 32) (main_cst : FVec F S16 .f32) (main_v4 : FVec F S4x1024x3 .f32) (main_v9 : FVec F S4x1024x3 .f32) (main_v42 : FVec F S4x1024 .f32) (main_v43 : FVec F S4x1024x1 .f32) (main_v44 : FVec F S4x1024x1 .f32) : IVec S_ 1 :=
  let main_v45 : FVec F S4x1024x1 .f32 := broadcastInDim S4x1024x1 ![0, 1] bcast_S4x1024_S4x1024x1_0_1 main_v42
  let main_v46 : FVec F S4x1024x3 .f32 := concatenate S4x1024x3 2 [⟨S4x1024x1, main_v43⟩, ⟨S4x1024x1, main_v44⟩, ⟨S4x1024x1, main_v45⟩] concatenates_S4x1024x1_S4x1024x1_S4x1024x1_S4x1024x3_d2
  let main_cst_1 : FVec F S_ .f32 := constant S_ .f32 0xBF152E13#32
  let main_v47 : FVec F S4x1024x3 .f32 := broadcastInDim S4x1024x3 ![] bcast_S_S4x1024x3 main_cst_1
  let main_v48 : FVec F S4x1024x3 .f32 := mulf main_v47 main_v46
  let main_cst_2 : FVec F S_ .f32 := constant S_ .f32 0x3F116A4D#32
  let main_v49 : FVec F S4x1024x3 .f32 := broadcastInDim S4x1024x3 ![] bcast_S_S4x1024x3 main_cst_2
  let main_v50 : FVec F S4x1024x3 .f32 := mulf main_v49 main_v4
  let main_v51 : FVec F S4x1024x3 .f32 := addf main_v48 main_v50
  let main_cst_3 : FVec F S_ .f32 := constant S_ .f32 0x3F0A69A8#32
  let main_v52 : FVec F S4x1024x3 .f32 := broadcastInDim S4x1024x3 ![] bcast_S_S4x1024x3 main_cst_3
  let main_v53 : FVec F S4x1024x3 .f32 := mulf main_v52 main_v9
  let main_v54 : FVec F S4x1024x3 .f32 := subf main_v51 main_v53
  let main_v55 : FVec F S4x1024x1x3 .f32 := (extractStridedSlice S4x1024x1x3 ![0, 0, 1, 0] · slices_S4x1024x5x3_S4x1024x1x3_0_0_1_0) main_arg3
  let main_v56 : FVec F S4x1024x3 .f32 := shapeCast S4x1024x3 main_v55 shapeCasts_S4x1024x1x3_S4x1024x3
  let main_v57 : FVec F S4x1024x3 .f32 := addf main_v54 main_v56
  let main_v58 : FVec F S4x1024x1x3 .f32 := (extractStridedSlice S4x1024x1x3 ![0, 0, 1, 0] · slices_S4x1024x5x3_S4x1024x1x3_0_0_1_0) main_arg3
  let main_v59 : FVec F S4x1024x3 .f32 := shapeCast S4x1024x3 main_v58 shapeCasts_S4x1024x1x3_S4x1024x3
  let main_v60 : FVec F S4x1x1024 .f32 := broadcastInDim S4x1x1024 ![0, 2] bcast_S4x1024_S4x1x1024_0_2 main_arg7
  let main_v61 : FVec F S4x1024x1 .f32 := broadcastInDim S4x1024x1 ![0, 1] bcast_S4x1024_S4x1024x1_0_1 main_arg7
  let main_v62 : FVec F S4x1024x1024 .f32 := broadcastInDim S4x1024x1024 ![0, 1, 2] bcast_S4x1x1024_S4x1024x1024_0_1_2 main_v60
  let main_v63 : FVec F S4x1024x1024 .f32 := broadcastInDim S4x1024x1024 ![0, 1, 2] bcast_S4x1024x1_S4x1024x1024_0_1_2 main_v61
  let main_v64 : FVec F S4x1024x1024 .f32 := mulf main_v62 main_v63
  let main_v65 : FVec F S4x1x1024x3 .f32 := broadcastInDim S4x1x1024x3 ![0, 2, 3] bcast_S4x1024x3_S4x1x1024x3_0_2_3 main_v59
  fn_part3 (F := F) main_arg3 main_arg9 main_arg11 main_arg12 main_arg13 main_arg14 main_arg15 main_arg16 main_arg17 main_c main_c_0 main_cst main_v57 main_v59 main_v64 main_v65

def fn_part1 {F : FTy → Type} [FloatOps F] (main_arg3 : FVec F S4x1024x5x3 .f32) (main_arg7 : FVec F S4x1024 .f32) (main_arg9 : IVec S4x1024 32) (main_arg11 : IVec S4x1024 32) (main_arg12 : FVec F S66x16 .f32) (main_arg13 : FVec F S16 .f32) (main_arg14 : FVec F S416x128 .f32) (main_arg15 : FVec F S128 .f32) (main_arg16 : FVec F S128 .f32) (main_arg17 : FVec F S4x1024x48x128 .f32) (main_c : IVec S24 32) (main_c_0 : IVec S24 32) (main_cst : FVec F S16 .f32) (main_v4 : FVec F S4x1024x3 .f32) (main_v9 : FVec F S4x1024x3 .f32) (main_v20 : FVec F S4x1024 .f32) : IVec S_ 1 :=
  let main_v21 : FVec F S4x1024x1 .f32 := (extractStridedSlice S4x1024x1 ![0, 0, 2] · slices_S4x1024x3_S4x1024x1_0_0_2) main_v4
  let main_v22 : FVec F S4x1024 .f32 := shapeCast S4x1024 main_v21 shapeCasts_S4x1024x1_S4x1024
  let main_v23 : FVec F S4x1024x1 .f32 := (extractStridedSlice S4x1024x1 ![0, 0, 0] · slices_S4x1024x3_S4x1024x1_0_0_0) main_v9
  let main_v24 : FVec F S4x1024 .f32 := shapeCast S4x1024 main_v23 shapeCasts_S4x1024x1_S4x1024
  let main_v25 : FVec F S4x1024 .f32 := mulf main_v22 main_v24
  let main_v26 : FVec F S4x1024x1 .f32 := (extractStridedSlice S4x1024x1 ![0, 0, 0] · slices_S4x1024x3_S4x1024x1_0_0_0) main_v4
  let main_v27 : FVec F S4x1024 .f32 := shapeCast S4x1024 main_v26 shapeCasts_S4x1024x1_S4x1024
  let main_v28 : FVec F S4x1024x1 .f32 := (extractStridedSlice S4x1024x1 ![0, 0, 2] · slices_S4x1024x3_S4x1024x1_0_0_2) main_v9
  let main_v29 : FVec F S4x1024 .f32 := shapeCast S4x1024 main_v28 shapeCasts_S4x1024x1_S4x1024
  let main_v30 : FVec F S4x1024 .f32 := mulf main_v27 main_v29
  let main_v31 : FVec F S4x1024 .f32 := subf main_v25 main_v30
  let main_v32 : FVec F S4x1024x1 .f32 := (extractStridedSlice S4x1024x1 ![0, 0, 0] · slices_S4x1024x3_S4x1024x1_0_0_0) main_v4
  let main_v33 : FVec F S4x1024 .f32 := shapeCast S4x1024 main_v32 shapeCasts_S4x1024x1_S4x1024
  let main_v34 : FVec F S4x1024x1 .f32 := (extractStridedSlice S4x1024x1 ![0, 0, 1] · slices_S4x1024x3_S4x1024x1_0_0_1) main_v9
  let main_v35 : FVec F S4x1024 .f32 := shapeCast S4x1024 main_v34 shapeCasts_S4x1024x1_S4x1024
  let main_v36 : FVec F S4x1024 .f32 := mulf main_v33 main_v35
  let main_v37 : FVec F S4x1024x1 .f32 := (extractStridedSlice S4x1024x1 ![0, 0, 1] · slices_S4x1024x3_S4x1024x1_0_0_1) main_v4
  let main_v38 : FVec F S4x1024 .f32 := shapeCast S4x1024 main_v37 shapeCasts_S4x1024x1_S4x1024
  let main_v39 : FVec F S4x1024x1 .f32 := (extractStridedSlice S4x1024x1 ![0, 0, 0] · slices_S4x1024x3_S4x1024x1_0_0_0) main_v9
  let main_v40 : FVec F S4x1024 .f32 := shapeCast S4x1024 main_v39 shapeCasts_S4x1024x1_S4x1024
  let main_v41 : FVec F S4x1024 .f32 := mulf main_v38 main_v40
  let main_v42 : FVec F S4x1024 .f32 := subf main_v36 main_v41
  let main_v43 : FVec F S4x1024x1 .f32 := broadcastInDim S4x1024x1 ![0, 1] bcast_S4x1024_S4x1024x1_0_1 main_v20
  let main_v44 : FVec F S4x1024x1 .f32 := broadcastInDim S4x1024x1 ![0, 1] bcast_S4x1024_S4x1024x1_0_1 main_v31
  fn_part2 (F := F) main_arg3 main_arg7 main_arg9 main_arg11 main_arg12 main_arg13 main_arg14 main_arg15 main_arg16 main_arg17 main_c main_c_0 main_cst main_v4 main_v9 main_v42 main_v43 main_v44

def fn {F : FTy → Type} [FloatOps F] (main_arg0 : FVec F S4x512x3 .f32) (main_arg1 : FVec F S4x512 .f32) (main_arg2 : IVec S4x512 32) (main_arg3 : FVec F S4x1024x5x3 .f32) (main_arg4 : FVec F S4x1024x25x3 .f32) (main_arg5 : FVec F S4x1024x25 .f32) (main_arg6 : IVec S4 32) (main_arg7 : FVec F S4x1024 .f32) (main_arg8 : FVec F S4x1024x37 .f32) (main_arg9 : IVec S4x1024 32) (main_arg10 : FVec F S4x1024x3 .f32) (main_arg11 : IVec S4x1024 32) (main_arg12 : FVec F S66x16 .f32) (main_arg13 : FVec F S16 .f32) (main_arg14 : FVec F S416x128 .f32) (main_arg15 : FVec F S128 .f32) (main_arg16 : FVec F S128 .f32) (main_arg17 : FVec F S4x1024x48x128 .f32) (main_arg18 : IVec S4x1024x48 32) : IVec S_ 1 :=
  let main_c : IVec S24 32 := fun i => lit0 (S24.rowMajor i)
  let main_c_0 : IVec S24 32 := fun i => lit1 (S24.rowMajor i)
  let main_cst : FVec F S16 .f32 := fun i => FloatOps.ofBits .f32 (lit2 (S16.rowMajor i))
  let main_v0 : FVec F S4x1024x1x3 .f32 := (extractStridedSlice S4x1024x1x3 ![0, 0, 1, 0] · slices_S4x1024x5x3_S4x1024x1x3_0_0_1_0) main_arg3
  let main_v1 : FVec F S4x1024x3 .f32 := shapeCast S4x1024x3 main_v0 shapeCasts_S4x1024x1x3_S4x1024x3
  let main_v2 : FVec F S4x1024x1x3 .f32 := (extractStridedSlice S4x1024x1x3 ![0, 0, 0, 0] · slices_S4x1024x5x3_S4x1024x1x3_0_0_0_0) main_arg3
  let main_v3 : FVec F S4x1024x3 .f32 := shapeCast S4x1024x3 main_v2 shapeCasts_S4x1024x1x3_S4x1024x3
  let main_v4 : FVec F S4x1024x3 .f32 := subf main_v1 main_v3
  let main_v5 : FVec F S4x1024x1x3 .f32 := (extractStridedSlice S4x1024x1x3 ![0, 0, 2, 0] · slices_S4x1024x5x3_S4x1024x1x3_0_0_2_0) main_arg3
  let main_v6 : FVec F S4x1024x3 .f32 := shapeCast S4x1024x3 main_v5 shapeCasts_S4x1024x1x3_S4x1024x3
  let main_v7 : FVec F S4x1024x1x3 .f32 := (extractStridedSlice S4x1024x1x3 ![0, 0, 1, 0] · slices_S4x1024x5x3_S4x1024x1x3_0_0_1_0) main_arg3
  let main_v8 : FVec F S4x1024x3 .f32 := shapeCast S4x1024x3 main_v7 shapeCasts_S4x1024x1x3_S4x1024x3
  let main_v9 : FVec F S4x1024x3 .f32 := subf main_v6 main_v8
  let main_v10 : FVec F S4x1024x1 .f32 := (extractStridedSlice S4x1024x1 ![0, 0, 1] · slices_S4x1024x3_S4x1024x1_0_0_1) main_v4
  let main_v11 : FVec F S4x1024 .f32 := shapeCast S4x1024 main_v10 shapeCasts_S4x1024x1_S4x1024
  let main_v12 : FVec F S4x1024x1 .f32 := (extractStridedSlice S4x1024x1 ![0, 0, 2] · slices_S4x1024x3_S4x1024x1_0_0_2) main_v9
  let main_v13 : FVec F S4x1024 .f32 := shapeCast S4x1024 main_v12 shapeCasts_S4x1024x1_S4x1024
  let main_v14 : FVec F S4x1024 .f32 := mulf main_v11 main_v13
  let main_v15 : FVec F S4x1024x1 .f32 := (extractStridedSlice S4x1024x1 ![0, 0, 2] · slices_S4x1024x3_S4x1024x1_0_0_2) main_v4
  let main_v16 : FVec F S4x1024 .f32 := shapeCast S4x1024 main_v15 shapeCasts_S4x1024x1_S4x1024
  let main_v17 : FVec F S4x1024x1 .f32 := (extractStridedSlice S4x1024x1 ![0, 0, 1] · slices_S4x1024x3_S4x1024x1_0_0_1) main_v9
  let main_v18 : FVec F S4x1024 .f32 := shapeCast S4x1024 main_v17 shapeCasts_S4x1024x1_S4x1024
  let main_v19 : FVec F S4x1024 .f32 := mulf main_v16 main_v18
  let main_v20 : FVec F S4x1024 .f32 := subf main_v14 main_v19
  fn_part1 (F := F) main_arg3 main_arg7 main_arg9 main_arg11 main_arg12 main_arg13 main_arg14 main_arg15 main_arg16 main_arg17 main_c main_c_0 main_cst main_v4 main_v9 main_v20
-- ==== Post_one_number.lean ====
abbrev S4x512x3 : Shape := ⟨3, ![4, 512, 3]⟩
abbrev S4x512 : Shape := ⟨2, ![4, 512]⟩
abbrev S4x1024x5x3 : Shape := ⟨4, ![4, 1024, 5, 3]⟩
abbrev S4x1024x25x3 : Shape := ⟨4, ![4, 1024, 25, 3]⟩
abbrev S4x1024x25 : Shape := ⟨3, ![4, 1024, 25]⟩
abbrev S4 : Shape := ⟨1, ![4]⟩
abbrev S4x1024 : Shape := ⟨2, ![4, 1024]⟩
abbrev S4x1024x37 : Shape := ⟨3, ![4, 1024, 37]⟩
abbrev S4x1024x3 : Shape := ⟨3, ![4, 1024, 3]⟩
abbrev S66x16 : Shape := ⟨2, ![66, 16]⟩
abbrev S16 : Shape := ⟨1, ![16]⟩
abbrev S416x128 : Shape := ⟨2, ![416, 128]⟩
abbrev S128 : Shape := ⟨1, ![128]⟩
abbrev S4x1024x48x128 : Shape := ⟨4, ![4, 1024, 48, 128]⟩
abbrev S4x1024x48 : Shape := ⟨3, ![4, 1024, 48]⟩
abbrev S1x1x1x1 : Shape := ⟨4, ![1, 1, 1, 1]⟩
abbrev S_ : Shape := ⟨0, ![]⟩

class Facts : Prop where
  slices_S4x1024x48x128_S1x1x1x1_0_0_0_0 : S4x1024x48x128.Slices ![0, 0, 0, 0] S1x1x1x1
  bcast_S1x1x1x1_S4x1024x48x128_0_1_2_3 : S1x1x1x1.BroadcastsInDim S4x1024x48x128 (![0, 1, 2, 3] : Fin 4 → Fin S4x1024x48x128.rank)
  reducesTo_S4x1024x48x128_S_d0_1_2_3 : S4x1024x48x128.ReducesTo [0, 1, 2, 3] S_
  h_S_ : 0 < S_.numel

variable [Facts]

def fn {F : FTy → Type} [FloatOps F] (main_arg0 : FVec F S4x512x3 .f32) (main_arg1 : FVec F S4x512 .f32) (main_arg2 : IVec S4x512 32) (main_arg3 : FVec F S4x1024x5x3 .f32) (main_arg4 : FVec F S4x1024x25x3 .f32) (main_arg5 : FVec F S4x1024x25 .f32) (main_arg6 : IVec S4 32) (main_arg7 : FVec F S4x1024 .f32) (main_arg8 : FVec F S4x1024x37 .f32) (main_arg9 : IVec S4x1024 32) (main_arg10 : FVec F S4x1024x3 .f32) (main_arg11 : IVec S4x1024 32) (main_arg12 : FVec F S66x16 .f32) (main_arg13 : FVec F S16 .f32) (main_arg14 : FVec F S416x128 .f32) (main_arg15 : FVec F S128 .f32) (main_arg16 : FVec F S128 .f32) (main_arg17 : FVec F S4x1024x48x128 .f32) (main_arg18 : IVec S4x1024x48 32) : IVec S_ 1 :=
  let main_v0 : FVec F S1x1x1x1 .f32 := (extractStridedSlice S1x1x1x1 ![0, 0, 0, 0] · slices_S4x1024x48x128_S1x1x1x1_0_0_0_0) main_arg17
  let main_v1 : FVec F S4x1024x48x128 .f32 := broadcastInDim S4x1024x48x128 ![0, 1, 2, 3] bcast_S1x1x1x1_S4x1024x48x128_0_1_2_3 main_v0
  let main_v2 : IVec S4x1024x48x128 1 := cmpf .oeq main_arg17 main_v1
  let main_c : IVec S_ 1 := constantI S_ 1 1#1
  let main_v3 : IVec S_ 1 := (fun x v => Host.reduce IntOp.andi x v reducesTo_S4x1024x48x128_S_d0_1_2_3 h_S_) main_v2 main_c
  main_v3
-- ==== Pre_as_drawn.lean ====
abbrev S4x512x3 : Shape := ⟨3, ![4, 512, 3]⟩
abbrev S4x512 : Shape := ⟨2, ![4, 512]⟩
abbrev S4x1024x5x3 : Shape := ⟨4, ![4, 1024, 5, 3]⟩
abbrev S4x1024x25x3 : Shape := ⟨4, ![4, 1024, 25, 3]⟩
abbrev S4x1024x25 : Shape := ⟨3, ![4, 1024, 25]⟩
abbrev S4 : Shape := ⟨1, ![4]⟩
abbrev S4x1024 : Shape := ⟨2, ![4, 1024]⟩
abbrev S4x1024x37 : Shape := ⟨3, ![4, 1024, 37]⟩
abbrev S4x1024x3 : Shape := ⟨3, ![4, 1024, 3]⟩
abbrev S66x16 : Shape := ⟨2, ![66, 16]⟩
abbrev S16 : Shape := ⟨1, ![16]⟩
abbrev S416x128 : Shape := ⟨2, ![416, 128]⟩
abbrev S128 : Shape := ⟨1, ![128]⟩
abbrev S_ : Shape := ⟨0, ![]⟩
abbrev S4x1 : Shape := ⟨2, ![4, 1]⟩
abbrev S1024 : Shape := ⟨1, ![1024]⟩
abbrev S1x1024 : Shape := ⟨2, ![1, 1024]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  slices_S4x1024_S4x1_0_0 : S4x1024.Slices ![0, 0] S4x1
  bcast_S4x1_S4x1024_0_1 : S4x1.BroadcastsInDim S4x1024 (![0, 1] : Fin 2 → Fin S4x1024.rank)
  bcast_S1024_S1x1024_1 : S1024.BroadcastsInDim S1x1024 (![1] : Fin 1 → Fin S1x1024.rank)
  bcast_S1x1024_S4x1024_0_1 : S1x1024.BroadcastsInDim S4x1024 (![0, 1] : Fin 2 → Fin S4x1024.rank)
  bcast_S_S4x1024x5x3 : S_.BroadcastsInDim S4x1024x5x3 (![] : Fin 0 → Fin S4x1024x5x3.rank)
  reducesTo_S4x1024x5x3_S_d0_1_2_3 : S4x1024x5x3.ReducesTo [0, 1, 2, 3] S_
  bcast_S_S66x16 : S_.BroadcastsInDim S66x16 (![] : Fin 0 → Fin S66x16.rank)
  reducesTo_S66x16_S_d0_1 : S66x16.ReducesTo [0, 1] S_
  bcast_S_S16 : S_.BroadcastsInDim S16 (![] : Fin 0 → Fin S16.rank)
  reducesTo_S16_S_d0 : S16.ReducesTo [0] S_
  bcast_S_S416x128 : S_.BroadcastsInDim S416x128 (![] : Fin 0 → Fin S416x128.rank)
  reducesTo_S416x128_S_d0_1 : S416x128.ReducesTo [0, 1] S_

variable [Facts]

def fn_part2 {F : FTy → Type} [FloatOps F] (main_v31 : IVec S_ 1) (main_v35 : IVec S_ 1) : IVec S_ 1 :=
  let main_v36 : IVec S_ 1 := andi main_v31 main_v35
  main_v36

def fn_part1 {F : FTy → Type} [FloatOps F] (main_arg12 : FVec F S66x16 .f32) (main_arg13 : FVec F S16 .f32) (main_arg14 : FVec F S416x128 .f32) (main_v16 : IVec S_ 1) (main_v17 : FVec F S4x1024x5x3 .f32) (main_v18 : FVec F S4x1024x5x3 .f32) : IVec S_ 1 :=
  let main_v19 : IVec S4x1024x5x3 1 := cmpf .olt main_v17 main_v18
  let main_c_3 : IVec S_ 1 := constantI S_ 1 1#1
  let main_v20 : IVec S_ 1 := (fun x v => Host.reduce IntOp.andi x v reducesTo_S4x1024x5x3_S_d0_1_2_3 h_S_) main_v19 main_c_3
  let main_v21 : IVec S_ 1 := andi main_v16 main_v20
  let main_v22 : FVec F S66x16 .f32 := Host.absf main_arg12
  let main_cst_4 : FVec F S_ .f32 := constant S_ .f32 0x7F800000#32
  let main_v23 : FVec F S66x16 .f32 := broadcastInDim S66x16 ![] bcast_S_S66x16 main_cst_4
  let main_v24 : IVec S66x16 1 := cmpf .olt main_v22 main_v23
  let main_c_5 : IVec S_ 1 := constantI S_ 1 1#1
  let main_v25 : IVec S_ 1 := (fun x v => Host.reduce IntOp.andi x v reducesTo_S66x16_S_d0_1 h_S_) main_v24 main_c_5
  let main_v26 : IVec S_ 1 := andi main_v21 main_v25
  let main_v27 : FVec F S16 .f32 := Host.absf main_arg13
  let main_cst_6 : FVec F S_ .f32 := constant S_ .f32 0x7F800000#32
  let main_v28 : FVec F S16 .f32 := broadcastInDim S16 ![] bcast_S_S16 main_cst_6
  let main_v29 : IVec S16 1 := cmpf .olt main_v27 main_v28
  let main_c_7 : IVec S_ 1 := constantI S_ 1 1#1
  let main_v30 : IVec S_ 1 := (fun x v => Host.reduce IntOp.andi x v reducesTo_S16_S_d0 h_S_) main_v29 main_c_7
  let main_v31 : IVec S_ 1 := andi main_v26 main_v30
  let main_v32 : FVec F S416x128 .f32 := Host.absf main_arg14
  let main_cst_8 : FVec F S_ .f32 := constant S_ .f32 0x7F800000#32
  let main_v33 : FVec F S416x128 .f32 := broadcastInDim S416x128 ![] bcast_S_S416x128 main_cst_8
  let main_v34 : IVec S416x128 1 := cmpf .olt main_v32 main_v33
  let main_c_9 : IVec S_ 1 := constantI S_ 1 1#1
  let main_v35 : IVec S_ 1 := (fun x v => Host.reduce IntOp.andi x v reducesTo_S416x128_S_d0_1 h_S_) main_v34 main_c_9
  fn_part2 (F := F) main_v31 main_v35

def fn {F : FTy → Type} [FloatOps F] (main_arg0 : FVec F S4x512x3 .f32) (main_arg1 : FVec F S4x512 .f32) (main_arg2 : IVec S4x512 32) (main_arg3 : FVec F S4x1024x5x3 .f32) (main_arg4 : FVec F S4x1024x25x3 .f32) (main_arg5 : FVec F S4x1024x25 .f32) (main_arg6 : IVec S4 32) (main_arg7 : FVec F S4x1024 .f32) (main_arg8 : FVec F S4x1024x37 .f32) (main_arg9 : IVec S4x1024 32) (main_arg10 : FVec F S4x1024x3 .f32) (main_arg11 : IVec S4x1024 32) (main_arg12 : FVec F S66x16 .f32) (main_arg13 : FVec F S16 .f32) (main_arg14 : FVec F S416x128 .f32) (main_arg15 : FVec F S128 .f32) (main_arg16 : FVec F S128 .f32) : IVec S_ 1 :=
  let main_cst : FVec F S_ .f32 := constant S_ .f32 0x3F800000#32
  let main_v0 : FVec F S4x1024 .f32 := broadcastInDim S4x1024 ![] bcast_S_S4x1024 main_cst
  let main_v1 : IVec S4x1024 1 := cmpf .oeq main_arg7 main_v0
  let main_c : IVec S_ 1 := constantI S_ 1 1#1
  let main_v2 : IVec S_ 1 := (fun x v => Host.reduce IntOp.andi x v reducesTo_S4x1024_S_d0_1 h_S_) main_v1 main_c
  let main_v3 : IVec S4x1 32 := (extractStridedSlice S4x1 ![0, 0] · slices_S4x1024_S4x1_0_0) main_arg9
  let main_v4 : IVec S4x1024 32 := broadcastInDim S4x1024 ![0, 1] bcast_S4x1_S4x1024_0_1 main_v3
  let main_v5 : IVec S4x1024 32 := subi main_arg9 main_v4
  let main_v6 : IVec S1024 32 := iotaInDim S1024 32 0
  let main_v7 : IVec S1x1024 32 := broadcastInDim S1x1024 ![1] bcast_S1024_S1x1024_1 main_v6
  let main_v8 : IVec S4x1024 32 := broadcastInDim S4x1024 ![0, 1] bcast_S1x1024_S4x1024_0_1 main_v7
  let main_v9 : IVec S4x1024 1 := cmpi .eq main_v5 main_v8
  let main_c_0 : IVec S_ 1 := constantI S_ 1 1#1
  let main_v10 : IVec S_ 1 := (fun x v => Host.reduce IntOp.andi x v reducesTo_S4x1024_S_d0_1 h_S_) main_v9 main_c_0
  let main_v11 : IVec S_ 1 := andi main_v2 main_v10
  let main_v12 : IVec S4x1 32 := (extractStridedSlice S4x1 ![0, 0] · slices_S4x1024_S4x1_0_0) main_arg11
  let main_v13 : IVec S4x1024 32 := broadcastInDim S4x1024 ![0, 1] bcast_S4x1_S4x1024_0_1 main_v12
  let main_v14 : IVec S4x1024 1 := cmpi .eq main_arg11 main_v13
  let main_c_1 : IVec S_ 1 := constantI S_ 1 1#1
  let main_v15 : IVec S_ 1 := (fun x v => Host.reduce IntOp.andi x v reducesTo_S4x1024_S_d0_1 h_S_) main_v14 main_c_1
  let main_v16 : IVec S_ 1 := andi main_v11 main_v15
  let main_v17 : FVec F S4x1024x5x3 .f32 := Host.absf main_arg3
  let main_cst_2 : FVec F S_ .f32 := constant S_ .f32 0x7F800000#32
  let main_v18 : FVec F S4x1024x5x3 .f32 := broadcastInDim S4x1024x5x3 ![] bcast_S_S4x1024x5x3 main_cst_2
  fn_part1 (F := F) main_arg12 main_arg13 main_arg14 main_v16 main_v17 main_v18
-- ==== Pre_rows_named.lean ====
abbrev S196608 : Shape := ⟨1, ![196608]⟩
abbrev S4096x16 : Shape := ⟨2, ![4096, 16]⟩
abbrev S_ : Shape := ⟨0, ![]⟩

class Facts : Prop where
  bcast_S_S196608 : S_.BroadcastsInDim S196608 (![] : Fin 0 → Fin S196608.rank)
  reducesTo_S196608_S_d0 : S196608.ReducesTo [0] S_
  h_S_ : 0 < S_.numel

variable [Facts]

def fn {F : FTy → Type} [FloatOps F] (main_arg0 : IVec S196608 32) (main_arg1 : FVec F S4096x16 .f32) : IVec S_ 1 :=
  let main_c : IVec S_ 32 := constantI S_ 32 0#32
  let main_v0 : IVec S196608 32 := broadcastInDim S196608 ![] bcast_S_S196608 main_c
  let main_v1 : IVec S196608 1 := cmpi .sge main_arg0 main_v0
  let main_c_0 : IVec S_ 32 := constantI S_ 32 4096#32
  let main_v2 : IVec S196608 32 := broadcastInDim S196608 ![] bcast_S_S196608 main_c_0
  let main_v3 : IVec S196608 1 := cmpi .slt main_arg0 main_v2
  let main_v4 : IVec S196608 1 := andi main_v1 main_v3
  let main_c_1 : IVec S_ 1 := constantI S_ 1 1#1
  let main_v5 : IVec S_ 1 := (fun x v => Host.reduce IntOp.andi x v reducesTo_S196608_S_d0 h_S_) main_v4 main_c_1
  main_v5
-- ==== Pre_scaled_away.lean ====
abbrev S4x512x3 : Shape := ⟨3, ![4, 512, 3]⟩
abbrev S4x512 : Shape := ⟨2, ![4, 512]⟩
abbrev S4x1024x5x3 : Shape := ⟨4, ![4, 1024, 5, 3]⟩
abbrev S4x1024x25x3 : Shape := ⟨4, ![4, 1024, 25, 3]⟩
abbrev S4x1024x25 : Shape := ⟨3, ![4, 1024, 25]⟩
abbrev S4 : Shape := ⟨1, ![4]⟩
abbrev S4x1024 : Shape := ⟨2, ![4, 1024]⟩
abbrev S4x1024x37 : Shape := ⟨3, ![4, 1024, 37]⟩
abbrev S4x1024x3 : Shape := ⟨3, ![4, 1024, 3]⟩
abbrev S66x16 : Shape := ⟨2, ![66, 16]⟩
abbrev S16 : Shape := ⟨1, ![16]⟩
abbrev S416x128 : Shape := ⟨2, ![416, 128]⟩
abbrev S128 : Shape := ⟨1, ![128]⟩
abbrev S_ : Shape := ⟨0, ![]⟩
abbrev S4x1 : Shape := ⟨2, ![4, 1]⟩
abbrev S1024 : Shape := ⟨1, ![1024]⟩
abbrev S1x1024 : Shape := ⟨2, ![1, 1024]⟩
abbrev S1 : Shape := ⟨1, ![1]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  slices_S4x1024_S4x1_0_0 : S4x1024.Slices ![0, 0] S4x1
  bcast_S4x1_S4x1024_0_1 : S4x1.BroadcastsInDim S4x1024 (![0, 1] : Fin 2 → Fin S4x1024.rank)
  bcast_S1024_S1x1024_1 : S1024.BroadcastsInDim S1x1024 (![1] : Fin 1 → Fin S1x1024.rank)
  bcast_S1x1024_S4x1024_0_1 : S1x1024.BroadcastsInDim S4x1024 (![0, 1] : Fin 2 → Fin S4x1024.rank)
  bcast_S_S4x1024x5x3 : S_.BroadcastsInDim S4x1024x5x3 (![] : Fin 0 → Fin S4x1024x5x3.rank)
  reducesTo_S4x1024x5x3_S_d0_1_2_3 : S4x1024x5x3.ReducesTo [0, 1, 2, 3] S_
  bcast_S_S66x16 : S_.BroadcastsInDim S66x16 (![] : Fin 0 → Fin S66x16.rank)
  reducesTo_S66x16_S_d0_1 : S66x16.ReducesTo [0, 1] S_
  bcast_S_S16 : S_.BroadcastsInDim S16 (![] : Fin 0 → Fin S16.rank)
  reducesTo_S16_S_d0 : S16.ReducesTo [0] S_
  bcast_S_S416x128 : S_.BroadcastsInDim S416x128 (![] : Fin 0 → Fin S416x128.rank)
  reducesTo_S416x128_S_d0_1 : S416x128.ReducesTo [0, 1] S_
  bcast_S_S128 : S_.BroadcastsInDim S128 (![] : Fin 0 → Fin S128.rank)
  reducesTo_S128_S_d0 : S128.ReducesTo [0] S_
  slices_S128_S1_0 : S128.Slices ![0] S1
  shapeCasts_S1_S_ : S1.ShapeCasts S_
  slices_S128_S1_1 : S128.Slices ![1] S1

variable [Facts]

def fn_part2 {F : FTy → Type} [FloatOps F] (main_arg15 : FVec F S128 .f32) (main_arg16 : FVec F S128 .f32) (main_v31 : IVec S_ 1) (main_v35 : IVec S_ 1) : IVec S_ 1 :=
  let main_v36 : IVec S_ 1 := andi main_v31 main_v35
  let main_cst_10 : FVec F S_ .f32 := constant S_ .f32 0x00000000#32
  let main_v37 : FVec F S128 .f32 := broadcastInDim S128 ![] bcast_S_S128 main_cst_10
  let main_v38 : IVec S128 1 := cmpf .oeq main_arg15 main_v37
  let main_c_11 : IVec S_ 1 := constantI S_ 1 1#1
  let main_v39 : IVec S_ 1 := (fun x v => Host.reduce IntOp.andi x v reducesTo_S128_S_d0 h_S_) main_v38 main_c_11
  let main_v40 : IVec S_ 1 := andi main_v36 main_v39
  let main_v41 : FVec F S1 .f32 := (extractStridedSlice S1 ![0] · slices_S128_S1_0) main_arg16
  let main_v42 : FVec F S_ .f32 := shapeCast S_ main_v41 shapeCasts_S1_S_
  let main_v43 : FVec F S1 .f32 := (extractStridedSlice S1 ![1] · slices_S128_S1_1) main_arg16
  let main_v44 : FVec F S_ .f32 := shapeCast S_ main_v43 shapeCasts_S1_S_
  let main_v45 : IVec S_ 1 := cmpf .une main_v42 main_v44
  let main_v46 : IVec S_ 1 := andi main_v40 main_v45
  main_v46

def fn_part1 {F : FTy → Type} [FloatOps F] (main_arg12 : FVec F S66x16 .f32) (main_arg13 : FVec F S16 .f32) (main_arg14 : FVec F S416x128 .f32) (main_arg15 : FVec F S128 .f32) (main_arg16 : FVec F S128 .f32) (main_v16 : IVec S_ 1) (main_v17 : FVec F S4x1024x5x3 .f32) (main_v18 : FVec F S4x1024x5x3 .f32) : IVec S_ 1 :=
  let main_v19 : IVec S4x1024x5x3 1 := cmpf .olt main_v17 main_v18
  let main_c_3 : IVec S_ 1 := constantI S_ 1 1#1
  let main_v20 : IVec S_ 1 := (fun x v => Host.reduce IntOp.andi x v reducesTo_S4x1024x5x3_S_d0_1_2_3 h_S_) main_v19 main_c_3
  let main_v21 : IVec S_ 1 := andi main_v16 main_v20
  let main_v22 : FVec F S66x16 .f32 := Host.absf main_arg12
  let main_cst_4 : FVec F S_ .f32 := constant S_ .f32 0x7F800000#32
  let main_v23 : FVec F S66x16 .f32 := broadcastInDim S66x16 ![] bcast_S_S66x16 main_cst_4
  let main_v24 : IVec S66x16 1 := cmpf .olt main_v22 main_v23
  let main_c_5 : IVec S_ 1 := constantI S_ 1 1#1
  let main_v25 : IVec S_ 1 := (fun x v => Host.reduce IntOp.andi x v reducesTo_S66x16_S_d0_1 h_S_) main_v24 main_c_5
  let main_v26 : IVec S_ 1 := andi main_v21 main_v25
  let main_v27 : FVec F S16 .f32 := Host.absf main_arg13
  let main_cst_6 : FVec F S_ .f32 := constant S_ .f32 0x7F800000#32
  let main_v28 : FVec F S16 .f32 := broadcastInDim S16 ![] bcast_S_S16 main_cst_6
  let main_v29 : IVec S16 1 := cmpf .olt main_v27 main_v28
  let main_c_7 : IVec S_ 1 := constantI S_ 1 1#1
  let main_v30 : IVec S_ 1 := (fun x v => Host.reduce IntOp.andi x v reducesTo_S16_S_d0 h_S_) main_v29 main_c_7
  let main_v31 : IVec S_ 1 := andi main_v26 main_v30
  let main_v32 : FVec F S416x128 .f32 := Host.absf main_arg14
  let main_cst_8 : FVec F S_ .f32 := constant S_ .f32 0x7F800000#32
  let main_v33 : FVec F S416x128 .f32 := broadcastInDim S416x128 ![] bcast_S_S416x128 main_cst_8
  let main_v34 : IVec S416x128 1 := cmpf .olt main_v32 main_v33
  let main_c_9 : IVec S_ 1 := constantI S_ 1 1#1
  let main_v35 : IVec S_ 1 := (fun x v => Host.reduce IntOp.andi x v reducesTo_S416x128_S_d0_1 h_S_) main_v34 main_c_9
  fn_part2 (F := F) main_arg15 main_arg16 main_v31 main_v35

def fn {F : FTy → Type} [FloatOps F] (main_arg0 : FVec F S4x512x3 .f32) (main_arg1 : FVec F S4x512 .f32) (main_arg2 : IVec S4x512 32) (main_arg3 : FVec F S4x1024x5x3 .f32) (main_arg4 : FVec F S4x1024x25x3 .f32) (main_arg5 : FVec F S4x1024x25 .f32) (main_arg6 : IVec S4 32) (main_arg7 : FVec F S4x1024 .f32) (main_arg8 : FVec F S4x1024x37 .f32) (main_arg9 : IVec S4x1024 32) (main_arg10 : FVec F S4x1024x3 .f32) (main_arg11 : IVec S4x1024 32) (main_arg12 : FVec F S66x16 .f32) (main_arg13 : FVec F S16 .f32) (main_arg14 : FVec F S416x128 .f32) (main_arg15 : FVec F S128 .f32) (main_arg16 : FVec F S128 .f32) : IVec S_ 1 :=
  let main_cst : FVec F S_ .f32 := constant S_ .f32 0x3F800000#32
  let main_v0 : FVec F S4x1024 .f32 := broadcastInDim S4x1024 ![] bcast_S_S4x1024 main_cst
  let main_v1 : IVec S4x1024 1 := cmpf .oeq main_arg7 main_v0
  let main_c : IVec S_ 1 := constantI S_ 1 1#1
  let main_v2 : IVec S_ 1 := (fun x v => Host.reduce IntOp.andi x v reducesTo_S4x1024_S_d0_1 h_S_) main_v1 main_c
  let main_v3 : IVec S4x1 32 := (extractStridedSlice S4x1 ![0, 0] · slices_S4x1024_S4x1_0_0) main_arg9
  let main_v4 : IVec S4x1024 32 := broadcastInDim S4x1024 ![0, 1] bcast_S4x1_S4x1024_0_1 main_v3
  let main_v5 : IVec S4x1024 32 := subi main_arg9 main_v4
  let main_v6 : IVec S1024 32 := iotaInDim S1024 32 0
  let main_v7 : IVec S1x1024 32 := broadcastInDim S1x1024 ![1] bcast_S1024_S1x1024_1 main_v6
  let main_v8 : IVec S4x1024 32 := broadcastInDim S4x1024 ![0, 1] bcast_S1x1024_S4x1024_0_1 main_v7
  let main_v9 : IVec S4x1024 1 := cmpi .eq main_v5 main_v8
  let main_c_0 : IVec S_ 1 := constantI S_ 1 1#1
  let main_v10 : IVec S_ 1 := (fun x v => Host.reduce IntOp.andi x v reducesTo_S4x1024_S_d0_1 h_S_) main_v9 main_c_0
  let main_v11 : IVec S_ 1 := andi main_v2 main_v10
  let main_v12 : IVec S4x1 32 := (extractStridedSlice S4x1 ![0, 0] · slices_S4x1024_S4x1_0_0) main_arg11
  let main_v13 : IVec S4x1024 32 := broadcastInDim S4x1024 ![0, 1] bcast_S4x1_S4x1024_0_1 main_v12
  let main_v14 : IVec S4x1024 1 := cmpi .eq main_arg11 main_v13
  let main_c_1 : IVec S_ 1 := constantI S_ 1 1#1
  let main_v15 : IVec S_ 1 := (fun x v => Host.reduce IntOp.andi x v reducesTo_S4x1024_S_d0_1 h_S_) main_v14 main_c_1
  let main_v16 : IVec S_ 1 := andi main_v11 main_v15
  let main_v17 : FVec F S4x1024x5x3 .f32 := Host.absf main_arg3
  let main_cst_2 : FVec F S_ .f32 := constant S_ .f32 0x7F800000#32
  let main_v18 : FVec F S4x1024x5x3 .f32 := broadcastInDim S4x1024x5x3 ![] bcast_S_S4x1024x5x3 main_cst_2
  fn_part1 (F := F) main_arg12 main_arg13 main_arg14 main_arg15 main_arg16 main_v16 main_v17 main_v18
-- ==== KernelIdeal.lean ====
abbrev S4x512x3 : Shape := ⟨3, ![4, 512, 3]⟩
abbrev S4x512 : Shape := ⟨2, ![4, 512]⟩
abbrev S4x1024x5x3 : Shape := ⟨4, ![4, 1024, 5, 3]⟩
abbrev S4x1024x25x3 : Shape := ⟨4, ![4, 1024, 25, 3]⟩
abbrev S4x1024x25 : Shape := ⟨3, ![4, 1024, 25]⟩
abbrev S4 : Shape := ⟨1, ![4]⟩
abbrev S4x1024 : Shape := ⟨2, ![4, 1024]⟩
abbrev S4x1024x37 : Shape := ⟨3, ![4, 1024, 37]⟩
abbrev S4x1024x3 : Shape := ⟨3, ![4, 1024, 3]⟩
abbrev S66x16 : Shape := ⟨2, ![66, 16]⟩
abbrev S16 : Shape := ⟨1, ![16]⟩
abbrev S416x128 : Shape := ⟨2, ![416, 128]⟩
abbrev S128 : Shape := ⟨1, ![128]⟩
abbrev S16x96 : Shape := ⟨2, ![16, 96]⟩
abbrev S8x512 : Shape := ⟨2, ![8, 512]⟩
abbrev S4x1024x15 : Shape := ⟨3, ![4, 1024, 15]⟩
abbrev S_ : Shape := ⟨0, ![]⟩
abbrev S4x8x1024 : Shape := ⟨3, ![4, 8, 1024]⟩
abbrev S4x1024x1x3 : Shape := ⟨4, ![4, 1024, 1, 3]⟩
abbrev S4x3x1024 : Shape := ⟨3, ![4, 3, 1024]⟩
abbrev S1 : Shape := ⟨1, ![1]⟩
abbrev S4x1024x48 : Shape := ⟨3, ![4, 1024, 48]⟩
abbrev S4x1024x16 : Shape := ⟨3, ![4, 1024, 16]⟩
abbrev S1x256x15 : Shape := ⟨3, ![1, 256, 15]⟩
abbrev S1x8x1024 : Shape := ⟨3, ![1, 8, 1024]⟩
abbrev S1x256x48 : Shape := ⟨3, ![1, 256, 48]⟩
abbrev S1x256x16 : Shape := ⟨3, ![1, 256, 16]⟩
abbrev S256x15 : Shape := ⟨2, ![256, 15]⟩
abbrev S8x1024 : Shape := ⟨2, ![8, 1024]⟩
abbrev S256x1 : Shape := ⟨2, ![256, 1]⟩
abbrev S1x1024 : Shape := ⟨2, ![1, 1024]⟩
abbrev S256x1024 : Shape := ⟨2, ![256, 1024]⟩
abbrev S256 : Shape := ⟨1, ![256]⟩
abbrev S256x48 : Shape := ⟨2, ![256, 48]⟩
abbrev S256x3 : Shape := ⟨2, ![256, 3]⟩
abbrev S256x16 : Shape := ⟨2, ![256, 16]⟩
abbrev S4096x16 : Shape := ⟨2, ![4096, 16]⟩
abbrev S196608 : Shape := ⟨1, ![196608]⟩
abbrev S196608x16 : Shape := ⟨2, ![196608, 16]⟩
abbrev S128x16 : Shape := ⟨2, ![128, 16]⟩
abbrev S16x128 : Shape := ⟨2, ![16, 128]⟩
abbrev S128x128 : Shape := ⟨2, ![128, 128]⟩
abbrev S32 : Shape := ⟨1, ![32]⟩
abbrev S16x32 : Shape := ⟨2, ![16, 32]⟩
abbrev S16x32x1 : Shape := ⟨3, ![16, 32, 1]⟩
abbrev S16x32x128 : Shape := ⟨3, ![16, 32, 128]⟩
abbrev S512x128 : Shape := ⟨2, ![512, 128]⟩
abbrev S640x128 : Shape := ⟨2, ![640, 128]⟩
abbrev S8x128 : Shape := ⟨2, ![8, 128]⟩
abbrev S4x1024x48x128 : Shape := ⟨4, ![4, 1024, 48, 128]⟩
abbrev S1536x16 : Shape := ⟨2, ![1536, 16]⟩
abbrev S32x16 : Shape := ⟨2, ![32, 16]⟩
abbrev S1x32x48x128 : Shape := ⟨4, ![1, 32, 48, 128]⟩
abbrev S32x96 : Shape := ⟨2, ![32, 96]⟩
abbrev S1536x96 : Shape := ⟨2, ![1536, 96]⟩
abbrev S32x1x96 : Shape := ⟨3, ![32, 1, 96]⟩
abbrev S32x48x96 : Shape := ⟨3, ![32, 48, 96]⟩
abbrev S32x48x32 : Shape := ⟨3, ![32, 48, 32]⟩
abbrev S32x48x512 : Shape := ⟨3, ![32, 48, 512]⟩
abbrev S1x512 : Shape := ⟨2, ![1, 512]⟩
abbrev S1x1x512 : Shape := ⟨3, ![1, 1, 512]⟩
abbrev S1536x512 : Shape := ⟨2, ![1536, 512]⟩
abbrev S32x48x1 : Shape := ⟨3, ![32, 48, 1]⟩
abbrev S32x48x16 : Shape := ⟨3, ![32, 48, 16]⟩
abbrev S32x48x128 : Shape := ⟨3, ![32, 48, 128]⟩
abbrev S1536x128 : Shape := ⟨2, ![1536, 128]⟩
abbrev S1536x640 : Shape := ⟨2, ![1536, 640]⟩
abbrev S1536 : Shape := ⟨1, ![1536]⟩
abbrev S1536x1 : Shape := ⟨2, ![1536, 1]⟩
abbrev S1x128 : Shape := ⟨2, ![1, 128]⟩

abbrev nBuf : Table → Nat
  | .hbm => 101
  | .local .tc .vmem => 23
  | .local .scVector .vmem => 2
  | _ => 0

abbrev bufTy : (tb : Table) → Fin (nBuf tb) → BufTy
  | .hbm, ⟨0, _⟩ => ⟨S4x512x3, .f32⟩
  | .hbm, ⟨1, _⟩ => ⟨S4x512, .f32⟩
  | .hbm, ⟨2, _⟩ => ⟨S4x512, .i32⟩
  | .hbm, ⟨3, _⟩ => ⟨S4x1024x5x3, .f32⟩
  | .hbm, ⟨4, _⟩ => ⟨S4x1024x25x3, .f32⟩
  | .hbm, ⟨5, _⟩ => ⟨S4x1024x25, .f32⟩
  | .hbm, ⟨6, _⟩ => ⟨S4, .i32⟩
  | .hbm, ⟨7, _⟩ => ⟨S4x1024, .f32⟩
  | .hbm, ⟨8, _⟩ => ⟨S4x1024x37, .f32⟩
  | .hbm, ⟨9, _⟩ => ⟨S4x1024, .i32⟩
  | .hbm, ⟨10, _⟩ => ⟨S4x1024x3, .f32⟩
  | .hbm, ⟨11, _⟩ => ⟨S4x1024, .i32⟩
  | .hbm, ⟨12, _⟩ => ⟨S66x16, .f32⟩
  | .hbm, ⟨13, _⟩ => ⟨S16, .f32⟩
  | .hbm, ⟨14, _⟩ => ⟨S416x128, .f32⟩
  | .hbm, ⟨15, _⟩ => ⟨S128, .f32⟩
  | .hbm, ⟨16, _⟩ => ⟨S128, .f32⟩
  | .hbm, ⟨17, _⟩ => ⟨S16x96, .f32⟩
  | .hbm, ⟨18, _⟩ => ⟨S16x96, .f32⟩
  | .hbm, ⟨19, _⟩ => ⟨S8x512, .f32⟩
  | .hbm, ⟨20, _⟩ => ⟨S4x1024x15, .f32⟩
  | .hbm, ⟨21, _⟩ => ⟨S_, .f32⟩
  | .hbm, ⟨22, _⟩ => ⟨S4x8x1024, .f32⟩
  | .hbm, ⟨23, _⟩ => ⟨S4x1024x1x3, .f32⟩
  | .hbm, ⟨24, _⟩ => ⟨S4x1024x3, .f32⟩
  | .hbm, ⟨25, _⟩ => ⟨S4x3x1024, .f32⟩
  | .hbm, ⟨26, _⟩ => ⟨S_, .i32⟩
  | .hbm, ⟨27, _⟩ => ⟨S1, .i32⟩
  | .hbm, ⟨28, _⟩ => ⟨S4x8x1024, .f32⟩
  | .hbm, ⟨29, _⟩ => ⟨S4x1024x48, .i32⟩
  | .hbm, ⟨30, _⟩ => ⟨S4x1024x48, .i32⟩
  | .hbm, ⟨31, _⟩ => ⟨S4x1024x16, .f32⟩
  | .hbm, ⟨32, _⟩ => ⟨S4096x16, .f32⟩
  | .hbm, ⟨33, _⟩ => ⟨S196608, .i32⟩
  | .hbm, ⟨34, _⟩ => ⟨S196608x16, .f32⟩
  | .hbm, ⟨35, _⟩ => ⟨S_, .f32⟩
  | .hbm, ⟨36, _⟩ => ⟨S128x16, .f32⟩
  | .hbm, ⟨37, _⟩ => ⟨S_, .i32⟩
  | .hbm, ⟨38, _⟩ => ⟨S1, .i32⟩
  | .hbm, ⟨39, _⟩ => ⟨S128x16, .f32⟩
  | .hbm, ⟨40, _⟩ => ⟨S_, .i32⟩
  | .hbm, ⟨41, _⟩ => ⟨S1, .i32⟩
  | .hbm, ⟨42, _⟩ => ⟨S128x16, .f32⟩
  | .hbm, ⟨43, _⟩ => ⟨S16x128, .f32⟩
  | .hbm, ⟨44, _⟩ => ⟨S128x128, .f32⟩
  | .hbm, ⟨45, _⟩ => ⟨S16, .i32⟩
  | .hbm, ⟨46, _⟩ => ⟨S32, .i32⟩
  | .hbm, ⟨47, _⟩ => ⟨S16x32, .i32⟩
  | .hbm, ⟨48, _⟩ => ⟨S16x32, .i32⟩
  | .hbm, ⟨49, _⟩ => ⟨S_, .i32⟩
  | .hbm, ⟨50, _⟩ => ⟨S16x32, .i32⟩
  | .hbm, ⟨51, _⟩ => ⟨S16x32, .i32⟩
  | .hbm, ⟨52, _⟩ => ⟨S_, .i32⟩
  | .hbm, ⟨53, _⟩ => ⟨S16x32, .i32⟩
  | .hbm, ⟨54, _⟩ => ⟨S16x32, .i32⟩
  | .hbm, ⟨55, _⟩ => ⟨S16x32, .i32⟩
  | .hbm, ⟨56, _⟩ => ⟨S_, .i32⟩
  | .hbm, ⟨57, _⟩ => ⟨S16x32, .i32⟩
  | .hbm, ⟨58, _⟩ => ⟨S16x32, .i1⟩
  | .hbm, ⟨59, _⟩ => ⟨S16x32x1, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S16x32, .i32⟩
  | .hbm, ⟨64, _⟩ => ⟨S16x32, .i32⟩
  | .hbm, ⟨65, _⟩ => ⟨S_, .i32⟩
  | .hbm, ⟨66, _⟩ => ⟨S16x32, .i32⟩
  | .hbm, ⟨67, _⟩ => ⟨S16x32, .i32⟩
  | .hbm, ⟨68, _⟩ => ⟨S_, .i32⟩
  | .hbm, ⟨69, _⟩ => ⟨S16x32, .i32⟩
  | .hbm, ⟨70, _⟩ => ⟨S16x32, .i1⟩
  | .hbm, ⟨71, _⟩ => ⟨S_, .i32⟩
  | .hbm, ⟨72, _⟩ => ⟨S16x32, .i32⟩
  | .hbm, ⟨73, _⟩ => ⟨S16x32, .i32⟩
  | .hbm, ⟨74, _⟩ => ⟨S16x32, .i32⟩
  | .hbm, ⟨75, _⟩ => ⟨S16x32x1, .i32⟩
  | .hbm, ⟨76, _⟩ => ⟨S16x32x128, .f32⟩
  | .hbm, ⟨77, _⟩ => ⟨S_, .f32⟩
  | .hbm, ⟨78, _⟩ => ⟨S_, .f32⟩
  | .hbm, ⟨79, _⟩ => ⟨S16x32x128, .i1⟩
  | .hbm, ⟨80, _⟩ => ⟨S16x32x128, .f32⟩
  | .hbm, ⟨81, _⟩ => ⟨S16x32x128, .f32⟩
  | .hbm, ⟨82, _⟩ => ⟨S512x128, .f32⟩
  | .hbm, ⟨83, _⟩ => ⟨S640x128, .f32⟩
  | .hbm, ⟨84, _⟩ => ⟨S640x128, .bf16⟩
  | .hbm, ⟨85, _⟩ => ⟨S640x128, .f32⟩
  | .hbm, ⟨86, _⟩ => ⟨S640x128, .f32⟩
  | .hbm, ⟨87, _⟩ => ⟨S640x128, .bf16⟩
  | .hbm, ⟨88, _⟩ => ⟨S_, .f32⟩
  | .hbm, ⟨89, _⟩ => ⟨S8x128, .f32⟩
  | .hbm, ⟨90, _⟩ => ⟨S_, .i32⟩
  | .hbm, ⟨91, _⟩ => ⟨S1, .i32⟩
  | .hbm, ⟨92, _⟩ => ⟨S8x128, .f32⟩
  | .hbm, ⟨93, _⟩ => ⟨S_, .f32⟩
  | .hbm, ⟨94, _⟩ => ⟨S8x128, .f32⟩
  | .hbm, ⟨95, _⟩ => ⟨S_, .i32⟩
  | .hbm, ⟨96, _⟩ => ⟨S1, .i32⟩
  | .hbm, ⟨97, _⟩ => ⟨S8x128, .f32⟩
  | .hbm, ⟨98, _⟩ => ⟨S16x96, .bf16⟩
  | .hbm, ⟨99, _⟩ => ⟨S16x96, .bf16⟩
  | .hbm, ⟨100, _⟩ => ⟨S4x1024x48x128, .f32⟩
  | .local .tc .vmem, ⟨0, _⟩ => ⟨S1x256x15, .f32⟩
  | .local .tc .vmem, ⟨1, _⟩ => ⟨S1x256x15, .f32⟩
  | .local .tc .vmem, ⟨2, _⟩ => ⟨S1x8x1024, .f32⟩
  | .local .tc .vmem, ⟨3, _⟩ => ⟨S1x8x1024, .f32⟩
  | .local .tc .vmem, ⟨4, _⟩ => ⟨S1x256x48, .i32⟩
  | .local .tc .vmem, ⟨5, _⟩ => ⟨S1x256x48, .i32⟩
  | .local .tc .vmem, ⟨6, _⟩ => ⟨S1x256x48, .i32⟩
  | .local .tc .vmem, ⟨7, _⟩ => ⟨S1x256x48, .i32⟩
  | .local .tc .vmem, ⟨8, _⟩ => ⟨S1x256x16, .f32⟩
  | .local .tc .vmem, ⟨9, _⟩ => ⟨S1x256x16, .f32⟩
  | .local .tc .vmem, ⟨10, _⟩ => ⟨S1536x16, .f32⟩
  | .local .tc .vmem, ⟨11, _⟩ => ⟨S1536x16, .f32⟩
  | .local .tc .vmem, ⟨12, _⟩ => ⟨S32x16, .f32⟩
  | .local .tc .vmem, ⟨13, _⟩ => ⟨S32x16, .f32⟩
  | .local .tc .vmem, ⟨14, _⟩ => ⟨S16x96, .bf16⟩
  | .local .tc .vmem, ⟨15, _⟩ => ⟨S16x96, .bf16⟩
  | .local .tc .vmem, ⟨16, _⟩ => ⟨S8x512, .f32⟩
  | .local .tc .vmem, ⟨17, _⟩ => ⟨S640x128, .bf16⟩
  | .local .tc .vmem, ⟨18, _⟩ => ⟨S640x128, .bf16⟩
  | .local .tc .vmem, ⟨19, _⟩ => ⟨S8x128, .f32⟩
  | .local .tc .vmem, ⟨20, _⟩ => ⟨S8x128, .f32⟩
  | .local .tc .vmem, ⟨21, _⟩ => ⟨S1x32x48x128, .f32⟩
  | .local .tc .vmem, ⟨22, _⟩ => ⟨S1x32x48x128, .f32⟩
  | .local .scVector .vmem, ⟨0, _⟩ => ⟨S128, .i32⟩
  | .local .scVector .vmem, ⟨1, _⟩ => ⟨S128x16, .f32⟩
  | _, _ => ⟨S4x512x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_cst_0 : Ref sig .tc := ⟨.hbm, 18, rfl⟩
abbrev main_cst_1 : Ref sig .tc := ⟨.hbm, 19, rfl⟩
abbrev main_v0 : Ref sig .tc := ⟨.hbm, 20, rfl⟩
abbrev main_cst_2 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_v7_0 : Ref sig .tc := ⟨.hbm, 29, rfl⟩
abbrev main_v7_1 : Ref sig .tc := ⟨.hbm, 30, rfl⟩
abbrev main_v7_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_c_4 : Ref sig .tc := ⟨.hbm, 37, rfl⟩
abbrev main_v12 : Ref sig .tc := ⟨.hbm, 38, rfl⟩
abbrev main_v13 : Ref sig .tc := ⟨.hbm, 39, rfl⟩
abbrev main_c_5 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_6 : Ref sig .tc := ⟨.hbm, 49, rfl⟩
abbrev main_v22 : Ref sig .tc := ⟨.hbm, 50, rfl⟩
abbrev main_v23 : Ref sig .tc := ⟨.hbm, 51, rfl⟩
abbrev main_c_7 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_8 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_9 : Ref sig .tc := ⟨.hbm, 60, rfl⟩
abbrev main_c_10 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v30 : Ref sig .tc := ⟨.hbm, 67, rfl⟩
abbrev main_c_11 : Ref sig .tc := ⟨.hbm, 68, rfl⟩
abbrev main_v31 : Ref sig .tc := ⟨.hbm, 69, rfl⟩
abbrev main_v32 : Ref sig .tc := ⟨.hbm, 70, rfl⟩
abbrev main_c_12 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_13 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_14 : Ref sig .tc := ⟨.hbm, 88, rfl⟩
abbrev main_v45 : Ref sig .tc := ⟨.hbm, 89, rfl⟩
abbrev main_c_15 : Ref sig .tc := ⟨.hbm, 90, rfl⟩
abbrev main_v46 : Ref sig .tc := ⟨.hbm, 91, rfl⟩
abbrev main_v47 : Ref sig .tc := ⟨.hbm, 92, rfl⟩
abbrev main_cst_16 : Ref sig .tc := ⟨.hbm, 93, rfl⟩
abbrev main_v48 : Ref sig .tc := ⟨.hbm, 94, rfl⟩
abbrev main_c_17 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v9_scv : Ref sig .scVector := ⟨.hbm, 33, rfl⟩
abbrev main_v8_scv : Ref sig .scVector := ⟨.hbm, 32, rfl⟩
abbrev main_v10_scv : Ref sig .scVector := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg9_1 : Ref sig .tc := ⟨.vmem, 22, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem9_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "inv_sigma" => some ((4 / 5 : ℝ) : EReal)
  | _ => none

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x48 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x48 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 16], ![false, false]⟩

@[reducible] def k1_t1_loop : Scf.Loop 32 :=
  let c0_i32_0 : BitVec 32 := 0#32
  let c48_i32 : BitVec 32 := 48#32
  let v3 : BitVec 32 := Scalar.addi c0_i32_0 c48_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let c0_i32_0 : BitVec 32 := 0#32
  let c1_i32 : BitVec 32 := 1#32
  let arg8 : BitVec 32 := Scf.iv c0_i32_0 c1_i32 k1_t1
  let c128_i32 : BitVec 32 := 128#32
  let v4 : BitVec 32 := Scalar.muli arg8 c128_i32
  let v5 : BitVec 32 := Scalar.addi v2 v4
  ![v5.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let c0_i32_0 : BitVec 32 := 0#32
  let c1_i32 : BitVec 32 := 1#32
  let arg8 : BitVec 32 := Scf.iv c0_i32_0 c1_i32 k1_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage2_0 : Fin 2 → Memref sig .tc .vmem S1536x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x96 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x96 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S640x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S640x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S8x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S8x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1x32x48x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x512x3 : Shape := ⟨3, ![4, 512, 3]⟩
abbrev S4x512 : Shape := ⟨2, ![4, 512]⟩
abbrev S4x1024x5x3 : Shape := ⟨4, ![4, 1024, 5, 3]⟩
abbrev S4x1024x25x3 : Shape := ⟨4, ![4, 1024, 25, 3]⟩
abbrev S4x1024x25 : Shape := ⟨3, ![4, 1024, 25]⟩
abbrev S4 : Shape := ⟨1, ![4]⟩
abbrev S4x1024 : Shape := ⟨2, ![4, 1024]⟩
abbrev S4x1024x37 : Shape := ⟨3, ![4, 1024, 37]⟩
abbrev S4x1024x3 : Shape := ⟨3, ![4, 1024, 3]⟩
abbrev S66x16 : Shape := ⟨2, ![66, 16]⟩
abbrev S16 : Shape := ⟨1, ![16]⟩
abbrev S416x128 : Shape := ⟨2, ![416, 128]⟩
abbrev S128 : Shape := ⟨1, ![128]⟩
abbrev S24 : Shape := ⟨1, ![24]⟩
abbrev S4x1024x1x3 : Shape := ⟨4, ![4, 1024, 1, 3]⟩
abbrev S4x1024x1 : Shape := ⟨3, ![4, 1024, 1]⟩
abbrev S_ : Shape := ⟨0, ![]⟩
abbrev S4x1x1024 : Shape := ⟨3, ![4, 1, 1024]⟩
abbrev S4x1024x1024 : Shape := ⟨3, ![4, 1024, 1024]⟩
abbrev S4x1x1024x3 : Shape := ⟨4, ![4, 1, 1024, 3]⟩
abbrev S4x1024x1024x3 : Shape := ⟨4, ![4, 1024, 1024, 3]⟩
abbrev S4x1024x48 : Shape := ⟨3, ![4, 1024, 48]⟩
abbrev S24x1 : Shape := ⟨2, ![24, 1]⟩
abbrev S4x1024x24x3 : Shape := ⟨4, ![4, 1024, 24, 3]⟩
abbrev S4x1024x1x24x3 : Shape := ⟨5, ![4, 1024, 1, 24, 3]⟩
abbrev S4x1x1024x24x3 : Shape := ⟨5, ![4, 1, 1024, 24, 3]⟩
abbrev S4x1024x1024x24x3 : Shape := ⟨5, ![4, 1024, 1024, 24, 3]⟩
abbrev S4x1024x1024x24 : Shape := ⟨4, ![4, 1024, 1024, 24]⟩
abbrev S4x1024x48x1 : Shape := ⟨4, ![4, 1024, 48, 1]⟩
abbrev S4x1024x48x24 : Shape := ⟨4, ![4, 1024, 48, 24]⟩
abbrev S4x1024x48x25 : Shape := ⟨4, ![4, 1024, 48, 25]⟩
abbrev S4x1024x48x25x1 : Shape := ⟨5, ![4, 1024, 48, 25, 1]⟩
abbrev S1x1x1x1x16 : Shape := ⟨5, ![1, 1, 1, 1, 16]⟩
abbrev S4x1024x48x25x16 : Shape := ⟨5, ![4, 1024, 48, 25, 16]⟩
abbrev S4x1024x48x400 : Shape := ⟨4, ![4, 1024, 48, 400]⟩
abbrev S1x1x1x66 : Shape := ⟨4, ![1, 1, 1, 66]⟩
abbrev S4x1024x48x66 : Shape := ⟨4, ![4, 1024, 48, 66]⟩
abbrev S4x1024x48x16 : Shape := ⟨4, ![4, 1024, 48, 16]⟩
abbrev S1x1x1x16 : Shape := ⟨4, ![1, 1, 1, 16]⟩
abbrev S4x1024x48x416 : Shape := ⟨4, ![4, 1024, 48, 416]⟩
abbrev S4x1024x48x128 : Shape := ⟨4, ![4, 1024, 48, 128]⟩
abbrev S1x1x1x128 : Shape := ⟨4, ![1, 1, 1, 128]⟩

abbrev nBuf : Space → Nat
  | .hbm => 254
  | .vmem => 0
  | .smem => 0
  | _ => 0

abbrev hbmTy0_0 (i : Nat) : BufTy := match i % 128 with
  | 0 => ⟨S4x512x3, .f32⟩
  | 1 => ⟨S4x512, .f32⟩
  | 2 => ⟨S4x512, .i32⟩
  | 3 => ⟨S4x1024x5x3, .f32⟩
  | 4 => ⟨S4x1024x25x3, .f32⟩
  | 5 => ⟨S4x1024x25, .f32⟩
  | 6 => ⟨S4, .i32⟩
  | 7 => ⟨S4x1024, .f32⟩
  | 8 => ⟨S4x1024x37, .f32⟩
  | 9 => ⟨S4x1024, .i32⟩
  | 10 => ⟨S4x1024x3, .f32⟩
  | 11 => ⟨S4x1024, .i32⟩
  | 12 => ⟨S66x16, .f32⟩
  | 13 => ⟨S16, .f32⟩
  | 14 => ⟨S416x128, .f32⟩
  | 15 => ⟨S128, .f32⟩
  | 16 => ⟨S128, .f32⟩
  | 17 => ⟨S24, .i32⟩
  | 18 => ⟨S24, .i32⟩
  | 19 => ⟨S16, .f32⟩
  | 20 => ⟨S4x1024x1x3, .f32⟩
  | 21 => ⟨S4x1024x3, .f32⟩
  | 22 => ⟨S4x1024x1x3, .f32⟩
  | 23 => ⟨S4x1024x3, .f32⟩
  | 24 => ⟨S4x1024x3, .f32⟩
  | 25 => ⟨S4x1024x1x3, .f32⟩
  | 26 => ⟨S4x1024x3, .f32⟩
  | 27 => ⟨S4x1024x1x3, .f32⟩
  | 28 => ⟨S4x1024x3, .f32⟩
  | 29 => ⟨S4x1024x3, .f32⟩
  | 30 => ⟨S4x1024x1, .f32⟩
  | 31 => ⟨S4x1024, .f32⟩
  | 32 => ⟨S4x1024x1, .f32⟩
  | 33 => ⟨S4x1024, .f32⟩
  | 34 => ⟨S4x1024, .f32⟩
  | 35 => ⟨S4x1024x1, .f32⟩
  | 36 => ⟨S4x1024, .f32⟩
  | 37 => ⟨S4x1024x1, .f32⟩
  | 38 => ⟨S4x1024, .f32⟩
  | 39 => ⟨S4x1024, .f32⟩
  | 40 => ⟨S4x1024, .f32⟩
  | 41 => ⟨S4x1024x1, .f32⟩
  | 42 => ⟨S4x1024, .f32⟩
  | 43 => ⟨S4x1024x1, .f32⟩
  | 44 => ⟨S4x1024, .f32⟩
  | 45 => ⟨S4x1024, .f32⟩
  | 46 => ⟨S4x1024x1, .f32⟩
  | 47 => ⟨S4x1024, .f32⟩
  | 48 => ⟨S4x1024x1, .f32⟩
  | 49 => ⟨S4x1024, .f32⟩
  | 50 => ⟨S4x1024, .f32⟩
  | 51 => ⟨S4x1024, .f32⟩
  | 52 => ⟨S4x1024x1, .f32⟩
  | 53 => ⟨S4x1024, .f32⟩
  | 54 => ⟨S4x1024x1, .f32⟩
  | 55 => ⟨S4x1024, .f32⟩
  | 56 => ⟨S4x1024, .f32⟩
  | 57 => ⟨S4x1024x1, .f32⟩
  | 58 => ⟨S4x1024, .f32⟩
  | 59 => ⟨S4x1024x1, .f32⟩
  | 60 => ⟨S4x1024, .f32⟩
  | 61 => ⟨S4x1024, .f32⟩
  | 62 => ⟨S4x1024, .f32⟩
  | 63 => ⟨S4x1024x1, .f32⟩
  | 64 => ⟨S4x1024x1, .f32⟩
  | 65 => ⟨S4x1024x1, .f32⟩
  | 66 => ⟨S4x1024x3, .f32⟩
  | 67 => ⟨S_, .f32⟩
  | 68 => ⟨S4x1024x3, .f32⟩
  | 69 => ⟨S4x1024x3, .f32⟩
  | 70 => ⟨S_, .f32⟩
  | 71 => ⟨S4x1024x3, .f32⟩
  | 72 => ⟨S4x1024x3, .f32⟩
  | 73 => ⟨S4x1024x3, .f32⟩
  | 74 => ⟨S_, .f32⟩
  | 75 => ⟨S4x1024x3, .f32⟩
  | 76 => ⟨S4x1024x3, .f32⟩
  | 77 => ⟨S4x1024x3, .f32⟩
  | 78 => ⟨S4x1024x1x3, .f32⟩
  | 79 => ⟨S4x1024x3, .f32⟩
  | 80 => ⟨S4x1024x3, .f32⟩
  | 81 => ⟨S4x1024x1x3, .f32⟩
  | 82 => ⟨S4x1024x3, .f32⟩
  | 83 => ⟨S4x1x1024, .f32⟩
  | 84 => ⟨S4x1024x1, .f32⟩
  | 85 => ⟨S4x1024x1024, .f32⟩
  | 86 => ⟨S4x1024x1024, .f32⟩
  | 87 => ⟨S4x1024x1024, .f32⟩
  | 88 => ⟨S4x1x1024x3, .f32⟩
  | 89 => ⟨S4x1024x1x3, .f32⟩
  | 90 => ⟨S4x1024x1024x3, .f32⟩
  | 91 => ⟨S4x1024x1024x3, .f32⟩
  | 92 => ⟨S4x1024x1024x3, .f32⟩
  | 93 => ⟨S4x1024x1024x3, .f32⟩
  | 94 => ⟨S_, .f32⟩
  | 95 => ⟨S4x1024x1024, .f32⟩
  | 96 => ⟨S_, .f32⟩
  | 97 => ⟨S4x1024x1024, .f32⟩
  | 98 => ⟨S4x1024x1024, .f32⟩
  | 99 => ⟨S4x1024x1024, .f32⟩
  | 100 => ⟨S4x1024x1024, .f32⟩
  | 101 => ⟨S_, .f32⟩
  | 102 => ⟨S4x1024, .f32⟩
  | 103 => ⟨S4x1024x1, .f32⟩
  | 104 => ⟨S_, .f32⟩
  | 105 => ⟨S4x1024x1024, .f32⟩
  | 106 => ⟨S4x1024x1024, .f32⟩
  | 107 => ⟨S4x1024x1024, .f32⟩
  | 108 => ⟨S4x1024x1024, .f32⟩
  | 109 => ⟨S4x1024x1024, .f32⟩
  | 110 => ⟨S4x1024x1024, .f32⟩
  | 111 => ⟨S4x1024x48, .f32⟩
  | 112 => ⟨S4x1024x48, .i32⟩
  | 113 => ⟨S4x1024x1x3, .f32⟩
  | 114 => ⟨S4x1024x3, .f32⟩
  | 115 => ⟨S4x1024x1x3, .f32⟩
  | 116 => ⟨S4x1024x3, .f32⟩
  | 117 => ⟨S4x1024x1x3, .f32⟩
  | 118 => ⟨S4x1024x3, .f32⟩
  | 119 => ⟨S4x1024x1x3, .f32⟩
  | 120 => ⟨S4x1024x1x3, .f32⟩
  | 121 => ⟨S4x1024x1x3, .f32⟩
  | 122 => ⟨S4x1024x1x3, .f32⟩
  | 123 => ⟨S4x1024x1x3, .f32⟩
  | 124 => ⟨S4x1024x5x3, .f32⟩
  | 125 => ⟨S24x1, .i32⟩
  | 126 => ⟨S4x1024x24x3, .f32⟩
  | 127 => ⟨S24x1, .i32⟩
  | _ => ⟨S4x512x3, .f32⟩

abbrev hbmTy0_1 (i : Nat) : BufTy := match i % 128 with
  | 0 => ⟨S4x1024x24x3, .f32⟩
  | 1 => ⟨S4x1024x1x24x3, .f32⟩
  | 2 => ⟨S4x1x1024x24x3, .f32⟩
  | 3 => ⟨S4x1024x1024x24x3, .f32⟩
  | 4 => ⟨S4x1024x1024x24x3, .f32⟩
  | 5 => ⟨S4x1024x1024x24x3, .f32⟩
  | 6 => ⟨S4x1024x1024x24x3, .f32⟩
  | 7 => ⟨S_, .f32⟩
  | 8 => ⟨S4x1024x1024x24, .f32⟩
  | 9 => ⟨S_, .f32⟩
  | 10 => ⟨S4x1024x1024x24, .f32⟩
  | 11 => ⟨S4x1024x1024x24, .f32⟩
  | 12 => ⟨S4x1024x1024x24, .f32⟩
  | 13 => ⟨S4x1024x48x1, .i32⟩
  | 14 => ⟨S_, .i32⟩
  | 15 => ⟨S4x1024x48x1, .i32⟩
  | 16 => ⟨S4x1024x48x1, .i1⟩
  | 17 => ⟨S_, .i32⟩
  | 18 => ⟨S4x1024x48x1, .i32⟩
  | 19 => ⟨S4x1024x48x1, .i32⟩
  | 20 => ⟨S4x1024x48x1, .i32⟩
  | 21 => ⟨S4x1024x48x24, .f32⟩
  | 22 => ⟨S4x1024x48x1, .f32⟩
  | 23 => ⟨S4x1024x48x1, .f32⟩
  | 24 => ⟨S4x1024x48x25, .f32⟩
  | 25 => ⟨S4x1024x48x25x1, .f32⟩
  | 26 => ⟨S1x1x1x1x16, .f32⟩
  | 27 => ⟨S4x1024x48x25x16, .f32⟩
  | 28 => ⟨S4x1024x48x25x16, .f32⟩
  | 29 => ⟨S4x1024x48x25x16, .f32⟩
  | 30 => ⟨S_, .f32⟩
  | 31 => ⟨S4x1024x48x25x16, .f32⟩
  | 32 => ⟨S4x1024x48x25x16, .f32⟩
  | 33 => ⟨S4x1024x48x25x16, .f32⟩
  | 34 => ⟨S4x1024x48x25x16, .f32⟩
  | 35 => ⟨S4x1024x48x25x16, .f32⟩
  | 36 => ⟨S4x1024x48x400, .f32⟩
  | 37 => ⟨S4x1024x1, .i32⟩
  | 38 => ⟨S4x1x1024, .i32⟩
  | 39 => ⟨S4x1024x1024, .i32⟩
  | 40 => ⟨S4x1024x1024, .i32⟩
  | 41 => ⟨S4x1024x1024, .i32⟩
  | 42 => ⟨S_, .i32⟩
  | 43 => ⟨S4x1024x48, .i32⟩
  | 44 => ⟨S4x1024x48, .i1⟩
  | 45 => ⟨S_, .i32⟩
  | 46 => ⟨S4x1024x48, .i32⟩
  | 47 => ⟨S4x1024x48, .i32⟩
  | 48 => ⟨S4x1024x48, .i32⟩
  | 49 => ⟨S4x1024x48x1, .i32⟩
  | 50 => ⟨S4x1024x48, .i32⟩
  | 51 => ⟨S4x1024x1, .i32⟩
  | 52 => ⟨S4x1x1024, .i32⟩
  | 53 => ⟨S4x1024x1024, .i32⟩
  | 54 => ⟨S4x1024x1024, .i32⟩
  | 55 => ⟨S4x1024x1024, .i1⟩
  | 56 => ⟨S4x1024x1024, .i32⟩
  | 57 => ⟨S_, .i32⟩
  | 58 => ⟨S4x1024x48, .i32⟩
  | 59 => ⟨S4x1024x48, .i1⟩
  | 60 => ⟨S_, .i32⟩
  | 61 => ⟨S4x1024x48, .i32⟩
  | 62 => ⟨S4x1024x48, .i32⟩
  | 63 => ⟨S4x1024x48, .i32⟩
  | 64 => ⟨S4x1024x48x1, .i32⟩
  | 65 => ⟨S4x1024x48, .i32⟩
  | 66 => ⟨S_, .i32⟩
  | 67 => ⟨S4x1024x48, .i32⟩
  | 68 => ⟨S4x1024x48, .i32⟩
  | 69 => ⟨S_, .i32⟩
  | 70 => ⟨S_, .i32⟩
  | 71 => ⟨S_, .i32⟩
  | 72 => ⟨S4x1024x48, .i32⟩
  | 73 => ⟨S4x1024x48, .i32⟩
  | 74 => ⟨S_, .i32⟩
  | 75 => ⟨S4x1024x48, .i32⟩
  | 76 => ⟨S4x1024x48, .i32⟩
  | 77 => ⟨S4x1024x48, .i32⟩
  | 78 => ⟨S_, .i32⟩
  | 79 => ⟨S4x1024x48, .i32⟩
  | 80 => ⟨S4x1024x48, .i32⟩
  | 81 => ⟨S_, .i32⟩
  | 82 => ⟨S4x1024x48, .i32⟩
  | 83 => ⟨S4x1024x48, .i32⟩
  | 84 => ⟨S4x1024x48, .i32⟩
  | 85 => ⟨S4x1024x48x1, .i32⟩
  | 86 => ⟨S1x1x1x66, .i32⟩
  | 87 => ⟨S4x1024x48x66, .i32⟩
  | 88 => ⟨S4x1024x48x66, .i32⟩
  | 89 => ⟨S4x1024x48x66, .i1⟩
  | 90 => ⟨S4x1024x48x66, .f32⟩
  | 91 => ⟨S4x1024x48x16, .f32⟩
  | 92 => ⟨S1x1x1x16, .f32⟩
  | 93 => ⟨S4x1024x48x16, .f32⟩
  | 94 => ⟨S4x1024x48x16, .f32⟩
  | 95 => ⟨S4x1024x48x416, .f32⟩
  | 96 => ⟨S4x1024x48x128, .f32⟩
  | 97 => ⟨S_, .f32⟩
  | 98 => ⟨S4x1024x48, .f32⟩
  | 99 => ⟨S4x1024x48x1, .f32⟩
  | 100 => ⟨S_, .f32⟩
  | 101 => ⟨S4x1024x48x1, .f32⟩
  | 102 => ⟨S4x1024x48x1, .f32⟩
  | 103 => ⟨S4x1024x48x128, .f32⟩
  | 104 => ⟨S4x1024x48x128, .f32⟩
  | 105 => ⟨S4x1024x48x128, .f32⟩
  | 106 => ⟨S_, .f32⟩
  | 107 => ⟨S4x1024x48, .f32⟩
  | 108 => ⟨S4x1024x48x1, .f32⟩
  | 109 => ⟨S_, .f32⟩
  | 110 => ⟨S4x1024x48x1, .f32⟩
  | 111 => ⟨S4x1024x48x1, .f32⟩
  | 112 => ⟨S4x1024x48x128, .f32⟩
  | 113 => ⟨S4x1024x48x128, .f32⟩
  | 114 => ⟨S_, .f32⟩
  | 115 => ⟨S4x1024x48x1, .f32⟩
  | 116 => ⟨S4x1024x48x1, .f32⟩
  | 117 => ⟨S4x1024x48x1, .f32⟩
  | 118 => ⟨S4x1024x48x128, .f32⟩
  | 119 => ⟨S4x1024x48x128, .f32⟩
  | 120 => ⟨S1x1x1x128, .f32⟩
  | 121 => ⟨S4x1024x48x128, .f32⟩
  | 122 => ⟨S4x1024x48x128, .f32⟩
  | 123 => ⟨S1x1x1x128, .f32⟩
  | 124 => ⟨S4x1024x48x128, .f32⟩
  | 125 => ⟨S4x1024x48x128, .f32⟩
  | _ => ⟨S4x512x3, .f32⟩

abbrev hbmTy (i : Nat) : BufTy := match i / 128 with
  | 0 => hbmTy0_0 i
  | 1 => hbmTy0_1 i
  | _ => ⟨S4x512x3, .f32⟩

abbrev bufTy : (tb : Table) → Fin (tcTables nBuf tb) → BufTy
  | .hbm, ⟨i, _⟩ => hbmTy i
  | _, _ => ⟨S4x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_c_0 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_1 : Ref sig .tc := ⟨.hbm, 67, rfl⟩
abbrev main_v47 : Ref sig .tc := ⟨.hbm, 68, rfl⟩
abbrev main_v48 : Ref sig .tc := ⟨.hbm, 69, rfl⟩
abbrev main_cst_2 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_3 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_4 : Ref sig .tc := ⟨.hbm, 94, rfl⟩
abbrev main_v71 : Ref sig .tc := ⟨.hbm, 95, rfl⟩
abbrev main_cst_5 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_6 : Ref sig .tc := ⟨.hbm, 101, rfl⟩
abbrev main_v76 : Ref sig .tc := ⟨.hbm, 102, rfl⟩
abbrev main_v77 : Ref sig .tc := ⟨.hbm, 103, rfl⟩
abbrev main_cst_7 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_values : Ref sig .tc := ⟨.hbm, 111, rfl⟩
abbrev main_indices : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_call0_v0 : Ref sig .tc := ⟨.hbm, 125, rfl⟩
abbrev main_v96 : Ref sig .tc := ⟨.hbm, 126, rfl⟩
abbrev main_call1_v0 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_8 : Ref sig .tc := ⟨.hbm, 135, rfl⟩
abbrev main_v104 : Ref sig .tc := ⟨.hbm, 136, rfl⟩
abbrev main_cst_9 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_call2_c : Ref sig .tc := ⟨.hbm, 142, rfl⟩
abbrev main_call2_v0 : Ref sig .tc := ⟨.hbm, 143, rfl⟩
abbrev main_call2_v1 : Ref sig .tc := ⟨.hbm, 144, rfl⟩
abbrev main_call2_c_0 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_10 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_call3_c : Ref sig .tc := ⟨.hbm, 170, rfl⟩
abbrev main_call3_v0 : Ref sig .tc := ⟨.hbm, 171, rfl⟩
abbrev main_call3_v1 : Ref sig .tc := ⟨.hbm, 172, rfl⟩
abbrev main_call3_c_0 : Ref sig .tc := ⟨.hbm, 173, rfl⟩
abbrev main_call3_v2 : Ref sig .tc := ⟨.hbm, 174, rfl⟩
abbrev main_call3_v3 : Ref sig .tc := ⟨.hbm, 175, rfl⟩
abbrev main_call3_v4 : Ref sig .tc := ⟨.hbm, 176, rfl⟩
abbrev main_call3_v5 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_call4_c : Ref sig .tc := ⟨.hbm, 185, rfl⟩
abbrev main_call4_v0 : Ref sig .tc := ⟨.hbm, 186, rfl⟩
abbrev main_call4_v1 : Ref sig .tc := ⟨.hbm, 187, rfl⟩
abbrev main_call4_c_0 : Ref sig .tc := ⟨.hbm, 188, rfl⟩
abbrev main_call4_v2 : Ref sig .tc := ⟨.hbm, 189, rfl⟩
abbrev main_call4_v3 : Ref sig .tc := ⟨.hbm, 190, rfl⟩
abbrev main_call4_v4 : Ref sig .tc := ⟨.hbm, 191, rfl⟩
abbrev main_call4_v5 : Ref sig .tc := ⟨.hbm, 192, rfl⟩
abbrev main_v136 : Ref sig .tc := ⟨.hbm, 193, rfl⟩
abbrev main_c_11 : Ref sig .tc := ⟨.hbm, 194, rfl⟩
abbrev main_v137 : Ref sig .tc := ⟨.hbm, 195, rfl⟩
abbrev main_v138 : Ref sig .tc := ⟨.hbm, 196, rfl⟩
abbrev main_c_12 : Ref sig .tc := ⟨.hbm, 197, rfl⟩
abbrev main_c_13 : Ref sig .tc := ⟨.hbm, 198, rfl⟩
abbrev main_call5_v0 : Ref sig .tc := ⟨.hbm, 199, rfl⟩
abbrev main_call5_v1 : Ref sig .tc := ⟨.hbm, 200, rfl⟩
abbrev main_call5_v2 : Ref sig .tc := ⟨.hbm, 201, rfl⟩
abbrev main_call5_v3 : Ref sig .tc := ⟨.hbm, 202, rfl⟩
abbrev main_call5_v4 : Ref sig .tc := ⟨.hbm, 203, rfl⟩
abbrev main_v139 : Ref sig .tc := ⟨.hbm, 204, rfl⟩
abbrev main_v140 : Ref sig .tc := ⟨.hbm, 205, rfl⟩
abbrev main_c_14 : Ref sig .tc := ⟨.hbm, 206, rfl⟩
abbrev main_v141 : Ref sig .tc := ⟨.hbm, 207, rfl⟩
abbrev main_v142 : Ref sig .tc := ⟨.hbm, 208, rfl⟩
abbrev main_c_15 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_call6_v0 : Ref sig .tc := ⟨.hbm, 213, rfl⟩
abbrev main_call6_v1 : Ref sig .tc := ⟨.hbm, 214, rfl⟩
abbrev main_call6_v2 : Ref sig .tc := ⟨.hbm, 215, rfl⟩
abbrev main_call6_v3 : Ref sig .tc := ⟨.hbm, 216, rfl⟩
abbrev main_call6_v4 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_cst_16 : Ref sig .tc := ⟨.hbm, 225, rfl⟩
abbrev main_v153 : Ref sig .tc := ⟨.hbm, 226, rfl⟩
abbrev main_v154 : Ref sig .tc := ⟨.hbm, 227, rfl⟩
abbrev main_cst_17 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_cst_18 : Ref sig .tc := ⟨.hbm, 234, rfl⟩
abbrev main_v160 : Ref sig .tc := ⟨.hbm, 235, rfl⟩
abbrev main_v161 : Ref sig .tc := ⟨.hbm, 236, rfl⟩
abbrev main_cst_19 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_cst_20 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩

abbrev nD : Nat := 1
abbrev τ : Topo := Topo.v7x

variable {F : FTy → Type} [FloatOps F]
-- ==== Gather.lean ====
abbrev S196608 : Shape := ⟨1, ![196608]⟩
abbrev S4096x16 : Shape := ⟨2, ![4096, 16]⟩
abbrev S196608x16 : Shape := ⟨2, ![196608, 16]⟩
abbrev S128 : Shape := ⟨1, ![128]⟩
abbrev S128x16 : Shape := ⟨2, ![128, 16]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S196608, .i32⟩
  | .hbm, ⟨1, _⟩ => ⟨S4096x16, .f32⟩
  | .hbm, ⟨2, _⟩ => ⟨S196608x16, .f32⟩
  | .local .scVector .vmem, ⟨0, _⟩ => ⟨S128, .i32⟩
  | .local .scVector .vmem, ⟨1, _⟩ => ⟨S128x16, .f32⟩
  | _, _ => ⟨S196608, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c48_i32 : BitVec 32 := 48#32
  let v3 : BitVec 32 := Scalar.addi c0_i32_0 c48_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== RowsIdeal.lean ====
abbrev S196608 : Shape := ⟨1, ![196608]⟩
abbrev S4096x16 : Shape := ⟨2, ![4096, 16]⟩
abbrev S_ : Shape := ⟨0, ![]⟩
abbrev S196608x1 : Shape := ⟨2, ![196608, 1]⟩
abbrev S196608x16 : Shape := ⟨2, ![196608, 16]⟩

abbrev nBuf : Space → Nat
  | .hbm => 11
  | .vmem => 0
  | .smem => 0
  | _ => 0

abbrev bufTy : (tb : Table) → Fin (tcTables nBuf tb) → BufTy
  | .hbm, ⟨0, _⟩ => ⟨S196608, .i32⟩
  | .hbm, ⟨1, _⟩ => ⟨S4096x16, .f32⟩
  | .hbm, ⟨2, _⟩ => ⟨S_, .i32⟩
  | .hbm, ⟨3, _⟩ => ⟨S196608, .i32⟩
  | .hbm, ⟨4, _⟩ => ⟨S196608, .i1⟩
  | .hbm, ⟨5, _⟩ => ⟨S_, .i32⟩
  | .hbm, ⟨6, _⟩ => ⟨S196608, .i32⟩
  | .hbm, ⟨7, _⟩ => ⟨S196608, .i32⟩
  | .hbm, ⟨8, _⟩ => ⟨S196608, .i32⟩
  | .hbm, ⟨9, _⟩ => ⟨S196608x1, .i32⟩
  | .hbm, ⟨10, _⟩ => ⟨S196608x16, .f32⟩
  | _, _ => ⟨S196608, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Nearest.lean ====
abbrev S4x1024x15 : Shape := ⟨3, ![4, 1024, 15]⟩
abbrev S4x8x1024 : Shape := ⟨3, ![4, 8, 1024]⟩
abbrev S4x1024x48 : Shape := ⟨3, ![4, 1024, 48]⟩
abbrev S4x1024x16 : Shape := ⟨3, ![4, 1024, 16]⟩
abbrev S1x256x15 : Shape := ⟨3, ![1, 256, 15]⟩
abbrev S1x8x1024 : Shape := ⟨3, ![1, 8, 1024]⟩
abbrev S1x256x48 : Shape := ⟨3, ![1, 256, 48]⟩
abbrev S1x256x16 : Shape := ⟨3, ![1, 256, 16]⟩
abbrev S256x15 : Shape := ⟨2, ![256, 15]⟩
abbrev S8x1024 : Shape := ⟨2, ![8, 1024]⟩
abbrev S256x1 : Shape := ⟨2, ![256, 1]⟩
abbrev S1x1024 : Shape := ⟨2, ![1, 1024]⟩
abbrev S256x1024 : Shape := ⟨2, ![256, 1024]⟩
abbrev S256 : Shape := ⟨1, ![256]⟩
abbrev S256x48 : Shape := ⟨2, ![256, 48]⟩
abbrev S256x3 : Shape := ⟨2, ![256, 3]⟩
abbrev S256x16 : Shape := ⟨2, ![256, 16]⟩

abbrev nBuf : Space → Nat
  | .hbm => 5
  | .vmem => 10
  | .smem => 0
  | _ => 0

abbrev bufTy : (tb : Table) → Fin (tcTables nBuf tb) → BufTy
  | .hbm, ⟨0, _⟩ => ⟨S4x1024x15, .f32⟩
  | .hbm, ⟨1, _⟩ => ⟨S4x8x1024, .f32⟩
  | .hbm, ⟨2, _⟩ => ⟨S4x1024x48, .i32⟩
  | .hbm, ⟨3, _⟩ => ⟨S4x1024x48, .i32⟩
  | .hbm, ⟨4, _⟩ => ⟨S4x1024x16, .f32⟩
  | .local _ .vmem, ⟨0, _⟩ => ⟨S1x256x15, .f32⟩
  | .local _ .vmem, ⟨1, _⟩ => ⟨S1x256x15, .f32⟩
  | .local _ .vmem, ⟨2, _⟩ => ⟨S1x8x1024, .f32⟩
  | .local _ .vmem, ⟨3, _⟩ => ⟨S1x8x1024, .f32⟩
  | .local _ .vmem, ⟨4, _⟩ => ⟨S1x256x48, .i32⟩
  | .local _ .vmem, ⟨5, _⟩ => ⟨S1x256x48, .i32⟩
  | .local _ .vmem, ⟨6, _⟩ => ⟨S1x256x48, .i32⟩
  | .local _ .vmem, ⟨7, _⟩ => ⟨S1x256x48, .i32⟩
  | .local _ .vmem, ⟨8, _⟩ => ⟨S1x256x16, .f32⟩
  | .local _ .vmem, ⟨9, _⟩ => ⟨S1x256x16, .f32⟩
  | _, _ => ⟨S4x1024x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x48 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x48 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Mixed.lean ====
abbrev S196608x16 : Shape := ⟨2, ![196608, 16]⟩
abbrev S4096x16 : Shape := ⟨2, ![4096, 16]⟩
abbrev S16x96 : Shape := ⟨2, ![16, 96]⟩
abbrev S8x512 : Shape := ⟨2, ![8, 512]⟩
abbrev S640x128 : Shape := ⟨2, ![640, 128]⟩
abbrev S8x128 : Shape := ⟨2, ![8, 128]⟩
abbrev S4x1024x48x128 : Shape := ⟨4, ![4, 1024, 48, 128]⟩
abbrev S1536x16 : Shape := ⟨2, ![1536, 16]⟩
abbrev S32x16 : Shape := ⟨2, ![32, 16]⟩
abbrev S1x32x48x128 : Shape := ⟨4, ![1, 32, 48, 128]⟩
abbrev S32x96 : Shape := ⟨2, ![32, 96]⟩
abbrev S1536x96 : Shape := ⟨2, ![1536, 96]⟩
abbrev S32x1x96 : Shape := ⟨3, ![32, 1, 96]⟩
abbrev S32x48x96 : Shape := ⟨3, ![32, 48, 96]⟩
abbrev S32x48x32 : Shape := ⟨3, ![32, 48, 32]⟩
abbrev S32x48x512 : Shape := ⟨3, ![32, 48, 512]⟩
abbrev S1x512 : Shape := ⟨2, ![1, 512]⟩
abbrev S1x1x512 : Shape := ⟨3, ![1, 1, 512]⟩
abbrev S1536x512 : Shape := ⟨2, ![1536, 512]⟩
abbrev S32x48x1 : Shape := ⟨3, ![32, 48, 1]⟩
abbrev S32x48x16 : Shape := ⟨3, ![32, 48, 16]⟩
abbrev S32x48x128 : Shape := ⟨3, ![32, 48, 128]⟩
abbrev S1536x128 : Shape := ⟨2, ![1536, 128]⟩
abbrev S1536x640 : Shape := ⟨2, ![1536, 640]⟩
abbrev S1536 : Shape := ⟨1, ![1536]⟩
abbrev S1536x1 : Shape := ⟨2, ![1536, 1]⟩
abbrev S1x128 : Shape := ⟨2, ![1, 128]⟩

abbrev nBuf : Space → Nat
  | .hbm => 10
  | .vmem => 13
  | .smem => 0
  | _ => 0

abbrev bufTy : (tb : Table) → Fin (tcTables nBuf tb) → BufTy
  | .hbm, ⟨0, _⟩ => ⟨S196608x16, .f32⟩
  | .hbm, ⟨1, _⟩ => ⟨S4096x16, .f32⟩
  | .hbm, ⟨2, _⟩ => ⟨S16x96, .bf16⟩
  | .hbm, ⟨3, _⟩ => ⟨S16x96, .bf16⟩
  | .hbm, ⟨4, _⟩ => ⟨S8x512, .f32⟩
  | .hbm, ⟨5, _⟩ => ⟨S640x128, .bf16⟩
  | .hbm, ⟨6, _⟩ => ⟨S640x128, .bf16⟩
  | .hbm, ⟨7, _⟩ => ⟨S8x128, .f32⟩
  | .hbm, ⟨8, _⟩ => ⟨S8x128, .f32⟩
  | .hbm, ⟨9, _⟩ => ⟨S4x1024x48x128, .f32⟩
  | .local _ .vmem, ⟨0, _⟩ => ⟨S1536x16, .f32⟩
  | .local _ .vmem, ⟨1, _⟩ => ⟨S1536x16, .f32⟩
  | .local _ .vmem, ⟨2, _⟩ => ⟨S32x16, .f32⟩
  | .local _ .vmem, ⟨3, _⟩ => ⟨S32x16, .f32⟩
  | .local _ .vmem, ⟨4, _⟩ => ⟨S16x96, .bf16⟩
  | .local _ .vmem, ⟨5, _⟩ => ⟨S16x96, .bf16⟩
  | .local _ .vmem, ⟨6, _⟩ => ⟨S8x512, .f32⟩
  | .local _ .vmem, ⟨7, _⟩ => ⟨S640x128, .bf16⟩
  | .local _ .vmem, ⟨8, _⟩ => ⟨S640x128, .bf16⟩
  | .local _ .vmem, ⟨9, _⟩ => ⟨S8x128, .f32⟩
  | .local _ .vmem, ⟨10, _⟩ => ⟨S8x128, .f32⟩
  | .local _ .vmem, ⟨11, _⟩ => ⟨S1x32x48x128, .f32⟩
  | .local _ .vmem, ⟨12, _⟩ => ⟨S1x32x48x128, .f32⟩
  | _, _ => ⟨S196608x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1536x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S640x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x32x48x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixedIdeal.lean ====
variable {F : FTy → Type} [FloatOps F] [Named F]
def κ : String → Option EReal := fun
  | "inv_sigma" => some ((4 / 5 : ℝ) : EReal)
  | _ => none
-- ==== WrittenIdeal.lean ====
abbrev S4x512x3 : Shape := ⟨3, ![4, 512, 3]⟩
abbrev S4x512 : Shape := ⟨2, ![4, 512]⟩
abbrev S4x1024x5x3 : Shape := ⟨4, ![4, 1024, 5, 3]⟩
abbrev S4x1024x25x3 : Shape := ⟨4, ![4, 1024, 25, 3]⟩
abbrev S4x1024x25 : Shape := ⟨3, ![4, 1024, 25]⟩
abbrev S4 : Shape := ⟨1, ![4]⟩
abbrev S4x1024 : Shape := ⟨2, ![4, 1024]⟩
abbrev S4x1024x37 : Shape := ⟨3, ![4, 1024, 37]⟩
abbrev S4x1024x3 : Shape := ⟨3, ![4, 1024, 3]⟩
abbrev S66x16 : Shape := ⟨2, ![66, 16]⟩
abbrev S16 : Shape := ⟨1, ![16]⟩
abbrev S416x128 : Shape := ⟨2, ![416, 128]⟩
abbrev S128 : Shape := ⟨1, ![128]⟩
abbrev S16x96 : Shape := ⟨2, ![16, 96]⟩
abbrev S8x512 : Shape := ⟨2, ![8, 512]⟩
abbrev S4x1024x15 : Shape := ⟨3, ![4, 1024, 15]⟩
abbrev S_ : Shape := ⟨0, ![]⟩
abbrev S4x8x1024 : Shape := ⟨3, ![4, 8, 1024]⟩
abbrev S4x1024x1x3 : Shape := ⟨4, ![4, 1024, 1, 3]⟩
abbrev S4x3x1024 : Shape := ⟨3, ![4, 3, 1024]⟩
abbrev S1 : Shape := ⟨1, ![1]⟩
abbrev S4x1024x48 : Shape := ⟨3, ![4, 1024, 48]⟩
abbrev S4x1024x16 : Shape := ⟨3, ![4, 1024, 16]⟩
abbrev S1x256x15 : Shape := ⟨3, ![1, 256, 15]⟩
abbrev S1x8x1024 : Shape := ⟨3, ![1, 8, 1024]⟩
abbrev S1x256x48 : Shape := ⟨3, ![1, 256, 48]⟩
abbrev S1x256x16 : Shape := ⟨3, ![1, 256, 16]⟩
abbrev S256x15 : Shape := ⟨2, ![256, 15]⟩
abbrev S8x1024 : Shape := ⟨2, ![8, 1024]⟩
abbrev S256x1 : Shape := ⟨2, ![256, 1]⟩
abbrev S1x1024 : Shape := ⟨2, ![1, 1024]⟩
abbrev S256x1024 : Shape := ⟨2, ![256, 1024]⟩
abbrev S256 : Shape := ⟨1, ![256]⟩
abbrev S256x48 : Shape := ⟨2, ![256, 48]⟩
abbrev S256x3 : Shape := ⟨2, ![256, 3]⟩
abbrev S256x16 : Shape := ⟨2, ![256, 16]⟩
abbrev S4096x16 : Shape := ⟨2, ![4096, 16]⟩
abbrev S196608 : Shape := ⟨1, ![196608]⟩
abbrev S196608x16 : Shape := ⟨2, ![196608, 16]⟩
abbrev S128x16 : Shape := ⟨2, ![128, 16]⟩
abbrev S16x128 : Shape := ⟨2, ![16, 128]⟩
abbrev S128x128 : Shape := ⟨2, ![128, 128]⟩
abbrev S32 : Shape := ⟨1, ![32]⟩
abbrev S16x32 : Shape := ⟨2, ![16, 32]⟩
abbrev S16x32x1 : Shape := ⟨3, ![16, 32, 1]⟩
abbrev S16x32x128 : Shape := ⟨3, ![16, 32, 128]⟩
abbrev S512x128 : Shape := ⟨2, ![512, 128]⟩
abbrev S640x128 : Shape := ⟨2, ![640, 128]⟩
abbrev S8x128 : Shape := ⟨2, ![8, 128]⟩
abbrev S4x1024x48x128 : Shape := ⟨4, ![4, 1024, 48, 128]⟩
abbrev S1536x16 : Shape := ⟨2, ![1536, 16]⟩
abbrev S32x16 : Shape := ⟨2, ![32, 16]⟩
abbrev S1x32x48x128 : Shape := ⟨4, ![1, 32, 48, 128]⟩
abbrev S32x96 : Shape := ⟨2, ![32, 96]⟩
abbrev S1536x96 : Shape := ⟨2, ![1536, 96]⟩
abbrev S32x1x96 : Shape := ⟨3, ![32, 1, 96]⟩
abbrev S32x48x96 : Shape := ⟨3, ![32, 48, 96]⟩
abbrev S32x48x32 : Shape := ⟨3, ![32, 48, 32]⟩
abbrev S32x48x512 : Shape := ⟨3, ![32, 48, 512]⟩
abbrev S1x512 : Shape := ⟨2, ![1, 512]⟩
abbrev S1x1x512 : Shape := ⟨3, ![1, 1, 512]⟩
abbrev S1536x512 : Shape := ⟨2, ![1536, 512]⟩
abbrev S32x48x1 : Shape := ⟨3, ![32, 48, 1]⟩
abbrev S32x48x16 : Shape := ⟨3, ![32, 48, 16]⟩
abbrev S32x48x128 : Shape := ⟨3, ![32, 48, 128]⟩
abbrev S1536x128 : Shape := ⟨2, ![1536, 128]⟩
abbrev S1536x640 : Shape := ⟨2, ![1536, 640]⟩
abbrev S1536 : Shape := ⟨1, ![1536]⟩
abbrev S1536x1 : Shape := ⟨2, ![1536, 1]⟩
abbrev S1x128 : Shape := ⟨2, ![1, 128]⟩
abbrev S1x1 : Shape := ⟨2, ![1, 1]⟩

abbrev nBuf : Table → Nat
  | .hbm => 108
  | .local .tc .vmem => 23
  | .local .scVector .vmem => 2
  | _ => 0

abbrev bufTy : (tb : Table) → Fin (nBuf tb) → BufTy
  | .hbm, ⟨0, _⟩ => ⟨S4x512x3, .f32⟩
  | .hbm, ⟨1, _⟩ => ⟨S4x512, .f32⟩
  | .hbm, ⟨2, _⟩ => ⟨S4x512, .i32⟩
  | .hbm, ⟨3, _⟩ => ⟨S4x1024x5x3, .f32⟩
  | .hbm, ⟨4, _⟩ => ⟨S4x1024x25x3, .f32⟩
  | .hbm, ⟨5, _⟩ => ⟨S4x1024x25, .f32⟩
  | .hbm, ⟨6, _⟩ => ⟨S4, .i32⟩
  | .hbm, ⟨7, _⟩ => ⟨S4x1024, .f32⟩
  | .hbm, ⟨8, _⟩ => ⟨S4x1024x37, .f32⟩
  | .hbm, ⟨9, _⟩ => ⟨S4x1024, .i32⟩
  | .hbm, ⟨10, _⟩ => ⟨S4x1024x3, .f32⟩
  | .hbm, ⟨11, _⟩ => ⟨S4x1024, .i32⟩
  | .hbm, ⟨12, _⟩ => ⟨S66x16, .f32⟩
  | .hbm, ⟨13, _⟩ => ⟨S16, .f32⟩
  | .hbm, ⟨14, _⟩ => ⟨S416x128, .f32⟩
  | .hbm, ⟨15, _⟩ => ⟨S128, .f32⟩
  | .hbm, ⟨16, _⟩ => ⟨S128, .f32⟩
  | .hbm, ⟨17, _⟩ => ⟨S16x96, .f32⟩
  | .hbm, ⟨18, _⟩ => ⟨S16x96, .f32⟩
  | .hbm, ⟨19, _⟩ => ⟨S8x512, .f32⟩
  | .hbm, ⟨20, _⟩ => ⟨S4x1024x15, .f32⟩
  | .hbm, ⟨21, _⟩ => ⟨S_, .f32⟩
  | .hbm, ⟨22, _⟩ => ⟨S4x8x1024, .f32⟩
  | .hbm, ⟨23, _⟩ => ⟨S4x1024x1x3, .f32⟩
  | .hbm, ⟨24, _⟩ => ⟨S4x1024x3, .f32⟩
  | .hbm, ⟨25, _⟩ => ⟨S4x3x1024, .f32⟩
  | .hbm, ⟨26, _⟩ => ⟨S_, .i32⟩
  | .hbm, ⟨27, _⟩ => ⟨S1, .i32⟩
  | .hbm, ⟨28, _⟩ => ⟨S4x8x1024, .f32⟩
  | .hbm, ⟨29, _⟩ => ⟨S4x1024x48, .i32⟩
  | .hbm, ⟨30, _⟩ => ⟨S4x1024x48, .i32⟩
  | .hbm, ⟨31, _⟩ => ⟨S4x1024x16, .f32⟩
  | .hbm, ⟨32, _⟩ => ⟨S4096x16, .f32⟩
  | .hbm, ⟨33, _⟩ => ⟨S196608, .i32⟩
  | .hbm, ⟨34, _⟩ => ⟨S196608x16, .f32⟩
  | .hbm, ⟨35, _⟩ => ⟨S_, .f32⟩
  | .hbm, ⟨36, _⟩ => ⟨S128x16, .f32⟩
  | .hbm, ⟨37, _⟩ => ⟨S_, .i32⟩
  | .hbm, ⟨38, _⟩ => ⟨S1, .i32⟩
  | .hbm, ⟨39, _⟩ => ⟨S128x16, .f32⟩
  | .hbm, ⟨40, _⟩ => ⟨S_, .i32⟩
  | .hbm, ⟨41, _⟩ => ⟨S1, .i32⟩
  | .hbm, ⟨42, _⟩ => ⟨S128x16, .f32⟩
  | .hbm, ⟨43, _⟩ => ⟨S16x128, .f32⟩
  | .hbm, ⟨44, _⟩ => ⟨S128x128, .f32⟩
  | .hbm, ⟨45, _⟩ => ⟨S16, .i32⟩
  | .hbm, ⟨46, _⟩ => ⟨S32, .i32⟩
  | .hbm, ⟨47, _⟩ => ⟨S16x32, .i32⟩
  | .hbm, ⟨48, _⟩ => ⟨S16x32, .i32⟩
  | .hbm, ⟨49, _⟩ => ⟨S_, .i32⟩
  | .hbm, ⟨50, _⟩ => ⟨S16x32, .i32⟩
  | .hbm, ⟨51, _⟩ => ⟨S16x32, .i32⟩
  | .hbm, ⟨52, _⟩ => ⟨S_, .i32⟩
  | .hbm, ⟨53, _⟩ => ⟨S16x32, .i32⟩
  | .hbm, ⟨54, _⟩ => ⟨S16x32, .i32⟩
  | .hbm, ⟨55, _⟩ => ⟨S16x32, .i32⟩
  | .hbm, ⟨56, _⟩ => ⟨S_, .i32⟩
  | .hbm, ⟨57, _⟩ => ⟨S16x32, .i32⟩
  | .hbm, ⟨58, _⟩ => ⟨S16x32, .i1⟩
  | .hbm, ⟨59, _⟩ => ⟨S16x32x1, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S16x32, .i32⟩
  | .hbm, ⟨64, _⟩ => ⟨S16x32, .i32⟩
  | .hbm, ⟨65, _⟩ => ⟨S_, .i32⟩
  | .hbm, ⟨66, _⟩ => ⟨S16x32, .i32⟩
  | .hbm, ⟨67, _⟩ => ⟨S16x32, .i32⟩
  | .hbm, ⟨68, _⟩ => ⟨S_, .i32⟩
  | .hbm, ⟨69, _⟩ => ⟨S16x32, .i32⟩
  | .hbm, ⟨70, _⟩ => ⟨S16x32, .i1⟩
  | .hbm, ⟨71, _⟩ => ⟨S_, .i32⟩
  | .hbm, ⟨72, _⟩ => ⟨S16x32, .i32⟩
  | .hbm, ⟨73, _⟩ => ⟨S16x32, .i32⟩
  | .hbm, ⟨74, _⟩ => ⟨S16x32, .i32⟩
  | .hbm, ⟨75, _⟩ => ⟨S16x32x1, .i32⟩
  | .hbm, ⟨76, _⟩ => ⟨S16x32x128, .f32⟩
  | .hbm, ⟨77, _⟩ => ⟨S_, .f32⟩
  | .hbm, ⟨78, _⟩ => ⟨S_, .f32⟩
  | .hbm, ⟨79, _⟩ => ⟨S16x32x128, .i1⟩
  | .hbm, ⟨80, _⟩ => ⟨S16x32x128, .f32⟩
  | .hbm, ⟨81, _⟩ => ⟨S16x32x128, .f32⟩
  | .hbm, ⟨82, _⟩ => ⟨S512x128, .f32⟩
  | .hbm, ⟨83, _⟩ => ⟨S640x128, .f32⟩
  | .hbm, ⟨84, _⟩ => ⟨S640x128, .bf16⟩
  | .hbm, ⟨85, _⟩ => ⟨S640x128, .f32⟩
  | .hbm, ⟨86, _⟩ => ⟨S640x128, .f32⟩
  | .hbm, ⟨87, _⟩ => ⟨S640x128, .bf16⟩
  | .hbm, ⟨88, _⟩ => ⟨S_, .f32⟩
  | .hbm, ⟨89, _⟩ => ⟨S8x128, .f32⟩
  | .hbm, ⟨90, _⟩ => ⟨S_, .i32⟩
  | .hbm, ⟨91, _⟩ => ⟨S1, .i32⟩
  | .hbm, ⟨92, _⟩ => ⟨S8x128, .f32⟩
  | .hbm, ⟨93, _⟩ => ⟨S_, .f32⟩
  | .hbm, ⟨94, _⟩ => ⟨S8x128, .f32⟩
  | .hbm, ⟨95, _⟩ => ⟨S_, .i32⟩
  | .hbm, ⟨96, _⟩ => ⟨S1, .i32⟩
  | .hbm, ⟨97, _⟩ => ⟨S8x128, .f32⟩
  | .hbm, ⟨98, _⟩ => ⟨S16x96, .bf16⟩
  | .hbm, ⟨99, _⟩ => ⟨S16x96, .bf16⟩
  | .hbm, ⟨100, _⟩ => ⟨S4x1024x48x128, .f32⟩
  | .hbm, ⟨101, _⟩ => ⟨S_, .f32⟩
  | .hbm, ⟨102, _⟩ => ⟨S4x1024x48x128, .f32⟩
  | .hbm, ⟨103, _⟩ => ⟨S4x1024x48x128, .f32⟩
  | .hbm, ⟨104, _⟩ => ⟨S1x1, .f32⟩
  | .hbm, ⟨105, _⟩ => ⟨S_, .f32⟩
  | .hbm, ⟨106, _⟩ => ⟨S4x1024x48x128, .f32⟩
  | .hbm, ⟨107, _⟩ => ⟨S4x1024x48x128, .f32⟩
  | .local .tc .vmem, ⟨0, _⟩ => ⟨S1x256x15, .f32⟩
  | .local .tc .vmem, ⟨1, _⟩ => ⟨S1x256x15, .f32⟩
  | .local .tc .vmem, ⟨2, _⟩ => ⟨S1x8x1024, .f32⟩
  | .local .tc .vmem, ⟨3, _⟩ => ⟨S1x8x1024, .f32⟩
  | .local .tc .vmem, ⟨4, _⟩ => ⟨S1x256x48, .i32⟩
  | .local .tc .vmem, ⟨5, _⟩ => ⟨S1x256x48, .i32⟩
  | .local .tc .vmem, ⟨6, _⟩ => ⟨S1x256x48, .i32⟩
  | .local .tc .vmem, ⟨7, _⟩ => ⟨S1x256x48, .i32⟩
  | .local .tc .vmem, ⟨8, _⟩ => ⟨S1x256x16, .f32⟩
  | .local .tc .vmem, ⟨9, _⟩ => ⟨S1x256x16, .f32⟩
  | .local .tc .vmem, ⟨10, _⟩ => ⟨S1536x16, .f32⟩
  | .local .tc .vmem, ⟨11, _⟩ => ⟨S1536x16, .f32⟩
  | .local .tc .vmem, ⟨12, _⟩ => ⟨S32x16, .f32⟩
  | .local .tc .vmem, ⟨13, _⟩ => ⟨S32x16, .f32⟩
  | .local .tc .vmem, ⟨14, _⟩ => ⟨S16x96, .bf16⟩
  | .local .tc .vmem, ⟨15, _⟩ => ⟨S16x96, .bf16⟩
  | .local .tc .vmem, ⟨16, _⟩ => ⟨S8x512, .f32⟩
  | .local .tc .vmem, ⟨17, _⟩ => ⟨S640x128, .bf16⟩
  | .local .tc .vmem, ⟨18, _⟩ => ⟨S640x128, .bf16⟩
  | .local .tc .vmem, ⟨19, _⟩ => ⟨S8x128, .f32⟩
  | .local .tc .vmem, ⟨20, _⟩ => ⟨S8x128, .f32⟩
  | .local .tc .vmem, ⟨21, _⟩ => ⟨S1x32x48x128, .f32⟩
  | .local .tc .vmem, ⟨22, _⟩ => ⟨S1x32x48x128, .f32⟩
  | .local .scVector .vmem, ⟨0, _⟩ => ⟨S128, .i32⟩
  | .local .scVector .vmem, ⟨1, _⟩ => ⟨S128x16, .f32⟩
  | _, _ => ⟨S4x512x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_cst_0 : Ref sig .tc := ⟨.hbm, 18, rfl⟩
abbrev main_cst_1 : Ref sig .tc := ⟨.hbm, 19, rfl⟩
abbrev main_v0 : Ref sig .tc := ⟨.hbm, 20, rfl⟩
abbrev main_cst_2 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_v7_0 : Ref sig .tc := ⟨.hbm, 29, rfl⟩
abbrev main_v7_1 : Ref sig .tc := ⟨.hbm, 30, rfl⟩
abbrev main_v7_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_c_4 : Ref sig .tc := ⟨.hbm, 37, rfl⟩
abbrev main_v12 : Ref sig .tc := ⟨.hbm, 38, rfl⟩
abbrev main_v13 : Ref sig .tc := ⟨.hbm, 39, rfl⟩
abbrev main_c_5 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_6 : Ref sig .tc := ⟨.hbm, 49, rfl⟩
abbrev main_v22 : Ref sig .tc := ⟨.hbm, 50, rfl⟩
abbrev main_v23 : Ref sig .tc := ⟨.hbm, 51, rfl⟩
abbrev main_c_7 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_8 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_9 : Ref sig .tc := ⟨.hbm, 60, rfl⟩
abbrev main_c_10 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v30 : Ref sig .tc := ⟨.hbm, 67, rfl⟩
abbrev main_c_11 : Ref sig .tc := ⟨.hbm, 68, rfl⟩
abbrev main_v31 : Ref sig .tc := ⟨.hbm, 69, rfl⟩
abbrev main_v32 : Ref sig .tc := ⟨.hbm, 70, rfl⟩
abbrev main_c_12 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_13 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_14 : Ref sig .tc := ⟨.hbm, 88, rfl⟩
abbrev main_v45 : Ref sig .tc := ⟨.hbm, 89, rfl⟩
abbrev main_c_15 : Ref sig .tc := ⟨.hbm, 90, rfl⟩
abbrev main_v46 : Ref sig .tc := ⟨.hbm, 91, rfl⟩
abbrev main_v47 : Ref sig .tc := ⟨.hbm, 92, rfl⟩
abbrev main_cst_16 : Ref sig .tc := ⟨.hbm, 93, rfl⟩
abbrev main_v48 : Ref sig .tc := ⟨.hbm, 94, rfl⟩
abbrev main_c_17 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_18 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v9_scv : Ref sig .scVector := ⟨.hbm, 33, rfl⟩
abbrev main_v8_scv : Ref sig .scVector := ⟨.hbm, 32, rfl⟩
abbrev main_v10_scv : Ref sig .scVector := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg9_1 : Ref sig .tc := ⟨.vmem, 22, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem9_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "inv_sigma" => some ((4 / 5 : ℝ) : EReal)
  | _ => none

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x48 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x48 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 16], ![false, false]⟩

@[reducible] def k1_t1_loop : Scf.Loop 32 :=
  let c0_i32_0 : BitVec 32 := 0#32
  let c48_i32 : BitVec 32 := 48#32
  let v3 : BitVec 32 := Scalar.addi c0_i32_0 c48_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let c0_i32_0 : BitVec 32 := 0#32
  let c1_i32 : BitVec 32 := 1#32
  let arg8 : BitVec 32 := Scf.iv c0_i32_0 c1_i32 k1_t1
  let c128_i32 : BitVec 32 := 128#32
  let v4 : BitVec 32 := Scalar.muli arg8 c128_i32
  let v5 : BitVec 32 := Scalar.addi v2 v4
  ![v5.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let c0_i32_0 : BitVec 32 := 0#32
  let c1_i32 : BitVec 32 := 1#32
  let arg8 : BitVec 32 := Scf.iv c0_i32_0 c1_i32 k1_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage2_0 : Fin 2 → Memref sig .tc .vmem S1536x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x96 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x96 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S640x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S640x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S8x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S8x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1x32x48x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.Gather.Setup.lean ====
/-
  The row gather on the SparseCores, set up. Thirty-two tasks (two SparseCores of sixteen tiles); task `(c, s)` owns the
  6144 consecutive rows of the output from row `6144 · (2 s + c)`, and writes them in 48 chunks of 128 rows. Here: the
  program as the launch reads it, the arrays' places, the chunks, what each task is handed and what it gives back.
  Everything is stated over the contents `gi` of the list of row numbers and `tb` of the table, so that the same text
  serves whatever wrote them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.GatherIdeal
public import proofs.«01_k».proof.Proof.Gen.GatherIdeal.Skeleton

@[expose] public section

noncomputable section

namespace Cert.Proof.Gather

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are four, none of them scoped, and no buffer is one SparseCore's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev iV : Memref sig .scVector .hbm S196608 .i32 := Memref.whole main_arg0_scv
abbrev xV : Memref sig .scVector .hbm S4096x16 .f32 := Memref.whole main_arg1_scv
abbrev oV : Memref sig .scVector .hbm S196608x16 .f32 := Memref.whole main_v0_scv
abbrev sV : Memref sig .scVector .vmem S128 .i32 := Memref.whole cc0_scratch0
abbrev rV : Memref sig .scVector .vmem S128x16 .f32 := Memref.whole cc0_scratch1

/-- The table's row that a word of the list names. -/
def rowOf (w : BitVec 32) : Fin 4096 := ⟨w.toNat % 4096, Nat.mod_lt _ (by norm_num)⟩

/-- The gathered rows: row `n` of the result is the table's row named by entry `n` of the list. -/
def gath (gi : IVec S196608 32) (tb : FVec F S4096x16 .f32) : FVec F S196608x16 .f32 :=
  fun n => tb (fun | 0 => rowOf (gi (fun | 0 => n 0)) | 1 => n 1)

/-! ## The chunks -/

/-- A chunk's number within its task. -/
abbrev Trip : Type := Fin k0_t1_loop.trips

theorem trips_eq : k0_t1_loop.trips = 48 := by decide

/-- The rows of chunk `k` of task `(c, s)`. -/
def chunk (c : Fin 2) (s : Fin 16) (k : Trip) : Finset S196608x16.Idx :=
  Finset.univ.filter fun n => 12288 * s.val + 6144 * c.val + 128 * k.val ≤ (n 0).val ∧ (n 0).val < 12288 * s.val + 6144 * c.val + 128 * k.val + 128

theorem mem_chunk {c : Fin 2} {s : Fin 16} {k : Trip} {n : S196608x16.Idx} :
    n ∈ chunk c s k ↔ 12288 * s.val + 6144 * c.val + 128 * k.val ≤ (n 0).val ∧ (n 0).val < 12288 * s.val + 6144 * c.val + 128 * k.val + 128 := by
  unfold chunk; simp

abbrev Task : Type := Fin 2 × Fin 16
/-- Task and trip together. -/
abbrev Piece : Type := Task × Trip
abbrev pieceSet (p : Piece) : Finset S196608x16.Idx := chunk p.1.1 p.1.2 p.2

theorem pieces_disjoint : ∀ p ∈ (Finset.univ : Finset Piece), ∀ p' ∈ (Finset.univ : Finset Piece), p ≠ p' → Disjoint (pieceSet p) (pieceSet p') := by
  rintro ⟨⟨c, s⟩, k⟩ - ⟨⟨c', s'⟩, k'⟩ - h
  rw [Finset.disjoint_left]
  intro n hn hn'
  rw [mem_chunk] at hn hn'
  have hk := k.isLt; have hk' := k'.isLt
  simp only [trips_eq] at hk hk'
  have hc := c.isLt; have hc' := c'.isLt
  refine h ?_
  simp only at hn hn'
  rw [Prod.mk.injEq, Prod.mk.injEq, Fin.ext_iff, Fin.ext_iff, Fin.ext_iff]
  omega

theorem pieces_cover : (Finset.univ : Finset Piece).biUnion pieceSet = Finset.univ := by
  ext n
  simp only [Finset.mem_biUnion, Finset.mem_univ, true_and, iff_true]
  have hn : (n 0).val < 196608 := (n 0).isLt
  refine ⟨⟨⟨⟨(n 0).val / 6144 % 2, by omega⟩, ⟨(n 0).val / 12288, by omega⟩⟩, ⟨(n 0).val % 6144 / 128, by rw [trips_eq]; omega⟩⟩, ?_⟩
  rw [mem_chunk]
  simp only
  omega

/-! ## What the tasks are handed -/

variable (gi : Dev nD → IVec S196608 32) (tb : Dev nD → FVec F S4096x16 .f32)

/-- Task `(c, s)`'s share of what every task reads: one of the thirty-two parts the full share halves into. -/
def share (c : Fin 2) (s : Fin 16) : PosShare TreeShare :=
  ShareLeaves.leaf 4 (ShareLeaves.leaf 1 fullShare c) s

abbrev iSh (d : Dev nD) (c : Fin 2) (s : Fin 16) : sProp 𝕄 := iLoc d ↦{share c s} gi d
abbrev xSh (d : Dev nD) (c : Fin 2) (s : Fin 16) : sProp 𝕄 := xLoc d ↦{share c s} tb d
/-- A chunk at some contents, and at the gathered rows. -/
abbrev oAny (d : Dev nD) (c : Fin 2) (s : Fin 16) (k : Trip) : sProp 𝕄 := iprop(∃ f, oLoc d ↦[chunk c s k]{fullShare} f)
abbrev oDone (d : Dev nD) (c : Fin 2) (s : Fin 16) (k : Trip) : sProp 𝕄 := oLoc d ↦[chunk c s k]{fullShare} gath (gi d) (tb d)

/-- What a task takes, -/
abbrev takes (d : Dev nD) (c : Fin 2) (s : Fin 16) : sProp 𝕄 :=
  iprop(iSh gi d c s ∗ xSh tb d c s ∗ bigSep Finset.univ fun k => oAny d c s k)
/-- and what it gives back. -/
abbrev brings (d : Dev nD) (c : Fin 2) (s : Fin 16) : sProp 𝕄 :=
  iprop(iSh gi d c s ∗ xSh tb d c s ∗ bigSep Finset.univ fun k => oDone gi tb d c s k)

abbrev nC (c : Fin ((K (F := F)).nCore 0)) : Fin 2 := c
abbrev nS (s : Fin ((K (F := F)).nSub 0)) : Fin 16 := s

/-- The call hands each SparseCore its sixteen tasks' parts, already cut; each task its own. -/
def P : (K (F := F)).Pay (nD := nD) (Val := Elt F) (Name := ℕ) (U := UU) where
  st := fun q d c => match q with | 0 => bigSep Finset.univ fun s => takes gi tb d (nC c) s
  dn := fun q d c => match q with | 0 => bigSep Finset.univ fun s => brings gi tb d (nC c) s
  go := fun q d c s => match q with | 0 => takes gi tb d (nC c) (nS s)
  td := fun q d c s => match q with | 0 => brings gi tb d (nC c) (nS s)
  x := fun _ _ => iprop(emp)

instance P_storable : (P (F := F) gi tb).IsStorable where
  st q d c := match q with
    | 0 => (inferInstance : BI.Storable (upEmb : UEmb _ 𝕄) (bigSep Finset.univ fun s => takes gi tb d (nC c) s))
  dn q d c := match q with
    | 0 => (inferInstance : BI.Storable (upEmb : UEmb _ 𝕄) (bigSep Finset.univ fun s => brings gi tb d (nC c) s))
  go q d c s := match q with
    | 0 => (inferInstance : BI.Storable (upEmb : UEmb _ 𝕄) (takes gi tb d (nC c) (nS s)))
  td q d c s := match q with
    | 0 => (inferInstance : BI.Storable (upEmb : UEmb _ 𝕄) (brings gi tb d (nC c) (nS s)))

/-- Every word of the list names a row of the table. -/
def InRows : Prop := ∀ (d : Dev nD) (j : S196608.Idx), (gi d j).toNat < 4096

end Cert.Proof.Gather

end
-- ==== Proof.Gather.Tile.lean ====
/-
  One task of the row gather: 48 trips, each fetching 128 row numbers, gathering the table's rows they name, and writing
  them out. The loop's invariant says which chunks already hold the gathered rows.
-/
module

public import proofs.«01_k».proof.Proof.Gather.Setup

@[expose] public section

noncomputable section

namespace Cert.Proof.Gather

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (gi : Dev nD → IVec S196608 32) (tb : Dev nD → FVec F S4096x16 .f32)
variable (d : Dev nD) (L : grid0.Coords)

abbrev cV (L : grid0.Coords) : Fin τ.nSC := (L 0).castLE hcore0
abbrev jV (L : grid0.Coords) : Fin τ.nSub := (L 1).castLE hsub0
/-- The task's thread. -/
abbrev thr (d : Dev nD) (L : grid0.Coords) : Thread nD τ := V d (cV L) (jV L)
abbrev c2 (L : grid0.Coords) : Fin 2 := L 0
abbrev s16 (L : grid0.Coords) : Fin 16 := L 1

/-- Trip `k`'s window of the list, -/
abbrev iWin (L : grid0.Coords) (k : Trip) : Memref sig .scVector .hbm S128 .i32 :=
  (iV).slice (Rect.unit (s := S196608) (k0_off1 L k) S128.size (k0_off1_inb L k)) (fun _ => rfl)
/-- and of the output. -/
abbrev oWin (L : grid0.Coords) (k : Trip) : Memref sig .scVector .hbm S128x16 .f32 :=
  (oV).slice (Rect.unit (s := S196608x16) (k0_off2 L k) S128x16.size (k0_off2_inb L k)) (fun _ => rfl)

omit [FloatOps F] in
theorem set_oWin (k : Trip) : (oWin L k).view.set = chunk (c2 L) (s16 L) k := by
  show ((View.whole (main_v0_scv : Ref sig .scVector)).slice _).set = _
  rw [View.set_slice]
  refine Finset.map_refl.trans (Finset.ext fun n => ?_)
  rw [Rect.mem_set_unit, mem_chunk, k0_off2_eq]
  constructor
  · exact fun h => h 0
  · intro h a
    match a with
    | 0 => exact h
    | 1 => exact ⟨Nat.zero_le _, show (n 1).val < 0 + 16 by have : (n 1).val < 16 := (n 1).isLt; omega⟩

abbrev cell0 (d : Dev nD) (L : grid0.Coords) : GSem nD τ sig := (thr d L, .dma cc0_scratch2.sem)
abbrev cell1 (d : Dev nD) (L : grid0.Coords) : GSem nD τ sig := (thr d L, .dma cc0_scoped0.sem)
abbrev cell2 (d : Dev nD) (L : grid0.Coords) : GSem nD τ sig := (thr d L, .dma cc0_scoped1.sem)

omit [FloatOps F] in
/-- The task's three semaphores are among its own. -/
theorem ownSems0_thr :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scratch2.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped0.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped1.sem : SemLoc sig).isScoped .scVector = true; decide⟩⟩⟩)]

omit [FloatOps F] in
/-- The two scratch buffers are among the task's own. -/
theorem ownBufs_thr :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Chunk `j` before trip `k`: the gathered rows if an earlier trip has written it. -/
def oAt (k : Nat) (j : Trip) : sProp 𝕄 :=
  if j.val < k then oDone gi tb d (c2 L) (s16 L) j else oAny d (c2 L) (s16 L) j

/-- The loop's invariant. -/
def inv (O : CellTallies nD τ sig (HIx 1)) (W : Waits sig (HIx 1)) (k : Nat) (_ : PUnit) : sProp 𝕄 :=
  iprop(Transfers.MayWaits (thr d L) (none : HIx 1) O
    ∗ ((iV).view.loc (thr d L) ↦{share (c2 L) (s16 L)} gi d)
    ∗ ((xV).view.loc (thr d L) ↦{share (c2 L) (s16 L)} tb d)
    ∗ (∃ f, (sV).view.loc (thr d L) ↦{fullShare} f)
    ∗ (∃ f, (rV).view.loc (thr d L) ↦{fullShare} f)
    ∗ (bigSep Finset.univ fun j => oAt gi tb d L k j)
    ∗ semVal (cell0 d L) 0 ∗ semVal (cell1 d L) 0 ∗ semVal (cell2 d L) 0
    ∗ ∃ W', ⌜∀ p ∈ W', p ∈ W ∨ p.2 = none⌝ ∗ owes (thr d L) O W')

/-- A fetched window's words name rows of the table. -/
theorem inRows_win (h : InRows gi) (k : Trip) (x : S128.Idx) : ((iWin L k).view.read (Elt F) (gi d) x).toNat < 4096 := by
  rw [show (iWin L k).view.read (Elt F) (gi d) x = gi d ((iWin L k).view.emb x) from (View.read_apply _ _).trans (cast_eq _ _)]
  exact h d _

/-- The list's entry `y` of trip `k`'s window is entry `6144 · task + 128 · k + y` of the list. -/
theorem read_iWin (k : Trip) (y : S128.Idx) :
    (iWin L k).view.read (Elt F) (gi d) y = gi d (fun | 0 => ⟨12288 * (L 1).val + 6144 * (L 0).val + 128 * k.val + (y 0).val, by
      have h1 : (L 1).val < 16 := (L 1).isLt
      have h0 : (L 0).val < 2 := (L 0).isLt
      have hk : k.val < 48 := trips_eq ▸ k.isLt
      have hy : (y 0).val < 128 := (y 0).isLt
      show _ < 196608
      omega⟩) := by
  rw [show (iWin L k).view.read (Elt F) (gi d) y = gi d ((iWin L k).view.emb y) from (View.read_apply _ _).trans (cast_eq _ _)]
  congr 1
  funext a
  match a with
  | 0 =>
    refine Fin.ext ?_
    show k0_off1 L k 0 + 1 * (y 0).val = _
    rw [k0_off1_eq, Nat.one_mul]; rfl

/-- What the gather lands at entry `x` of the row buffer is the gathered rows' entry at `x`'s place in the output. -/
theorem gathered_apply (k : Trip) (x : S128x16.Idx) (l : S128.Idx → Elt F .i32) (hn : S128.numel = S128x16.size gathers_S4096x16_S128x16.axis')
    (hl : ∀ y, (l y).toNat < S4096x16.size gathers_S4096x16_S128x16.axis)
    (hli : ∀ y, l y = (iWin L k).view.read (Elt F) (gi d) y) :
    SparseCore.gatherPayload gathers_S4096x16_S128x16
        (((xV).slice (Rect.unit (s := S4096x16) ![0, 0] S4096x16.size inb_S4096x16_S4096x16_0_0) (fun _ => rfl)).view.read (Elt F) (tb d))
        (SparseCore.rows l hn hl) x
      = gath (gi d) (tb d) ((oWin L k).view.emb x) := by
  unfold SparseCore.gatherPayload gath
  refine ((View.read_apply _ _).trans (cast_eq _ _)).trans (congrArg (tb d) (funext fun a => Fin.ext ?_))
  match a with
  | 0 =>
    show 0 + 1 * (gathers_S4096x16_S128x16.idx (SparseCore.rows l hn hl) x gathers_S4096x16_S128x16.axis).val = _
    rw [Shape.Gathers.idx_axis]
    show 0 + 1 * (l (S128.rowMajor.symm ((x 0).cast hn.symm))).toNat = (rowOf _).val
    have hy : S128.rowMajor.symm ((x 0).cast hn.symm) = (fun | 0 => x 0 : S128.Idx) := by
      rw [Equiv.symm_apply_eq]
      refine Fin.ext ?_
      rw [Shape.rowMajor_val_one]; rfl
    have hlt : (l (S128.rowMajor.symm ((x 0).cast hn.symm))).toNat < 4096 := hl _
    have hrow : l (S128.rowMajor.symm ((x 0).cast hn.symm)) = gi d (fun | 0 => (oWin L k).view.emb x 0) := by
      rw [hli, hy, read_iWin]
      congr 1
      funext a
      match a with
      | 0 =>
        refine Fin.ext ?_
        show _ = k0_off2 L k 0 + 1 * (x 0).val
        rw [k0_off2_eq, Nat.one_mul]; rfl
    refine Eq.trans ?_ (congrArg (fun w => (rowOf w).val) hrow)
    show 0 + 1 * _ = _ % 4096
    rw [Nat.mod_eq_of_lt hlt]; omega
  | 1 =>
    show 0 + 1 * (gathers_S4096x16_S128x16.idx (SparseCore.rows l hn hl) x 1).val = k0_off2 L k 1 + 1 * (x 1).val
    rw [Shape.Gathers.idx_of_ne _ _ _ _ (by decide), k0_off2_eq]
    rfl

set_option maxHeartbeats 4000000 in
/-- One trip: the window fetched, the rows gathered, the rows written out. -/
theorem trip (hpre : InRows gi) (O : CellTallies nD τ sig (HIx 1)) (W : Waits sig (HIx 1)) (k : Trip) :
    inv gi tb d L O W k ⟨⟩
      ⊢ wp frame (wpE (defs₀ (F := F)) 𝒱₀ (thr d L) none) Set.univ
          (k0_t1_body L iV (Memref.isWhole_whole _) xV (Memref.isWhole_whole _) oV (Memref.isWhole_whole _)
            sV (Memref.isWhole_whole _) rV (Memref.isWhole_whole _) cc0_scratch2 cc0_scoped0 cc0_scoped1 k ())
          fun _ => inv gi tb d L O W (k + 1) ⟨⟩ := by
  unfold inv k0_t1_body
  iintro ⟨Hmw, Hi, Hx, ⟨%fs, Hs⟩, ⟨%fr, Hr⟩, Ho, Hc0, Hc1, Hc2, %W', %hW', HO⟩
  ihave Ho' := (bigSep_univ_update (Φ := fun j => oAt gi tb d L k j) (Ψ := fun j => oAt gi tb d L (k + 1) j) k (by
    intro j hj
    have : j.val ≠ k.val := fun e => hj (Fin.ext e)
    unfold oAt
    rcases Nat.lt_or_ge j.val k.val with h | h
    · rw [if_pos h, if_pos (by omega)]
    · rw [if_neg (by omega), if_neg (by omega)])) $$ Ho
  icases Ho' with ⟨Hk, Hback⟩
  ihave Hk' := (Entails.of_eq (show oAt gi tb d L k k = iprop(∃ f, (oWin L k).view.loc (thr d L) ↦[(oWin L k).view.set]{fullShare} f) by
    unfold oAt; rw [if_neg (Nat.lt_irrefl _), set_oWin])) $$ Hk
  icases Hk' with ⟨%fo, Hk⟩
  sl_exec
  have hin : ∀ x, ((sV).view.read (Elt F) (View.write (Elt F) (sV).view fs (trip.sl.dma0 gi d L k) Finset.univ) x).toNat
      < S4096x16.size gathers_S4096x16_S128x16.axis := by
    intro x
    rw [View.write_whole_univ]
    exact inRows_win gi d L hpre k x
  sl_exec
  have hval : ∀ n ∈ (oWin L k).view.set, (oWin L k).view.writes (Elt F) fo [⟨Rect.whole S128x16, trip.sl.dma0_1 gi tb d L k fs fr hin⟩] n
      = gath (gi d) (tb d) n := by
    intro n hn
    obtain ⟨x, -, rfl⟩ := Finset.mem_map.1 hn
    have hw : (oWin L k).view.writes (Elt F) fo [⟨Rect.whole S128x16, trip.sl.dma0_1 gi tb d L k fs fr hin⟩] ((oWin L k).view.emb x)
        = trip.sl.dma0_1 gi tb d L k fs fr hin x :=
      (((View.read_apply _ _).trans (cast_eq _ _)).symm).trans (congrFun (View.read_writes_whole (oWin L k).view fo _) x)
    rw [hw]
    refine (congrFun (View.read_writes_whole (rV).view fr (trip.sl.gather0 gi tb d L k fs hin)) x).trans ?_
    unfold trip.sl.gather0
    exact gathered_apply gi tb d L k x _ _ hin (fun y => by rw [View.write_whole_univ]; rfl)
  sl_step
  isplitl [Hmw]; · iexact Hmw
  isplitl [Hi]; · iexact Hi
  isplitl [Hx]; · iexact Hx
  isplitl [Hs]; · iexists _; iexact Hs
  isplitl [Hr]; · iexists _; iexact Hr
  isplitl [Hback Hk]
  · iapply Hback
    iapply (Entails.of_eq (show ((oWin L k).view.loc (thr d L) ↦[(oWin L k).view.set]{fullShare} _ : sProp 𝕄) = oAt gi tb d L (k + 1) k by
      unfold oAt; rw [if_pos (Nat.lt_succ_self _), pointsTo_congr hval, set_oWin]))
    iexact Hk
  isplitl [Hc0]; · iexact Hc0
  isplitl [Hc1]; · iexact Hc1
  isplitl [Hc2]; · iexact Hc2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 4000000 in
/-- The task: the 48 trips. -/
theorem tile_body (hF : (K (F := F)).Facts) (hpre : InRows gi) (O : CellTallies nD τ sig (HIx 1)) (W : Waits sig (HIx 1)) (hO : ∀ g, O g none = 0) :
    iprop(levAts (K (F := F)).L (K (F := F)).lev ∗ emp
        ∗ takes gi tb d (c2 L) (s16 L)
        ∗ scopedBufs (thr d L) ∗ scopedSems0 (thr d L) ∗ owes (thr d L) O W)
      ⊢ wp frame (wpE (defs₀ (F := F)) 𝒱₀ (thr d L) none) Set.univ
          (cc0_gk L iV (Memref.isWhole_whole _) xV (Memref.isWhole_whole _) oV (Memref.isWhole_whole _)
            sV (Memref.isWhole_whole _) rV (Memref.isWhole_whole _) cc0_scratch2 cc0_scoped0 cc0_scoped1)
          fun _ => iprop(brings gi tb d (c2 L) (s16 L)
            ∗ scopedBufs (thr d L) ∗ scopedSems0 (thr d L)
            ∗ ∃ W', ⌜∀ p ∈ W', p ∈ W ∨ p.2 = none⌝ ∗ owes (thr d L) O W') := by
  simp only [cc0_gk_eq_skeleton]; unfold cc0_gk_skel
  rw [(K (F := F)).scopedBufs_V hF d (cV L) (jV L), SparseCore.Cfg.scopedSems0_V (Val := Elt F) d (cV L) (jV L), ownSems0_thr, ownBufs_thr]
  iintro ⟨#Hlv, -, ⟨Hi, Hx, Ho⟩, ⟨⟨%fs, Hs⟩, ⟨%fr, Hr⟩, Hbufs⟩, ⟨Hc0, Hc1, Hc2, Hsems⟩, HO⟩
  ihave Hmw := (show levAts (K (F := F)).L (K (F := F)).lev ⊢ Transfers.MayWaits (thr d L) (default : HIx 1) O from
    (K (F := F)).mayWaits_none (thr := thr d L) hO) $$ Hlv
  sl_for (inv gi tb d L O W) $$ [Hmw Hi Hx Hs Hr Ho Hc0 Hc1 Hc2 HO]
  case region =>
    intro k _
    exact trip gi tb d L hpre O W k
  · unfold inv
    isplitl [Hmw]; · iexact Hmw
    isplitl [Hi]; · iexact Hi
    isplitl [Hx]; · iexact Hx
    isplitl [Hs]; · iexists _; iexact Hs
    isplitl [Hr]; · iexists _; iexact Hr
    isplitl [Ho]
    · iapply (Entails.of_eq (bigSep_congr fun j _ => show oAny d (c2 L) (s16 L) j = oAt gi tb d L 0 j by
        unfold oAt; rw [if_neg (Nat.not_lt_zero _)]))
      iexact Ho
    isplitl [Hc0]; · iexact Hc0
    isplitl [Hc1]; · iexact Hc1
    isplitl [Hc2]; · iexact Hc2
    iexists W; isplitr
    · ipureintro; exact fun p hp => .inl hp
    · iexact HO
  iintro %_ HI
  unfold inv
  icases HI with ⟨-, Hi, Hx, Hs, Hr, Ho, Hc0, Hc1, Hc2, HO⟩
  sl_step
  isplitl [Hi Hx Ho]
  · isplitl [Hi]; · iexact Hi
    isplitl [Hx]; · iexact Hx
    iapply (Entails.of_eq (bigSep_congr fun j _ => show oAt gi tb d L k0_t1_loop.trips j = oDone gi tb d (c2 L) (s16 L) j by
      unfold oAt; rw [if_pos j.isLt]))
    iexact Ho
  isplitl [Hs Hr Hbufs]
  · isplitl [Hs]; · iexact Hs
    isplitl [Hr]; · iexact Hr
    iexact Hbufs
  isplitl [Hc0 Hc1 Hc2 Hsems]
  · isplitl [Hc0]; · iexact Hc0
    isplitl [Hc1]; · iexact Hc1
    isplitl [Hc2]; · iexact Hc2
    iexact Hsems
  iexact HO

end Cert.Proof.Gather

end
-- ==== Proof.Gather.Launch.lean ====
/-
  The call of the row gather: what the launch asks of each task and of the split of the arrays among the tasks, and the
  arrays cut into the tasks' parts and joined again.
-/
module

public import proofs.«01_k».proof.Proof.Gather.Tile

@[expose] public section

noncomputable section

namespace Cert.Proof.Gather

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (gi : Dev nD → IVec S196608 32) (tb : Dev nD → FVec F S4096x16 .f32)

/-! ## The tasks' obligations -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gk (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRows gi) : (K (F := F)).TileObl (D (F := F)) 𝒱 (P gi tb) v₀ 0 := by
  intro d c i O W hO _ _
  simp only [show (P gi tb).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body gi tb d (coordsV ⟨_, hci.1⟩ ⟨_, hci.2⟩) hF hpre O W hO).trans (wp_mono frame _ _ fun _ => obl_post)

/-- Each SparseCore holds its tasks' parts already cut. -/
theorem vecSplit : (K (F := F)).VecSplit' (P gi tb) 0 := by
  intro d c
  show (bigSep Finset.univ fun s => takes gi tb d (nC c) s) ⊢ |={Set.univ}=> iprop(
      (bigSep Finset.univ fun s => takes gi tb d (nC c) s)
      ∗ ((bigSep Finset.univ fun s => brings gi tb d (nC c) s) -∗ (bigSep Finset.univ fun s => brings gi tb d (nC c) s)))
  iintro H; imodintro
  isplitl [H]; · iexact H
  iintro H; iexact H

/-! ## The arrays cut and joined -/

omit [FloatOps F] in
/-- What is held at the full share is held at each task's share. -/
theorem pts_shares {ℓ : Loc nD τ sig} (f : Buf (Elt F) ℓ) :
    (ℓ ↦{fullShare} f : sProp 𝕄) = bigSep Finset.univ fun c : Fin 2 => bigSep Finset.univ fun s : Fin 16 => ℓ ↦{share c s} f :=
  (ShareLeaves.pointsTo_leaves Finset.univ f 1 fullShare).trans
    (bigSep_congr fun _ _ => ShareLeaves.pointsTo_leaves Finset.univ f 4 _)

omit [FloatOps F] in
/-- The output is its chunks. -/
theorem o_chunks (d : Dev nD) (f : Buf (Elt F) (oLoc d)) :
    (oLoc d ↦{fullShare} f : sProp 𝕄)
      = bigSep Finset.univ fun c : Fin 2 => bigSep Finset.univ fun s : Fin 16 => bigSep Finset.univ fun k : Trip => oLoc d ↦[chunk c s k]{fullShare} f := by
  have h : (oLoc d ↦{fullShare} f : sProp 𝕄) = bigSep Finset.univ fun p : Piece => oLoc d ↦[pieceSet p]{fullShare} f := by
    rw [← pointsTo_biUnion Finset.univ (ℓ := oLoc d) pieceSet pieces_disjoint, pieces_cover]
  rw [h, bigSep_univ_prod (fun p : Task × Trip => (oLoc d ↦[chunk p.1.1 p.1.2 p.2]{fullShare} f : sProp 𝕄)),
    bigSep_univ_prod (fun t : Fin 2 × Fin 16 => bigSep Finset.univ fun k : Trip => (oLoc d ↦[chunk t.1 t.2 k]{fullShare} f : sProp 𝕄))]

/-- The three arrays whole, cut into what the call hands out. -/
theorem st_intro (d : Dev nD) (f : Buf (Elt F) (oLoc d)) :
    iprop((iLoc d ↦{fullShare} gi d) ∗ (xLoc d ↦{fullShare} tb d) ∗ oLoc d ↦{fullShare} f)
      ⊢ (bigSep Finset.univ fun c : Fin ((K (F := F)).nCore 0) => (P gi tb).st 0 d c : sProp 𝕄) := by
  show _ ⊢ (bigSep Finset.univ fun c : Fin 2 => bigSep Finset.univ fun s : Fin 16 => takes gi tb d c s : sProp 𝕄)
  simp only [takes, bigSep_sep']
  rw [pts_shares (F := F) (ℓ := iLoc d), pts_shares (F := F) (ℓ := xLoc d), o_chunks]
  refine Laws.sep_mono_right (Laws.sep_mono_right ?_)
  refine bigSep_mono fun c _ => bigSep_mono fun s _ => bigSep_mono fun k _ => ?_
  exact BIClass.exists_intro (Φ := fun f => (oLoc d ↦[chunk c s k]{fullShare} f : sProp 𝕄)) f

/-- What the call hands back, joined: the list and the table unchanged, the output at the gathered rows. -/
theorem dn_elim (d : Dev nD) :
    (bigSep Finset.univ fun c : Fin ((K (F := F)).nCore 0) => (P gi tb).dn 0 d c : sProp 𝕄)
      ⊢ iprop((iLoc d ↦{fullShare} gi d) ∗ (xLoc d ↦{fullShare} tb d) ∗ oLoc d ↦{fullShare} gath (gi d) (tb d)) := by
  show (bigSep Finset.univ fun c : Fin 2 => bigSep Finset.univ fun s : Fin 16 => brings gi tb d c s : sProp 𝕄) ⊢ _
  simp only [brings, bigSep_sep']
  rw [pts_shares (F := F) (ℓ := iLoc d), pts_shares (F := F) (ℓ := xLoc d), o_chunks]

/-! ## The launch's ghost state -/

omit [FloatOps F] in
theorem bigSep_emps {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P gi tb).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emps]; iempintro
  rw [show (bigSep Finset.univ fun t : Thread nD τ => bigSep Finset.univ fun q : Fin 1 => (P (F := F) gi tb).x q t) = bigSep Finset.univ fun _ => iprop(emp) from
    bigSep_congr fun _ _ => bigSep_univ_of_subsingleton (0 : Fin 1), bigSep_emps]
  iempintro

end Cert.Proof.Gather

end
-- ==== Proof.Gather.Run.lean ====
/-
  The gather's program run from a launch memory: it ends with the output at the gathered rows, the list and the table
  as they were, every semaphore at zero.
-/
module

public import proofs.«01_k».proof.Proof.Gather.Launch

@[expose] public section

noncomputable section

namespace Cert.Proof.Gather

open Cert.GatherIdeal Cert.GatherIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-- The list and the table at the launch. -/
abbrev gi₀ (d : Dev nD) : IVec S196608 32 := m (iLoc d)
abbrev tb₀ (d : Dev nD) : FVec F S4096x16 .f32 := m (xLoc d)

theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the TensorCore keeps to the end. -/
abbrev FIN (d : Dev nD) : sProp 𝕄 :=
  iprop((iLoc d ↦{fullShare} gi₀ m d) ∗ (xLoc d ↦{fullShare} tb₀ m d) ∗ oLoc d ↦{fullShare} gath (gi₀ m d) (tb₀ m d))

theorem hmain (κ : GSem nD τ sig → ℕ) (d : Dev nD) :
    iprop((K (F := F)).ctx EH (P (gi₀ m) (tb₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hm, Hts, -⟩, -⟩
  iapply ((K (F := F)).wp_run (D (F := F)) 𝒱 (EH := EH) (P := P (gi₀ m) (tb₀ m)) κ d 0) $$ [Hst Hm Hb Hts]
  isplitr; · iexact Hctx
  isplitl [Hst]; · iexact Hst
  isplitl [Hm]
  · iapply (st_intro (gi₀ m) (tb₀ m) d (m (oLoc d))); iexact Hm
  iintro ⟨Hst, Hdn⟩
  ihave Hdn' := (dn_elim (gi₀ m) (tb₀ m) d) $$ Hdn
  imodintro
  isplitl [Hst]; · iexact Hst
  isplitl [Hdn']; · iexact Hdn'
  isplitl [Hb] <;> iassumption

def fq (d : Dev nD) (s' : Phys nD τ sig (Elt F)) : Prop :=
  s'.mem.mem (iLoc d) = gi₀ m d ∧ s'.mem.mem (xLoc d) = tb₀ m d ∧ s'.mem.mem (oLoc d) = gath (gi₀ m d) (tb₀ m d)

set_option maxRecDepth 16384 in
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := gi₀ m d))) $$ [HSI Hi]
  · isplitl [HSI] <;> iassumption
  icases H with ⟨%h1, HSI, -⟩
  ihave H := (persistent_entails_right (SI_pointsTo_agree (st := s') (ℓ := xLoc d) (I := Finset.univ) (q := fullShare) (f := tb₀ m d))) $$ [HSI Hx]
  · isplitl [HSI] <;> iassumption
  icases H with ⟨%h2, HSI, -⟩
  ihave H := (SI_pointsTo_agree (st := s') (ℓ := oLoc d) (I := Finset.univ) (q := fullShare) (f := gath (gi₀ m d) (tb₀ m d))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (iLoc c) = gi₀ m c ∧ r.2.mem (xLoc c) = tb₀ m c ∧ r.2.mem (oLoc c) = gath (gi₀ m c) (tb₀ m c)) ∧ r.2.sem = fun _ => 0

/-- The run. -/
theorem run_main [∀ e, Nonempty (Elt F e)] (hpre : InRows (gi₀ m)) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (gi₀ m) (tb₀ m)) (A := ∅) facts v₀
    (fun q hq => match q with | 0 => nomatch hq)
    (fun q _ => match q with | 0 => tileObl (gi₀ m) (tb₀ m) facts hpre)
    (fun q _ => match q with | 0 => SparseCore.Cfg.VecSplit.of_plain (vecSplit (gi₀ m) (tb₀ m)))
    m ρ main (fun _ => iprop(emp)) (FIN m) (u₀ (F := F)) (sep_elim_left.trans (hu₀ (gi₀ m) (tb₀ m))) (hmain m ρ) (fq m) (hfin m) (QC m) (fun _ h hz => ⟨h, hz⟩)

end Cert.Proof.Gather

end
-- ==== Proof.Gather.RowTake.lean ====
/-
  `table[indices]` of a matrix, read at an entry: entry `(b, j)` is the matrix's entry `(i, j)` at the row `i` that word
  `b` of the indices names — read signed and clamped into the matrix's rows, so the word itself when it is in range.
-/
module

public import Idealize.ShloMosaic.Lib.ValueIdxCore
public import Idealize.ShloMosaic.Lib.ReduceAll

@[expose] public section

noncomputable section

namespace Cert.Proof.RowTake

open Idealize.ShloMosaic

/-- The dimension numbers of a gather of whole rows. -/
abbrev rowDims (N C B : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The place of row `b`'s word among the start indices. -/
abbrev wordAt {B C : Nat} (y : (⟨2, ![B, C]⟩ : Shape).Idx) : (⟨2, ![B, 1]⟩ : Shape).Idx :=
  fun a => match a with | ⟨0, _⟩ => ⟨(y 0).val, (y 0).isLt⟩ | ⟨1, _⟩ => ⟨0, Nat.one_pos⟩

/-- The gather read at an entry. -/
theorem gather_rows {α : Type} {N C B w : Nat}
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (y : (⟨2, ![B, C]⟩ : Shape).Idx)
    (r : Fin N) (hr : min (idx (wordAt y)).toInt.toNat (N - 1) = r.val) :
    Host.gather (rowDims N C B wf) x idx y = x (fun a => match a with | ⟨0, _⟩ => r | ⟨1, _⟩ => y 1) := by
  unfold Host.gather
  congr 1
  funext a
  refine Fin.ext ?_
  show (rowDims N C B wf).start y idx a + (rowDims N C B wf).batchCoord y a + (rowDims N C B wf).offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C B wf).startIndexMap from List.mem_singleton.mpr rfl)]
    have hsi : (rowDims N C B wf).siIdx y ⟨List.idxOf (0 : Fin 2) (rowDims N C B wf).startIndexMap,
        List.idxOf_lt_length_iff.2 (List.mem_singleton.mpr rfl)⟩ = wordAt y := by
      funext b; refine Fin.ext ?_
      match b with
      | ⟨0, _⟩ => rfl
      | ⟨1, _⟩ => rfl
    rw [hsi]
    exact hr
  · rw [GatherDims.batchCoord_eq_zero _ _ _ List.not_mem_nil]
    unfold GatherDims.start
    rw [dif_neg (show (1 : Fin 2) ∉ (rowDims N C B wf).startIndexMap by simp)]
    show 0 + 0 + _ = (y 1).val
    rw [Nat.zero_add]
    rfl

/-- A word that is, signed, at least 0 and below `n`, is below `n` as a natural number. -/
theorem toNat_lt_of_signed {v : BitVec 32} {n : Nat} (hn : n < 2 ^ 31)
    (e : IntOp.andi (IntOp.cmpi .sge v 0#32) (IntOp.cmpi .slt v (BitVec.ofNat 32 n)) = 1#1) : v.toNat < n := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat] at e
  have h1 : n % 2 ^ 32 = n := Nat.mod_eq_of_lt (by omega)
  rw [h1] at e
  split_ifs at e <;> simp at e <;> omega

/-- A word below `n` in range is not negative, so counting from the end does not touch it, and no clamp moves it. -/
theorem clamp_wrap {v : BitVec 32} {n : Nat} (hn : n ≤ 2 ^ 31) (h : v.toNat < n) (e : BitVec 32) :
    min (Scalar.select (IntOp.cmpi .slt v 0#32) e v).toInt.toNat (n - 1) = v.toNat := by
  have h0 : ¬ (IntOp.cmpi .slt v 0#32 = 1) := by
    have ofBool_eq_one (p : Bool) : (BitVec.ofBool p = 1#1) ↔ p = true := by cases p <;> decide
    show ¬ (IntOp.cmpi .slt v 0#32 = 1#1)
    simp only [IntOp.cmpi, ofBool_eq_one, BitVec.slt_eq_decide, decide_eq_true_eq, BitVec.toInt_eq_toNat_cond]
    split_ifs <;> simp <;> omega
  rw [Scalar.select, if_neg h0, BitVec.toInt_eq_toNat_cond, if_pos (by omega)]
  simp only [Int.toNat_natCast]
  omega

end Cert.Proof.RowTake

end
-- ==== Proof.Gather.Value.lean ====
/-
  The claims about the row gather alone, from its own arguments: the frames of its two programs from the one run, and the
  value against `table[indices]`.
-/
module

public import proofs.«01_k».proof.Defs
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.RowsIdeal
public import proofs.«01_k».proof.Proof.Gen.RowsIdeal.Run
public import proofs.«01_k».proof.Proof.Gen.Pre_rows_named
public import proofs.«01_k».proof.Proof.Gather.Run
public import proofs.«01_k».proof.Proof.Gather.RowTake
public import Idealize.ShloMosaic.Lib.Quiescent
public import Idealize.ShloMosaic.Adequacy
public import Idealize.ShloMosaic.Init

@[expose] public section

noncomputable section

namespace Cert.Proof.Rows

open Idealize.ShloMosaic Idealize.SL.Sem Cert.Gather

/-- The precondition, read at an entry: the word is below 4096. -/
theorem lt_of_pre {F : FTy → Type} [FloatOps F] (g : IVec Cert.Pre_rows_named.S196608 32) (t : FVec F Cert.Pre_rows_named.S4096x16 .f32)
    (h : Cert.Pre_rows_named.fn (F := F) g t = fun _ => 1#1) (j : Cert.Pre_rows_named.S196608.Idx) : (g j).toNat < 4096 := by
  have : Subsingleton Cert.Pre_rows_named.S_.Idx := ⟨fun a b => funext fun i => i.elim0⟩
  exact RowTake.toNat_lt_of_signed (by norm_num) (Host.reduce_andi_all _ _ _ _ (fun i => i.elim0) (congrFun h _) j)

theorem inRows_ideal (m : (ℓ : Loc Cert.GatherIdeal.nD Cert.GatherIdeal.τ Cert.GatherIdeal.sig) → Buf (Elt Ideal) ℓ)
    (h : Cert.Pre_GatherIdeal m) : Gather.InRows (Gather.gi₀ m) := fun d j => lt_of_pre _ _ (h d) j

theorem frame_gather : Cert.quiescent_Gather := fun m ρ hpre =>
  (θ_run Cert.GatherIdeal.defs _ _).mono (fun _ h => ⟨fun c => ⟨(h.1 c).1, (h.1 c).2.1⟩, h.2⟩)
    (Gather.run_main (F := Bits) m ρ fun d j => lt_of_pre _ _ (hpre d) j)

theorem frame_ideal : Cert.quiescent_GatherIdeal := fun m ρ hpre =>
  (θ_run Cert.GatherIdeal.defs _ _).mono (fun _ h => ⟨fun c => ⟨(h.1 c).1, (h.1 c).2.1⟩, h.2⟩)
    (Gather.run_main (F := Ideal) m ρ (inRows_ideal m hpre))

theorem frame_rows : Cert.quiescent_RowsIdeal := fun m ρ _ =>
  (θ_run Cert.RowsIdeal.defs _ _).mono (fun r h => ⟨fun c => (h c).2, sem_eq_zero_of_no_sems (by decide) r.2⟩)
    (Cert.RowsIdeal.Value.run (F := Ideal) m ρ)

/-- The reference's composed term is the gathered rows. -/
theorem rows_eq (g : IVec Cert.GatherIdeal.S196608 32) (t : FVec Ideal Cert.GatherIdeal.S4096x16 .f32) (h : ∀ j, (g j).toNat < 4096) :
    Host.gather Cert.RowsIdeal.gather_S4096x16_S196608x1_S196608x16_1_0_n_n_0_1_116 t
      (broadcastInDim Cert.RowsIdeal.S196608x1 ![0] Cert.RowsIdeal.Gen.bcast_S196608_S196608x1_0
        (select (cmpi .slt g (broadcastInDim Cert.RowsIdeal.S196608 ![] Cert.RowsIdeal.Gen.bcast_S_S196608 (constantI Cert.RowsIdeal.S_ 32 0#32)))
          (addi g (broadcastInDim Cert.RowsIdeal.S196608 ![] Cert.RowsIdeal.Gen.bcast_S_S196608 (constantI Cert.RowsIdeal.S_ 32 4096#32))) g))
      = Gather.gath g t := by
  funext y
  have hw (j : Cert.GatherIdeal.S196608.Idx) (hj : j = fun | 0 => y 0) (e : BitVec 32) :
      min (Scalar.select (IntOp.cmpi .slt (g j) 0#32) e (g j)).toInt.toNat (4096 - 1) = (Gather.rowOf (g fun | 0 => y 0)).val := by
    subst hj
    exact (RowTake.clamp_wrap (by norm_num) (h _) e).trans (Nat.mod_eq_of_lt (h _)).symm
  refine (RowTake.gather_rows (N := 4096) (C := 16) (B := 196608) _ t _ y (Gather.rowOf (g fun | 0 => y 0)) ?_).trans ?_
  · refine hw _ ?_ _
    funext a
    match a with
    | ⟨0, _⟩ => rfl
  · refine congrArg t (funext fun a => ?_)
    match a with
    | ⟨0, _⟩ => rfl
    | ⟨1, _⟩ => rfl

theorem value : Cert.algebraic_GatherIdeal_RowsIdeal := by
  intro m ρ m' ρ' hpre hargs
  refine ⟨fun c => Gather.gath (Gather.gi₀ m c) (Gather.tb₀ m c), ?_, ?_⟩
  · exact (θ_run Cert.GatherIdeal.defs _ _).mono (fun _ h c => ⟨(h.1 c).2.2, (h.1 c).1, (h.1 c).2.1⟩)
      (Gather.run_main (F := Ideal) m ρ (inRows_ideal m hpre))
  · refine (θ_run Cert.RowsIdeal.defs _ _).mono (fun _ h c => ⟨(h c).1.trans ?_, (h c).2.1, (h c).2.2⟩)
      (Cert.RowsIdeal.Value.run (F := Ideal) m' ρ')
    rw [(hargs c).1, (hargs c).2]
    exact rows_eq _ _ fun j => inRows_ideal m hpre c j

end Cert.Proof.Rows

end
-- ==== Proof.Sc.Setup.lean ====
/-
  The row gather on the SparseCores, set up. Thirty-two tasks (two SparseCores of sixteen tiles); task `(c, s)` owns the
  6144 consecutive rows of the output from row `6144 · (2 s + c)`, and writes them in 48 chunks of 128 rows. Here: the
  program as the launch reads it, the arrays' places, the chunks, what each task is handed and what it gives back.
  Everything is stated over the contents `gi` of the list of row numbers and `tb` of the table, so that the same text
  serves whatever wrote them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 2) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are four, none of them scoped, and no buffer is one SparseCore's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The launch's handshakes, the pipelines' rounds, the transfers' counters, side by side. -/
abbrev UU : Type := UH × (UR sig nD τ × Counters)

local notation "𝕄" => MT nD τ sig (HIx 1) (Elt F) ℕ UU ℕ

abbrev EH : Emb UH (MT nD τ sig (HIx 1) (Elt F) ℕ UU ℕ) := embL
/-- The pipelines' rounds, embedded. -/
def EP : Emb (UR sig nD τ) (MT nD τ sig (HIx 1) (Elt F) ℕ UU ℕ) := (Emb.inl : Emb (UR sig nD τ) (UR sig nD τ × Counters)).trans embR

instance EP_landsIn : (EP : Emb (UR sig nD τ) (MT nD τ sig (HIx 1) (Elt F) ℕ UU ℕ)).LandsIn (upEmb : UEmb _ (MT nD τ sig (HIx 1) (Elt F) ℕ UU ℕ)) := by
  unfold EP; infer_instance

abbrev adm (p : Fin 2) : (pcfgs (F := F) p).Adm := (cfgs p).toPCfg_adm

/-! ## The arrays -/

abbrev iLoc (d : Dev nD) : Loc nD τ sig := (SparseCore.T d).loc main_v9
abbrev xLoc (d : Dev nD) : Loc nD τ sig := (SparseCore.T d).loc main_v8
abbrev oLoc (d : Dev nD) : Loc nD τ sig := (SparseCore.T d).loc main_v10

abbrev iV : Memref sig .scVector .hbm S196608 .i32 := Memref.whole main_v9_scv
abbrev xV : Memref sig .scVector .hbm S4096x16 .f32 := Memref.whole main_v8_scv
abbrev oV : Memref sig .scVector .hbm S196608x16 .f32 := Memref.whole main_v10_scv
abbrev sV : Memref sig .scVector .vmem S128 .i32 := Memref.whole cc1_scratch0
abbrev rV : Memref sig .scVector .vmem S128x16 .f32 := Memref.whole cc1_scratch1

/-- The table's row that a word of the list names. -/
def rowOf (w : BitVec 32) : Fin 4096 := ⟨w.toNat % 4096, Nat.mod_lt _ (by norm_num)⟩

/-- The gathered rows: row `n` of the result is the table's row named by entry `n` of the list. -/
def gath (gi : IVec S196608 32) (tb : FVec F S4096x16 .f32) : FVec F S196608x16 .f32 :=
  fun n => tb (fun | 0 => rowOf (gi (fun | 0 => n 0)) | 1 => n 1)

/-! ## The chunks -/

/-- A chunk's number within its task. -/
abbrev Trip : Type := Fin k1_t1_loop.trips

theorem trips_eq : k1_t1_loop.trips = 48 := by decide

/-- The rows of chunk `k` of task `(c, s)`. -/
def chunk (c : Fin 2) (s : Fin 16) (k : Trip) : Finset S196608x16.Idx :=
  Finset.univ.filter fun n => 12288 * s.val + 6144 * c.val + 128 * k.val ≤ (n 0).val ∧ (n 0).val < 12288 * s.val + 6144 * c.val + 128 * k.val + 128

theorem mem_chunk {c : Fin 2} {s : Fin 16} {k : Trip} {n : S196608x16.Idx} :
    n ∈ chunk c s k ↔ 12288 * s.val + 6144 * c.val + 128 * k.val ≤ (n 0).val ∧ (n 0).val < 12288 * s.val + 6144 * c.val + 128 * k.val + 128 := by
  unfold chunk; simp

abbrev Task : Type := Fin 2 × Fin 16
/-- Task and trip together. -/
abbrev Piece : Type := Task × Trip
abbrev pieceSet (p : Piece) : Finset S196608x16.Idx := chunk p.1.1 p.1.2 p.2

theorem pieces_disjoint : ∀ p ∈ (Finset.univ : Finset Piece), ∀ p' ∈ (Finset.univ : Finset Piece), p ≠ p' → Disjoint (pieceSet p) (pieceSet p') := by
  rintro ⟨⟨c, s⟩, k⟩ - ⟨⟨c', s'⟩, k'⟩ - h
  rw [Finset.disjoint_left]
  intro n hn hn'
  rw [mem_chunk] at hn hn'
  have hk := k.isLt; have hk' := k'.isLt
  simp only [trips_eq] at hk hk'
  have hc := c.isLt; have hc' := c'.isLt
  refine h ?_
  simp only at hn hn'
  rw [Prod.mk.injEq, Prod.mk.injEq, Fin.ext_iff, Fin.ext_iff, Fin.ext_iff]
  omega

theorem pieces_cover : (Finset.univ : Finset Piece).biUnion pieceSet = Finset.univ := by
  ext n
  simp only [Finset.mem_biUnion, Finset.mem_univ, true_and, iff_true]
  have hn : (n 0).val < 196608 := (n 0).isLt
  refine ⟨⟨⟨⟨(n 0).val / 6144 % 2, by omega⟩, ⟨(n 0).val / 12288, by omega⟩⟩, ⟨(n 0).val % 6144 / 128, by rw [trips_eq]; omega⟩⟩, ?_⟩
  rw [mem_chunk]
  simp only
  omega

/-! ## What the tasks are handed -/

variable (gi : Dev nD → IVec S196608 32) (tb : Dev nD → FVec F S4096x16 .f32)

/-- Task `(c, s)`'s share of what every task reads: one of the thirty-two parts the full share halves into. -/
def share (c : Fin 2) (s : Fin 16) : PosShare TreeShare :=
  ShareLeaves.leaf 4 (ShareLeaves.leaf 1 fullShare c) s

abbrev iSh (d : Dev nD) (c : Fin 2) (s : Fin 16) : sProp 𝕄 := iLoc d ↦{share c s} gi d
abbrev xSh (d : Dev nD) (c : Fin 2) (s : Fin 16) : sProp 𝕄 := xLoc d ↦{share c s} tb d
/-- A chunk at some contents, and at the gathered rows. -/
abbrev oAny (d : Dev nD) (c : Fin 2) (s : Fin 16) (k : Trip) : sProp 𝕄 := iprop(∃ f, oLoc d ↦[chunk c s k]{fullShare} f)
abbrev oDone (d : Dev nD) (c : Fin 2) (s : Fin 16) (k : Trip) : sProp 𝕄 := oLoc d ↦[chunk c s k]{fullShare} gath (gi d) (tb d)

/-- What a task takes, -/
abbrev takes (d : Dev nD) (c : Fin 2) (s : Fin 16) : sProp 𝕄 :=
  iprop(iSh gi d c s ∗ xSh tb d c s ∗ bigSep Finset.univ fun k => oAny d c s k)
/-- and what it gives back. -/
abbrev brings (d : Dev nD) (c : Fin 2) (s : Fin 16) : sProp 𝕄 :=
  iprop(iSh gi d c s ∗ xSh tb d c s ∗ bigSep Finset.univ fun k => oDone gi tb d c s k)

abbrev nC (c : Fin ((K (F := F)).nCore 0)) : Fin 2 := c
abbrev nS (s : Fin ((K (F := F)).nSub 0)) : Fin 16 := s

/-- The call hands each SparseCore its sixteen tasks' parts, already cut; each task its own. -/
def P : (K (F := F)).Pay (nD := nD) (Val := Elt F) (Name := ℕ) (U := UU) where
  st := fun q d c => match q with | 0 => bigSep Finset.univ fun s => takes gi tb d (nC c) s
  dn := fun q d c => match q with | 0 => bigSep Finset.univ fun s => brings gi tb d (nC c) s
  go := fun q d c s => match q with | 0 => takes gi tb d (nC c) (nS s)
  td := fun q d c s => match q with | 0 => brings gi tb d (nC c) (nS s)
  x := fun _ _ => iprop(emp)

instance P_storable : (P (F := F) gi tb).IsStorable where
  st q d c := match q with
    | 0 => (inferInstance : BI.Storable (upEmb : UEmb _ 𝕄) (bigSep Finset.univ fun s => takes gi tb d (nC c) s))
  dn q d c := match q with
    | 0 => (inferInstance : BI.Storable (upEmb : UEmb _ 𝕄) (bigSep Finset.univ fun s => brings gi tb d (nC c) s))
  go q d c s := match q with
    | 0 => (inferInstance : BI.Storable (upEmb : UEmb _ 𝕄) (takes gi tb d (nC c) (nS s)))
  td q d c s := match q with
    | 0 => (inferInstance : BI.Storable (upEmb : UEmb _ 𝕄) (brings gi tb d (nC c) (nS s)))

/-- Every word of the list names a row of the table. -/
def InRows : Prop := ∀ (d : Dev nD) (j : S196608.Idx), (gi d j).toNat < 4096

end Cert.Proof.Sc

end
-- ==== Proof.Sc.Host.lean ====
/-
  The whole program's host code as three straight lines of operations, and the program as those lines with its three
  calls between them.
-/
module

public import proofs.«01_k».proof.Proof.Sc.Setup
public import Idealize.ShloMosaic.Lib.Pipeline.Frame

@[expose] public section

noncomputable section

namespace Cert.Proof.Sc

open Cert.KernelIdeal Cert.KernelIdeal.Gen

open Idealize.ShloMosaic
open Idealize.ShloMosaic.TcCoe
open Idealize.SL Idealize.SL.Sem

variable {F : FTy → Type} [FloatOps F] [Named F]

/-- The operations before the first call: the constants, the coordinates as rows, and the coordinates as columns. -/
def ops0 : List (HloOp τ sig (Elt F)) :=
  [ StableHlo.nullary main_cst (fun i => FloatOps.ofBits .f32 (lit0 (S16x96.rowMajor i))),
    StableHlo.nullary main_cst_0 (fun i => FloatOps.ofBits .f32 (lit1 (S16x96.rowMajor i))),
    StableHlo.nullary main_cst_1 (fun i => FloatOps.ofBits .f32 (lit2 (S8x512.rowMajor i))),
    StableHlo.reshape main_arg3 main_v0 (rfl : (.f32 : EltTy) = .f32) shapeCasts_S4x1024x5x3_S4x1024x15,
    StableHlo.nullary main_cst_2 (constant S_ .f32 0x00000000#32),
    StableHlo.unary main_cst_2 main_v1 (broadcastInDim S4x8x1024 ![] bcast_S_S4x8x1024 : (⟨S_, .f32⟩ : BufTy).Contents (Elt F) → (⟨S4x8x1024, .f32⟩ : BufTy).Contents (Elt F)),
    StableHlo.unary main_arg3 main_v2 ((extractStridedSlice S4x1024x1x3 ![0, 0, 1, 0] · slices_S4x1024x5x3_S4x1024x1x3_0_0_1_0) : (⟨S4x1024x5x3, .f32⟩ : BufTy).Contents (Elt F) → (⟨S4x1024x1x3, .f32⟩ : BufTy).Contents (Elt F)),
    StableHlo.reshape main_v2 main_v3 (rfl : (.f32 : EltTy) = .f32) shapeCasts_S4x1024x1x3_S4x1024x3,
    StableHlo.unary main_v3 main_v4 ((transpose S4x3x1024 [0, 2, 1] · transposes_S4x1024x3_S4x3x1024_0_2_1) : (⟨S4x1024x3, .f32⟩ : BufTy).Contents (Elt F) → (⟨S4x3x1024, .f32⟩ : BufTy).Contents (Elt F)),
    StableHlo.nullary main_c (constantI S_ 32 0#32),
    StableHlo.unary main_c main_v5 (broadcastInDim S1 ![] bcast_S_S1 : (⟨S_, .i32⟩ : BufTy).Contents (Elt F) → (⟨S1, .i32⟩ : BufTy).Contents (Elt F)),
    StableHlo.ternary main_v1 main_v5 main_v4 main_v6 ((fun x i u => Host.scatter scatter_S4x8x1024_S1_S4x3x1024_012_n_1_0 (fun _ b => b) x i u) : (⟨S4x8x1024, .f32⟩ : BufTy).Contents (Elt F) → (⟨S1, .i32⟩ : BufTy).Contents (Elt F) → (⟨S4x3x1024, .f32⟩ : BufTy).Contents (Elt F) → (⟨S4x8x1024, .f32⟩ : BufTy).Contents (Elt F)) ]

/-- What they write. -/
abbrev writes0 : List (Ref sig .tc) :=
  [ main_cst, main_cst_0, main_cst_1, main_v0, main_cst_2, main_v1, main_v2, main_v3, main_v4, main_c, main_v5, main_v6 ]

theorem ops0_writes : (ops0 (F := F)).map HloOp.writes = writes0.map fun r => {Proc.devRef (τ := τ) .tc r} := rfl

theorem ops0_fresh : (ops0 (F := F)).map HloOp.fresh = (ops0 (F := F)).map fun _ => (∅ : Finset (DevRef τ sig)) := rfl

theorem ops0_bufs : (ops0 (F := F)).Forall fun op => op.bufs ⊆ StableHlo.tcRefs τ sig :=
  ⟨StableHlo.nullary_bufs_sub .., StableHlo.nullary_bufs_sub .., StableHlo.nullary_bufs_sub .., StableHlo.reshape_bufs_sub .., StableHlo.nullary_bufs_sub .., StableHlo.unary_bufs_sub .., StableHlo.unary_bufs_sub .., StableHlo.reshape_bufs_sub .., StableHlo.unary_bufs_sub .., StableHlo.nullary_bufs_sub .., StableHlo.unary_bufs_sub .., StableHlo.ternary_bufs_sub ..⟩

/-- The operations between the first call and the SparseCores' call: the two flattenings. -/
def ops1 : List (HloOp τ sig (Elt F)) :=
  [ StableHlo.reshape main_v7_2 main_v8 (rfl : (.f32 : EltTy) = .f32) shapeCasts_S4x1024x16_S4096x16,
    StableHlo.reshape main_v7_1 main_v9 (rfl : (.i32 : EltTy) = .i32) shapeCasts_S4x1024x48_S196608 ]

/-- What they write. -/
abbrev writes1 : List (Ref sig .tc) :=
  [ main_v8, main_v9 ]

theorem ops1_writes : (ops1 (F := F)).map HloOp.writes = writes1.map fun r => {Proc.devRef (τ := τ) .tc r} := rfl

theorem ops1_fresh : (ops1 (F := F)).map HloOp.fresh = (ops1 (F := F)).map fun _ => (∅ : Finset (DevRef τ sig)) := rfl

theorem ops1_bufs : (ops1 (F := F)).Forall fun op => op.bufs ⊆ StableHlo.tcRefs τ sig :=
  ⟨StableHlo.reshape_bufs_sub .., StableHlo.reshape_bufs_sub ..⟩

/-- The operations between the SparseCores' call and the last: the weights' tables. -/
def ops2 : List (HloOp τ sig (Elt F)) :=
  [ StableHlo.nullary main_cst_3 (constant S_ .f32 0x00000000#32),
    StableHlo.unary main_cst_3 main_v11 (broadcastInDim S128x16 ![] bcast_S_S128x16 : (⟨S_, .f32⟩ : BufTy).Contents (Elt F) → (⟨S128x16, .f32⟩ : BufTy).Contents (Elt F)),
    StableHlo.nullary main_c_4 (constantI S_ 32 0#32),
    StableHlo.unary main_c_4 main_v12 (broadcastInDim S1 ![] bcast_S_S1 : (⟨S_, .i32⟩ : BufTy).Contents (Elt F) → (⟨S1, .i32⟩ : BufTy).Contents (Elt F)),
    StableHlo.ternary main_v11 main_v12 main_arg12 main_v13 ((fun x i u => Host.scatter scatter_S128x16_S1_S66x16_01_n_0_0 (fun _ b => b) x i u) : (⟨S128x16, .f32⟩ : BufTy).Contents (Elt F) → (⟨S1, .i32⟩ : BufTy).Contents (Elt F) → (⟨S66x16, .f32⟩ : BufTy).Contents (Elt F) → (⟨S128x16, .f32⟩ : BufTy).Contents (Elt F)),
    StableHlo.nullary main_c_5 (constantI S_ 32 127#32),
    StableHlo.unary main_c_5 main_v14 (broadcastInDim S1 ![] bcast_S_S1 : (⟨S_, .i32⟩ : BufTy).Contents (Elt F) → (⟨S1, .i32⟩ : BufTy).Contents (Elt F)),
    StableHlo.ternary main_v13 main_v14 main_arg13 main_v15 ((fun x i u => Host.scatter scatter_S128x16_S1_S16_0_0_0_0 (fun _ b => b) x i u) : (⟨S128x16, .f32⟩ : BufTy).Contents (Elt F) → (⟨S1, .i32⟩ : BufTy).Contents (Elt F) → (⟨S16, .f32⟩ : BufTy).Contents (Elt F) → (⟨S128x16, .f32⟩ : BufTy).Contents (Elt F)),
    StableHlo.unary main_arg14 main_v16 ((extractStridedSlice S16x128 ![0, 0] · slices_S416x128_S16x128_0_0) : (⟨S416x128, .f32⟩ : BufTy).Contents (Elt F) → (⟨S16x128, .f32⟩ : BufTy).Contents (Elt F)),
    StableHlo.binary main_v15 main_v16 main_v17 ((fun l r => Host.dotGeneral dot_S128x16_S16x128_S128x128_1_0_0_1_n_n none l r) : (⟨S128x16, .f32⟩ : BufTy).Contents (Elt F) → (⟨S16x128, .f32⟩ : BufTy).Contents (Elt F) → (⟨S128x128, .f32⟩ : BufTy).Contents (Elt F)),
    StableHlo.nullary main_v18 (iotaInDim S16 32 0),
    StableHlo.nullary main_v19 (iotaInDim S32 32 0),
    StableHlo.unary main_v18 main_v20 (broadcastInDim S16x32 ![0] bcast_S16_S16x32_0 : (⟨S16, .i32⟩ : BufTy).Contents (Elt F) → (⟨S16x32, .i32⟩ : BufTy).Contents (Elt F)),
    StableHlo.unary main_v19 main_v21 (broadcastInDim S16x32 ![1] bcast_S32_S16x32_1 : (⟨S32, .i32⟩ : BufTy).Contents (Elt F) → (⟨S16x32, .i32⟩ : BufTy).Contents (Elt F)),
    StableHlo.nullary main_c_6 (constantI S_ 32 16#32),
    StableHlo.unary main_c_6 main_v22 (broadcastInDim S16x32 ![] bcast_S_S16x32 : (⟨S_, .i32⟩ : BufTy).Contents (Elt F) → (⟨S16x32, .i32⟩ : BufTy).Contents (Elt F)),
    StableHlo.binary main_v21 main_v22 main_v23 (muli : (⟨S16x32, .i32⟩ : BufTy).Contents (Elt F) → (⟨S16x32, .i32⟩ : BufTy).Contents (Elt F) → (⟨S16x32, .i32⟩ : BufTy).Contents (Elt F)),
    StableHlo.nullary main_c_7 (constantI S_ 32 16#32),
    StableHlo.unary main_c_7 main_v24 (broadcastInDim S16x32 ![] bcast_S_S16x32 : (⟨S_, .i32⟩ : BufTy).Contents (Elt F) → (⟨S16x32, .i32⟩ : BufTy).Contents (Elt F)),
    StableHlo.binary main_v24 main_v23 main_v25 (addi : (⟨S16x32, .i32⟩ : BufTy).Contents (Elt F) → (⟨S16x32, .i32⟩ : BufTy).Contents (Elt F) → (⟨S16x32, .i32⟩ : BufTy).Contents (Elt F)),
    StableHlo.binary main_v25 main_v20 main_v26 (addi : (⟨S16x32, .i32⟩ : BufTy).Contents (Elt F) → (⟨S16x32, .i32⟩ : BufTy).Contents (Elt F) → (⟨S16x32, .i32⟩ : BufTy).Contents (Elt F)),
    StableHlo.nullary main_c_8 (constantI S_ 32 25#32),
    StableHlo.unary main_c_8 main_v27 (broadcastInDim S16x32 ![] bcast_S_S16x32 : (⟨S_, .i32⟩ : BufTy).Contents (Elt F) → (⟨S16x32, .i32⟩ : BufTy).Contents (Elt F)),
    StableHlo.binary main_v21 main_v27 main_v28 (cmpi .slt : (⟨S16x32, .i32⟩ : BufTy).Contents (Elt F) → (⟨S16x32, .i32⟩ : BufTy).Contents (Elt F) → (⟨S16x32, .i1⟩ : BufTy).Contents (Elt F)),
    StableHlo.unary main_v28 main_v29 (broadcastInDim S16x32x1 ![0, 1] bcast_S16x32_S16x32x1_0_1 : (⟨S16x32, .i1⟩ : BufTy).Contents (Elt F) → (⟨S16x32x1, .i1⟩ : BufTy).Contents (Elt F)),
    StableHlo.nullary main_c_9 (constantI S_ 32 0#32),
    StableHlo.nullary main_c_10 (constantI S_ 32 415#32),
    StableHlo.TRef.unary (.of main_c_9 : StableHlo.TRef sig ⟨S_, .i32⟩) main_call0.v0 id,
    StableHlo.TRef.unary main_call0.v0 main_call0.v1 (broadcastInDim S16x32 ![] bcast_S_S16x32),
    StableHlo.TRef.binary main_call0.v1 (.of main_v26 : StableHlo.TRef sig ⟨S16x32, .i32⟩) main_call0.v2 maxsi,
    StableHlo.TRef.unary (.of main_c_10 : StableHlo.TRef sig ⟨S_, .i32⟩) main_call0.v3 id,
    StableHlo.TRef.unary main_call0.v3 main_call0.v4 (broadcastInDim S16x32 ![] bcast_S_S16x32),
    StableHlo.TRef.binary main_call0.v4 main_call0.v2 main_call0.v5 minsi,
    StableHlo.nullary main_c_11 (constantI S_ 32 0#32),
    StableHlo.unary main_c_11 main_v31 (broadcastInDim S16x32 ![] bcast_S_S16x32 : (⟨S_, .i32⟩ : BufTy).Contents (Elt F) → (⟨S16x32, .i32⟩ : BufTy).Contents (Elt F)),
    StableHlo.binary main_v30 main_v31 main_v32 (cmpi .slt : (⟨S16x32, .i32⟩ : BufTy).Contents (Elt F) → (⟨S16x32, .i32⟩ : BufTy).Contents (Elt F) → (⟨S16x32, .i1⟩ : BufTy).Contents (Elt F)),
    StableHlo.nullary main_c_12 (constantI S_ 32 416#32),
    StableHlo.unary main_c_12 main_v33 (broadcastInDim S16x32 ![] bcast_S_S16x32 : (⟨S_, .i32⟩ : BufTy).Contents (Elt F) → (⟨S16x32, .i32⟩ : BufTy).Contents (Elt F)),
    StableHlo.binary main_v30 main_v33 main_v34 (addi : (⟨S16x32, .i32⟩ : BufTy).Contents (Elt F) → (⟨S16x32, .i32⟩ : BufTy).Contents (Elt F) → (⟨S16x32, .i32⟩ : BufTy).Contents (Elt F)),
    StableHlo.ternary main_v32 main_v34 main_v30 main_v35 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    StableHlo.unary main_v35 main_v36 (broadcastInDim S16x32x1 ![0, 1] bcast_S16x32_S16x32x1_0_1 : (⟨S16x32, .i32⟩ : BufTy).Contents (Elt F) → (⟨S16x32x1, .i32⟩ : BufTy).Contents (Elt F)),
    StableHlo.binary main_arg14 main_v36 main_v37 ((fun x i => Host.gather gather_S416x128_S16x32x1_S16x32x128_2_0_n_n_0_2_1128 x i) : (⟨S416x128, .f32⟩ : BufTy).Contents (Elt F) → (⟨S16x32x1, .i32⟩ : BufTy).Contents (Elt F) → (⟨S16x32x128, .f32⟩ : BufTy).Contents (Elt F)),
    StableHlo.nullary main_cst_13 (constant S_ .f32 0x00000000#32),
    StableHlo.TRef.unary (.of main_cst_13 : StableHlo.TRef sig ⟨S_, .f32⟩) main_call1.v0 id,
    StableHlo.TRef.unary (.of main_v29 : StableHlo.TRef sig ⟨S16x32x1, .i1⟩) main_call1.v1 (broadcastInDim S16x32x128 ![0, 1, 2] bcast_S16x32x1_S16x32x128_0_1_2),
    StableHlo.TRef.unary main_call1.v0 main_call1.v2 (broadcastInDim S16x32x128 ![] bcast_S_S16x32x128),
    StableHlo.TRef.ternary main_call1.v1 (.of main_v37 : StableHlo.TRef sig ⟨S16x32x128, .f32⟩) main_call1.v2 main_call1.v3 select,
    StableHlo.reshape main_v38 main_v39 (rfl : (.f32 : EltTy) = .f32) shapeCasts_S16x32x128_S512x128,
    StableHlo.binary main_v39 main_v17 main_v40 ((fun a b => concatenate S640x128 0 [⟨S512x128, a⟩, ⟨S128x128, b⟩] concatenates_S512x128_S128x128_S640x128_d0) : (⟨S512x128, .f32⟩ : BufTy).Contents (Elt F) → (⟨S128x128, .f32⟩ : BufTy).Contents (Elt F) → (⟨S640x128, .f32⟩ : BufTy).Contents (Elt F)),
    StableHlo.unary main_v40 main_v41 ((truncf .bf16 · bitsLt_bf16_f32) : (⟨S640x128, .f32⟩ : BufTy).Contents (Elt F) → (⟨S640x128, .bf16⟩ : BufTy).Contents (Elt F)),
    StableHlo.unary main_v41 main_v42 ((extf .f32 · bitsLt_bf16_f32) : (⟨S640x128, .bf16⟩ : BufTy).Contents (Elt F) → (⟨S640x128, .f32⟩ : BufTy).Contents (Elt F)),
    StableHlo.binary main_v40 main_v42 main_v43 (subf : (⟨S640x128, .f32⟩ : BufTy).Contents (Elt F) → (⟨S640x128, .f32⟩ : BufTy).Contents (Elt F) → (⟨S640x128, .f32⟩ : BufTy).Contents (Elt F)),
    StableHlo.unary main_v43 main_v44 ((truncf .bf16 · bitsLt_bf16_f32) : (⟨S640x128, .f32⟩ : BufTy).Contents (Elt F) → (⟨S640x128, .bf16⟩ : BufTy).Contents (Elt F)),
    StableHlo.nullary main_cst_14 (constant S_ .f32 0x00000000#32),
    StableHlo.unary main_cst_14 main_v45 (broadcastInDim S8x128 ![] bcast_S_S8x128 : (⟨S_, .f32⟩ : BufTy).Contents (Elt F) → (⟨S8x128, .f32⟩ : BufTy).Contents (Elt F)),
    StableHlo.nullary main_c_15 (constantI S_ 32 0#32),
    StableHlo.unary main_c_15 main_v46 (broadcastInDim S1 ![] bcast_S_S1 : (⟨S_, .i32⟩ : BufTy).Contents (Elt F) → (⟨S1, .i32⟩ : BufTy).Contents (Elt F)),
    StableHlo.ternary main_v45 main_v46 main_arg15 main_v47 ((fun x i u => Host.scatter scatter_S8x128_S1_S128_0_0_0_0 (fun _ b => b) x i u) : (⟨S8x128, .f32⟩ : BufTy).Contents (Elt F) → (⟨S1, .i32⟩ : BufTy).Contents (Elt F) → (⟨S128, .f32⟩ : BufTy).Contents (Elt F) → (⟨S8x128, .f32⟩ : BufTy).Contents (Elt F)),
    StableHlo.nullary main_cst_16 (constant S_ .f32 0x00000000#32),
    StableHlo.unary main_cst_16 main_v48 (broadcastInDim S8x128 ![] bcast_S_S8x128 : (⟨S_, .f32⟩ : BufTy).Contents (Elt F) → (⟨S8x128, .f32⟩ : BufTy).Contents (Elt F)),
    StableHlo.nullary main_c_17 (constantI S_ 32 0#32),
    StableHlo.unary main_c_17 main_v49 (broadcastInDim S1 ![] bcast_S_S1 : (⟨S_, .i32⟩ : BufTy).Contents (Elt F) → (⟨S1, .i32⟩ : BufTy).Contents (Elt F)),
    StableHlo.ternary main_v48 main_v49 main_arg16 main_v50 ((fun x i u => Host.scatter scatter_S8x128_S1_S128_0_0_0_0 (fun _ b => b) x i u) : (⟨S8x128, .f32⟩ : BufTy).Contents (Elt F) → (⟨S1, .i32⟩ : BufTy).Contents (Elt F) → (⟨S128, .f32⟩ : BufTy).Contents (Elt F) → (⟨S8x128, .f32⟩ : BufTy).Contents (Elt F)),
    StableHlo.unary main_cst main_v51 ((truncf .bf16 · bitsLt_bf16_f32) : (⟨S16x96, .f32⟩ : BufTy).Contents (Elt F) → (⟨S16x96, .bf16⟩ : BufTy).Contents (Elt F)),
    StableHlo.unary main_cst_0 main_v52 ((truncf .bf16 · bitsLt_bf16_f32) : (⟨S16x96, .f32⟩ : BufTy).Contents (Elt F) → (⟨S16x96, .bf16⟩ : BufTy).Contents (Elt F)) ]

/-- What they write. -/
abbrev writes2 : List (Ref sig .tc) :=
  [ main_cst_3, main_v11, main_c_4, main_v12, main_v13, main_c_5, main_v14, main_v15, main_v16, main_v17, main_v18, main_v19, main_v20, main_v21, main_c_6, main_v22, main_v23, main_c_7, main_v24, main_v25, main_v26, main_c_8, main_v27, main_v28, main_v29, main_c_9, main_c_10, main_call0.v0.ref, main_call0.v1.ref, main_call0.v2.ref, main_call0.v3.ref, main_call0.v4.ref, main_call0.v5.ref, main_c_11, main_v31, main_v32, main_c_12, main_v33, main_v34, main_v35, main_v36, main_v37, main_cst_13, main_call1.v0.ref, main_call1.v1.ref, main_call1.v2.ref, main_call1.v3.ref, main_v39, main_v40, main_v41, main_v42, main_v43, main_v44, main_cst_14, main_v45, main_c_15, main_v46, main_v47, main_cst_16, main_v48, main_c_17, main_v49, main_v50, main_v51, main_v52 ]

theorem ops2_writes : (ops2 (F := F)).map HloOp.writes = writes2.map fun r => {Proc.devRef (τ := τ) .tc r} := rfl

theorem ops2_fresh : (ops2 (F := F)).map HloOp.fresh = (ops2 (F := F)).map fun _ => (∅ : Finset (DevRef τ sig)) := rfl

theorem ops2_bufs : (ops2 (F := F)).Forall fun op => op.bufs ⊆ StableHlo.tcRefs τ sig :=
  ⟨StableHlo.nullary_bufs_sub .., StableHlo.unary_bufs_sub .., StableHlo.nullary_bufs_sub .., StableHlo.unary_bufs_sub .., StableHlo.ternary_bufs_sub .., StableHlo.nullary_bufs_sub .., StableHlo.unary_bufs_sub .., StableHlo.ternary_bufs_sub .., StableHlo.unary_bufs_sub .., StableHlo.binary_bufs_sub .., StableHlo.nullary_bufs_sub .., StableHlo.nullary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.reshape_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.ternary_bufs_sub .., StableHlo.nullary_bufs_sub .., StableHlo.unary_bufs_sub .., StableHlo.nullary_bufs_sub .., StableHlo.unary_bufs_sub .., StableHlo.ternary_bufs_sub .., StableHlo.unary_bufs_sub .., StableHlo.unary_bufs_sub ..⟩

/-- A call of a TensorCore kernel from @main. -/
abbrev callTc (p : Fin 2) : Prog (TpuEff nD τ sig (Elt F) (SparseCore.Sig (ΛP (F := F)) 1) .tc) PUnit :=
  Prog.lift (.customCall (SparseCore.inner (Pipeline.entry p)) ())

/-- The program: its host lines and its calls, in order. -/
def mainProg (d : Dev nD) : Prog (TpuEff nD τ sig (Elt F) (SparseCore.Sig (ΛP (F := F)) 1) .tc) PUnit :=
  StableHlo.seq ops0 >>= fun _ => callTc 0 >>= fun _ => StableHlo.seq ops1 >>= fun _ => (K (F := F)).run d 0 >>= fun _ =>
    StableHlo.seq ops2 >>= fun _ => callTc 1 >>= fun _ => pure ⟨⟩

set_option maxRecDepth 65536 in
set_option maxHeartbeats 4000000 in
theorem main_eq (d : Dev nD) : main (F := F) d = mainProg d := by
  unfold main main_part0 main_part1 mainProg ops0 ops1 ops2 fn_clip.body fn_where.body
  simp only [StableHlo.seq, pure_bind, bind_assoc]

end Cert.Proof.Sc

end
-- ==== Proof.Sc.Tile.lean ====
/-
  One task of the row gather: 48 trips, each fetching 128 row numbers, gathering the table's rows they name, and writing
  them out. The loop's invariant says which chunks already hold the gathered rows.
-/
module

public import proofs.«01_k».proof.Proof.Sc.Setup

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]
variable (gi : Dev nD → IVec S196608 32) (tb : Dev nD → FVec F S4096x16 .f32)
variable (d : Dev nD) (L : grid1.Coords)

abbrev cV (L : grid1.Coords) : Fin τ.nSC := (L 0).castLE hcore1
abbrev jV (L : grid1.Coords) : Fin τ.nSub := (L 1).castLE hsub1
/-- The task's thread. -/
abbrev thr (d : Dev nD) (L : grid1.Coords) : Thread nD τ := V d (cV L) (jV L)
abbrev c2 (L : grid1.Coords) : Fin 2 := L 0
abbrev s16 (L : grid1.Coords) : Fin 16 := L 1

/-- Trip `k`'s window of the list, -/
abbrev iWin (L : grid1.Coords) (k : Trip) : Memref sig .scVector .hbm S128 .i32 :=
  (iV).slice (Rect.unit (s := S196608) (k1_off1 L k) S128.size (k1_off1_inb L k)) (fun _ => rfl)
/-- and of the output. -/
abbrev oWin (L : grid1.Coords) (k : Trip) : Memref sig .scVector .hbm S128x16 .f32 :=
  (oV).slice (Rect.unit (s := S196608x16) (k1_off2 L k) S128x16.size (k1_off2_inb L k)) (fun _ => rfl)

omit [FloatOps F] [Named F] in
theorem set_oWin (k : Trip) : (oWin L k).view.set = chunk (c2 L) (s16 L) k := by
  show ((View.whole (main_v10_scv : Ref sig .scVector)).slice _).set = _
  rw [View.set_slice]
  refine Finset.map_refl.trans (Finset.ext fun n => ?_)
  rw [Rect.mem_set_unit, mem_chunk, k1_off2_eq]
  constructor
  · exact fun h => h 0
  · intro h a
    match a with
    | 0 => exact h
    | 1 => exact ⟨Nat.zero_le _, show (n 1).val < 0 + 16 by have : (n 1).val < 16 := (n 1).isLt; omega⟩

abbrev cell0 (d : Dev nD) (L : grid1.Coords) : GSem nD τ sig := (thr d L, .dma cc1_scratch2.sem)
abbrev cell1 (d : Dev nD) (L : grid1.Coords) : GSem nD τ sig := (thr d L, .dma cc1_scoped0.sem)
abbrev cell2 (d : Dev nD) (L : grid1.Coords) : GSem nD τ sig := (thr d L, .dma cc1_scoped1.sem)

omit [FloatOps F] [Named F] in
/-- The task's three semaphores are among its own. -/
theorem ownSems0_thr :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc1_scratch2.sem : SemLoc sig).isScoped .scVector = true; decide⟩),
    SparseCore.bigSep_erase' (Finset.mem_erase.mpr ⟨by simp [cell0, cell1]; decide, (mem_ownCells (g := cell1 d L)).mpr ⟨rfl, by
      show (SemLoc.dma cc1_scoped0.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc1_scoped1.sem : SemLoc sig).isScoped .scVector = true; decide⟩⟩⟩)]

omit [FloatOps F] [Named F] in
/-- The two scratch buffers are among the task's own. -/
theorem ownBufs_thr :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- Chunk `j` before trip `k`: the gathered rows if an earlier trip has written it. -/
def oAt (k : Nat) (j : Trip) : sProp 𝕄 :=
  if j.val < k then oDone gi tb d (c2 L) (s16 L) j else oAny d (c2 L) (s16 L) j

/-- The loop's invariant. -/
def inv (O : CellTallies nD τ sig (HIx 1)) (W : Waits sig (HIx 1)) (k : Nat) (_ : PUnit) : sProp 𝕄 :=
  iprop(Transfers.MayWaits (thr d L) (none : HIx 1) O
    ∗ ((iV).view.loc (thr d L) ↦{share (c2 L) (s16 L)} gi d)
    ∗ ((xV).view.loc (thr d L) ↦{share (c2 L) (s16 L)} tb d)
    ∗ (∃ f, (sV).view.loc (thr d L) ↦{fullShare} f)
    ∗ (∃ f, (rV).view.loc (thr d L) ↦{fullShare} f)
    ∗ (bigSep Finset.univ fun j => oAt gi tb d L k j)
    ∗ semVal (cell0 d L) 0 ∗ semVal (cell1 d L) 0 ∗ semVal (cell2 d L) 0
    ∗ ∃ W', ⌜∀ p ∈ W', p ∈ W ∨ p.2 = none⌝ ∗ owes (thr d L) O W')

/-- A fetched window's words name rows of the table. -/
theorem inRows_win (h : InRows gi) (k : Trip) (x : S128.Idx) : ((iWin L k).view.read (Elt F) (gi d) x).toNat < 4096 := by
  rw [show (iWin L k).view.read (Elt F) (gi d) x = gi d ((iWin L k).view.emb x) from (View.read_apply _ _).trans (cast_eq _ _)]
  exact h d _

/-- The list's entry `y` of trip `k`'s window is entry `6144 · task + 128 · k + y` of the list. -/
theorem read_iWin (k : Trip) (y : S128.Idx) :
    (iWin L k).view.read (Elt F) (gi d) y = gi d (fun | 0 => ⟨12288 * (L 1).val + 6144 * (L 0).val + 128 * k.val + (y 0).val, by
      have h1 : (L 1).val < 16 := (L 1).isLt
      have h0 : (L 0).val < 2 := (L 0).isLt
      have hk : k.val < 48 := trips_eq ▸ k.isLt
      have hy : (y 0).val < 128 := (y 0).isLt
      show _ < 196608
      omega⟩) := by
  rw [show (iWin L k).view.read (Elt F) (gi d) y = gi d ((iWin L k).view.emb y) from (View.read_apply _ _).trans (cast_eq _ _)]
  congr 1
  funext a
  match a with
  | 0 =>
    refine Fin.ext ?_
    show k1_off1 L k 0 + 1 * (y 0).val = _
    rw [k1_off1_eq, Nat.one_mul]; rfl

/-- What the gather lands at entry `x` of the row buffer is the gathered rows' entry at `x`'s place in the output. -/
theorem gathered_apply (k : Trip) (x : S128x16.Idx) (l : S128.Idx → Elt F .i32) (hn : S128.numel = S128x16.size gathers_S4096x16_S128x16.axis')
    (hl : ∀ y, (l y).toNat < S4096x16.size gathers_S4096x16_S128x16.axis)
    (hli : ∀ y, l y = (iWin L k).view.read (Elt F) (gi d) y) :
    SparseCore.gatherPayload gathers_S4096x16_S128x16
        (((xV).slice (Rect.unit (s := S4096x16) ![0, 0] S4096x16.size inb_S4096x16_S4096x16_0_0) (fun _ => rfl)).view.read (Elt F) (tb d))
        (SparseCore.rows l hn hl) x
      = gath (gi d) (tb d) ((oWin L k).view.emb x) := by
  unfold SparseCore.gatherPayload gath
  refine ((View.read_apply _ _).trans (cast_eq _ _)).trans (congrArg (tb d) (funext fun a => Fin.ext ?_))
  match a with
  | 0 =>
    show 0 + 1 * (gathers_S4096x16_S128x16.idx (SparseCore.rows l hn hl) x gathers_S4096x16_S128x16.axis).val = _
    rw [Shape.Gathers.idx_axis]
    show 0 + 1 * (l (S128.rowMajor.symm ((x 0).cast hn.symm))).toNat = (rowOf _).val
    have hy : S128.rowMajor.symm ((x 0).cast hn.symm) = (fun | 0 => x 0 : S128.Idx) := by
      rw [Equiv.symm_apply_eq]
      refine Fin.ext ?_
      rw [Shape.rowMajor_val_one]; rfl
    have hlt : (l (S128.rowMajor.symm ((x 0).cast hn.symm))).toNat < 4096 := hl _
    have hrow : l (S128.rowMajor.symm ((x 0).cast hn.symm)) = gi d (fun | 0 => (oWin L k).view.emb x 0) := by
      rw [hli, hy, read_iWin]
      congr 1
      funext a
      match a with
      | 0 =>
        refine Fin.ext ?_
        show _ = k1_off2 L k 0 + 1 * (x 0).val
        rw [k1_off2_eq, Nat.one_mul]; rfl
    refine Eq.trans ?_ (congrArg (fun w => (rowOf w).val) hrow)
    show 0 + 1 * _ = _ % 4096
    rw [Nat.mod_eq_of_lt hlt]; omega
  | 1 =>
    show 0 + 1 * (gathers_S4096x16_S128x16.idx (SparseCore.rows l hn hl) x 1).val = k1_off2 L k 1 + 1 * (x 1).val
    rw [Shape.Gathers.idx_of_ne _ _ _ _ (by decide), k1_off2_eq]
    rfl

set_option maxHeartbeats 4000000 in
/-- One trip: the window fetched, the rows gathered, the rows written out. -/
theorem trip (hpre : InRows gi) (O : CellTallies nD τ sig (HIx 1)) (W : Waits sig (HIx 1)) (k : Trip) :
    inv gi tb d L O W k ⟨⟩
      ⊢ wp frame (wpE (defs₀ (F := F)) 𝒱₀ (thr d L) none) Set.univ
          (k1_t1_body L iV (Memref.isWhole_whole _) xV (Memref.isWhole_whole _) oV (Memref.isWhole_whole _)
            sV (Memref.isWhole_whole _) rV (Memref.isWhole_whole _) cc1_scratch2 cc1_scoped0 cc1_scoped1 k ())
          fun _ => inv gi tb d L O W (k + 1) ⟨⟩ := by
  unfold inv k1_t1_body
  iintro ⟨Hmw, Hi, Hx, ⟨%fs, Hs⟩, ⟨%fr, Hr⟩, Ho, Hc0, Hc1, Hc2, %W', %hW', HO⟩
  ihave Ho' := (bigSep_univ_update (Φ := fun j => oAt gi tb d L k j) (Ψ := fun j => oAt gi tb d L (k + 1) j) k (by
    intro j hj
    have : j.val ≠ k.val := fun e => hj (Fin.ext e)
    unfold oAt
    rcases Nat.lt_or_ge j.val k.val with h | h
    · rw [if_pos h, if_pos (by omega)]
    · rw [if_neg (by omega), if_neg (by omega)])) $$ Ho
  icases Ho' with ⟨Hk, Hback⟩
  ihave Hk' := (Entails.of_eq (show oAt gi tb d L k k = iprop(∃ f, (oWin L k).view.loc (thr d L) ↦[(oWin L k).view.set]{fullShare} f) by
    unfold oAt; rw [if_neg (Nat.lt_irrefl _), set_oWin])) $$ Hk
  icases Hk' with ⟨%fo, Hk⟩
  sl_exec
  have hin : ∀ x, ((sV).view.read (Elt F) (View.write (Elt F) (sV).view fs (trip.sl.dma0 gi d L k) Finset.univ) x).toNat
      < S4096x16.size gathers_S4096x16_S128x16.axis := by
    intro x
    rw [View.write_whole_univ]
    exact inRows_win gi d L hpre k x
  sl_exec
  have hval : ∀ n ∈ (oWin L k).view.set, (oWin L k).view.writes (Elt F) fo [⟨Rect.whole S128x16, trip.sl.dma0_1 gi tb d L k fs fr hin⟩] n
      = gath (gi d) (tb d) n := by
    intro n hn
    obtain ⟨x, -, rfl⟩ := Finset.mem_map.1 hn
    have hw : (oWin L k).view.writes (Elt F) fo [⟨Rect.whole S128x16, trip.sl.dma0_1 gi tb d L k fs fr hin⟩] ((oWin L k).view.emb x)
        = trip.sl.dma0_1 gi tb d L k fs fr hin x :=
      (((View.read_apply _ _).trans (cast_eq _ _)).symm).trans (congrFun (View.read_writes_whole (oWin L k).view fo _) x)
    rw [hw]
    refine (congrFun (View.read_writes_whole (rV).view fr (trip.sl.gather0 gi tb d L k fs hin)) x).trans ?_
    unfold trip.sl.gather0
    exact gathered_apply gi tb d L k x _ _ hin (fun y => by rw [View.write_whole_univ]; rfl)
  sl_step
  isplitl [Hmw]; · iexact Hmw
  isplitl [Hi]; · iexact Hi
  isplitl [Hx]; · iexact Hx
  isplitl [Hs]; · iexists _; iexact Hs
  isplitl [Hr]; · iexists _; iexact Hr
  isplitl [Hback Hk]
  · iapply Hback
    iapply (Entails.of_eq (show ((oWin L k).view.loc (thr d L) ↦[(oWin L k).view.set]{fullShare} _ : sProp 𝕄) = oAt gi tb d L (k + 1) k by
      unfold oAt; rw [if_pos (Nat.lt_succ_self _), pointsTo_congr hval, set_oWin]))
    iexact Hk
  isplitl [Hc0]; · iexact Hc0
  isplitl [Hc1]; · iexact Hc1
  isplitl [Hc2]; · iexact Hc2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 4000000 in
/-- The task: the 48 trips. -/
theorem tile_body (hF : (K (F := F)).Facts) (hpre : InRows gi) (O : CellTallies nD τ sig (HIx 1)) (W : Waits sig (HIx 1)) (hO : ∀ g, O g none = 0) :
    iprop(levAts (K (F := F)).L (K (F := F)).lev ∗ emp
        ∗ takes gi tb d (c2 L) (s16 L)
        ∗ scopedBufs (thr d L) ∗ scopedSems0 (thr d L) ∗ owes (thr d L) O W)
      ⊢ wp frame (wpE (defs₀ (F := F)) 𝒱₀ (thr d L) none) Set.univ
          (cc1_gk L iV (Memref.isWhole_whole _) xV (Memref.isWhole_whole _) oV (Memref.isWhole_whole _)
            sV (Memref.isWhole_whole _) rV (Memref.isWhole_whole _) cc1_scratch2 cc1_scoped0 cc1_scoped1)
          fun _ => iprop(brings gi tb d (c2 L) (s16 L)
            ∗ scopedBufs (thr d L) ∗ scopedSems0 (thr d L)
            ∗ ∃ W', ⌜∀ p ∈ W', p ∈ W ∨ p.2 = none⌝ ∗ owes (thr d L) O W') := by
  simp only [cc1_gk_eq_skeleton]; unfold cc1_gk_skel
  rw [(K (F := F)).scopedBufs_V hF d (cV L) (jV L), SparseCore.Cfg.scopedSems0_V (Val := Elt F) d (cV L) (jV L), ownSems0_thr, ownBufs_thr]
  iintro ⟨#Hlv, -, ⟨Hi, Hx, Ho⟩, ⟨⟨%fs, Hs⟩, ⟨%fr, Hr⟩, Hbufs⟩, ⟨Hc0, Hc1, Hc2, Hsems⟩, HO⟩
  ihave Hmw := (show levAts (K (F := F)).L (K (F := F)).lev ⊢ Transfers.MayWaits (thr d L) (default : HIx 1) O from
    (K (F := F)).mayWaits_none (thr := thr d L) hO) $$ Hlv
  sl_for (inv gi tb d L O W) $$ [Hmw Hi Hx Hs Hr Ho Hc0 Hc1 Hc2 HO]
  case region =>
    intro k _
    exact trip gi tb d L hpre O W k
  · unfold inv
    isplitl [Hmw]; · iexact Hmw
    isplitl [Hi]; · iexact Hi
    isplitl [Hx]; · iexact Hx
    isplitl [Hs]; · iexists _; iexact Hs
    isplitl [Hr]; · iexists _; iexact Hr
    isplitl [Ho]
    · iapply (Entails.of_eq (bigSep_congr fun j _ => show oAny d (c2 L) (s16 L) j = oAt gi tb d L 0 j by
        unfold oAt; rw [if_neg (Nat.not_lt_zero _)]))
      iexact Ho
    isplitl [Hc0]; · iexact Hc0
    isplitl [Hc1]; · iexact Hc1
    isplitl [Hc2]; · iexact Hc2
    iexists W; isplitr
    · ipureintro; exact fun p hp => .inl hp
    · iexact HO
  iintro %_ HI
  unfold inv
  icases HI with ⟨-, Hi, Hx, Hs, Hr, Ho, Hc0, Hc1, Hc2, HO⟩
  sl_step
  isplitl [Hi Hx Ho]
  · isplitl [Hi]; · iexact Hi
    isplitl [Hx]; · iexact Hx
    iapply (Entails.of_eq (bigSep_congr fun j _ => show oAt gi tb d L k1_t1_loop.trips j = oDone gi tb d (c2 L) (s16 L) j by
      unfold oAt; rw [if_pos j.isLt]))
    iexact Ho
  isplitl [Hs Hr Hbufs]
  · isplitl [Hs]; · iexact Hs
    isplitl [Hr]; · iexact Hr
    iexact Hbufs
  isplitl [Hc0 Hc1 Hc2 Hsems]
  · isplitl [Hc0]; · iexact Hc0
    isplitl [Hc1]; · iexact Hc1
    isplitl [Hc2]; · iexact Hc2
    iexact Hsems
  iexact HO

end Cert.Proof.Sc

end
-- ==== Proof.Sc.Launch.lean ====
/-
  The call of the row gather: what the launch asks of each task and of the split of the arrays among the tasks, and the
  arrays cut into the tasks' parts and joined again.
-/
module

public import proofs.«01_k».proof.Proof.Sc.Tile

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]
variable (gi : Dev nD → IVec S196608 32) (tb : Dev nD → FVec F S4096x16 .f32)

/-! ## The tasks' obligations -/

/-- The coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gk (coordsV c s)
          iV (Memref.isWhole_whole _) xV (Memref.isWhole_whole _) oV (Memref.isWhole_whole _)
          sV (Memref.isWhole_whole _) rV (Memref.isWhole_whole _) cc1_scratch2 cc1_scoped0 cc1_scoped1) ⟨⟩ c s := rfl

omit [FloatOps F] [Named F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRows gi) : (K (F := F)).TileObl (D (F := F)) 𝒱 (P gi tb) v₀ 0 := by
  intro d c i O W hO _ _
  simp only [show (P gi tb).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body gi tb d (coordsV ⟨_, hci.1⟩ ⟨_, hci.2⟩) hF hpre O W hO).trans (wp_mono frame _ _ fun _ => obl_post)

/-- Each SparseCore holds its tasks' parts already cut. -/
theorem vecSplit : (K (F := F)).VecSplit' (P gi tb) 0 := by
  intro d c
  show (bigSep Finset.univ fun s => takes gi tb d (nC c) s) ⊢ |={Set.univ}=> iprop(
      (bigSep Finset.univ fun s => takes gi tb d (nC c) s)
      ∗ ((bigSep Finset.univ fun s => brings gi tb d (nC c) s) -∗ (bigSep Finset.univ fun s => brings gi tb d (nC c) s)))
  iintro H; imodintro
  isplitl [H]; · iexact H
  iintro H; iexact H

/-! ## The arrays cut and joined -/

omit [FloatOps F] [Named F] in
/-- What is held at the full share is held at each task's share. -/
theorem pts_shares {ℓ : Loc nD τ sig} (f : Buf (Elt F) ℓ) :
    (ℓ ↦{fullShare} f : sProp 𝕄) = bigSep Finset.univ fun c : Fin 2 => bigSep Finset.univ fun s : Fin 16 => ℓ ↦{share c s} f :=
  (ShareLeaves.pointsTo_leaves Finset.univ f 1 fullShare).trans
    (bigSep_congr fun _ _ => ShareLeaves.pointsTo_leaves Finset.univ f 4 _)

omit [FloatOps F] [Named F] in
/-- The output is its chunks. -/
theorem o_chunks (d : Dev nD) (f : Buf (Elt F) (oLoc d)) :
    (oLoc d ↦{fullShare} f : sProp 𝕄)
      = bigSep Finset.univ fun c : Fin 2 => bigSep Finset.univ fun s : Fin 16 => bigSep Finset.univ fun k : Trip => oLoc d ↦[chunk c s k]{fullShare} f := by
  have h : (oLoc d ↦{fullShare} f : sProp 𝕄) = bigSep Finset.univ fun p : Piece => oLoc d ↦[pieceSet p]{fullShare} f := by
    rw [← pointsTo_biUnion Finset.univ (ℓ := oLoc d) pieceSet pieces_disjoint, pieces_cover]
  rw [h, bigSep_univ_prod (fun p : Task × Trip => (oLoc d ↦[chunk p.1.1 p.1.2 p.2]{fullShare} f : sProp 𝕄)),
    bigSep_univ_prod (fun t : Fin 2 × Fin 16 => bigSep Finset.univ fun k : Trip => (oLoc d ↦[chunk t.1 t.2 k]{fullShare} f : sProp 𝕄))]

/-- The three arrays whole, cut into what the call hands out. -/
theorem st_intro (d : Dev nD) (f : Buf (Elt F) (oLoc d)) :
    iprop((iLoc d ↦{fullShare} gi d) ∗ (xLoc d ↦{fullShare} tb d) ∗ oLoc d ↦{fullShare} f)
      ⊢ (bigSep Finset.univ fun c : Fin ((K (F := F)).nCore 0) => (P gi tb).st 0 d c : sProp 𝕄) := by
  show _ ⊢ (bigSep Finset.univ fun c : Fin 2 => bigSep Finset.univ fun s : Fin 16 => takes gi tb d c s : sProp 𝕄)
  simp only [takes, bigSep_sep']
  rw [pts_shares (F := F) (ℓ := iLoc d), pts_shares (F := F) (ℓ := xLoc d), o_chunks]
  refine Laws.sep_mono_right (Laws.sep_mono_right ?_)
  refine bigSep_mono fun c _ => bigSep_mono fun s _ => bigSep_mono fun k _ => ?_
  exact BIClass.exists_intro (Φ := fun f => (oLoc d ↦[chunk c s k]{fullShare} f : sProp 𝕄)) f

/-- What the call hands back, joined: the list and the table unchanged, the output at the gathered rows. -/
theorem dn_elim (d : Dev nD) :
    (bigSep Finset.univ fun c : Fin ((K (F := F)).nCore 0) => (P gi tb).dn 0 d c : sProp 𝕄)
      ⊢ iprop((iLoc d ↦{fullShare} gi d) ∗ (xLoc d ↦{fullShare} tb d) ∗ oLoc d ↦{fullShare} gath (gi d) (tb d)) := by
  show (bigSep Finset.univ fun c : Fin 2 => bigSep Finset.univ fun s : Fin 16 => brings gi tb d c s : sProp 𝕄) ⊢ _
  simp only [brings, bigSep_sep']
  rw [pts_shares (F := F) (ℓ := iLoc d), pts_shares (F := F) (ℓ := xLoc d), o_chunks]

/-! ## The launch's ghost state -/

omit [FloatOps F] [Named F] in
theorem bigSep_emps {I : Type} (s : Finset I) : (bigSep s fun _ => iprop(emp)) = (iprop(emp) : sProp 𝕄) := bigSep_emp_const s

theorem phinj : Function.Injective (Pipeline.cellOf (nD := nD) (τ := τ) (Pipeline.pin (pcfgs (F := F)) adm)) := cellOf_inj

/-- The launch's ghost state: the handshakes', and the pipelines'. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- What each device is dealt of it: its pipelines' ghost state. -/
abbrev G (d : Dev nD) : sProp 𝕄 := iprop(
  (bigSep Finset.univ fun p => Pipeline.cellsGhost (Pipeline.pin (pcfgs (F := F)) adm) EP p d)
  ∗ bigSep Finset.univ fun p => Pipeline.toksInit (Pipeline.pin (pcfgs (F := F)) adm) EP p d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun t : Thread nD τ => bigSep Finset.univ fun q : Fin 1 => (P gi tb).x q t) := by
  unfold u₀
  iintro Hu
  ihave H := (ownU_pair (initOf (K (F := F)).hsCells (K (F := F)).hsToks) (_ : UR sig nD τ × Counters)) $$ Hu
  icases H with ⟨HH, HR⟩
  ihave H := (own_pair_emb embR (initOf (Pipeline.cells (Pipeline.pin (pcfgs (F := F)) adm) phinj) (Pipeline.launchToks (Pipeline.pin (pcfgs (F := F)) adm) phinj)) (1 : Counters)) $$ HR
  icases H with ⟨HP, -⟩
  imod (show BI.own (((Emb.inl : Emb (UR sig nD τ) (UR sig nD τ × Counters)).trans embR) (initOf (Pipeline.cells (Pipeline.pin (pcfgs (F := F)) adm) phinj) (Pipeline.launchToks (Pipeline.pin (pcfgs (F := F)) adm) phinj))) ⊢ _ from
    Pipeline.fund_ghost (Pipeline.pin (pcfgs (F := F)) adm) EP phinj) $$ HP with ⟨Hg, Ht⟩
  imodintro
  isplitl [HH]; · iexact HH
  isplitl [Hg Ht]
  · simp only [G, bigSep_sep']
    isplitl [Hg] <;> iassumption
  rw [show (bigSep Finset.univ fun t : Thread nD τ => bigSep Finset.univ fun q : Fin 1 => (P (F := F) gi tb).x q t) = bigSep Finset.univ fun _ => iprop(emp) from
    bigSep_congr fun _ _ => bigSep_univ_of_subsingleton (0 : Fin 1), bigSep_emps]
  iempintro

end Cert.Proof.Sc

end
-- ==== Proof.Sc.Region.lean ====
/-
  A TensorCore call that runs beside the SparseCores' launch: entered with every unscoped buffer at a valuation and
  whatever the launch still owes, left with the buffers at another valuation and the same debts. The call's own waits
  are at the lowest level, so they never stand in the launch's way.
-/
module

public import proofs.«01_k».proof.Proof.Sc.Launch
public import Idealize.ShloMosaic.Lib.Pipeline.RegionsLoop
public import Idealize.ShloMosaic.Lib.Pipeline.Frame

@[expose] public section

noncomputable section

namespace Cert.Proof.Sc

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-- The pairs the TensorCore may have recorded before call `n`: those at the levels of the calls before. -/
abbrev within (n : ℕ) (c : Dev nD) : Set (SemLoc sig × HIx 1) := {q | (K (F := F)).lev (T c, q.1) q.2 ≤ 8 * n}

/-- What the TensorCore owes before call `n`. -/
abbrev owing (n : ℕ) (c : Dev nD) : sProp 𝕄 :=
  iprop(∃ W, ⌜(K (F := F)).WBelow (T c) W (8 * n)⌝ ∗ owes (T c) ((K (F := F)).Otc c n) W)

/-- A memref's buffer on core `c`: its contents' type, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole buffer owned at `X` is its cells held at contents that read as `X`. -/
theorem owns_whole {c : Dev nD} {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  obtain ⟨b, rfl, rfl, rfl, h⟩ := h
  obtain rfl := eq_of_heq h
  unfold owns
  rw [View.set_whole]

/-- Proof data for a pipeline that is not run: anything. -/
def junk [∀ e, Nonempty (Elt F e)] {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

theorem owesAt_of_owing {cfg : Cfg sig Λ₀} {c : Dev nD} (dat : Dat τ (Elt F) (HIx 1) ℕ UU ℕ cfg c) (n : ℕ) (t : Fin (cfg.N + 1))
    (ho : dat.owed t = (K (F := F)).Otc c n) (hr : dat.recorded t = within (F := F) n c) :
    owing (F := F) n c ⊢ dat.owesAt none t := by
  unfold owing Pipeline.Dat.owesAt Pipeline.owesWithin
  rw [ho]
  iintro ⟨%W, %hW, HO⟩
  iexists W; isplitr
  · ipureintro; exact fun q hq' => Or.inl (by rw [hr]; exact hW q hq')
  iexact HO

theorem owing_of_owesAt {cfg : Cfg sig Λ₀} {c : Dev nD} (dat : Dat τ (Elt F) (HIx 1) ℕ UU ℕ cfg c) (n : ℕ) (t : Fin (cfg.N + 1))
    (ho : dat.owed t = (K (F := F)).Otc c n) (hr : dat.recorded t = within (F := F) n c) :
    dat.owesAt none t ⊢ owing (F := F) n c := by
  unfold owing Pipeline.Dat.owesAt Pipeline.owesWithin
  rw [ho]
  iintro ⟨%W, %hW, HO⟩
  iexists W; isplitr
  · ipureintro
    intro q hq'
    rcases hW hq' with h | ⟨w, s, h⟩
    · rw [hr] at h; exact h
    · rw [h]; exact Nat.zero_le _
  iexact HO

theorem pref_emp (p : Fin 2) (c : Dev nD) :
    (BI.emp : sProp 𝕄) ⊢ Pipeline.prefHeld (pcfgs (F := F) p).pre c (fun _ => fullShare) (adm (F := F) p).1 := by
  match p with
  | 0 => exact Entails.of_eq (BI.bigSep_empty (M := 𝕄)).symm
  | 1 => exact Entails.of_eq (BI.bigSep_empty (M := 𝕄)).symm

variable (pd : (p : Fin 2) → (c : Dev nD) → Dat τ (Elt F) (HIx 1) ℕ UU ℕ (Pipeline.pin (pcfgs (F := F)) adm p) c)
variable (V V' : (c : Dev nD) → (b : Ref sig .tc) → Buf (Elt F) ((c : Thread nD τ).loc b))

set_option backward.isDefEq.respectTransparency.types false in
/-- The call of pipeline `p`, run before SparseCore call `n`. -/
def reg (p : Fin 2) (n : ℕ) (hl : Pipeline.LaunchFacts (nD := nD) (τ := τ) cfgs p)
    (hb : ∀ c, BodyObligation (pd p c) (defs₀ (F := F)) 𝒱₀ none Set.univ)
    (ho : ∀ c t, (pd p c).owed t = (K (F := F)).Otc c n) (hr : ∀ c t, (pd p c).recorded t = within (F := F) n c)
    (hq : ∀ c w, (pd p c).q w = fullShare)
    (hΦ : ∀ c t, (pd p c).Φ t = Pipeline.scopedRest (Pipeline.pin (pcfgs (F := F)) adm p).spec c)
    (hA : ∀ c w, (pd p c).A w = V c (Pipeline.arrRef (Pipeline.pin (pcfgs (F := F)) adm p).spec w))
    (hw : ∀ c w, (pd p c).arrAt w (Pipeline.pin (pcfgs (F := F)) adm p).N = V' c (Pipeline.arrRef (Pipeline.pin (pcfgs (F := F)) adm p).spec w))
    (hoff : ∀ c b, b ∉ Finset.univ.image (Pipeline.arrRef (Pipeline.pin (pcfgs (F := F)) adm p).spec) → V' c b = V c b) :
    Pipeline.RegionSeg (pcfgs (F := F)) adm pd none defs₀ 𝒱₀ (K (F := F)).L (K (F := F)).lev p where
  win := hl.win.to₀
  block_pos := hl.block_pos
  stage_whole := hl.stage_whole
  K := PEmpty
  osem k := k.elim
  ho := Pipeline.OwnSemFacts.none _
  hbody c := (hb c).loose
  hwaits c := Pipeline.cellsWaits_of_cut _ pd none p c 0 ((K (F := F)).Otc c n) (ho c) (fun _ _ => Finset.mem_univ _)
    (fun _ _ => le_of_eq rfl)
    (fun g i hg => ⟨Finset.mem_univ _, lt_of_lt_of_le (Nat.succ_pos _) (SparseCore.Cfg.lev_of_Otc_pos hg)⟩)
  pre c := iprop(unscopedBufs c (V c) ∗ owing (F := F) n c)
  post c := iprop(unscopedBufs c (V' c) ∗ owing (F := F) n c)
  X _ := BI.emp
  Y _ := BI.emp
  Z c := Pipeline.unscopedRest (Pipeline.pin (pcfgs (F := F)) adm p).spec c (V c)
  hentry c := by
    rw [Pipeline.ownSems0_none]
    have hsplit := Pipeline.arrays_of_unscopedBufs (p := p) (pcfgs (F := F)) adm pd hl.win hl.arr_whole c
      ((pd p c).share_full (hq c)) (V c) (hA c)
    iintro ⟨⟨Hub, HO⟩, -, -⟩
    ihave H := hsplit $$ Hub
    icases H with ⟨Ha, Hrest⟩
    imodintro
    isplitl [Ha]; · iexact Ha
    isplitr; · iapply (pref_emp (F := F) p c); iempintro
    isplitl [HO]; · iapply (owesAt_of_owing (pd p c) n 0 (ho c 0) (hr c 0)); iexact HO
    isplitr; · iempintro
    iexact Hrest
  hin c := by
    iintro ⟨-, -, Hr⟩; iapply (Entails.of_eq (hΦ c 0).symm); iexact Hr
  hout c := by
    rw [Pipeline.ownSems0_none]
    refine (Entails.of_eq (hΦ c _)).trans ?_
    iintro Hr
    isplitr; · iempintro
    isplitr; · iempintro
    iexact Hr
  hexit c := by
    have hjoin := Pipeline.unscopedBufs_of_arrays (p := p) (pcfgs (F := F)) adm hl.win hl.arr_whole c
      pd ((pd p c).share_full (hq c)) (V c) (V' c) ((pd p c).arrAt · (Pipeline.pin (pcfgs (F := F)) adm p).N)
      (hw c) (hoff c)
    iintro ⟨Ha, HO, -, Hrest⟩
    imodintro
    isplitl [Ha Hrest]
    · iapply hjoin; isplitl [Ha] <;> iassumption
    iapply (owing_of_owesAt (pd p c) n _ (ho c _) (hr c _)); iexact HO

end Cert.Proof.Sc

end
-- ==== Proof.Near.Rounds.lean ====
/-
  The rounds of the nearest-neighbour search, as the first kernel states them. Each round takes the distances
  still open, finds in every row the least of them, names its first column, and closes that column by writing
  +infinity there. The printed body carries the 48 rounds in 14 parts; here it is restated as one short program
  over the distances after `n` rounds.
-/
module

public import proofs.«01_k».proof.Proof.Gen.KernelIdeal.Skeleton

@[expose] public section

noncomputable section

namespace Cert.Proof.Near

open Cert.KernelIdeal Cert.KernelIdeal.Gen
open Idealize.ShloMosaic
open Idealize.ShloMosaic.TcCoe
open Idealize.SL Idealize.SL.Sem

variable {F : FTy → Type} [FloatOps F] [Named F]

/-- The column numbers. -/
def iot : IVec S256x1024 32 := iota .tc S256x1024 32 [1] iota_S256x1024_d1_w32
/-- One past the last column, everywhere. -/
def big : IVec S256x1024 32 := broadcast S256x1024 1024#32
/-- The closed distance, everywhere. -/
def far : FVec F S256x1024 .f32 := broadcast S256x1024 (Scalar.ofBits .f32 0x7F800000#32)
/-- Each row's least distance. -/
def mn (D : FVec F S256x1024 .f32) : FVec F S256x1 .f32 :=
  shapeCast S256x1 (multiReduction .minimumf [1] S256 D 0x7F800000#32 reduces_S256x1024_S256 (.inl rfl) rfl) shapeCasts_S256_S256x1
/-- Where a row's least distance is attained. -/
def hit (D : FVec F S256x1024 .f32) : IVec S256x1024 1 := cmpf .oeq D (broadcastTo S256x1024 (mn D) broadcasts_S256x1_S256x1024)
/-- Each row's first column attaining it. -/
def ix (D : FVec F S256x1024 .f32) : IVec S256x1 32 :=
  shapeCast S256x1 (multiReductionI .minsi [1] S256 (select (hit D) iot big) 2147483647#32 reduces_S256x1024_S256 rfl) shapeCasts_S256_S256x1
/-- Where that column is. -/
def at' (D : FVec F S256x1024 .f32) : IVec S256x1024 1 := cmpi .eq iot (broadcastTo S256x1024 (ix D) broadcasts_S256x1_S256x1024)
/-- The distances with that column closed. -/
def nx (D : FVec F S256x1024 .f32) : FVec F S256x1024 .f32 := select (at' D) far D
/-- The distances after `n` rounds. -/
def Dn (D : FVec F S256x1024 .f32) : ℕ → FVec F S256x1024 .f32
  | 0 => D
  | n + 1 => nx (Dn D n)

/-- The 48 rounds' columns, side by side. -/
def cols (D : FVec F S256x1024 .f32) : IVec S256x48 32 :=
  concatenate S256x48 1 (⟨S256x1, ix (Dn D 0)⟩ :: ⟨S256x1, ix (Dn D 1)⟩ :: ⟨S256x1, ix (Dn D 2)⟩ :: ⟨S256x1, ix (Dn D 3)⟩ :: ⟨S256x1, ix (Dn D 4)⟩ :: ⟨S256x1, ix (Dn D 5)⟩ :: ⟨S256x1, ix (Dn D 6)⟩ :: ⟨S256x1, ix (Dn D 7)⟩ :: ⟨S256x1, ix (Dn D 8)⟩ :: ⟨S256x1, ix (Dn D 9)⟩ :: ⟨S256x1, ix (Dn D 10)⟩ :: ⟨S256x1, ix (Dn D 11)⟩ :: ⟨S256x1, ix (Dn D 12)⟩ :: ⟨S256x1, ix (Dn D 13)⟩ :: ⟨S256x1, ix (Dn D 14)⟩ :: ⟨S256x1, ix (Dn D 15)⟩ :: ⟨S256x1, ix (Dn D 16)⟩ :: ⟨S256x1, ix (Dn D 17)⟩ :: ⟨S256x1, ix (Dn D 18)⟩ :: ⟨S256x1, ix (Dn D 19)⟩ :: ⟨S256x1, ix (Dn D 20)⟩ :: ⟨S256x1, ix (Dn D 21)⟩ :: ⟨S256x1, ix (Dn D 22)⟩ :: ⟨S256x1, ix (Dn D 23)⟩ :: ⟨S256x1, ix (Dn D 24)⟩ :: ⟨S256x1, ix (Dn D 25)⟩ :: ⟨S256x1, ix (Dn D 26)⟩ :: ⟨S256x1, ix (Dn D 27)⟩ :: ⟨S256x1, ix (Dn D 28)⟩ :: ⟨S256x1, ix (Dn D 29)⟩ :: ⟨S256x1, ix (Dn D 30)⟩ :: ⟨S256x1, ix (Dn D 31)⟩ :: ⟨S256x1, ix (Dn D 32)⟩ :: ⟨S256x1, ix (Dn D 33)⟩ :: ⟨S256x1, ix (Dn D 34)⟩ :: ⟨S256x1, ix (Dn D 35)⟩ :: ⟨S256x1, ix (Dn D 36)⟩ :: ⟨S256x1, ix (Dn D 37)⟩ :: ⟨S256x1, ix (Dn D 38)⟩ :: ⟨S256x1, ix (Dn D 39)⟩ :: ⟨S256x1, ix (Dn D 40)⟩ :: ⟨S256x1, ix (Dn D 41)⟩ :: ⟨S256x1, ix (Dn D 42)⟩ :: ⟨S256x1, ix (Dn D 43)⟩ :: ⟨S256x1, ix (Dn D 44)⟩ :: ⟨S256x1, ix (Dn D 45)⟩ :: ⟨S256x1, ix (Dn D 46)⟩ :: ⟨S256x1, ix (Dn D 47)⟩ :: []) concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x48_d1

/-- The columns as the kernel stores them. -/
def eOut (D : FVec F S256x1024 .f32) : IVec S1x256x48 32 := shapeCast S1x256x48 (cols D) shapeCasts_S256x48_S1x256x48
/-- The columns counted over all chains. -/
def gOut (b : BitVec 32) (D : FVec F S256x1024 .f32) : IVec S1x256x48 32 :=
  shapeCast S1x256x48 (addi (cols D) (broadcast S256x48 (Scalar.muli b 1024#32))) shapeCasts_S256x48_S1x256x48
/-- The row of the table the kernel stores beside them. -/
def pOut (b r : BitVec 32) (v0 : Vec F S1x256x15 .f32) : FVec F S1x256x16 .f32 :=
  k0_pay1 b r (k0_pay116 (k0_pay2 v0)) (k0_pay117 (k0_pay2 v0)) (k0_pay118 (k0_pay2 v0)) (k0_pay119 (k0_pay2 v0)) (k0_pay120 (k0_pay2 v0)) (k0_pay121 (k0_pay2 v0)) (k0_pay122 (k0_pay2 v0)) (k0_pay123 (k0_pay2 v0)) (k0_pay124 (k0_pay2 v0))

section Parts

variable (i : grid0.Coords) (arg2 : Memref sig .tc .vmem S1x256x15 .f32) (harg2 : arg2.IsWhole) (arg3 : Memref sig .tc .vmem S1x8x1024 .f32) (harg3 : arg3.IsWhole) (arg4 : Memref sig .tc .vmem S1x256x48 .i32) (harg4 : arg4.IsWhole) (arg5 : Memref sig .tc .vmem S1x256x48 .i32) (harg5 : arg5.IsWhole) (arg6 : Memref sig .tc .vmem S1x256x16 .f32) (harg6 : arg6.IsWhole)

theorem part2 (D : FVec F S256x1024 .f32) : k0_part2 (F := F) i arg2 harg2 arg3 harg3 arg4 harg4 arg5 harg5 arg6 harg6 iot (Dn D 1) (hit (Dn D 1)) big = pure ⟨ix (Dn D 1), ix (Dn D 2), ix (Dn D 3), ix (Dn D 4), Dn D 5, mn (Dn D 5)⟩ := rfl
theorem part3 (D : FVec F S256x1024 .f32) : k0_part3 (F := F) i arg2 harg2 arg3 harg3 arg4 harg4 arg5 harg5 arg6 harg6 iot (Dn D 5) (mn (Dn D 5)) = pure ⟨ix (Dn D 5), ix (Dn D 6), ix (Dn D 7), Dn D 8, ix (Dn D 8), at' (Dn D 8), far⟩ := rfl
theorem part4 (D : FVec F S256x1024 .f32) : k0_part4 (F := F) i arg2 harg2 arg3 harg3 arg4 harg4 arg5 harg5 arg6 harg6 iot (Dn D 8) (at' (Dn D 8)) far = pure ⟨ix (Dn D 9), ix (Dn D 10), ix (Dn D 11), Dn D 12, ix (Dn D 12)⟩ := rfl
theorem part5 (D : FVec F S256x1024 .f32) : k0_part5 (F := F) i arg2 harg2 arg3 harg3 arg4 harg4 arg5 harg5 arg6 harg6 iot (Dn D 12) (ix (Dn D 12)) = pure ⟨ix (Dn D 13), ix (Dn D 14), ix (Dn D 15), Dn D 16, hit (Dn D 16), big⟩ := rfl
theorem part6 (D : FVec F S256x1024 .f32) : k0_part6 (F := F) i arg2 harg2 arg3 harg3 arg4 harg4 arg5 harg5 arg6 harg6 iot (Dn D 16) (hit (Dn D 16)) big = pure ⟨ix (Dn D 16), ix (Dn D 17), ix (Dn D 18), ix (Dn D 19), Dn D 20, mn (Dn D 20)⟩ := rfl
theorem part7 (D : FVec F S256x1024 .f32) : k0_part7 (F := F) i arg2 harg2 arg3 harg3 arg4 harg4 arg5 harg5 arg6 harg6 iot (Dn D 20) (mn (Dn D 20)) = pure ⟨ix (Dn D 20), ix (Dn D 21), ix (Dn D 22), Dn D 23, ix (Dn D 23), at' (Dn D 23), far⟩ := rfl
theorem part8 (D : FVec F S256x1024 .f32) : k0_part8 (F := F) i arg2 harg2 arg3 harg3 arg4 harg4 arg5 harg5 arg6 harg6 iot (Dn D 23) (at' (Dn D 23)) far = pure ⟨ix (Dn D 24), ix (Dn D 25), ix (Dn D 26), Dn D 27, ix (Dn D 27)⟩ := rfl
theorem part9 (D : FVec F S256x1024 .f32) : k0_part9 (F := F) i arg2 harg2 arg3 harg3 arg4 harg4 arg5 harg5 arg6 harg6 iot (Dn D 27) (ix (Dn D 27)) = pure ⟨ix (Dn D 28), ix (Dn D 29), ix (Dn D 30), Dn D 31, hit (Dn D 31), big⟩ := rfl
theorem part10 (D : FVec F S256x1024 .f32) : k0_part10 (F := F) i arg2 harg2 arg3 harg3 arg4 harg4 arg5 harg5 arg6 harg6 iot (Dn D 31) (hit (Dn D 31)) big = pure ⟨ix (Dn D 31), ix (Dn D 32), ix (Dn D 33), ix (Dn D 34), Dn D 35, mn (Dn D 35)⟩ := rfl
theorem part11 (D : FVec F S256x1024 .f32) : k0_part11 (F := F) i arg2 harg2 arg3 harg3 arg4 harg4 arg5 harg5 arg6 harg6 iot (Dn D 35) (mn (Dn D 35)) = pure ⟨ix (Dn D 35), ix (Dn D 36), ix (Dn D 37), Dn D 38, ix (Dn D 38), at' (Dn D 38), far⟩ := rfl
theorem part12 (D : FVec F S256x1024 .f32) : k0_part12 (F := F) i arg2 harg2 arg3 harg3 arg4 harg4 arg5 harg5 arg6 harg6 iot (Dn D 38) (at' (Dn D 38)) far = pure ⟨ix (Dn D 39), ix (Dn D 40), ix (Dn D 41), Dn D 42, ix (Dn D 42)⟩ := rfl
theorem part13 (D : FVec F S256x1024 .f32) : k0_part13 (F := F) i arg2 harg2 arg3 harg3 arg4 harg4 arg5 harg5 arg6 harg6 iot (Dn D 42) (ix (Dn D 42)) = pure ⟨ix (Dn D 43), ix (Dn D 44), ix (Dn D 45), Dn D 46, hit (Dn D 46), big⟩ := rfl

end Parts

/-- The first kernel's body: two loads, the rounds, three stores. -/
def near (i : grid0.Coords) (arg2 : Memref sig .tc .vmem S1x256x15 .f32) (harg2 : arg2.IsWhole) (arg3 : Memref sig .tc .vmem S1x8x1024 .f32) (harg3 : arg3.IsWhole) (arg4 : Memref sig .tc .vmem S1x256x48 .i32) (harg4 : arg4.IsWhole) (arg5 : Memref sig .tc .vmem S1x256x48 .i32) (harg5 : arg5.IsWhole) (arg6 : Memref sig .tc .vmem S1x256x16 .f32) (harg6 : arg6.IsWhole) :
    Prog (TpuEff nD τ sig (Elt F) Λ₀ .tc) PUnit := do
  let v0 : Vec F S1x256x15 .f32 ← Prog.lift (.load arg2 (Rect.unit (s := S1x256x15) ![0, 0, 0] S1x256x15.size inb_S1x256x15_S1x256x15_0_0_0).toLoadRect (View.loadsAt_vmem h_S1x256x15))
  let v2 : Vec F S1x8x1024 .f32 ← Prog.lift (.load arg3 (Rect.unit (s := S1x8x1024) ![0, 0, 0] S1x8x1024.size inb_S1x8x1024_S1x8x1024_0_0_0).toLoadRect (View.loadsAt_vmem h_S1x8x1024))
  let v601 : Vec F S1x256x48 .i32 ← Prog.lift (.load arg4 (Rect.unit (s := S1x256x48) ![0, 0, 0] S1x256x48.size inb_S1x256x48_S1x256x48_0_0_0).toLoadRect (View.loadsAt_vmem h_S1x256x48))
  Prog.lift (.store arg4 (Rect.unit (s := S1x256x48) ![0, 0, 0] S1x256x48.size inb_S1x256x48_S1x256x48_0_0_0) (eOut (k0_pay3 v0 v2)) Finset.univ (View.stores_vmem_bits_univ h_S1x256x48 rfl) (.inl rfl))
  let v607 : Vec F S1x256x48 .i32 ← Prog.lift (.load arg5 (Rect.unit (s := S1x256x48) ![0, 0, 0] S1x256x48.size inb_S1x256x48_S1x256x48_0_0_0).toLoadRect (View.loadsAt_vmem h_S1x256x48))
  Prog.lift (.store arg5 (Rect.unit (s := S1x256x48) ![0, 0, 0] S1x256x48.size inb_S1x256x48_S1x256x48_0_0_0) (gOut (BitVec.ofNat 32 (i 0).val) (k0_pay3 v0 v2)) Finset.univ (View.stores_vmem_bits_univ h_S1x256x48 rfl) (.inl rfl))
  let v655 : Vec F S1x256x16 .f32 ← Prog.lift (.load arg6 (Rect.unit (s := S1x256x16) ![0, 0, 0] S1x256x16.size inb_S1x256x16_S1x256x16_0_0_0).toLoadRect (View.loadsAt_vmem h_S1x256x16))
  Prog.lift (.store arg6 (Rect.unit (s := S1x256x16) ![0, 0, 0] S1x256x16.size inb_S1x256x16_S1x256x16_0_0_0) (pOut (BitVec.ofNat 32 (i 0).val) (BitVec.ofNat 32 (i 1).val) v0) Finset.univ (View.stores_vmem_bits_univ h_S1x256x16 rfl) (.inl rfl))
  pure ⟨⟩

set_option maxRecDepth 65536 in
theorem part14 (i : grid0.Coords) (arg2 : Memref sig .tc .vmem S1x256x15 .f32) (harg2 : arg2.IsWhole) (arg3 : Memref sig .tc .vmem S1x8x1024 .f32) (harg3 : arg3.IsWhole) (arg4 : Memref sig .tc .vmem S1x256x48 .i32) (harg4 : arg4.IsWhole) (arg5 : Memref sig .tc .vmem S1x256x48 .i32) (harg5 : arg5.IsWhole) (arg6 : Memref sig .tc .vmem S1x256x16 .f32) (harg6 : arg6.IsWhole) (b : BitVec 32) (v1 : FVec F S256x15 .f32) (D : FVec F S256x1024 .f32) :
    k0_part14 (F := F) i arg2 harg2 arg3 harg3 arg4 harg4 arg5 harg5 arg6 harg6 b v1 iot (ix (Dn D 0)) (ix (Dn D 1)) (ix (Dn D 2)) (ix (Dn D 3)) (ix (Dn D 4)) (ix (Dn D 5)) (ix (Dn D 6)) (ix (Dn D 7)) (ix (Dn D 8)) (ix (Dn D 9)) (ix (Dn D 10)) (ix (Dn D 11)) (ix (Dn D 12)) (ix (Dn D 13)) (ix (Dn D 14)) (ix (Dn D 15)) (ix (Dn D 16)) (ix (Dn D 17)) (ix (Dn D 18)) (ix (Dn D 19)) (ix (Dn D 20)) (ix (Dn D 21)) (ix (Dn D 22)) (ix (Dn D 23)) (ix (Dn D 24)) (ix (Dn D 25)) (ix (Dn D 26)) (ix (Dn D 27)) (ix (Dn D 28)) (ix (Dn D 29)) (ix (Dn D 30)) (ix (Dn D 31)) (ix (Dn D 32)) (ix (Dn D 33)) (ix (Dn D 34)) (ix (Dn D 35)) (ix (Dn D 36)) (ix (Dn D 37)) (ix (Dn D 38)) (ix (Dn D 39)) (ix (Dn D 40)) (ix (Dn D 41)) (ix (Dn D 42)) (ix (Dn D 43)) (ix (Dn D 44)) (ix (Dn D 45)) (Dn D 46) (hit (Dn D 46)) big = (do
  let v601 : Vec F S1x256x48 .i32 ← Prog.lift (.load arg4 (Rect.unit (s := S1x256x48) ![0, 0, 0] S1x256x48.size inb_S1x256x48_S1x256x48_0_0_0).toLoadRect (View.loadsAt_vmem h_S1x256x48))
  Prog.lift (.store arg4 (Rect.unit (s := S1x256x48) ![0, 0, 0] S1x256x48.size inb_S1x256x48_S1x256x48_0_0_0) (eOut D) Finset.univ (View.stores_vmem_bits_univ h_S1x256x48 rfl) (.inl rfl))
  let v607 : Vec F S1x256x48 .i32 ← Prog.lift (.load arg5 (Rect.unit (s := S1x256x48) ![0, 0, 0] S1x256x48.size inb_S1x256x48_S1x256x48_0_0_0).toLoadRect (View.loadsAt_vmem h_S1x256x48))
  Prog.lift (.store arg5 (Rect.unit (s := S1x256x48) ![0, 0, 0] S1x256x48.size inb_S1x256x48_S1x256x48_0_0_0) (gOut b D) Finset.univ (View.stores_vmem_bits_univ h_S1x256x48 rfl) (.inl rfl))
  pure ⟨k0_pay116 v1, k0_pay117 v1, k0_pay118 v1, k0_pay119 v1, k0_pay120 v1, k0_pay121 v1, k0_pay122 v1, k0_pay123 v1, k0_pay124 v1⟩) := rfl

set_option maxRecDepth 65536 in
theorem part1 (i : grid0.Coords) (arg2 : Memref sig .tc .vmem S1x256x15 .f32) (harg2 : arg2.IsWhole) (arg3 : Memref sig .tc .vmem S1x8x1024 .f32) (harg3 : arg3.IsWhole) (arg4 : Memref sig .tc .vmem S1x256x48 .i32) (harg4 : arg4.IsWhole) (arg5 : Memref sig .tc .vmem S1x256x48 .i32) (harg5 : arg5.IsWhole) (arg6 : Memref sig .tc .vmem S1x256x16 .f32) (harg6 : arg6.IsWhole) :
    k0_part1 (F := F) i arg2 harg2 arg3 harg3 arg4 harg4 arg5 harg5 arg6 harg6 = (do
  let v0 : Vec F S1x256x15 .f32 ← Prog.lift (.load arg2 (Rect.unit (s := S1x256x15) ![0, 0, 0] S1x256x15.size inb_S1x256x15_S1x256x15_0_0_0).toLoadRect (View.loadsAt_vmem h_S1x256x15))
  let v2 : Vec F S1x8x1024 .f32 ← Prog.lift (.load arg3 (Rect.unit (s := S1x8x1024) ![0, 0, 0] S1x8x1024.size inb_S1x8x1024_S1x8x1024_0_0_0).toLoadRect (View.loadsAt_vmem h_S1x8x1024))
  pure ⟨BitVec.ofNat 32 (i 0).val, BitVec.ofNat 32 (i 1).val, k0_pay2 v0, iot, ix (Dn (k0_pay3 v0 v2) 0), Dn (k0_pay3 v0 v2) 1, hit (Dn (k0_pay3 v0 v2) 1), big⟩) := rfl

set_option maxRecDepth 65536 in
/-- The printed body is that program. -/
theorem body_eq : cc0__stage1_body (F := F) = near (F := F) := by
  funext i arg2 harg2 arg3 harg3 arg4 harg4 arg5 harg5 arg6 harg6
  rw [cc0__stage1_body_eq_skeleton]
  unfold cc0__stage1_body_skel near
  simp only [part1, pure_bind, bind_assoc, part2, part3, part4, part5, part6, part7, part8, part9, part10, part11, part12, part13, part14]
  rfl

end Cert.Proof.Near

end
-- ==== Proof.Sc.Region0.lean ====
/-
  The first call: for every block of 256 rows, the 48 nearest columns and the rows' coordinates. Its body run once at
  arbitrary staged blocks, its proof data at an arbitrary entry valuation, the call.
-/
module

public import proofs.«01_k».proof.Proof.Sc.Region
public import proofs.«01_k».proof.Proof.Near.Rounds
public import Idealize.ShloMosaic.Lib.VecWindow
public import Idealize.ShloMosaic.Lib.Pipeline.FrameBody

@[expose] public section

noncomputable section

namespace Cert.Proof.Sc

open Cert.KernelIdeal Cert.KernelIdeal.Gen

open Idealize.ShloMosaic
open Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Cert.Proof.Near

variable {F : FTy → Type} [FloatOps F] [Named F]

local notation "𝕄" => MT nD τ sig (HIx 1) (Elt F) ℕ UU ℕ

section Body
variable (c : Dev nD) (i : grid0.Coords) (arg2 : Memref sig .tc .vmem S1x256x15 .f32) (harg2 : arg2.IsWhole) (arg3 : Memref sig .tc .vmem S1x8x1024 .f32) (harg3 : arg3.IsWhole) (arg4 : Memref sig .tc .vmem S1x256x48 .i32) (harg4 : arg4.IsWhole) (arg5 : Memref sig .tc .vmem S1x256x48 .i32) (harg5 : arg5.IsWhole) (arg6 : Memref sig .tc .vmem S1x256x16 .f32) (harg6 : arg6.IsWhole)

/-- The body, from the staged blocks at `X2` and `X3`: the three results at what the rounds give. -/
theorem nearRun (X2 : FVec F S1x256x15 .f32) (X3 : FVec F S1x8x1024 .f32) (E : Set ℕ) (Q : PUnit → sProp 𝕄) :
    iprop(owns (c : Thread nD τ) arg2 fullShare X2 ∗ owns (c : Thread nD τ) arg3 fullShare X3 ∗ (∃ X, owns (c : Thread nD τ) arg4 fullShare X) ∗ (∃ X, owns (c : Thread nD τ) arg5 fullShare X) ∗ (∃ X, owns (c : Thread nD τ) arg6 fullShare X)
        ∗ (iprop(owns (c : Thread nD τ) arg2 fullShare X2 ∗ owns (c : Thread nD τ) arg3 fullShare X3 ∗ owns (c : Thread nD τ) arg4 fullShare (eOut (k0_pay3 X2 X3))
            ∗ owns (c : Thread nD τ) arg5 fullShare (gOut (BitVec.ofNat 32 (i 0).val) (k0_pay3 X2 X3))
            ∗ owns (c : Thread nD τ) arg6 fullShare (pOut (BitVec.ofNat 32 (i 0).val) (BitVec.ofNat 32 (i 1).val) X2)) -∗ Q ⟨⟩))
      ⊢ wp frame (wpE (defs₀ (F := F)) Variants.none c none) E (cc0__stage1_body i arg2 harg2 arg3 harg3 arg4 harg4 arg5 harg5 arg6 harg6) Q := by
  rw [body_eq]; unfold near
  simp only [owns_whole harg2, owns_whole harg3, owns_whole harg4, owns_whole harg5, owns_whole harg6]
  iintro ⟨⟨%f2, %h2, H2⟩, ⟨%f3, %h3, H3⟩, ⟨%X4, %f4, -, H4⟩, ⟨%X5, %f5, -, H5⟩, ⟨%X6, %f6, -, H6⟩, Hk⟩
  sl_exec!
  sl_step
  iapply Hk
  isplitl [H2]; · iexists f2; isplitr; (· ipureintro; exact h2); iexact H2
  isplitl [H3]; · iexists f3; isplitr; (· ipureintro; exact h3); iexact H3
  isplitl [H4]
  · iexists _; isplitr; swap; (· iexact H4); ipureintro
    refine (View.read_writes_full _ _ _ _ _).trans ?_
    rw [View.readAt_full, View.readAt_full, h2, h3]
  isplitl [H5]
  · iexists _; isplitr; swap; (· iexact H5); ipureintro
    refine (View.read_writes_full _ _ _ _ _).trans ?_
    rw [View.readAt_full, View.readAt_full, h2, h3]
  iexists _; isplitr; swap; (· iexact H6); ipureintro
  refine (View.read_writes_full _ _ _ _ _).trans ?_
  rw [View.readAt_full, h2]

end Body

variable [∀ e, Nonempty (Elt F e)]
variable (V : (c : Dev nD) → (b : Ref sig .tc) → Buf (Elt F) ((c : Thread nD τ).loc b))

/-- What the two input windows stage of their arrays at point `t`: 256 rows' atoms, and the columns' centres. -/
abbrev rows0 (c : Dev nD) (t : Fin cfg0.N) : FVec F S1x256x15 .f32 := ((cfg0.win 0).blk t).view.read (Elt F) (V c main_v0)
abbrev ctrs0 (c : Dev nD) (t : Fin cfg0.N) : FVec F S1x8x1024 .f32 := ((cfg0.win 1).blk t).view.read (Elt F) (V c main_v6)

/-- The proof data of the first call, entered at `V`. -/
def dat0 (c : Dev nD) : Dat τ (Elt F) (HIx 1) ℕ UU ℕ cfg0 c where
  A w := V c (Pipeline.arrRef spec0 w)
  after w t := match w with
    | ⟨0, _⟩ => rows0 V c t
    | ⟨1, _⟩ => ctrs0 V c t
    | ⟨2, _⟩ => eOut (k0_pay3 (rows0 V c t) (ctrs0 V c t))
    | ⟨3, _⟩ => gOut (BitVec.ofNat 32 (grid0.coords t 0).val) (k0_pay3 (rows0 V c t) (ctrs0 V c t))
    | ⟨4, _⟩ => pOut (BitVec.ofNat 32 (grid0.coords t 0).val) (BitVec.ofNat 32 (grid0.coords t 1).val) (rows0 V c t)
  Φ _ := Pipeline.scopedRest spec0 c
  q _ := fullShare
  owed _ := (K (F := F)).Otc c 0
  recorded _ := within (F := F) 0 c

theorem before0_0 (c : Dev nD) (t : Fin cfg0.N) (d) : (dat0 V c).before 0 t d = rows0 V c t :=
  ((dat0 V c).before_in_eq_fetched 0 rfl (fun _ => rfl) (fun _ _ _ => rfl) (fun _ => rfl) t d).trans rfl
theorem before0_1 (c : Dev nD) (t : Fin cfg0.N) (d) : (dat0 V c).before 1 t d = ctrs0 V c t :=
  ((dat0 V c).before_in_eq_fetched 1 rfl (fun _ => rfl) (fun _ _ _ => rfl) (fun _ => rfl) t d).trans rfl

theorem obl0 (c : Dev nD) : BodyObligation (dat0 V c) (defs₀ (F := F)) 𝒱₀ none Set.univ := fun t => by
  rw [bigSep_W0, bigSep_W0]
  rw [show (dat0 V c).Φ t.castSucc = Pipeline.scopedRest spec0 c from rfl, show (dat0 V c).Φ t.succ = Pipeline.scopedRest spec0 c from rfl,
    show (dat0 V c).owesAt none t.succ = (dat0 V c).owesAt none t.castSucc from rfl]
  iintro ⟨HΦ, Howes, ⟨%d0, H0⟩, ⟨%d1, H1⟩, ⟨%d2, H2⟩, ⟨%d3, H3⟩, ⟨%d4, H4⟩⟩
  rw [before0_0, before0_1]
  iapply (nearRun c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (rows0 V c t) (ctrs0 V c t))
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- The proof data of the two pipelines, the first's at `V`. -/
def pd0 : (p : Fin 2) → (c : Dev nD) → Dat τ (Elt F) (HIx 1) ℕ UU ℕ (Pipeline.pin (pcfgs (F := F)) adm p) c
  | ⟨0, _⟩ => fun c => dat0 V c
  | ⟨1, _⟩ => fun c => junk c

theorem rest0 (c : Dev nD) : (Pipeline.scopedRest spec0 c : sProp 𝕄) = Pipeline.scopedRest (Pipeline.pin (pcfgs (F := F)) adm 0).spec c := rfl

set_option backward.isDefEq.respectTransparency.types false in
/-- The first call run before the SparseCores' call: from the arrays at `V` to the arrays at `V'`, which has the
    three results at their blocks and everything else as found. -/
def reg0 (V' : (c : Dev nD) → (b : Ref sig .tc) → Buf (Elt F) ((c : Thread nD τ).loc b))
    (h2 : ∀ c, V' c main_v7_0 = (dat0 V c).arrAt 2 cfg0.N) (h3 : ∀ c, V' c main_v7_1 = (dat0 V c).arrAt 3 cfg0.N)
    (h4 : ∀ c, V' c main_v7_2 = (dat0 V c).arrAt 4 cfg0.N)
    (hoff : ∀ c (b : Ref sig .tc), b ≠ main_v7_0 → b ≠ main_v7_1 → b ≠ main_v7_2 → V' c b = V c b) :
    Pipeline.RegionSeg (pcfgs (F := F)) adm (pd0 V) none defs₀ 𝒱₀ (K (F := F)).L (K (F := F)).lev 0 :=
  reg (pd0 V) V V' 0 0 launch0 (fun c => obl0 V c)
    (fun c t => (rfl : (dat0 V c).owed t = (K (F := F)).Otc c 0)) (fun c t => (rfl : (dat0 V c).recorded t = within (F := F) 0 c))
    (fun c w => (rfl : (dat0 V c).q w = fullShare)) (fun c _ => rest0 c)
    (fun c w => (rfl : (dat0 V c).A w = V c (Pipeline.arrRef spec0 w)))
    (fun c w => match w with
      | ⟨0, _⟩ => ((dat0 V c).arrAt_in 0 rfl _).trans (hoff c main_v0 (by decide) (by decide) (by decide)).symm
      | ⟨1, _⟩ => ((dat0 V c).arrAt_in 1 rfl _).trans (hoff c main_v6 (by decide) (by decide) (by decide)).symm
      | ⟨2, _⟩ => (h2 c).symm
      | ⟨3, _⟩ => (h3 c).symm
      | ⟨4, _⟩ => (h4 c).symm)
    (fun c b hb => hoff c b (fun h => hb (h ▸ Finset.mem_image.mpr ⟨2, Finset.mem_univ _, rfl⟩))
      (fun h => hb (h ▸ Finset.mem_image.mpr ⟨3, Finset.mem_univ _, rfl⟩)) (fun h => hb (h ▸ Finset.mem_image.mpr ⟨4, Finset.mem_univ _, rfl⟩)))

end Cert.Proof.Sc

end
-- ==== Proof.Sc.Region1.lean ====
/-
  The last call: for every block of 32 rows, from the gathered neighbours' rows and the rows' own, the edge features
  normalised. Its body run once at arbitrary staged blocks, its proof data at an arbitrary entry valuation, the call.
-/
module

public import proofs.«01_k».proof.Proof.Sc.Region
public import Idealize.ShloMosaic.Lib.VecWindow
public import Idealize.ShloMosaic.Lib.Pipeline.FrameBody

@[expose] public section

noncomputable section

namespace Cert.Proof.Sc

open Cert.KernelIdeal Cert.KernelIdeal.Gen

open Idealize.ShloMosaic
open Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-- The body's result from its nine blocks, at grid coordinate `b`. -/
def mix (b : BitVec 32) (X1 : FVec F S1536x16 .f32) (X2 : FVec F S32x16 .f32) (X3 : FVec F S16x96 .bf16) (X4 : FVec F S16x96 .bf16) (X5 : FVec F S8x512 .f32) (X6 : FVec F S640x128 .bf16) (X7 : FVec F S640x128 .bf16) (X8 : FVec F S8x128 .f32) (X9 : FVec F S8x128 .f32) : FVec F S1x32x48x128 .f32 :=
  k2_pay1 (k2_pay7 b (k2_pay2 X1) (k2_pay5 X1 X2 X3 X3 X4 X4) (k2_pay6 X1 X2 X3 X3 X4 X4) (VecWindow.window X5 ![0, 0] S1x512.size inb_S8x512_S1x512_0_0))
    (k2_pay8 X6) X7 (VecWindow.window X8 ![0, 0] S1x128.size inb_S8x128_S1x128_0_0) (VecWindow.window X9 ![0, 0] S1x128.size inb_S8x128_S1x128_0_0)

/-- The last kernel's body: its loads, and one store. -/
def mixProg (i : grid2.Coords) (arg1 : Memref sig .tc .vmem S1536x16 .f32) (harg1 : arg1.IsWhole) (arg2 : Memref sig .tc .vmem S32x16 .f32) (harg2 : arg2.IsWhole) (arg3 : Memref sig .tc .vmem S16x96 .bf16) (harg3 : arg3.IsWhole) (arg4 : Memref sig .tc .vmem S16x96 .bf16) (harg4 : arg4.IsWhole) (arg5 : Memref sig .tc .vmem S8x512 .f32) (harg5 : arg5.IsWhole) (arg6 : Memref sig .tc .vmem S640x128 .bf16) (harg6 : arg6.IsWhole) (arg7 : Memref sig .tc .vmem S640x128 .bf16) (harg7 : arg7.IsWhole) (arg8 : Memref sig .tc .vmem S8x128 .f32) (harg8 : arg8.IsWhole) (arg9 : Memref sig .tc .vmem S8x128 .f32) (harg9 : arg9.IsWhole) (arg10 : Memref sig .tc .vmem S1x32x48x128 .f32) (harg10 : arg10.IsWhole) :
    Prog (TpuEff nD τ sig (Elt F) Λ₀ .tc) PUnit := do
  let v0 : Vec F S1536x16 .f32 ← Prog.lift (.load arg1 (Rect.unit (s := S1536x16) ![0, 0] S1536x16.size inb_S1536x16_S1536x16_0_0).toLoadRect (View.loadsAt_vmem h_S1536x16))
  let v2 : Vec F S32x16 .f32 ← Prog.lift (.load arg2 (Rect.unit (s := S32x16) ![0, 0] S32x16.size inb_S32x16_S32x16_0_0).toLoadRect (View.loadsAt_vmem h_S32x16))
  let v8 : Vec F S16x96 .bf16 ← Prog.lift (.load arg3 (Rect.unit (s := S16x96) ![0, 0] S16x96.size inb_S16x96_S16x96_0_0).toLoadRect (View.loadsAt_vmem h_S16x96))
  let v11 : Vec F S16x96 .bf16 ← Prog.lift (.load arg3 (Rect.unit (s := S16x96) ![0, 0] S16x96.size inb_S16x96_S16x96_0_0).toLoadRect (View.loadsAt_vmem h_S16x96))
  let v19 : Vec F S16x96 .bf16 ← Prog.lift (.load arg4 (Rect.unit (s := S16x96) ![0, 0] S16x96.size inb_S16x96_S16x96_0_0).toLoadRect (View.loadsAt_vmem h_S16x96))
  let v22 : Vec F S16x96 .bf16 ← Prog.lift (.load arg4 (Rect.unit (s := S16x96) ![0, 0] S16x96.size inb_S16x96_S16x96_0_0).toLoadRect (View.loadsAt_vmem h_S16x96))
  let v48 : Vec F S1x512 .f32 ← Prog.lift (.load arg5 (Rect.unit (s := S8x512) ![0, 0] S1x512.size inb_S8x512_S1x512_0_0).toLoadRect (View.loadsAt_vmem h_S1x512))
  let v89 : Vec F S640x128 .bf16 ← Prog.lift (.load arg6 (Rect.unit (s := S640x128) ![0, 0] S640x128.size inb_S640x128_S640x128_0_0).toLoadRect (View.loadsAt_vmem h_S640x128))
  let v92 : Vec F S640x128 .bf16 ← Prog.lift (.load arg7 (Rect.unit (s := S640x128) ![0, 0] S640x128.size inb_S640x128_S640x128_0_0).toLoadRect (View.loadsAt_vmem h_S640x128))
  let v112 : Vec F S1x128 .f32 ← Prog.lift (.load arg8 (Rect.unit (s := S8x128) ![0, 0] S1x128.size inb_S8x128_S1x128_0_0).toLoadRect (View.loadsAt_vmem h_S1x128))
  let v116 : Vec F S1x128 .f32 ← Prog.lift (.load arg9 (Rect.unit (s := S8x128) ![0, 0] S1x128.size inb_S8x128_S1x128_0_0).toLoadRect (View.loadsAt_vmem h_S1x128))
  let v121 : Vec F S1x32x48x128 .f32 ← Prog.lift (.load arg10 (Rect.unit (s := S1x32x48x128) ![0, 0, 0, 0] S1x32x48x128.size inb_S1x32x48x128_S1x32x48x128_0_0_0_0).toLoadRect (View.loadsAt_vmem h_S1x32x48x128))
  Prog.lift (.store arg10 (Rect.unit (s := S1x32x48x128) ![0, 0, 0, 0] S1x32x48x128.size inb_S1x32x48x128_S1x32x48x128_0_0_0_0) (k2_pay1 (k2_pay7 (BitVec.ofNat 32 (i 0).val) (k2_pay2 v0) (k2_pay5 v0 v2 v8 v11 v19 v22) (k2_pay6 v0 v2 v8 v11 v19 v22) v48) (k2_pay8 v89) v92 v112 v116) Finset.univ (View.stores_vmem_bits_univ h_S1x32x48x128 rfl) (.inl rfl))
  pure ⟨⟩

set_option maxRecDepth 65536 in
/-- The printed body is that program. -/
theorem body2_eq : cc2__stage3_body (F := F) = mixProg (F := F) := by
  rw [cc2__stage3_body_eq_skeleton]
  funext i arg1 harg1 arg2 harg2 arg3 harg3 arg4 harg4 arg5 harg5 arg6 harg6 arg7 harg7 arg8 harg8 arg9 harg9 arg10 harg10
  unfold cc2__stage3_body_skel mixProg
  rw [k2_part1_eq_skeleton, k2_part2_eq_skeleton]
  unfold k2_part1_skel k2_part2_skel
  simp only [pure_bind, bind_assoc]

section Body
variable (c : Dev nD) (i : grid2.Coords) (arg1 : Memref sig .tc .vmem S1536x16 .f32) (harg1 : arg1.IsWhole) (arg2 : Memref sig .tc .vmem S32x16 .f32) (harg2 : arg2.IsWhole) (arg3 : Memref sig .tc .vmem S16x96 .bf16) (harg3 : arg3.IsWhole) (arg4 : Memref sig .tc .vmem S16x96 .bf16) (harg4 : arg4.IsWhole) (arg5 : Memref sig .tc .vmem S8x512 .f32) (harg5 : arg5.IsWhole) (arg6 : Memref sig .tc .vmem S640x128 .bf16) (harg6 : arg6.IsWhole) (arg7 : Memref sig .tc .vmem S640x128 .bf16) (harg7 : arg7.IsWhole) (arg8 : Memref sig .tc .vmem S8x128 .f32) (harg8 : arg8.IsWhole) (arg9 : Memref sig .tc .vmem S8x128 .f32) (harg9 : arg9.IsWhole) (arg10 : Memref sig .tc .vmem S1x32x48x128 .f32) (harg10 : arg10.IsWhole)

set_option maxRecDepth 65536 in
set_option maxHeartbeats 1600000 in
/-- The body, from the nine staged blocks: the result at `mix` of them. -/
theorem mixRun (X1 : FVec F S1536x16 .f32) (X2 : FVec F S32x16 .f32) (X3 : FVec F S16x96 .bf16) (X4 : FVec F S16x96 .bf16) (X5 : FVec F S8x512 .f32) (X6 : FVec F S640x128 .bf16) (X7 : FVec F S640x128 .bf16) (X8 : FVec F S8x128 .f32) (X9 : FVec F S8x128 .f32) (E : Set ℕ) (Q : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ X, owns (c : Thread nD τ) arg10 fullShare X)
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare (mix (BitVec.ofNat 32 (i 0).val) X1 X2 X3 X4 X5 X6 X7 X8 X9)) -∗ Q ⟨⟩))
      ⊢ wp frame (wpE (defs₀ (F := F)) Variants.none c none) E (cc2__stage3_body i arg1 harg1 arg2 harg2 arg3 harg3 arg4 harg4 arg5 harg5 arg6 harg6 arg7 harg7 arg8 harg8 arg9 harg9 arg10 harg10) Q := by
  rw [body2_eq]; unfold mixProg
  simp only [owns_whole harg1, owns_whole harg2, owns_whole harg3, owns_whole harg4, owns_whole harg5, owns_whole harg6, owns_whole harg7, owns_whole harg8, owns_whole harg9, owns_whole harg10]
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%X10, %f10, -, H10⟩, Hk⟩
  sl_exec!
  sl_step
  iapply Hk
  isplitl [H1]; · iexists f1; isplitr; (· ipureintro; exact h1); iexact H1
  isplitl [H2]; · iexists f2; isplitr; (· ipureintro; exact h2); iexact H2
  isplitl [H3]; · iexists f3; isplitr; (· ipureintro; exact h3); iexact H3
  isplitl [H4]; · iexists f4; isplitr; (· ipureintro; exact h4); iexact H4
  isplitl [H5]; · iexists f5; isplitr; (· ipureintro; exact h5); iexact H5
  isplitl [H6]; · iexists f6; isplitr; (· ipureintro; exact h6); iexact H6
  isplitl [H7]; · iexists f7; isplitr; (· ipureintro; exact h7); iexact H7
  isplitl [H8]; · iexists f8; isplitr; (· ipureintro; exact h8); iexact H8
  isplitl [H9]; · iexists f9; isplitr; (· ipureintro; exact h9); iexact H9
  iexists _; isplitr; swap; (· iexact H10); ipureintro
  refine (View.read_writes_full _ _ _ _ _).trans ?_
  rw [View.readAt_full, View.readAt_full, View.readAt_full, View.readAt_full, View.readAt_full, View.readAt_full]
  rw [View.readAt_unit arg5.view f5 inb_S8x512_S1x512_0_0 rfl inb_S8x512_S1x512_0_0,
    View.readAt_unit arg8.view f8 inb_S8x128_S1x128_0_0 rfl inb_S8x128_S1x128_0_0,
    View.readAt_unit arg9.view f9 inb_S8x128_S1x128_0_0 rfl inb_S8x128_S1x128_0_0,
    h1, h2, h3, h4, h5, h6, h7, h8, h9]
  unfold mix
  rfl

end Body

variable [∀ e, Nonempty (Elt F e)]
variable (V : (c : Dev nD) → (b : Ref sig .tc) → Buf (Elt F) ((c : Thread nD τ).loc b))

/-! What each input window stages of its array at point `t`. -/

abbrev rows1 (c : Dev nD) (t : Fin cfg2.N) : FVec F S1536x16 .f32 := ((cfg2.win 0).blk t).view.read (Elt F) (V c main_v10)
abbrev own1 (c : Dev nD) (t : Fin cfg2.N) : FVec F S32x16 .f32 := ((cfg2.win 1).blk t).view.read (Elt F) (V c main_v8)
abbrev ra1 (c : Dev nD) (t : Fin cfg2.N) : FVec F S16x96 .bf16 := ((cfg2.win 2).blk t).view.read (Elt F) (V c main_v51)
abbrev rb1 (c : Dev nD) (t : Fin cfg2.N) : FVec F S16x96 .bf16 := ((cfg2.win 3).blk t).view.read (Elt F) (V c main_v52)
abbrev cen1 (c : Dev nD) (t : Fin cfg2.N) : FVec F S8x512 .f32 := ((cfg2.win 4).blk t).view.read (Elt F) (V c main_cst_1)
abbrev wh1 (c : Dev nD) (t : Fin cfg2.N) : FVec F S640x128 .bf16 := ((cfg2.win 5).blk t).view.read (Elt F) (V c main_v41)
abbrev wl1 (c : Dev nD) (t : Fin cfg2.N) : FVec F S640x128 .bf16 := ((cfg2.win 6).blk t).view.read (Elt F) (V c main_v44)
abbrev sc1 (c : Dev nD) (t : Fin cfg2.N) : FVec F S8x128 .f32 := ((cfg2.win 7).blk t).view.read (Elt F) (V c main_v47)
abbrev bi1 (c : Dev nD) (t : Fin cfg2.N) : FVec F S8x128 .f32 := ((cfg2.win 8).blk t).view.read (Elt F) (V c main_v50)

/-- The proof data of the last call, entered at `V`. -/
def dat1 (c : Dev nD) : Dat τ (Elt F) (HIx 1) ℕ UU ℕ cfg2 c where
  A w := V c (Pipeline.arrRef spec2 w)
  after w t := match w with
    | ⟨0, _⟩ => rows1 V c t
    | ⟨1, _⟩ => own1 V c t
    | ⟨2, _⟩ => ra1 V c t
    | ⟨3, _⟩ => rb1 V c t
    | ⟨4, _⟩ => cen1 V c t
    | ⟨5, _⟩ => wh1 V c t
    | ⟨6, _⟩ => wl1 V c t
    | ⟨7, _⟩ => sc1 V c t
    | ⟨8, _⟩ => bi1 V c t
    | ⟨9, _⟩ => mix (BitVec.ofNat 32 (grid2.coords t 0).val) (rows1 V c t) (own1 V c t) (ra1 V c t) (rb1 V c t) (cen1 V c t) (wh1 V c t) (wl1 V c t) (sc1 V c t) (bi1 V c t)
  Φ _ := Pipeline.scopedRest spec2 c
  q _ := fullShare
  owed _ := (K (F := F)).Otc c 1
  recorded _ := within (F := F) 1 c

theorem before1_0 (c : Dev nD) (t : Fin cfg2.N) (d) : (dat1 V c).before 0 t d = rows1 V c t :=
  ((dat1 V c).before_in_eq_fetched 0 rfl (fun _ => rfl) (fun _ _ _ => rfl) (fun _ => rfl) t d).trans rfl
theorem before1_1 (c : Dev nD) (t : Fin cfg2.N) (d) : (dat1 V c).before 1 t d = own1 V c t :=
  ((dat1 V c).before_in_eq_fetched 1 rfl (fun _ => rfl) (fun _ _ _ => rfl) (fun _ => rfl) t d).trans rfl
theorem before1_2 (c : Dev nD) (t : Fin cfg2.N) (d) : (dat1 V c).before 2 t d = ra1 V c t :=
  ((dat1 V c).before_in_eq_fetched 2 rfl (fun _ => rfl) (fun _ _ _ => rfl) (fun _ => rfl) t d).trans rfl
theorem before1_3 (c : Dev nD) (t : Fin cfg2.N) (d) : (dat1 V c).before 3 t d = rb1 V c t :=
  ((dat1 V c).before_in_eq_fetched 3 rfl (fun _ => rfl) (fun _ _ _ => rfl) (fun _ => rfl) t d).trans rfl
theorem before1_4 (c : Dev nD) (t : Fin cfg2.N) (d) : (dat1 V c).before 4 t d = cen1 V c t :=
  ((dat1 V c).before_in_eq_fetched 4 rfl (fun _ => rfl) (fun _ _ _ => rfl) (fun _ => rfl) t d).trans rfl
theorem before1_5 (c : Dev nD) (t : Fin cfg2.N) (d) : (dat1 V c).before 5 t d = wh1 V c t :=
  ((dat1 V c).before_in_eq_fetched 5 rfl (fun _ => rfl) (fun _ _ _ => rfl) (fun _ => rfl) t d).trans rfl
theorem before1_6 (c : Dev nD) (t : Fin cfg2.N) (d) : (dat1 V c).before 6 t d = wl1 V c t :=
  ((dat1 V c).before_in_eq_fetched 6 rfl (fun _ => rfl) (fun _ _ _ => rfl) (fun _ => rfl) t d).trans rfl
theorem before1_7 (c : Dev nD) (t : Fin cfg2.N) (d) : (dat1 V c).before 7 t d = sc1 V c t :=
  ((dat1 V c).before_in_eq_fetched 7 rfl (fun _ => rfl) (fun _ _ _ => rfl) (fun _ => rfl) t d).trans rfl
theorem before1_8 (c : Dev nD) (t : Fin cfg2.N) (d) : (dat1 V c).before 8 t d = bi1 V c t :=
  ((dat1 V c).before_in_eq_fetched 8 rfl (fun _ => rfl) (fun _ _ _ => rfl) (fun _ => rfl) t d).trans rfl

theorem obl1 (c : Dev nD) : BodyObligation (dat1 V c) (defs₀ (F := F)) 𝒱₀ none Set.univ := fun t => by
  rw [bigSep_W2, bigSep_W2]
  rw [show (dat1 V c).Φ t.castSucc = Pipeline.scopedRest spec2 c from rfl, show (dat1 V c).Φ t.succ = Pipeline.scopedRest spec2 c from rfl,
    show (dat1 V c).owesAt none t.succ = (dat1 V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before1_0, before1_1, before1_2, before1_3, before1_4, before1_5, before1_6, before1_7, before1_8]
  iapply (mixRun c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) _ (hstage2_6 ((cfg2.slots t 6).cast nbuf2_6)) _ (hstage2_7 ((cfg2.slots t 7).cast nbuf2_7)) _ (hstage2_8 ((cfg2.slots t 8).cast nbuf2_8)) _ (hstage2_9 ((cfg2.slots t 9).cast nbuf2_9)) (rows1 V c t) (own1 V c t) (ra1 V c t) (rb1 V c t) (cen1 V c t) (wh1 V c t) (wl1 V c t) (sc1 V c t) (bi1 V c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The proof data of the two pipelines, the second's at `V`. -/
def pd1 : (p : Fin 2) → (c : Dev nD) → Dat τ (Elt F) (HIx 1) ℕ UU ℕ (Pipeline.pin (pcfgs (F := F)) adm p) c
  | ⟨0, _⟩ => fun c => junk c
  | ⟨1, _⟩ => fun c => dat1 V c

/-! The arrays the last call leaves, window by window. -/

theorem arr1_0 (V' : (c : Dev nD) → (b : Ref sig .tc) → Buf (Elt F) ((c : Thread nD τ).loc b))
    (hoff : ∀ c (b : Ref sig .tc), b ≠ main_v53 → V' c b = V c b) (c : Dev nD) : (dat1 V c).arrAt 0 cfg2.N = V' c main_v10 :=
  ((dat1 V c).arrAt_in 0 rfl cfg2.N).trans (hoff c main_v10 (by decide)).symm
theorem arr1_1 (V' : (c : Dev nD) → (b : Ref sig .tc) → Buf (Elt F) ((c : Thread nD τ).loc b))
    (hoff : ∀ c (b : Ref sig .tc), b ≠ main_v53 → V' c b = V c b) (c : Dev nD) : (dat1 V c).arrAt 1 cfg2.N = V' c main_v8 :=
  ((dat1 V c).arrAt_in 1 rfl cfg2.N).trans (hoff c main_v8 (by decide)).symm
theorem arr1_2 (V' : (c : Dev nD) → (b : Ref sig .tc) → Buf (Elt F) ((c : Thread nD τ).loc b))
    (hoff : ∀ c (b : Ref sig .tc), b ≠ main_v53 → V' c b = V c b) (c : Dev nD) : (dat1 V c).arrAt 2 cfg2.N = V' c main_v51 :=
  ((dat1 V c).arrAt_in 2 rfl cfg2.N).trans (hoff c main_v51 (by decide)).symm
theorem arr1_3 (V' : (c : Dev nD) → (b : Ref sig .tc) → Buf (Elt F) ((c : Thread nD τ).loc b))
    (hoff : ∀ c (b : Ref sig .tc), b ≠ main_v53 → V' c b = V c b) (c : Dev nD) : (dat1 V c).arrAt 3 cfg2.N = V' c main_v52 :=
  ((dat1 V c).arrAt_in 3 rfl cfg2.N).trans (hoff c main_v52 (by decide)).symm
theorem arr1_4 (V' : (c : Dev nD) → (b : Ref sig .tc) → Buf (Elt F) ((c : Thread nD τ).loc b))
    (hoff : ∀ c (b : Ref sig .tc), b ≠ main_v53 → V' c b = V c b) (c : Dev nD) : (dat1 V c).arrAt 4 cfg2.N = V' c main_cst_1 :=
  ((dat1 V c).arrAt_in 4 rfl cfg2.N).trans (hoff c main_cst_1 (by decide)).symm
theorem arr1_5 (V' : (c : Dev nD) → (b : Ref sig .tc) → Buf (Elt F) ((c : Thread nD τ).loc b))
    (hoff : ∀ c (b : Ref sig .tc), b ≠ main_v53 → V' c b = V c b) (c : Dev nD) : (dat1 V c).arrAt 5 cfg2.N = V' c main_v41 :=
  ((dat1 V c).arrAt_in 5 rfl cfg2.N).trans (hoff c main_v41 (by decide)).symm
theorem arr1_6 (V' : (c : Dev nD) → (b : Ref sig .tc) → Buf (Elt F) ((c : Thread nD τ).loc b))
    (hoff : ∀ c (b : Ref sig .tc), b ≠ main_v53 → V' c b = V c b) (c : Dev nD) : (dat1 V c).arrAt 6 cfg2.N = V' c main_v44 :=
  ((dat1 V c).arrAt_in 6 rfl cfg2.N).trans (hoff c main_v44 (by decide)).symm
theorem arr1_7 (V' : (c : Dev nD) → (b : Ref sig .tc) → Buf (Elt F) ((c : Thread nD τ).loc b))
    (hoff : ∀ c (b : Ref sig .tc), b ≠ main_v53 → V' c b = V c b) (c : Dev nD) : (dat1 V c).arrAt 7 cfg2.N = V' c main_v47 :=
  ((dat1 V c).arrAt_in 7 rfl cfg2.N).trans (hoff c main_v47 (by decide)).symm
theorem arr1_8 (V' : (c : Dev nD) → (b : Ref sig .tc) → Buf (Elt F) ((c : Thread nD τ).loc b))
    (hoff : ∀ c (b : Ref sig .tc), b ≠ main_v53 → V' c b = V c b) (c : Dev nD) : (dat1 V c).arrAt 8 cfg2.N = V' c main_v50 :=
  ((dat1 V c).arrAt_in 8 rfl cfg2.N).trans (hoff c main_v50 (by decide)).symm

theorem arr1 (V' : (c : Dev nD) → (b : Ref sig .tc) → Buf (Elt F) ((c : Thread nD τ).loc b))
    (h9 : ∀ c, V' c main_v53 = (dat1 V c).arrAt 9 cfg2.N)
    (hoff : ∀ c (b : Ref sig .tc), b ≠ main_v53 → V' c b = V c b) (c : Dev nD) :
    ∀ w : Fin 10, (dat1 V c).arrAt w cfg2.N = V' c (Pipeline.arrRef spec2 w)
  | ⟨0, _⟩ => arr1_0 V V' hoff c
  | ⟨1, _⟩ => arr1_1 V V' hoff c
  | ⟨2, _⟩ => arr1_2 V V' hoff c
  | ⟨3, _⟩ => arr1_3 V V' hoff c
  | ⟨4, _⟩ => arr1_4 V V' hoff c
  | ⟨5, _⟩ => arr1_5 V V' hoff c
  | ⟨6, _⟩ => arr1_6 V V' hoff c
  | ⟨7, _⟩ => arr1_7 V V' hoff c
  | ⟨8, _⟩ => arr1_8 V V' hoff c
  | ⟨9, _⟩ => (h9 c).symm

theorem rest1 (c : Dev nD) : (Pipeline.scopedRest spec2 c : sProp 𝕄) = Pipeline.scopedRest (Pipeline.pin (pcfgs (F := F)) adm 1).spec c := rfl

set_option backward.isDefEq.respectTransparency.types false in
/-- The last call run after the SparseCores' call: from the arrays at `V` to the arrays at `V'`, which has the
    result at its blocks and everything else as found. -/
def reg1 (V' : (c : Dev nD) → (b : Ref sig .tc) → Buf (Elt F) ((c : Thread nD τ).loc b))
    (h9 : ∀ c, V' c main_v53 = (dat1 V c).arrAt 9 cfg2.N)
    (hoff : ∀ c (b : Ref sig .tc), b ≠ main_v53 → V' c b = V c b) :
    Pipeline.RegionSeg (pcfgs (F := F)) adm (pd1 V) none defs₀ 𝒱₀ (K (F := F)).L (K (F := F)).lev 1 :=
  reg (pd1 V) V V' 1 1 launch2 (fun c => obl1 V c)
    (fun c t => (rfl : (dat1 V c).owed t = (K (F := F)).Otc c 1)) (fun c t => (rfl : (dat1 V c).recorded t = within (F := F) 1 c))
    (fun c w => (rfl : (dat1 V c).q w = fullShare)) (fun c _ => rest1 c)
    (fun c w => (rfl : (dat1 V c).A w = V c (Pipeline.arrRef spec2 w)))
    (fun c w => arr1 V V' h9 hoff c w)
    (fun c b hb => hoff c b (fun h => hb (h ▸ Finset.mem_image.mpr ⟨9, Finset.mem_univ _, rfl⟩)))

end Cert.Proof.Sc

end
-- ==== Proof.Sc.Run.lean ====
/-
  The whole program run from a launch memory. The arrays go through six valuations: the launch's, then after the first
  host line, the first call, the flattenings, the SparseCores' call, the weights' tables, and the last call. The run ends
  with every array at the last of them and every semaphore at zero.
-/
module

public import proofs.«01_k».proof.Proof.Sc.Host
public import proofs.«01_k».proof.Proof.Sc.Region0
public import proofs.«01_k».proof.Proof.Sc.Region1

@[expose] public section

noncomputable section

namespace Cert.Proof.Sc

open Cert.KernelIdeal Cert.KernelIdeal.Gen

open Idealize.ShloMosaic
open Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- A TensorCore reference's buffer among a device's. -/
abbrev dr (b : Ref sig .tc) : DevRef τ sig := Proc.devRef .tc b

/-- A valuation read at the TensorCore's references. -/
abbrev at1 (W : Dev nD → Valuation τ sig (Elt F)) (c : Dev nD) (b : Ref sig .tc) : Buf (Elt F) ((c : Thread nD τ).loc b) := W c (dr b)

/-- A valuation with one buffer changed. -/
abbrev put (W : Valuation τ sig (Elt F)) (b : Ref sig .tc) (x : (dr b).ty.Contents (Elt F)) : Valuation τ sig (Elt F) :=
  Function.update W (dr b) x

theorem put_self (W : Valuation τ sig (Elt F)) (b : Ref sig .tc) (x) : put W b x (dr b) = x := Function.update_self ..
theorem put_ne (W : Valuation τ sig (Elt F)) {b b' : Ref sig .tc} (x) (h : b' ≠ b) : put W b x (dr b') = W (dr b') :=
  Function.update_of_ne (StableHlo.devRef_ne_of_ne h) ..

variable [∀ e, Nonempty (Elt F e)]
variable (m : (ℓ : Loc nD τ sig) → Buf (Elt F) ℓ) (ρ : Dev nD → PrngReg)

/-! ## The valuations -/

abbrev W0 (c : Dev nD) : Valuation τ sig (Elt F) := fun b => m (c, b)
def W1 (c : Dev nD) : Valuation τ sig (Elt F) := StableHlo.after ops0 (W0 m c)
def W2 (c : Dev nD) : Valuation τ sig (Elt F) :=
  put (put (put (W1 m c) main_v7_0 ((dat0 (at1 (W1 m)) c).arrAt 2 cfg0.N)) main_v7_1 ((dat0 (at1 (W1 m)) c).arrAt 3 cfg0.N))
    main_v7_2 ((dat0 (at1 (W1 m)) c).arrAt 4 cfg0.N)
def W3 (c : Dev nD) : Valuation τ sig (Elt F) := StableHlo.after ops1 (W2 m c)
/-- The list of row numbers and the table at the SparseCores' call. -/
abbrev gi₃ (c : Dev nD) : IVec S196608 32 := W3 m c (dr main_v9)
abbrev tb₃ (c : Dev nD) : FVec F S4096x16 .f32 := W3 m c (dr main_v8)
def W4 (c : Dev nD) : Valuation τ sig (Elt F) := put (W3 m c) main_v10 (gath (gi₃ m c) (tb₃ m c))
def W5 (c : Dev nD) : Valuation τ sig (Elt F) := StableHlo.after ops2 (W4 m c)
def W6 (c : Dev nD) : Valuation τ sig (Elt F) := put (W5 m c) main_v53 ((dat1 (at1 (W5 m)) c).arrAt 9 cfg2.N)

/-! ## The steps -/

omit [FloatOps F] [Named F] [∀ e, Nonempty (Elt F e)] in
theorem take_one {I : Type} [DecidableEq I] {s : Finset I} {i : I} (h : i ∈ s) {Φ : I → sProp 𝕄} :
    bigSep s Φ = iprop(Φ i ∗ bigSep (s.erase i) Φ) := BI.bigSep_erase h

/-- The call of a kernel, in the kernels' own signature. -/
abbrev innerCall (p : Fin 2) : Prog (TpuEff nD τ sig (Elt F) (ΛP (F := F)) .tc) PUnit := .op (.customCall (Pipeline.entry p) ()) fun _ => .ret ⟨⟩

omit [Named F] [∀ e, Nonempty (Elt F e)] in
theorem callTc_eq : ∀ p : Fin 2, callTc (F := F) p = SparseCore.liftProg (Q := 1) (innerCall p)
  | 0 => rfl
  | 1 => rfl

theorem call_step (p : Fin 2) (n : ℕ) (pd : (p : Fin 2) → (c : Dev nD) → Pipeline.Dat τ (Elt F) (HIx 1) ℕ UU ℕ (Pipeline.pin (pcfgs (F := F)) adm p) c)
    (R : Pipeline.RegionSeg (pcfgs (F := F)) adm pd none defs₀ 𝒱₀ (K (F := F)).L (K (F := F)).lev p)
    (V V' : (c : Dev nD) → (b : Ref sig .tc) → Buf (Elt F) ((c : Thread nD τ).loc b))
    (hpre : ∀ c, R.pre c = iprop(unscopedBufs c (V c) ∗ owing (F := F) n c))
    (hpost : ∀ c, R.post c = iprop(unscopedBufs c (V' c) ∗ owing (F := F) n c))
    (gi : Dev nD → IVec S196608 32) (tb : Dev nD → FVec F S4096x16 .f32) (κ : GSem nD τ sig → ℕ) (d : Dev nD) :
    iprop((K (F := F)).ctx EH (P gi tb) κ ∗ boundary (T d) ∗ unscopedBufs d (V d) ∗ (K (F := F)).tcSt EH d n
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ (callTc (F := F) p)
          fun _ => iprop(boundary (T d) ∗ unscopedBufs d (V' d) ∗ (K (F := F)).tcSt EH d n) := by
  rw [callTc_eq]
  unfold SparseCore.Cfg.tcSt
  iintro ⟨#Hctx, Hb, Hu, ⟨HO, Hrest⟩, Hg, Ht⟩
  iapply ((K (F := F)).wp_liftProg (D (F := F)) 𝒱 (T d) Set.univ none (innerCall p) _)
  ihave Hlev := (SparseCore.Cfg.ctx_levAts (K := K (F := F)) (EH := EH) (P := P gi tb) κ) $$ Hctx
  iapply (Pipeline.RegionSeg.wp (pcfgs (F := F)) adm pd none phinj EP defs₀ 𝒱₀ (K (F := F)).L (K (F := F)).lev R d none (fun _ h => nomatch h) _ _)
  rw [hpre, hpost]
  isplitl [Hrest]
  · iintro ⟨Hb, Hu, HO⟩
    rw [wp_ret]; imodintro
    isplitl [Hb]; · iexact Hb
    isplitl [Hu]; · iexact Hu
    isplitl [HO]; · iexact HO
    iexact Hrest
  isplitl [Hb]; · iexact Hb
  isplitl [Hu HO]
  · isplitl [Hu]; · iexact Hu
    iexact HO
  isplitl [Hlev]; · iexact Hlev
  isplitl [Hg] <;> iassumption

/-- A host line between the calls. -/
theorem host_step (ops : List (HloOp τ sig (Elt F))) (hb : ops.Forall fun op => op.bufs ⊆ StableHlo.tcRefs τ sig)
    (hf : ops.map HloOp.fresh = ops.map fun _ => (∅ : Finset (DevRef τ sig)))
    (W : Dev nD → Valuation τ sig (Elt F)) (d : Dev nD) {β : Type}
    (k : Prog (TpuEff nD τ sig (Elt F) (SparseCore.Sig (ΛP (F := F)) 1) .tc) β) (Q : β → sProp 𝕄) :
    iprop(boundary (T d) ∗ unscopedBufs d (at1 W d))
      ⊢ iprop(((boundary (T d) ∗ unscopedBufs d (at1 (fun c => StableHlo.after ops (W c)) d))
          -∗ wp frame (wpE ((K (F := F)).defs (D (F := F))) 𝒱 (T d) none) Set.univ k Q)
        -∗ wp frame (wpE ((K (F := F)).defs (D (F := F))) 𝒱 (T d) none) Set.univ (StableHlo.seq ops >>= fun _ => k) Q) := by
  have h := StableHlo.wp_seq (defs := (K (F := F)).defs (D (F := F))) 𝒱 none Set.univ d (Pipeline.ucRefs τ sig) (fun _ => k) (K := Q) ops
    (fun op ho => Pipeline.sub_ucRefs op ((List.forall_iff_forall_mem.mp hb) op ho))
    (fun op ho => (List.forall_iff_forall_mem.mp (StableHlo.forall_fresh_of_map hf)) op ho) (W d)
  rw [← Pipeline.unscopedBufs_held, ← Pipeline.unscopedBufs_held] at h
  exact h

/-- The three arrays of the SparseCores' call among all. -/
theorem split3 (d : Dev nD) (V : (b : Ref sig .tc) → Buf (Elt F) ((d : Thread nD τ).loc b)) :
    (unscopedBufs d V : sProp 𝕄) = iprop((iLoc d ↦{fullShare} V main_v9) ∗ (xLoc d ↦{fullShare} V main_v8) ∗ (oLoc d ↦{fullShare} V main_v10)
      ∗ bigSep ((((Finset.univ.filter fun b : Ref sig .tc => ¬ b.isScoped).erase main_v9).erase main_v8).erase main_v10)
          fun b => ((d : Thread nD τ).loc b) ↦{fullShare} V b) := by
  unfold unscopedBufs
  rw [take_one (i := main_v9) (by decide), take_one (i := main_v8) (by decide), take_one (i := main_v10) (by decide)]

theorem rest3 (d : Dev nD) (V V' : (b : Ref sig .tc) → Buf (Elt F) ((d : Thread nD τ).loc b)) (h : ∀ b, b ≠ main_v10 → V' b = V b) :
    (bigSep ((((Finset.univ.filter fun b : Ref sig .tc => ¬ b.isScoped).erase main_v9).erase main_v8).erase main_v10)
      fun b => ((d : Thread nD τ).loc b) ↦{fullShare} V b : sProp 𝕄)
    = bigSep ((((Finset.univ.filter fun b : Ref sig .tc => ¬ b.isScoped).erase main_v9).erase main_v8).erase main_v10)
      fun b => ((d : Thread nD τ).loc b) ↦{fullShare} V' b :=
  bigSep_congr fun b hb => by rw [h b (Finset.ne_of_mem_erase hb)]

/-- What the TensorCore keeps to the end. -/
abbrev FIN (d : Dev nD) : sProp 𝕄 := unscopedBufs d (at1 (W6 m) d)

theorem G_two (d : Dev nD) : (G (F := F) d : sProp 𝕄) = iprop(
    (Pipeline.cellsGhost (Pipeline.pin (pcfgs (F := F)) adm) EP 0 d ∗ Pipeline.cellsGhost (Pipeline.pin (pcfgs (F := F)) adm) EP 1 d)
    ∗ Pipeline.toksInit (Pipeline.pin (pcfgs (F := F)) adm) EP 0 d ∗ Pipeline.toksInit (Pipeline.pin (pcfgs (F := F)) adm) EP 1 d) := by
  unfold G
  rw [bigSep_fin_two, bigSep_fin_two]
  rfl

theorem hmain (κ : GSem nD τ sig → ℕ) (d : Dev nD) :
    iprop((K (F := F)).ctx EH (P (gi₃ m) (tb₃ m)) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  have hr0 := call_step (F := F) 0 0 _ (reg0 (at1 (W1 m)) (at1 (W2 m))
    (fun c => (put_ne _ _ (by decide)).trans ((put_ne _ _ (by decide)).trans (put_self ..)))
    (fun c => (put_ne _ _ (by decide)).trans (put_self ..)) (fun c => put_self ..)
    (fun c b h0 h1 h2 => (put_ne _ _ h2).trans ((put_ne _ _ h1).trans (put_ne _ _ h0)))) (at1 (W1 m)) (at1 (W2 m)) (fun _ => rfl) (fun _ => rfl) (gi₃ m) (tb₃ m) κ d
  have hr1 := call_step (F := F) 1 1 _ (reg1 (at1 (W5 m)) (at1 (W6 m)) (fun c => put_self ..) (fun c b h => put_ne _ _ h))
    (at1 (W5 m)) (at1 (W6 m)) (fun _ => rfl) (fun _ => rfl) (gi₃ m) (tb₃ m) κ d
  rw [main_eq]
  rw [G_two]
  unfold SparseCore.Cfg.tcRes SparseCore.Cfg.tcEnd mainProg
  iintro ⟨#Hctx, Hst, ⟨Hb, Hm, Hts, -⟩, ⟨Hg0, Hg1⟩, Ht0, Ht1⟩
  iapply (host_step (F := F) ops0 ops0_bufs ops0_fresh (W0 m) d _ _) $$ [Hb Hm]
  · isplitl [Hb]; · iexact Hb
    iexact Hm
  iintro ⟨Hb, Hm⟩
  rw [wp_bind]
  iapply (wp_wand_r _ _ _)
  isplitl [Hb Hm Hst Hg0 Ht0]
  · iapply hr0
    isplitr; · iexact Hctx
    isplitl [Hb]; · iexact Hb
    isplitl [Hm]; · iexact Hm
    isplitl [Hst]; · iexact Hst
    isplitl [Hg0] <;> iassumption
  iintro %_ ⟨Hb, Hm, Hst⟩
  iapply (host_step (F := F) ops1 ops1_bufs ops1_fresh (W2 m) d _ _) $$ [Hb Hm]
  · isplitl [Hb]; · iexact Hb
    iexact Hm
  iintro ⟨Hb, Hm⟩
  rw [wp_bind]
  ihave Hm := (show unscopedBufs d (at1 (fun c => StableHlo.after ops1 (W2 m c)) d) ⊢ _ from Entails.of_eq (split3 (F := F) d (at1 (W3 m) d))) $$ Hm
  icases Hm with ⟨Hi, Hx, Ho, Hrest⟩
  iapply ((K (F := F)).wp_run (D (F := F)) 𝒱 (EH := EH) (P := P (gi₃ m) (tb₃ m)) κ d 0)
  isplitr; · iexact Hctx
  isplitl [Hst]; · iexact Hst
  isplitl [Hi Hx Ho]
  · iapply (st_intro (gi₃ m) (tb₃ m) d (W3 m d (dr main_v10)))
    isplitl [Hi]; · iexact Hi
    isplitl [Hx]; · iexact Hx
    iexact Ho
  iintro ⟨Hst, Hdn⟩
  ihave Hdn' := (dn_elim (gi₃ m) (tb₃ m) d) $$ Hdn
  icases Hdn' with ⟨Hi, Hx, Ho⟩
  ihave Hrest := (Entails.of_eq (rest3 (F := F) d (at1 (W3 m) d) (at1 (W4 m) d) (fun b h => put_ne _ _ h))) $$ Hrest
  ihave Hm := (Entails.of_eq (split3 (F := F) d (at1 (W4 m) d)).symm) $$ [Hi Hx Ho Hrest]
  · rw [show at1 (W4 m) d main_v9 = gi₃ m d from put_ne _ _ (by decide), show at1 (W4 m) d main_v8 = tb₃ m d from put_ne _ _ (by decide),
      show at1 (W4 m) d main_v10 = gath (gi₃ m d) (tb₃ m d) from put_self ..]
    isplitl [Hi]; · iexact Hi
    isplitl [Hx]; · iexact Hx
    isplitl [Ho]; · iexact Ho
    iexact Hrest
  iapply (host_step (F := F) ops2 ops2_bufs ops2_fresh (W4 m) d _ _) $$ [Hb Hm]
  · isplitl [Hb]; · iexact Hb
    iexact Hm
  iintro ⟨Hb, Hm⟩
  rw [wp_bind]
  iapply (wp_wand_r _ _ _)
  isplitl [Hb Hm Hst Hg1 Ht1]
  · iapply hr1
    isplitr; · iexact Hctx
    isplitl [Hb]; · iexact Hb
    isplitl [Hm]; · iexact Hm
    isplitl [Hst]; · iexact Hst
    isplitl [Hg1] <;> iassumption
  iintro %_ ⟨Hb, Hm, Hst⟩
  rw [wp_pure]; imodintro
  isplitl [Hst]; · iexact Hst
  isplitl [Hm]; · iexact Hm
  isplitl [Hb] <;> iassumption

def fq (d : Dev nD) (s' : Phys nD τ sig (Elt F)) : Prop :=
  ∀ b : Ref sig .tc, b.isScoped = false → s'.mem.mem ((d : Thread nD τ).loc b) = W6 m d (dr b)

theorem hfin (d : Dev nD) (s' : Phys nD τ sig (Elt F)) : iprop(FIN m d ∗ SI s') ⊢ (⌜fq m d s'⌝ : sProp 𝕄) := by
  have key : ∀ (b : Ref sig .tc) (hb : b.isScoped = false),
      iprop(FIN m d ∗ SI s') ⊢ (⌜s'.mem.mem ((d : Thread nD τ).loc b) = W6 m d (dr b)⌝ : sProp 𝕄) := fun b hb => by
    unfold FIN unscopedBufs
    rw [take_one (i := b) (Finset.mem_filter.mpr ⟨Finset.mem_univ _, by simp [hb]⟩)]
    iintro ⟨⟨H, -⟩, HSI⟩
    ihave H := (SI_pointsTo_agree (st := s') (ℓ := (d : Thread nD τ).loc b) (I := Finset.univ) (q := fullShare) (f := W6 m d (dr b))) $$ [HSI H]
    · isplitl [HSI] <;> iassumption
    icases H with %h
    ipureintro
    exact funext fun i => h i (Finset.mem_univ i)
  exact (forall_intro fun b => (forall_intro fun hb => key b hb).trans pure_forall.2).trans pure_forall.2

def QC : PUnit × MemSt nD τ sig (Elt F) → Prop := fun r =>
  (∀ (c : Dev nD) (b : Ref sig .tc), b.isScoped = false → r.2.mem ((c : Thread nD τ).loc b) = W6 m c (dr b)) ∧ r.2.sem = fun _ => 0

/-- The run. -/
theorem run_main (hpre : InRows (gi₃ m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (gi₃ m) (tb₃ m)) (A := ∅) facts v₀
    (fun q hq => match q with | 0 => nomatch hq)
    (fun q _ => match q with | 0 => tileObl (gi₃ m) (tb₃ m) facts hpre)
    (fun q _ => match q with | 0 => SparseCore.Cfg.VecSplit.of_plain (vecSplit (gi₃ m) (tb₃ m)))
    m ρ main (G (F := F)) (FIN m) (u₀ (F := F)) (sep_elim_left.trans (hu₀ (gi₃ m) (tb₃ m))) (hmain m ρ) (fq m) (hfin m) (QC m) (fun _ h hz => ⟨h, hz⟩)

end Cert.Proof.Sc

end
-- ==== Proof.Near.Pick.lean ====
/-
  Picking the least entries of a row one after another gives the same columns as sorting the row.

  A row is a function `d` from columns to extended reals. The repeated search names the first column of the
  least entry, then closes that column by writing +infinity there, and starts again. A stable sort by value
  lists the columns by value and, among equal values, by column number. For a row without an infinite entry the
  `n`-th column that the search names is the `n`-th column of the sorted list.
-/
module

public import Idealize.ShloMosaic.Lib.SortFacts
public import Mathlib.Data.EReal.Basic
public import Mathlib.Data.Prod.Lex
public import Mathlib.Data.Finset.Max

@[expose] public section

noncomputable section

namespace Cert.Proof.Near

open Idealize.ShloMosaic

variable {N : ℕ}

/-- Column `i` holds the least entry of the row, and no earlier column does. -/
def IsFirst (d : Fin N → EReal) (i : Fin N) : Prop := ∀ j, d i < d j ∨ (d i = d j ∧ i ≤ j)

theorem IsFirst.unique {d : Fin N → EReal} {i i' : Fin N} (h : IsFirst d i) (h' : IsFirst d i') : i = i' := by
  rcases h i' with a | ⟨a, b⟩
  · rcases h' i with a' | ⟨a', b'⟩
    · exact absurd (a.trans a') (lt_irrefl _)
    · exact absurd (a'.symm ▸ a) (lt_irrefl _)
  · rcases h' i with a' | ⟨a', b'⟩
    · exact absurd (a ▸ a') (lt_irrefl _)
    · exact le_antisymm b b'

theorem exists_isFirst [NeZero N] (d : Fin N → EReal) : ∃ i, IsFirst d i := by
  obtain ⟨i, hi, hm⟩ := Finset.exists_min_image (Finset.univ : Finset (Fin N)) (fun j => toLex (d j, j))
    ⟨⟨0, Nat.pos_of_ne_zero (NeZero.ne N)⟩, Finset.mem_univ _⟩
  refine ⟨i, fun j => ?_⟩
  have := hm j (Finset.mem_univ _)
  rw [Prod.Lex.le_iff] at this
  exact this

/-- The first column of the least entry. -/
def first [NeZero N] (d : Fin N → EReal) : Fin N := (exists_isFirst d).choose

theorem isFirst_first [NeZero N] (d : Fin N → EReal) : IsFirst d (first d) := (exists_isFirst d).choose_spec

theorem IsFirst.eq_first [NeZero N] {d : Fin N → EReal} {i : Fin N} (h : IsFirst d i) : first d = i :=
  (isFirst_first d).unique h

/-- The row after `n` columns have been named and closed. -/
def rounds [NeZero N] (d : Fin N → EReal) : ℕ → Fin N → EReal
  | 0 => d
  | n + 1 => Function.update (rounds d n) (first (rounds d n)) ⊤

/-- `a` is listed before `b`: a smaller value, or the same value and an earlier column. -/
def Lexi (d : Fin N → EReal) (a b : Fin N) : Prop := d a < d b ∨ (d a = d b ∧ a < b)

theorem pairwise_insert (d : Fin N → EReal) (before : Fin N → Fin N → Bool) (hb : ∀ a b, before a b = true ↔ d a < d b)
    (a : Fin N) (l : List (Fin N)) (hl : l.Pairwise (Lexi d)) (ha : ∀ b ∈ l, a < b) :
    (insertBefore before a l).Pairwise (Lexi d) := by
  induction l with
  | nil => simp [insertBefore]
  | cons b l ih =>
    rw [List.pairwise_cons] at hl
    unfold insertBefore
    split
    · rename_i h
      rw [List.pairwise_cons]
      refine ⟨fun c hc => ?_, ih hl.2 fun c hc => ha c (List.mem_cons_of_mem _ hc)⟩
      rcases List.mem_cons.1 ((perm_insertBefore before a l).mem_iff.1 hc) with rfl | hc
      · exact .inl ((hb _ _).1 h)
      · exact hl.1 c hc
    · rename_i h
      have hle : d a ≤ d b := not_lt.1 fun h' => h ((hb _ _).2 h')
      rw [List.pairwise_cons]
      refine ⟨fun c hc => ?_, List.pairwise_cons.2 hl⟩
      have hle' : d a ≤ d c := by
        rcases List.mem_cons.1 hc with rfl | hc
        · exact hle
        · rcases hl.1 c hc with h' | h'
          · exact hle.trans h'.le
          · exact hle.trans h'.1.le
      rcases hle'.lt_or_eq with h' | h'
      · exact .inl h'
      · exact .inr ⟨h', ha c hc⟩

theorem pairwise_sort (d : Fin N → EReal) (before : Fin N → Fin N → Bool) (hb : ∀ a b, before a b = true ↔ d a < d b)
    (l : List (Fin N)) (hl : l.Pairwise (· < ·)) : (stableSort before l).Pairwise (Lexi d) := by
  induction l with
  | nil => simp [stableSort]
  | cons a l ih =>
    rw [List.pairwise_cons] at hl
    exact pairwise_insert d before hb a _ (ih hl.2) fun b hb' => hl.1 b ((perm_stableSort before l).mem_iff.1 hb')

/-- The sorted positions are in order of value, then of column. -/
theorem sortedFrom_lexi (d : Fin N → EReal) (before : Fin N → Fin N → Bool) (hb : ∀ a b, before a b = true ↔ d a < d b)
    {k k' : Fin N} (h : k < k') : Lexi d (sortedFrom before k) (sortedFrom before k') := by
  have hp : (sortPositions N before).Pairwise (Lexi d) := pairwise_sort d before hb _ (List.pairwise_lt_finRange N)
  exact List.pairwise_iff_get.1 hp _ _ h

variable [NeZero N]

/-- After `n` rounds exactly the first `n` sorted columns are closed, and the next column named is the next sorted one. -/
theorem rounds_eq (d : Fin N → EReal) (before : Fin N → Fin N → Bool) (hb : ∀ a b, before a b = true ↔ d a < d b)
    (hd : ∀ j, d j ≠ ⊤) (n : ℕ) (hn : n ≤ N) :
    ∀ k : Fin N, rounds d n (sortedFrom before k) = if k.val < n then ⊤ else d (sortedFrom before k) := by
  induction n with
  | zero => intro k; simp [rounds]
  | succ n ih =>
    have ih := ih (by omega)
    have hf : first (rounds d n) = sortedFrom before ⟨n, by omega⟩ := by
      refine IsFirst.eq_first fun j => ?_
      obtain ⟨k, rfl⟩ := sortedFrom_surjective before j
      rw [ih, ih, if_neg (by simp)]
      by_cases h : k.val < n
      · rw [if_pos h]; exact .inl (lt_top_iff_ne_top.2 (hd _))
      · rw [if_neg h]
        by_cases h' : k.val = n
        · have : k = ⟨n, by omega⟩ := Fin.ext h'
          rw [this]; exact .inr ⟨rfl, le_refl _⟩
        · exact (sortedFrom_lexi d before hb (show (⟨n, by omega⟩ : Fin N) < k from Fin.lt_def.2 (by simp; omega))).imp id
            fun h => ⟨h.1, h.2.le⟩
    intro k
    rw [rounds, hf]
    by_cases h : k.val = n
    · have : k = ⟨n, by omega⟩ := Fin.ext h
      rw [this, Function.update_self, if_pos (by simp)]
    · rw [Function.update_of_ne (fun h' => h (congrArg Fin.val (sortedFrom_injective before h'))), ih]
      by_cases h' : k.val < n
      · rw [if_pos h', if_pos (by omega)]
      · rw [if_neg h', if_neg (by omega)]

theorem first_rounds_eq (d : Fin N → EReal) (before : Fin N → Fin N → Bool) (hb : ∀ a b, before a b = true ↔ d a < d b)
    (hd : ∀ j, d j ≠ ⊤) (n : Fin N) : first (rounds d n) = sortedFrom before n := by
  have ih := rounds_eq d before hb hd n n.isLt.le
  refine IsFirst.eq_first fun j => ?_
  obtain ⟨k, rfl⟩ := sortedFrom_surjective before j
  rw [ih, ih, if_neg (lt_irrefl _)]
  by_cases h : k.val < n.val
  · rw [if_pos h]; exact .inl (lt_top_iff_ne_top.2 (hd _))
  · rw [if_neg h]
    by_cases h' : k = n
    · rw [h']; exact .inr ⟨rfl, le_refl _⟩
    · exact (sortedFrom_lexi d before hb (show n < k from lt_of_le_of_ne (not_lt.1 h) (Ne.symm h'))).imp id
        fun h => ⟨h.1, h.2.le⟩

end Cert.Proof.Near

end
-- ==== Proof.Near.Spec.lean ====
/-
  The mathematics of the nearest neighbours: a residue's atoms, the distance of two atoms, and the neighbours of a
  residue in order of distance.
-/
module

public import proofs.«01_k».proof.Proof.Near.Pick
public import Idealize.ShloMosaic.Lib.Pointwise

@[expose] public section

noncomputable section

namespace Cert.Proof.Near

open Idealize.ShloMosaic

/-- The coordinates of every chain's residues' atoms. -/
abbrev Coords := Fin 4 → Fin 1024 → Fin 5 → Fin 3 → EReal

variable (X : Coords) (b : Fin 4) (i j : Fin 1024)

section Atoms
variable (Y : Fin 5 → Fin 3 → EReal)

/-- The bond from the first backbone atom to the second, and from the second to the third. -/
def bond1 (k : Fin 3) : EReal := Y 1 k - Y 0 k
def bond2 (k : Fin 3) : EReal := Y 2 k - Y 1 k

/-- The two bonds' cross product. -/
def cross (k : Fin 3) : EReal := match k with
  | 0 => bond1 Y 1 * bond2 Y 2 - bond1 Y 2 * bond2 Y 1
  | 1 => bond1 Y 2 * bond2 Y 0 - bond1 Y 0 * bond2 Y 2
  | 2 => bond1 Y 0 * bond2 Y 1 - bond1 Y 1 * bond2 Y 0

/-- The place of the virtual atom. -/
def virt (k : Fin 3) : EReal :=
  Ideal.ofBits FTy.f32 3205836307#32 * cross Y k + Ideal.ofBits FTy.f32 1058105933#32 * bond1 Y k
    - Ideal.ofBits FTy.f32 1057647016#32 * bond2 Y k + Y 1 k

/-- The five atoms that distances are taken of. -/
def atom (a : Fin 5) (k : Fin 3) : EReal := match a with
  | 0 => Y 0 k
  | 1 => Y 1 k
  | 2 => Y 2 k
  | 3 => Y 4 k
  | 4 => virt Y k

end Atoms

/-- The distance of two points, kept off zero. -/
def gap (p q : Fin 3 → EReal) : EReal := Ideal.sqrt (∑ k, (p k - q k) * (p k - q k) + Ideal.ofBits FTy.f32 897988541#32)

/-- The distance of two residues: that of their second atoms. -/
def sep : EReal := gap (X b i 1) (X b j 1)

/-- A residue's neighbours, nearest first. -/
def neigh (n : ℕ) : Fin 1024 := first (rounds (fun j => sep X b i j) n)

/-- The square of a difference does not see the order. -/
theorem sub_sq_comm (x y : EReal) : (x - y) * (x - y) = (y - x) * (y - x) := by
  induction x using EReal.rec <;> induction y using EReal.rec <;> first | rfl | skip
  rw [← EReal.coe_sub, ← EReal.coe_sub, ← EReal.coe_mul, ← EReal.coe_mul]; congr 1; ring

theorem gap_comm (p q : Fin 3 → EReal) : gap p q = gap q p := by
  unfold gap; simp only [sub_sq_comm (p _)]

end Cert.Proof.Near

end
-- ==== Proof.Near.Edge.lean ====
/-
  The mathematics of an edge: the distances of 25 pairs of atoms, each measured against 16 centres, the two
  residues' places in their chain, the product with the weights, and the normalisation of the 128 features.
-/
module

public import proofs.«01_k».proof.Proof.Near.Spec

@[expose] public section

noncomputable section

namespace Cert.Proof.Near

open Idealize.ShloMosaic

/-- The pairs of atoms: the first residue's, and its neighbour's. -/
def pairA : Fin 25 → Fin 5 := ![1, 0, 2, 3, 4, 1, 1, 1, 1, 0, 0, 0, 4, 4, 3, 0, 2, 3, 4, 2, 3, 4, 2, 3, 2]
def pairB : Fin 25 → Fin 5 := ![1, 0, 2, 3, 4, 0, 2, 3, 4, 2, 3, 4, 2, 3, 2, 1, 1, 1, 1, 0, 0, 0, 4, 4, 3]

/-- The centres' binary words. -/
def centre : Fin 16 → BitVec 32 := ![0x40000000#32, 0x40555555#32, 0x40955555#32, 0x40C00000#32, 0x40EAAAAB#32, 0x410AAAAB#32,
  0x41200000#32, 0x41355555#32, 0x414AAAAB#32, 0x41600000#32, 0x41755555#32, 0x41855555#32, 0x41900000#32, 0x419AAAAB#32,
  0x41A55555#32, 0x41B00000#32]

/-- A distance measured against a centre: the distance in units of the width, and the bump's height there. -/
def units (d m : EReal) : EReal := Ideal.div (d - m) (Ideal.ofBits FTy.f32 1067450368#32)
def bump (d m : EReal) : EReal := Ideal.exp (-(units d m * units d m))

/-- The places of two residues along the chain, one from the other: kept within 32 either way, counted from 0. -/
def rel (i j : Fin 1024) : Fin 66 := ⟨min (i.val + 32 - j.val) 64, by omega⟩

/-- The edge weights' rows: those of the places, and those of a pair and a centre. -/
def placeRow (e : Fin 16) : Fin 416 := ⟨e.val, by omega⟩
def pairRow (p : Fin 25) (t : Fin 16) : Fin 416 := ⟨16 + (p.val * 16 + t.val), by omega⟩

/-- The distance of a pair's atoms. -/
def span (X : Coords) (b : Fin 4) (i j : Fin 1024) (p : Fin 25) : EReal := gap (atom (X b i) (pairA p)) (atom (X b j) (pairB p))

/-- An edge's features before they are normalised. -/
def edge (X : Coords) (wp : Fin 66 → Fin 16 → EReal) (bp : Fin 16 → EReal) (we : Fin 416 → Fin 128 → EReal)
    (b : Fin 4) (i j : Fin 1024) (c : Fin 128) : EReal :=
  ∑ e, (wp (rel i j) e + bp e) * we (placeRow e) c
    + ∑ p, ∑ t, bump (span X b i j p) (Ideal.ofBits FTy.f32 (centre t)) * we (pairRow p t) c

/-- The mean of 128 features, and a feature less the mean. -/
def mean (E : Fin 128 → EReal) : EReal := Ideal.div (∑ c, E c) (Ideal.ofBits FTy.f32 1124073472#32)
def off (E : Fin 128 → EReal) (c : Fin 128) : EReal := E c - mean E

/-- The features less their mean, over their standard deviation, scaled and shifted. -/
def norm (E s t : Fin 128 → EReal) (c : Fin 128) : EReal :=
  Ideal.div (off E c) (Ideal.sqrt (mean (fun c => off E c * off E c) + Ideal.ofBits FTy.f32 925353388#32)) * s c + t c

end Cert.Proof.Near

end
-- ==== Proof.Near.Consts.lean ====
/-
  The programs' literal numbers, as real numbers.
-/
module

public import Idealize.ShloMosaic.Lib.IdealHost
public import Idealize.ShloMosaic.PureOps.Ideal.Laws

@[expose] public section

noncomputable section

namespace Cert.Proof.Near

open Idealize.ShloMosaic

theorem ofBits_inf : Ideal.ofBits .f32 0x7F800000#32 = ⊤ := by
  simp [Ideal.ofBits, Ideal.ieee, BitVec.extractLsb', FTy.bits]

theorem ofBits_64 : Ideal.ofBits .f32 1115684864#32 = ((64 : ℝ) : EReal) := by
  simp [Ideal.ofBits, Ideal.ieee, -EReal.coe_mul]; norm_num

theorem ofBits_32 : Ideal.ofBits .f32 1107296256#32 = ((32 : ℝ) : EReal) := by
  simp [Ideal.ofBits, Ideal.ieee, -EReal.coe_mul]; norm_num

theorem ofBits_127 : Ideal.ofBits .f32 1123942400#32 = ((127 : ℝ) : EReal) := by
  simp [Ideal.ofBits, Ideal.ieee, -EReal.coe_mul]; norm_num

theorem ofBits_width : Ideal.ofBits .f32 1067450368#32 = ((5 / 4 : ℝ) : EReal) := by
  simp [Ideal.ofBits, Ideal.ieee, -EReal.coe_mul]; norm_num

theorem ofBits_eps : ∃ r : ℝ, Ideal.ofBits .f32 897988541#32 = (r : EReal) := by
  simp [Ideal.ofBits, Ideal.ieee, -EReal.coe_mul]

theorem ofBits_cross : ∃ r : ℝ, Ideal.ofBits .f32 3205836307#32 = (r : EReal) := by
  simp [Ideal.ofBits, Ideal.ieee, -EReal.coe_mul]
  exact ⟨_, (EReal.coe_neg _).symm⟩

theorem ofBits_bond1 : ∃ r : ℝ, Ideal.ofBits .f32 1058105933#32 = (r : EReal) := by
  simp [Ideal.ofBits, Ideal.ieee, -EReal.coe_mul]

theorem ofBits_bond2 : ∃ r : ℝ, Ideal.ofBits .f32 1057647016#32 = (r : EReal) := by
  simp [Ideal.ofBits, Ideal.ieee, -EReal.coe_mul]

end Cert.Proof.Near

end
-- ==== Proof.Mix.Body.lean ====
/-
  The last call's body over the extended reals, entry by entry: the distances of a residue's atoms from its
  neighbour's, their bumps, the marks of the two residues' places, and the normalised product with the weights.
-/
module

public import proofs.«01_k».proof.Proof.Sc.Region1
public import proofs.«01_k».proof.Proof.Near.Edge
public import proofs.«01_k».proof.Proof.Near.Consts
public import Idealize.ShloMosaic.Lib.Pointwise
public import Idealize.ShloMosaic.Lib.Pipeline.Value

@[expose] public section

noncomputable section

namespace Cert.Proof.Mix

open Cert.KernelIdeal Cert.KernelIdeal.Gen
open Idealize.ShloMosaic Idealize.ShloMosaic.TcCoe Idealize.SL.Sem
open Cert.Proof.Near

/-- The row of a residue's neighbour within a block. -/
def rowAt (r : Fin 32) (n : Fin 48) : Fin 1536 := ⟨r.val * 48 + n.val, by omega⟩
/-- The column of a coordinate of a pair. -/
def colAt (k : Fin 3) (p : Fin 32) : Fin 96 := ⟨32 * k.val + p.val, by omega⟩
def wide (p : Fin 25) : Fin 32 := ⟨p.val, by omega⟩
/-- The lane of an atom's coordinate in a row of 16. -/
def laneOf (a : Fin 5) (k : Fin 3) : Fin 16 := ⟨a.val * 3 + k.val, by omega⟩
/-- The columns of the bumps and of the marks. -/
def bumpCol (t : Fin 16) (p : Fin 32) : Fin 640 := ⟨t.val * 32 + p.val, by omega⟩
def markCol (u : Fin 128) : Fin 640 := ⟨512 + u.val, by omega⟩
def muCol (t : Fin 16) (p : Fin 32) : Fin 512 := ⟨t.val * 32 + p.val, by omega⟩

/-- Sixteen copies side by side. -/
def tile (z : FVec Ideal S32x48x32 .f32) : FVec Ideal S32x48x512 .f32 :=
  concatenate S32x48x512 2 [⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩] concatenates_S32x48x32_S32x48x32_S32x48x32_S32x48x32_S32x48x32_S32x48x32_S32x48x32_S32x48x32_S32x48x32_S32x48x32_S32x48x32_S32x48x32_S32x48x32_S32x48x32_S32x48x32_S32x48x32_S32x48x512_d2

theorem tile_at (z : FVec Ideal S32x48x32 .f32) (r : Fin 32) (n : Fin 48) (t : Fin 16) (p : Fin 32) :
    tile z (ix3 r n (muCol t p)) = z (ix3 r n p) :=
  concatenate_replicate_apply (s₁ := S32x48x32) (t := S32x48x512) 2 16 z _ rfl (ix3 r n (muCol t p)) (ix3 r n p)
    (show p.val = (t.val * 32 + p.val) % 32 by omega) fun b hb => by
      match b with
      | ⟨0, _⟩ => rfl
      | ⟨1, _⟩ => rfl
      | ⟨2, _⟩ => exact absurd rfl hb

theorem pay1_at (x : FVec Ideal S1536x640 .bf16) (u v : FVec Ideal S640x128 .bf16) (m n : FVec Ideal S1x128 .f32) (r : Fin 32) (k : Fin 48) (c : Fin 128)
    (hv : ∀ q c, v (ix2 q c) = (0 : EReal)) :
    k2_pay1 (F := Ideal) x u v m n (ix4 0 r k c)
      = norm (fun c => ∑ q : Fin 640, x (ix2 (rowAt r k) q) * u (ix2 q c)) (fun c => m (ix2 0 c)) (fun c => n (ix2 0 c)) c := by
  pointwise [k2_pay1]
  simp only [hv, mul_zero, Finset.sum_const_zero, add_zero]
  rfl

/-- A product with a real row's rounding remainder adds nothing. -/
theorem dot_rest {n : ℕ} (x y : Fin n → EReal) (hx : ∀ l, ∃ r : ℝ, x l = r) : ∑ l, x l * y l + ∑ l, (x l - x l) * y l = ∑ l, x l * y l := by
  have : ∀ l, (x l - x l) * y l = 0 := fun l => by
    obtain ⟨r, hr⟩ := hx l
    rw [hr, ← EReal.coe_sub, sub_self, EReal.coe_zero, zero_mul]
  simp only [this, Finset.sum_const_zero, add_zero]

theorem pay3_at (x : FVec Ideal S32x16 .f32) (y : FVec Ideal S16x96 .bf16) (r : Fin 32) (n : Fin 48) (l : Fin 96)
    (hx : ∀ l, ∃ q : ℝ, x (ix2 r l) = (q : EReal)) :
    k2_pay3 (F := Ideal) x y y (ix3 r n l) = ∑ q : Fin 16, x (ix2 r q) * y (ix2 q l) := by
  pointwise [k2_pay3]
  exact dot_rest (fun q => x (ix2 r q)) (fun q => y (ix2 q l)) hx

theorem pay4_at (x : FVec Ideal S1536x16 .f32) (y : FVec Ideal S16x96 .bf16) (r : Fin 32) (n : Fin 48) (l : Fin 96)
    (hx : ∀ l, ∃ q : ℝ, x (ix2 (rowAt r n) l) = (q : EReal)) :
    k2_pay4 (F := Ideal) x y y (ix3 r n l) = ∑ q : Fin 16, x (ix2 (rowAt r n) q) * y (ix2 q l) := by
  pointwise [k2_pay4, k2_pay2]
  exact dot_rest (fun q => x (ix2 (rowAt r n) q)) (fun q => y (ix2 q l)) hx

/-- The tables that pick each pair's atoms, first the residue's, then its neighbour's. -/
theorem pickA : ∀ (x : Fin 16) (k : Fin 3) (p : Fin 25), lit0 (S16x96.rowMajor (ix2 x (colAt k (wide p)))) = if x = laneOf (pairA p) k then 0x3F800000#32 else 0#32 := by
  decide +kernel
theorem pickB : ∀ (x : Fin 16) (k : Fin 3) (p : Fin 25), lit1 (S16x96.rowMajor (ix2 x (colAt k (wide p)))) = if x = laneOf (pairB p) k then 0x3F800000#32 else 0#32 := by
  decide +kernel
theorem centres : ∀ (t : Fin 16) (p : Fin 32), lit2 (S8x512.rowMajor (ix2 0 (muCol t p))) = centre t := by
  decide +kernel

/-- A product with a table that marks one lane is that lane. -/
theorem dot_pick (x : Fin 16 → EReal) (y : Fin 16 → BitVec 32) (a : Fin 16) (hy : ∀ q, y q = if q = a then 0x3F800000#32 else 0#32) :
    ∑ q, x q * Ideal.ofBits .f32 (y q) = x a := by
  have : ∀ q, x q * Ideal.ofBits .f32 (y q) = if q = a then x q else 0 := fun q => by
    rw [hy]
    split
    · rw [Ideal.ofBits_one_f32, mul_one]
    · rw [Ideal.ofBits_zero_f32, mul_zero]
  simp only [this, Finset.sum_ite_eq', Finset.mem_univ, if_true]

set_option maxHeartbeats 2000000 in
/-- The squared distance's three parts. -/
theorem pay56_at (x0 : FVec Ideal S1536x16 .f32) (x : FVec Ideal S32x16 .f32) (y z : FVec Ideal S16x96 .bf16) (r : Fin 32) (n : Fin 48) (p : Fin 25)
    (hx : ∀ l, ∃ q : ℝ, x (ix2 r l) = (q : EReal)) (hx0 : ∀ l, ∃ q : ℝ, x0 (ix2 (rowAt r n) l) = (q : EReal))
    (hy : ∀ q l, y (ix2 q l) = Ideal.ofBits .f32 (lit0 (S16x96.rowMajor (ix2 q l)))) (hz : ∀ q l, z (ix2 q l) = Ideal.ofBits .f32 (lit1 (S16x96.rowMajor (ix2 q l)))) :
    k2_pay5 (F := Ideal) x0 x y y z z (ix3 r n (wide p)) + k2_pay6 (F := Ideal) x0 x y y z z (ix3 r n (wide p))
      = ∑ k : Fin 3, (x (ix2 r (laneOf (pairA p) k)) - x0 (ix2 (rowAt r n) (laneOf (pairB p) k))) * (x (ix2 r (laneOf (pairA p) k)) - x0 (ix2 (rowAt r n) (laneOf (pairB p) k))) := by
  have hA (k : Fin 3) : k2_pay3 (F := Ideal) x y y (ix3 r n (colAt k (wide p))) = x (ix2 r (laneOf (pairA p) k)) := by
    rw [pay3_at x y r n _ hx]
    simp only [hy]
    exact dot_pick (fun q => x (ix2 r q)) (fun q => lit0 (S16x96.rowMajor (ix2 q (colAt k (wide p))))) _ (fun q => pickA q k p)
  have hB (k : Fin 3) : k2_pay4 (F := Ideal) x0 z z (ix3 r n (colAt k (wide p))) = x0 (ix2 (rowAt r n) (laneOf (pairB p) k)) := by
    rw [pay4_at x0 z r n _ hx0]
    simp only [hz]
    exact dot_pick (fun q => x0 (ix2 (rowAt r n) q)) (fun q => lit1 (S16x96.rowMajor (ix2 q (colAt k (wide p))))) _ (fun q => pickB q k p)
  have e0 : (⟨p.val, by omega⟩ : Fin 96) = colAt 0 (wide p) := Fin.ext (by show p.val = 32 * 0 + p.val; omega)
  rw [Fin.sum_univ_three, ← hA 0, ← hA 1, ← hA 2, ← hB 0, ← hB 1, ← hB 2, ← e0]
  pointwise [k2_pay5, k2_pay6]
  rfl

theorem tile_eq (z : FVec Ideal S32x48x32 .f32) : concatenate S32x48x512 2 [⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩, ⟨S32x48x32, z⟩] concatenates_S32x48x32_S32x48x32_S32x48x32_S32x48x32_S32x48x32_S32x48x32_S32x48x32_S32x48x32_S32x48x32_S32x48x32_S32x48x32_S32x48x32_S32x48x32_S32x48x32_S32x48x32_S32x48x32_S32x48x512_d2 = tile z := rfl

theorem bump_eq (d m s : EReal) (hs : s = ((4 / 5 : ℝ) : EReal)) : Ideal.exp (-((d - m) * s * ((d - m) * s))) = bump d m := by
  rw [hs]
  unfold bump units
  rw [ofBits_width, Ideal.div_coe (by norm_num : (5 / 4 : ℝ) ≠ 0), show (1 / (5 / 4) : ℝ) = 4 / 5 by norm_num]

set_option maxHeartbeats 2000000 in
theorem bump_at (b : BitVec 32) (x : FVec Ideal S1536x16 .f32) (d e : FVec Ideal S32x48x32 .f32) (m : FVec Ideal S1x512 .f32) (r : Fin 32) (n : Fin 48) (t : Fin 16) (p : Fin 32) :
    k2_pay7 (F := Ideal) b x d e m (ix2 (rowAt r n) (bumpCol t p))
      = bump (Ideal.sqrt (d (ix3 r n p) + e (ix3 r n p) + Ideal.ofBits FTy.f32 897988541#32)) (m (ix2 0 (muCol t p))) := by
  unfold k2_pay7 rowAt bumpCol
  simp -implicitDefEqProofs only [tile_eq]
  pointwise
  rw [dif_pos (show t.val * 32 + p.val < 512 by omega)]
  have ht := tile_at (sqrt (addf (addf d e) (broadcast S32x48x32 (Ideal.ofBits FTy.f32 897988541#32)))) r n t p
  unfold muCol at ht ⊢
  rw [ht, zero_sub]
  exact bump_eq _ _ _ (IdealRules.named_const.ideal_named_scalar (φ := .f32) κ "inv_sigma" 1061997773#32 ((4 / 5 : ℝ) : EReal) rfl)

theorem word_real (n : ℕ) (h : n < 2 ^ 31) : (FloatOps.sitofp .f32 (BitVec.ofNat 32 n) : Ideal .f32) = ((n : ℝ) : EReal) := by
  show (((BitVec.ofNat 32 n).toInt : ℝ) : EReal) = ((n : ℝ) : EReal)
  rw [BitVec.toInt_eq_toNat_of_lt (by rw [BitVec.toNat_ofNat]; omega), BitVec.toNat_ofNat, Nat.mod_eq_of_lt (by omega)]
  simp

theorem mark_real (P : Prop) [Decidable P] : (FloatOps.sitofp .f32 (BitVec.setWidth 32 (BitVec.ofBool (decide P))) : Ideal .f32) = if P then (1 : EReal) else 0 := by
  by_cases h : P
  · simp only [h, decide_true, if_true]
    exact (word_real 1 (by norm_num)).trans (by simp)
  · simp only [h, decide_false, if_false]
    exact (word_real 0 (by norm_num)).trans (by simp)

/-- The place of two residues, as the body counts it. -/
theorem rel_real (i j b : ℕ) (hi : i < 1024) (hj : j < 1024) :
    min ((64 : ℝ) : EReal) (max 0 ((((i + b * 1024 : ℕ) : ℝ) : EReal) - (((j + b * 1024 : ℕ) : ℝ) : EReal) + ((32 : ℝ) : EReal)))
      = (((rel ⟨i, hi⟩ ⟨j, hj⟩).val : ℝ) : EReal) := by
  rw [← EReal.coe_sub, ← EReal.coe_add, ← EReal.coe_zero, ← EReal.coe_strictMono.monotone.map_max, ← EReal.coe_strictMono.monotone.map_min]
  congr 1
  show _ = ((min (i + 32 - j) 64 : ℕ) : ℝ)
  push_cast
  rcases Nat.le_total j (i + 32) with h | h
  · rw [Nat.cast_sub h, max_eq_right, min_comm]
    · push_cast; congr 1; ring
    · have : (j : ℝ) ≤ i + 32 := by exact_mod_cast h
      linarith
  · rw [Nat.sub_eq_zero_of_le h, max_eq_left]
    · simp
    · have : (i : ℝ) + 32 ≤ j := by exact_mod_cast h
      linarith

set_option maxHeartbeats 2000000 in
theorem mark_at (x : FVec Ideal S1536x16 .f32) (d e : FVec Ideal S32x48x32 .f32) (m : FVec Ideal S1x512 .f32) (r : Fin 32) (n : Fin 48) (u : Fin 128)
    (g : ℕ) (i j : Fin 1024) (b : ℕ) (hb : b < 4) (hg : r.val + g * 32 = i.val + b * 1024) (hx : x (ix2 (rowAt r n) 15) = (((j.val + b * 1024 : ℕ) : ℝ) : EReal)) :
    k2_pay7 (F := Ideal) (BitVec.ofNat 32 g) x d e m (ix2 (rowAt r n) (markCol u))
      = (if u.val = (rel i j).val then (1 : EReal) else 0) + (if u.val = 127 then (1 : EReal) else 0) := by
  unfold rowAt at hx
  pointwise [k2_pay7, rowAt, markCol]
  have hw : IntOp.addi (BitVec.ofNat 32 r.val) (Scalar.muli (BitVec.ofNat 32 g) 32#32) = BitVec.ofNat 32 (i.val + b * 1024) := by
    show BitVec.ofNat 32 r.val + BitVec.ofNat 32 g * 32#32 = _
    rw [← BitVec.ofNat_mul, ← BitVec.ofNat_add, hg]
  rw [hw, hx, word_real _ (by omega), word_real _ (by omega), mark_real, mark_real, ofBits_64, ofBits_32, ofBits_127, rel_real _ _ _ i.isLt j.isLt]
  have h127 : ((u.val : ℝ) = 127) ↔ u.val = 127 := by exact_mod_cast Iff.rfl
  simp only [EReal.coe_eq_coe_iff, Nat.cast_inj, h127]

end Cert.Proof.Mix

end
-- ==== Proof.Near.Real.lean ====
/-
  Finite coordinates give finite atoms and finite distances.
-/
module

public import proofs.«01_k».proof.Proof.Near.Spec
public import proofs.«01_k».proof.Proof.Near.Consts

@[expose] public section

noncomputable section

namespace Cert.Proof.Near

open Idealize.ShloMosaic

/-- A number that is finite. -/
def Fine (x : EReal) : Prop := ∃ r : ℝ, x = (r : EReal)

theorem Fine.add {x y : EReal} (hx : Fine x) (hy : Fine y) : Fine (x + y) := by
  obtain ⟨r, rfl⟩ := hx; obtain ⟨s, rfl⟩ := hy
  exact ⟨r + s, (EReal.coe_add r s).symm⟩
theorem Fine.sub {x y : EReal} (hx : Fine x) (hy : Fine y) : Fine (x - y) := by
  obtain ⟨r, rfl⟩ := hx; obtain ⟨s, rfl⟩ := hy
  exact ⟨r - s, (EReal.coe_sub r s).symm⟩
theorem Fine.mul {x y : EReal} (hx : Fine x) (hy : Fine y) : Fine (x * y) := by
  obtain ⟨r, rfl⟩ := hx; obtain ⟨s, rfl⟩ := hy
  exact ⟨r * s, (EReal.coe_mul r s).symm⟩
theorem Fine.sum {n : ℕ} (f : Fin n → EReal) (h : ∀ i, Fine (f i)) : Fine (∑ i, f i) := by
  choose r hr using h
  refine ⟨∑ i, r i, ?_⟩
  rw [Finset.sum_congr rfl fun i _ => hr i]
  exact (map_sum (⟨⟨Real.toEReal, EReal.coe_zero⟩, EReal.coe_add⟩ : ℝ →+ EReal) r Finset.univ).symm
theorem Fine.sub_self {x : EReal} (h : Fine x) : x - x = 0 := by
  obtain ⟨r, rfl⟩ := h
  rw [← EReal.coe_sub, _root_.sub_self, EReal.coe_zero]
theorem Fine.add_mul {x y z : EReal} (hx : Fine x) (hy : Fine y) (hz : Fine z) : (x + y) * z = x * z + y * z := by
  obtain ⟨r, rfl⟩ := hx; obtain ⟨s, rfl⟩ := hy; obtain ⟨t, rfl⟩ := hz
  rw [← EReal.coe_add, ← EReal.coe_mul, ← EReal.coe_mul, ← EReal.coe_mul, ← EReal.coe_add, _root_.add_mul]
theorem Fine.zero : Fine 0 := ⟨0, EReal.coe_zero.symm⟩

variable (Y : Fin 5 → Fin 3 → EReal) (hY : ∀ a k, Fine (Y a k))
include hY

theorem cross_fine (k : Fin 3) : Fine (cross Y k) := by
  have h1 : ∀ k, Fine (bond1 Y k) := fun k => (hY 1 k).sub (hY 0 k)
  have h2 : ∀ k, Fine (bond2 Y k) := fun k => (hY 2 k).sub (hY 1 k)
  match k with
  | 0 => exact ((h1 1).mul (h2 2)).sub ((h1 2).mul (h2 1))
  | 1 => exact ((h1 2).mul (h2 0)).sub ((h1 0).mul (h2 2))
  | 2 => exact ((h1 0).mul (h2 1)).sub ((h1 1).mul (h2 0))

theorem atom_fine (a : Fin 5) (k : Fin 3) : Fine (atom Y a k) :=
  match a with
  | 0 => hY 0 k
  | 1 => hY 1 k
  | 2 => hY 2 k
  | 3 => hY 4 k
  | 4 => (((Fine.mul ofBits_cross (cross_fine Y hY k)).add (Fine.mul ofBits_bond1 ((hY 1 k).sub (hY 0 k)))).sub
      (Fine.mul ofBits_bond2 ((hY 2 k).sub (hY 1 k)))).add (hY 1 k)

omit hY in
theorem sep_ne_top (X : Coords) (hX : ∀ b i a k, Fine (X b i a k)) (b : Fin 4) (i j : Fin 1024) : sep X b i j ≠ ⊤ := by
  have h : Fine (∑ k, (X b i 1 k - X b j 1 k) * (X b i 1 k - X b j 1 k) + Ideal.ofBits FTy.f32 897988541#32) :=
    (Fine.sum _ fun k => ((hX b i 1 k).sub (hX b j 1 k)).mul ((hX b i 1 k).sub (hX b j 1 k))).add ofBits_eps
  unfold sep gap
  obtain ⟨r, hr⟩ := h
  rw [hr, Ideal.sqrt_coe]
  split <;> simp

end Cert.Proof.Near

end
-- ==== Proof.Near.Value.lean ====
/-
  The rounds of the nearest-neighbour search over the extended reals: the column that a round names is the first
  column of the row's least entry.
-/
module

public import proofs.«01_k».proof.Proof.Near.Rounds
public import proofs.«01_k».proof.Proof.Near.Pick
public import proofs.«01_k».proof.Proof.Near.Consts
public import Idealize.ShloMosaic.Lib.Pointwise

@[expose] public section

noncomputable section

namespace Cert.Proof.Near

open Cert.KernelIdeal Cert.KernelIdeal.Gen
open Idealize.ShloMosaic

theorem toInt_small {n : ℕ} (h : n ≤ 1024) : (BitVec.ofNat 32 n).toInt = n := by
  have h1 : (BitVec.ofNat 32 n).toNat = n := by rw [BitVec.toNat_ofNat]; omega
  rw [BitVec.toInt_eq_toNat_of_lt (by omega), h1]

theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.1 h)]

variable (D : FVec Ideal S256x1024 .f32) (r : Fin 256)

/-- A row's least distance. -/
theorem mn_apply {i : Fin 1024} (hi : IsFirst (fun j => D (ix2 r j)) i) : mn D (ix2 r 0) = D (ix2 r i) := by
  pointwise [mn]
  rw [ofBits_inf]
  refine le_antisymm (Finset.fold_min_le _ |>.2 (.inr ⟨i, Finset.mem_univ _, le_refl _⟩)) ((Finset.le_fold_min _).2 ⟨le_top, fun j _ => ?_⟩)
  rcases hi j with h | h
  · exact h.le
  · exact h.1.le

/-- The column that a round names is the first column of the row's least distance. -/
theorem ix_apply : ix D (ix2 r 0) = BitVec.ofNat 32 (first fun j => D (ix2 r j)).val := by
  have hi := isFirst_first fun j : Fin 1024 => D (ix2 r j)
  revert hi
  generalize (first fun j : Fin 1024 => D (ix2 r j)) = i
  intro hi
  have hm := mn_apply D r hi
  pointwise [ix, hit, iot, big]
  rw [hm]
  refine BitVec.eq_of_toInt_eq ?_
  rw [← Finset.fold_hom (op' := min) (m := BitVec.toInt) toInt_minsi, toInt_small i.isLt.le]
  refine le_antisymm (Finset.fold_min_le _ |>.2 (.inr ⟨i, Finset.mem_univ _, ?_⟩)) ((Finset.le_fold_min _).2 ⟨?_, fun j _ => ?_⟩)
  · rw [if_pos rfl, toInt_small i.isLt.le]
  · have := i.isLt
    rw [show (2147483647#32).toInt = 2147483647 from by decide]; omega
  · split
    · rename_i h
      rw [toInt_small j.isLt.le]
      rcases hi j with h' | h'
      · have h'' : D (ix2 r i) < D (ix2 r j) := h'
        rw [h] at h''
        exact absurd h'' (lt_irrefl _)
      · exact Int.ofNat_le.2 h'.2
    · have := i.isLt
      rw [show (1024#32).toInt = 1024 from by decide]; omega

/-- A round closes the column that it names. -/
theorem nx_apply (j : Fin 1024) :
    nx D (ix2 r j) = Function.update (fun j => D (ix2 r j)) (first fun j => D (ix2 r j)) ⊤ j := by
  pointwise [nx, at', iot, far, ix_apply D r]
  rw [ofBits_inf]
  generalize (first fun j : Fin 1024 => D (ix2 r j)) = i
  by_cases h : j = i
  · rw [h, Function.update_self]
    simp [IntOp.cmpi, Scalar.select]
  · rw [Function.update_of_ne h]
    have hne : BitVec.ofNat 32 j.val ≠ BitVec.ofNat 32 i.val := fun h' => h (Fin.ext (by
      have := congrArg BitVec.toNat h'
      rw [BitVec.toNat_ofNat, BitVec.toNat_ofNat] at this
      have := i.isLt; have := j.isLt
      omega))
    have hb : (BitVec.ofNat 32 j.val == BitVec.ofNat 32 i.val) = false := beq_eq_false_iff_ne.2 hne
    simp [IntOp.cmpi, Scalar.select, hb]

/-- The distances after `n` rounds. -/
theorem Dn_apply (n : ℕ) : (fun j => Dn D n (ix2 r j)) = rounds (fun j => D (ix2 r j)) n := by
  induction n with
  | zero => rfl
  | succ n ih =>
    funext j
    show nx (Dn D n) (ix2 r j) = _
    rw [nx_apply, ih, rounds]

/-- The column named in round `n` of row `r`. -/
def pick (n : ℕ) : Fin 1024 := first (rounds (fun j => D (ix2 r j)) n)

theorem ix_Dn (n : ℕ) : ix (Dn D n) (ix2 r 0) = BitVec.ofNat 32 (pick D r n).val := by
  rw [ix_apply, Dn_apply]; rfl

/-- The 48 columns, side by side. -/
theorem cols_apply (k : Fin 48) : cols D (ix2 r k) = BitVec.ofNat 32 (pick D r k.val).val := by
  rw [← ix_Dn]
  unfold cols
  fin_cases k <;> pointwise
  all_goals rfl

end Cert.Proof.Near

end
-- ==== Proof.Near.Arrays.lean ====
/-
  The three arrays of the first call, from the atoms: the neighbours, the neighbours counted over all chains, and the
  table of atoms.
-/
module

public import proofs.«01_k».proof.Proof.Sc.Region0
public import proofs.«01_k».proof.Proof.Gen.KernelIdeal.Points
public import proofs.«01_k».proof.Proof.Near.Value
public import proofs.«01_k».proof.Proof.Near.Spec

@[expose] public section

noncomputable section

namespace Cert.Proof.Near

open Cert.KernelIdeal Cert.KernelIdeal.Gen
open Idealize.ShloMosaic Idealize.ShloMosaic.TcCoe Idealize.SL.Sem
open Cert.Proof.Sc (dat0 rows0 ctrs0)

/-- The distances of one block of rows. -/
theorem pay3_apply (x : FVec Ideal S1x256x15 .f32) (y : FVec Ideal S1x8x1024 .f32) (i : Fin 256) (j : Fin 1024) :
    k0_pay3 (F := Ideal) x y (ix2 i j)
      = gap ![x (ix3 0 i 3), x (ix3 0 i 4), x (ix3 0 i 5)] ![y (ix3 0 0 j), y (ix3 0 1 j), y (ix3 0 2 j)] := by
  pointwise [k0_pay3, k0_pay2]
  unfold gap
  rw [Fin.sum_univ_three]
  rfl

/-- Where an atom's coordinate lies in a residue's row of 15, and where a coordinate's columns lie. -/
def lane15 (a : Fin 5) (k : Fin 3) : Fin 15 := ⟨a.val * 3 + k.val, by omega⟩
def row8 (k : Fin 3) : Fin 8 := ⟨k.val, by omega⟩

variable (V : (c : Dev nD) → (b : Ref sig .tc) → Buf (Elt Ideal) ((c : Thread nD τ).loc b)) (c : Dev nD)

/-- Where the grid's points' blocks lie. -/
theorem idx0_0 : ∀ t : Fin cfg0.N, win0_0.index t 0 = t.val / 4 ∧ win0_0.index t 1 = t.val % 4 ∧ win0_0.index t 2 = 0 := by
  decide +kernel
theorem idx0_1 : ∀ t : Fin cfg0.N, win0_1.index t 0 = t.val / 4 ∧ win0_1.index t 1 = 0 ∧ win0_1.index t 2 = 0 := by
  decide +kernel
theorem idx0_2 : ∀ t : Fin cfg0.N, win0_2.index t 0 = t.val / 4 ∧ win0_2.index t 1 = t.val % 4 ∧ win0_2.index t 2 = 0 := by
  decide +kernel
theorem idx0_3 : ∀ t : Fin cfg0.N, win0_3.index t 0 = t.val / 4 ∧ win0_3.index t 1 = t.val % 4 ∧ win0_3.index t 2 = 0 := by
  decide +kernel
theorem idx0_4 : ∀ t : Fin cfg0.N, win0_4.index t 0 = t.val / 4 ∧ win0_4.index t 1 = t.val % 4 ∧ win0_4.index t 2 = 0 := by
  decide +kernel
theorem crd0 : ∀ t : Fin cfg0.N, (grid0.coords t 0).val = t.val / 4 ∧ (grid0.coords t 1).val = t.val % 4 := by
  decide +kernel

/-- A point's chain, and the residue at one of its rows. -/
def chainOf (t : Fin cfg0.N) : Fin 4 := ⟨t.val / 4, by have : t.val < 16 := t.isLt; omega⟩
def resOf (t : Fin cfg0.N) (i : Fin 256) : Fin 1024 := ⟨t.val % 4 * 256 + i.val, by omega⟩

theorem emb0_0 (t : Fin cfg0.N) (i : Fin 256) (l : Fin 15) : ((cfg0.win 0).blk t).view.emb (ix3 0 i l) = ix3 (chainOf t) (resOf t i) l := by
  obtain ⟨h0, h1, h2⟩ := idx0_0 t
  funext a; apply Fin.ext
  match a with
  | ⟨0, _⟩ => show win0_0.index t (0 : Fin 3) * 1 + 1 * 0 = t.val / 4; omega
  | ⟨1, _⟩ => show win0_0.index t (1 : Fin 3) * 256 + 1 * i.val = t.val % 4 * 256 + i.val; omega
  | ⟨2, _⟩ => show win0_0.index t (2 : Fin 3) * 15 + 1 * l.val = l.val; omega
theorem emb0_1 (t : Fin cfg0.N) (i : Fin 8) (l : Fin 1024) : ((cfg0.win 1).blk t).view.emb (ix3 0 i l) = ix3 (chainOf t) i l := by
  obtain ⟨h0, h1, h2⟩ := idx0_1 t
  funext a; apply Fin.ext
  match a with
  | ⟨0, _⟩ => show win0_1.index t (0 : Fin 3) * 1 + 1 * 0 = t.val / 4; omega
  | ⟨1, _⟩ => show win0_1.index t (1 : Fin 3) * 8 + 1 * i.val = i.val; omega
  | ⟨2, _⟩ => show win0_1.index t (2 : Fin 3) * 1024 + 1 * l.val = l.val; omega
theorem emb0_2 (t : Fin cfg0.N) (i : Fin 256) (l : Fin 48) : ((cfg0.win 2).blk t).view.emb (ix3 0 i l) = ix3 (chainOf t) (resOf t i) l := by
  obtain ⟨h0, h1, h2⟩ := idx0_2 t
  funext a; apply Fin.ext
  match a with
  | ⟨0, _⟩ => show win0_2.index t (0 : Fin 3) * 1 + 1 * 0 = t.val / 4; omega
  | ⟨1, _⟩ => show win0_2.index t (1 : Fin 3) * 256 + 1 * i.val = t.val % 4 * 256 + i.val; omega
  | ⟨2, _⟩ => show win0_2.index t (2 : Fin 3) * 48 + 1 * l.val = l.val; omega
theorem emb0_3 (t : Fin cfg0.N) (i : Fin 256) (l : Fin 48) : ((cfg0.win 3).blk t).view.emb (ix3 0 i l) = ix3 (chainOf t) (resOf t i) l := by
  obtain ⟨h0, h1, h2⟩ := idx0_3 t
  funext a; apply Fin.ext
  match a with
  | ⟨0, _⟩ => show win0_3.index t (0 : Fin 3) * 1 + 1 * 0 = t.val / 4; omega
  | ⟨1, _⟩ => show win0_3.index t (1 : Fin 3) * 256 + 1 * i.val = t.val % 4 * 256 + i.val; omega
  | ⟨2, _⟩ => show win0_3.index t (2 : Fin 3) * 48 + 1 * l.val = l.val; omega
theorem emb0_4 (t : Fin cfg0.N) (i : Fin 256) (l : Fin 16) : ((cfg0.win 4).blk t).view.emb (ix3 0 i l) = ix3 (chainOf t) (resOf t i) l := by
  obtain ⟨h0, h1, h2⟩ := idx0_4 t
  funext a; apply Fin.ext
  match a with
  | ⟨0, _⟩ => show win0_4.index t (0 : Fin 3) * 1 + 1 * 0 = t.val / 4; omega
  | ⟨1, _⟩ => show win0_4.index t (1 : Fin 3) * 256 + 1 * i.val = t.val % 4 * 256 + i.val; omega
  | ⟨2, _⟩ => show win0_4.index t (2 : Fin 3) * 16 + 1 * l.val = l.val; omega

theorem rows0_apply (t : Fin cfg0.N) (i : Fin 256) (l : Fin 15) :
    rows0 V c t (ix3 0 i l) = V c main_v0 (ix3 (chainOf t) (resOf t i) l) := by
  show V c main_v0 (((cfg0.win 0).blk t).view.emb (ix3 0 i l)) = _
  rw [emb0_0]
theorem ctrs0_apply (t : Fin cfg0.N) (i : Fin 8) (l : Fin 1024) :
    ctrs0 V c t (ix3 0 i l) = V c main_v6 (ix3 (chainOf t) i l) := by
  show V c main_v6 (((cfg0.win 1).blk t).view.emb (ix3 0 i l)) = _
  rw [emb0_1]

/-- Every residue lies in some point's block. -/
theorem res_cover (b : Fin 4) (i : Fin 1024) : ∃ (t : Fin cfg0.N) (i' : Fin 256), chainOf t = b ∧ resOf t i' = i :=
  ⟨⟨b.val * 4 + i.val / 256, by show _ < 16; omega⟩, ⟨i.val % 256, by omega⟩,
    Fin.ext (show (b.val * 4 + i.val / 256) / 4 = b.val by omega),
    Fin.ext (show (b.val * 4 + i.val / 256) % 4 * 256 + i.val % 256 = i.val by omega)⟩

variable (X : Coords)
  (hA : ∀ b i (a : Fin 5) (k : Fin 3), V c main_v0 (ix3 b i (lane15 a k)) = X b i a k)
  (hB : ∀ b j (k : Fin 3), V c main_v6 (ix3 b (row8 k) j) = X b j 1 k)

include hA hB in
/-- A block's distances are the residues'. -/
theorem dist_blk (t : Fin cfg0.N) (i : Fin 256) (j : Fin 1024) :
    k0_pay3 (F := Ideal) (rows0 V c t) (ctrs0 V c t) (ix2 i j) = sep X (chainOf t) (resOf t i) j := by
  rw [pay3_apply]
  unfold sep
  congr 1
  · funext k
    rw [← hA (chainOf t) (resOf t i) 1 k]
    match k with
    | 0 => exact rows0_apply V c t i 3
    | 1 => exact rows0_apply V c t i 4
    | 2 => exact rows0_apply V c t i 5
  · funext k
    rw [← hB (chainOf t) j k]
    match k with
    | 0 => exact ctrs0_apply V c t 0 j
    | 1 => exact ctrs0_apply V c t 1 j
    | 2 => exact ctrs0_apply V c t 2 j

/-- The neighbours, as the first call's array. -/
def nbr : IVec S4x1024x48 32 := fun q => BitVec.ofNat 32 (neigh X (q 0) (q 1) (q 2).val).val
/-- The neighbours counted over all chains. -/
def nbrAll : IVec S4x1024x48 32 := fun q => BitVec.ofNat 32 (neigh X (q 0) (q 1) (q 2).val).val + BitVec.ofNat 32 (q 0).val * 1024#32

include hA hB in
theorem pick_blk (t : Fin cfg0.N) (i : Fin 256) (n : ℕ) :
    pick (k0_pay3 (F := Ideal) (rows0 V c t) (ctrs0 V c t)) i n = neigh X (chainOf t) (resOf t i) n := by
  unfold pick neigh
  congr 2
  funext j
  exact dist_blk V c X hA hB t i j

include hA hB in
theorem flushed0_2 (t : Fin cfg0.N) : (dat0 V c).flushed 2 t = ((cfg0.win 2).blk t).view.read (Elt Ideal) (nbr X) := by
  funext q
  obtain ⟨z, i, l, rfl⟩ : ∃ z i l, q = ix3 z i l := ⟨q 0, q 1, q 2, by funext a; match a with | ⟨0, _⟩ => rfl | ⟨1, _⟩ => rfl | ⟨2, _⟩ => rfl⟩
  obtain rfl : z = 0 := Subsingleton.elim _ _
  have hr : ((cfg0.win 2).blk t).view.read (Elt Ideal) (nbr X) (ix3 0 i l) = nbr X (ix3 (chainOf t) (resOf t i) l) := by
    show nbr X (((cfg0.win 2).blk t).view.emb (ix3 0 i l)) = _
    rw [emb0_2]
  rw [hr]
  show eOut (k0_pay3 (F := Ideal) (rows0 V c t) (ctrs0 V c t)) (ix3 0 i l) = _
  have : eOut (k0_pay3 (F := Ideal) (rows0 V c t) (ctrs0 V c t)) (ix3 0 i l) = cols (k0_pay3 (F := Ideal) (rows0 V c t) (ctrs0 V c t)) (ix2 i l) := by
    pointwise [eOut]
  rw [this, cols_apply, pick_blk V c X hA hB]
  rfl

include hA hB in
/-- The first call's first array: the neighbours. -/
theorem arr0_2 : (dat0 V c).arrAt 2 cfg0.N = nbr X :=
  (dat0 V c).arrAt_eq_of_cover 2 (nbr X) (fun t _ => flushed0_2 V c X hA hB t) fun (q : S4x1024x48.Idx) => by
    obtain ⟨b, i, l, rfl⟩ : ∃ b i l, q = ix3 b i l := ⟨q 0, q 1, q 2, by funext a; match a with | ⟨0, _⟩ => rfl | ⟨1, _⟩ => rfl | ⟨2, _⟩ => rfl⟩
    obtain ⟨t, i', rfl, rfl⟩ := res_cover b i
    refine ⟨t, flush0_2 t, ?_⟩
    have h := ((cfg0.win 2).blk t).view.emb_mem_set (ix3 0 i' l : S1x256x48.Idx)
    rwa [emb0_2] at h

include hA hB in
theorem flushed0_3 (t : Fin cfg0.N) : (dat0 V c).flushed 3 t = ((cfg0.win 3).blk t).view.read (Elt Ideal) (nbrAll X) := by
  funext q
  obtain ⟨z, i, l, rfl⟩ : ∃ z i l, q = ix3 z i l := ⟨q 0, q 1, q 2, by funext a; match a with | ⟨0, _⟩ => rfl | ⟨1, _⟩ => rfl | ⟨2, _⟩ => rfl⟩
  obtain rfl : z = 0 := Subsingleton.elim _ _
  have hr : ((cfg0.win 3).blk t).view.read (Elt Ideal) (nbrAll X) (ix3 0 i l) = nbrAll X (ix3 (chainOf t) (resOf t i) l) := by
    show nbrAll X (((cfg0.win 3).blk t).view.emb (ix3 0 i l)) = _
    rw [emb0_3]
  rw [hr]
  show gOut (BitVec.ofNat 32 (grid0.coords t 0).val) (k0_pay3 (F := Ideal) (rows0 V c t) (ctrs0 V c t)) (ix3 0 i l) = _
  rw [(crd0 t).1]
  have : gOut (BitVec.ofNat 32 (t.val / 4)) (k0_pay3 (F := Ideal) (rows0 V c t) (ctrs0 V c t)) (ix3 0 i l)
      = cols (k0_pay3 (F := Ideal) (rows0 V c t) (ctrs0 V c t)) (ix2 i l) + BitVec.ofNat 32 (t.val / 4) * 1024#32 := by
    pointwise [gOut]
    rfl
  rw [this, cols_apply, pick_blk V c X hA hB]
  rfl

include hA hB in
/-- The first call's second array: the neighbours counted over all chains. -/
theorem arr0_3 : (dat0 V c).arrAt 3 cfg0.N = nbrAll X :=
  (dat0 V c).arrAt_eq_of_cover 3 (nbrAll X) (fun t _ => flushed0_3 V c X hA hB t) fun (q : S4x1024x48.Idx) => by
    obtain ⟨b, i, l, rfl⟩ : ∃ b i l, q = ix3 b i l := ⟨q 0, q 1, q 2, by funext a; match a with | ⟨0, _⟩ => rfl | ⟨1, _⟩ => rfl | ⟨2, _⟩ => rfl⟩
    obtain ⟨t, i', rfl, rfl⟩ := res_cover b i
    refine ⟨t, flush0_3 t, ?_⟩
    have h := ((cfg0.win 3).blk t).view.emb_mem_set (ix3 0 i' l : S1x256x48.Idx)
    rwa [emb0_3] at h

/-- A residue's row of the table: its five atoms' coordinates, then its number over all chains. -/
def lane (b : Fin 4) (i : Fin 1024) (l : Fin 16) : EReal :=
  if h : l.val < 15 then atom (X b i) ⟨l.val / 3, by omega⟩ ⟨l.val % 3, by omega⟩ else ((i.val + b.val * 1024 : ℕ) : ℝ)
/-- The table, as the first call's array. -/
def table : FVec Ideal S4x1024x16 .f32 := fun q => lane X (q 0) (q 1) (q 2)

include hA in
set_option maxRecDepth 16384 in
set_option maxHeartbeats 2000000 in
theorem pOut_apply (t : Fin cfg0.N) (i : Fin 256) (l : Fin 16) :
    pOut (F := Ideal) (BitVec.ofNat 32 (t.val / 4)) (BitVec.ofNat 32 (t.val % 4)) (rows0 V c t) (ix3 0 i l) = lane X (chainOf t) (resOf t i) l := by
  have hx : ∀ (a : Fin 5) (k : Fin 3), rows0 V c t (ix3 0 i (lane15 a k)) = X (chainOf t) (resOf t i) a k := fun a k => by
    rw [rows0_apply, hA]
  generalize rows0 V c t = x at hx ⊢
  have hX : X (chainOf t) (resOf t i) = fun a k => x (ix3 0 i (lane15 a k)) := by funext a k; exact (hx a k).symm
  unfold pOut
  unfold_payloads
  pointwise
  unfold lane
  rw [hX]
  fin_vals l with hk
  all_goals simp only [hk, Nat.reduceSub, Nat.reduceLT, ↓reduceDIte]
  on_goal 16 =>
    have ht : t.val < 16 := t.isLt
    have hw : IntOp.addi (BitVec.ofNat 32 i.val) (Scalar.addi (Scalar.muli (BitVec.ofNat 32 (t.val % 4)) 256#32) (Scalar.muli (BitVec.ofNat 32 (t.val / 4)) 1024#32))
        = BitVec.ofNat 32 ((resOf t i).val + (chainOf t).val * 1024) := by
      show BitVec.ofNat 32 i.val + (BitVec.ofNat 32 (t.val % 4) * 256#32 + BitVec.ofNat 32 (t.val / 4) * 1024#32) = BitVec.ofNat 32 (t.val % 4 * 256 + i.val + t.val / 4 * 1024)
      rw [← BitVec.ofNat_mul, ← BitVec.ofNat_mul, ← BitVec.ofNat_add, ← BitVec.ofNat_add]
      congr 1; omega
    rw [hw]
    have hlt : (resOf t i).val + (chainOf t).val * 1024 < 4096 := by have := (resOf t i).isLt; have := (chainOf t).isLt; omega
    generalize (resOf t i).val + (chainOf t).val * 1024 = n at hlt ⊢
    show (((BitVec.ofNat 32 n).toInt : ℝ) : EReal) = ((n : ℝ) : EReal)
    rw [BitVec.toInt_eq_toNat_of_lt (by rw [BitVec.toNat_ofNat]; omega), BitVec.toNat_ofNat, Nat.mod_eq_of_lt (by omega)]
    simp
  all_goals rfl

include hA in
theorem flushed0_4 (t : Fin cfg0.N) : (dat0 V c).flushed 4 t = ((cfg0.win 4).blk t).view.read (Elt Ideal) (table X) := by
  funext q
  obtain ⟨z, i, l, rfl⟩ : ∃ z i l, q = ix3 z i l := ⟨q 0, q 1, q 2, by funext a; match a with | ⟨0, _⟩ => rfl | ⟨1, _⟩ => rfl | ⟨2, _⟩ => rfl⟩
  obtain rfl : z = 0 := Subsingleton.elim _ _
  have hr : ((cfg0.win 4).blk t).view.read (Elt Ideal) (table X) (ix3 0 i l) = table X (ix3 (chainOf t) (resOf t i) l) := by
    show table X (((cfg0.win 4).blk t).view.emb (ix3 0 i l)) = _
    rw [emb0_4]
  rw [hr]
  show pOut (F := Ideal) (BitVec.ofNat 32 (grid0.coords t 0).val) (BitVec.ofNat 32 (grid0.coords t 1).val) (rows0 V c t) (ix3 0 i l) = _
  rw [(crd0 t).1, (crd0 t).2]
  exact pOut_apply V c X hA t i l

include hA in
/-- The first call's third array: the table. -/
theorem arr0_4 : (dat0 V c).arrAt 4 cfg0.N = table X :=
  (dat0 V c).arrAt_eq_of_cover 4 (table X) (fun t _ => flushed0_4 V c X hA t) fun (q : S4x1024x16.Idx) => by
    obtain ⟨b, i, l, rfl⟩ : ∃ b i l, q = ix3 b i l := ⟨q 0, q 1, q 2, by funext a; match a with | ⟨0, _⟩ => rfl | ⟨1, _⟩ => rfl | ⟨2, _⟩ => rfl⟩
    obtain ⟨t, i', rfl, rfl⟩ := res_cover b i
    refine ⟨t, flush0_4 t, ?_⟩
    have h := ((cfg0.win 4).blk t).view.emb_mem_set (ix3 0 i' l : S1x256x16.Idx)
    rwa [emb0_4] at h

end Cert.Proof.Near

end
-- ==== Proof.Near.Scatter.lean ====
/-
  The host code's writes of one array into another: a window set at a start.
-/
module

public import proofs.«01_k».proof.Proof.Gen.KernelIdeal.Skeleton
public import Idealize.ShloMosaic.Lib.Routing.OpsPair
public import Idealize.ShloMosaic.Lib.Routing.OpsSet
public import Idealize.ShloMosaic.Lib.Pointwise

@[expose] public section

noncomputable section

namespace Cert.Proof.Near

open Cert.KernelIdeal Cert.KernelIdeal.Gen
open Idealize.ShloMosaic

variable {α : Type}

theorem eq_ix1 (q : S1.Idx) : q = ix1 0 := by
  funext a; match a with | ⟨0, _⟩ => exact Subsingleton.elim (α := Fin 1) _ _

/-- A window's start, where one start index is given. -/
theorem start_one {t u : Shape} (d : ScatterDims t S1 u) (j : u.Idx) (s : S1.Idx → BitVec 32) (a : Fin t.rank) :
    d.start j s a = if a ∈ d.scatterDimsToOperandDims then (s (ix1 0)).toInt else 0 := by
  unfold ScatterDims.start
  split
  · rw [eq_ix1 (d.siIdx _ _)]
  · rfl

theorem ex_ix1 {n : ℕ} (q : (⟨1, ![n]⟩ : Shape).Idx) : ∃ a : Fin n, q = ix1 a :=
  ⟨q 0, by funext a; match a with | ⟨0, _⟩ => rfl⟩
theorem ex_ix2 {n0 n1 : ℕ} (q : (⟨2, ![n0, n1]⟩ : Shape).Idx) : ∃ (a : Fin n0) (b : Fin n1), q = ix2 a b :=
  ⟨q 0, q 1, by funext a; match a with | ⟨0, _⟩ => rfl | ⟨1, _⟩ => rfl⟩
theorem ex_ix3 {n0 n1 n2 : ℕ} (q : (⟨3, ![n0, n1, n2]⟩ : Shape).Idx) : ∃ (a : Fin n0) (b : Fin n1) (c : Fin n2), q = ix3 a b c :=
  ⟨q 0, q 1, q 2, by funext a; match a with | ⟨0, _⟩ => rfl | ⟨1, _⟩ => rfl | ⟨2, _⟩ => rfl⟩

/-- Three rows of columns set on top of eight. -/
theorem set_cols (x : S4x8x1024.Idx → α) (s : S1.Idx → BitVec 32) (hs : s (ix1 0) = 0#32) (u : S4x3x1024.Idx → α) (b : Fin 4) (k : Fin 3) (j : Fin 1024) :
    Host.scatter scatter_S4x8x1024_S1_S4x3x1024_012_n_1_0 (fun _ b => b) x s u (ix3 b ⟨k.val, by omega⟩ j) = u (ix3 b k j) := by
  have key : ∀ (b' : Fin 4) (k' : Fin 3) (j' : Fin 1024), scatter_S4x8x1024_S1_S4x3x1024_012_n_1_0.resultIdx? (ix3 b' k' j') s = some (ix3 b ⟨k.val, by omega⟩ j) ↔ b' = b ∧ k' = k ∧ j' = j := by
    intro b' k' j'
    rw [Routing.resultIdx?_eq_some]
    simp only [start_one, hs]
    constructor
    · intro h
      have h0 := h 0
      have h1 := h 1
      have h2 := h 2
      refine ⟨Fin.ext ?_, Fin.ext ?_, Fin.ext ?_⟩
      · have : (0 : ℤ) + (b'.val : ℤ) = b.val := h0; omega
      · have : (0 : ℤ) + (k'.val : ℤ) = k.val := h1; omega
      · have : (0 : ℤ) + (j'.val : ℤ) = j.val := h2; omega
    · rintro ⟨rfl, rfl, rfl⟩ a
      match a with
      | ⟨0, _⟩ => show (0 : ℤ) + (b'.val : ℤ) = b'.val; omega
      | ⟨1, _⟩ => show (0 : ℤ) + (k'.val : ℤ) = k'.val; omega
      | ⟨2, _⟩ => show (0 : ℤ) + (j'.val : ℤ) = j'.val; omega
  refine Routing.scatter_set_hit _ x s u _ _ (fun q hq => ?_) (ix3 b k j) ((key b k j).2 ⟨rfl, rfl, rfl⟩)
  obtain ⟨b', k', j', rfl⟩ := ex_ix3 q
  obtain ⟨rfl, rfl, rfl⟩ := (key b' k' j').1 hq
  rfl

/-- 66 rows set on top of 128. -/
theorem set_rows (x : S128x16.Idx → α) (s : S1.Idx → BitVec 32) (hs : s (ix1 0) = 0#32) (u : S66x16.Idx → α) (r : Fin 128) (e : Fin 16) :
    Host.scatter scatter_S128x16_S1_S66x16_01_n_0_0 (fun _ b => b) x s u (ix2 r e) = if h : r.val < 66 then u (ix2 ⟨r.val, h⟩ e) else x (ix2 r e) := by
  have key : ∀ (r' : Fin 66) (e' : Fin 16), scatter_S128x16_S1_S66x16_01_n_0_0.resultIdx? (ix2 r' e') s = some (ix2 r e) ↔ r'.val = r.val ∧ e' = e := by
    intro r' e'
    rw [Routing.resultIdx?_eq_some]
    simp only [start_one, hs]
    constructor
    · intro h
      have h0 := h 0
      have h1 := h 1
      refine ⟨?_, Fin.ext ?_⟩
      · have : (0 : ℤ) + (r'.val : ℤ) = r.val := h0; omega
      · have : (0 : ℤ) + (e'.val : ℤ) = e.val := h1; omega
    · rintro ⟨hr, rfl⟩ a
      match a with
      | ⟨0, _⟩ => show (0 : ℤ) + (r'.val : ℤ) = r.val; omega
      | ⟨1, _⟩ => show (0 : ℤ) + (e'.val : ℤ) = e'.val; omega
  split
  · rename_i h
    refine Routing.scatter_set_hit _ x s u _ _ (fun q hq => ?_) (ix2 ⟨r.val, h⟩ e) ((key _ _).2 ⟨rfl, rfl⟩)
    obtain ⟨r', e', rfl⟩ := ex_ix2 q
    obtain ⟨hr, rfl⟩ := (key r' e').1 hq
    rw [show r' = ⟨r.val, h⟩ from Fin.ext hr]
  · rename_i h
    refine Routing.scatter_set_miss _ x s u _ fun q hq => ?_
    obtain ⟨r', e', rfl⟩ := ex_ix2 q
    have := ((key r' e').1 hq).1
    omega

/-- One row set of 128. -/
theorem set_last (x : S128x16.Idx → α) (s : S1.Idx → BitVec 32) (hs : s (ix1 0) = 127#32) (u : S16.Idx → α) (r : Fin 128) (e : Fin 16) :
    Host.scatter scatter_S128x16_S1_S16_0_0_0_0 (fun _ b => b) x s u (ix2 r e) = if r.val = 127 then u (ix1 e) else x (ix2 r e) := by
  have key : ∀ (e' : Fin 16), scatter_S128x16_S1_S16_0_0_0_0.resultIdx? (ix1 e') s = some (ix2 r e) ↔ r.val = 127 ∧ e' = e := by
    intro e'
    rw [Routing.resultIdx?_eq_some]
    simp only [start_one, hs]
    constructor
    · intro h
      have h0 := h 0
      have h1 := h 1
      refine ⟨?_, Fin.ext ?_⟩
      · have : (127 : ℤ) + ((0 : ℕ) : ℤ) = r.val := h0; omega
      · have : (0 : ℤ) + (e'.val : ℤ) = e.val := h1; omega
    · rintro ⟨hr, rfl⟩ a
      match a with
      | ⟨0, _⟩ => show (127 : ℤ) + ((0 : ℕ) : ℤ) = r.val; omega
      | ⟨1, _⟩ => show (0 : ℤ) + (e'.val : ℤ) = e'.val; omega
  split
  · rename_i h
    refine Routing.scatter_set_hit _ x s u _ _ (fun q hq => ?_) (ix1 e) ((key _).2 ⟨h, rfl⟩)
    obtain ⟨e', rfl⟩ := ex_ix1 q
    rw [((key e').1 hq).2]
  · rename_i h
    refine Routing.scatter_set_miss _ x s u _ fun q hq => ?_
    obtain ⟨e', rfl⟩ := ex_ix1 q
    exact h ((key e').1 hq).1

/-- The first row set of eight. -/
theorem set_first (x : S8x128.Idx → α) (s : S1.Idx → BitVec 32) (hs : s (ix1 0) = 0#32) (u : S128.Idx → α) (e : Fin 128) :
    Host.scatter scatter_S8x128_S1_S128_0_0_0_0 (fun _ b => b) x s u (ix2 0 e) = u (ix1 e) := by
  have key : ∀ (e' : Fin 128), scatter_S8x128_S1_S128_0_0_0_0.resultIdx? (ix1 e') s = some (ix2 0 e) ↔ e' = e := by
    intro e'
    rw [Routing.resultIdx?_eq_some]
    simp only [start_one, hs]
    constructor
    · intro h
      have h1 := h 1
      refine Fin.ext ?_
      have : (0 : ℤ) + (e'.val : ℤ) = e.val := h1; omega
    · rintro rfl a
      match a with
      | ⟨0, _⟩ => show (0 : ℤ) + ((0 : ℕ) : ℤ) = ((0 : ℕ) : ℤ); omega
      | ⟨1, _⟩ => show (0 : ℤ) + (e'.val : ℤ) = e'.val; omega
  refine Routing.scatter_set_hit _ x s u _ _ (fun q hq => ?_) (ix1 e) ((key _).2 rfl)
  obtain ⟨e', rfl⟩ := ex_ix1 q
  rw [(key e').1 hq]

end Cert.Proof.Near

end
-- ==== Proof.Mix.Value.lean ====
/-
  The last call's body gives the normalised features of an edge, when its blocks hold the residues' atoms, the picking
  tables, the centres and the weights in their places.
-/
module

public import proofs.«01_k».proof.Proof.Mix.Body
public import proofs.«01_k».proof.Proof.Near.Real
public import proofs.«01_k».proof.Proof.Near.Arrays
public import proofs.«01_k».proof.Proof.Near.Scatter

@[expose] public section

noncomputable section

namespace Cert.Proof.Mix

open Cert.KernelIdeal Cert.KernelIdeal.Gen
open Idealize.ShloMosaic Idealize.ShloMosaic.TcCoe Idealize.SL.Sem
open Cert.Proof.Near

/-- The places' weights with a row of their own for the shift, zero elsewhere. -/
def placed (wp : Fin 66 → Fin 16 → EReal) (bp : Fin 16 → EReal) (u : Fin 128) (e : Fin 16) : EReal :=
  if h : u.val < 66 then wp ⟨u.val, h⟩ e else if u.val = 127 then bp e else 0

/-- A sum over the 128 marks is the sum of the two that are marked. -/
theorem sum_marks (f : Fin 128 → EReal) (r : Fin 66) :
    ∑ u : Fin 128, ((if u.val = r.val then (1 : EReal) else 0) + (if u.val = 127 then (1 : EReal) else 0)) * f u
      = f ⟨r.val, by omega⟩ + f 127 := by
  have h : ∀ u : Fin 128, ((if u.val = r.val then (1 : EReal) else 0) + (if u.val = 127 then (1 : EReal) else 0)) * f u
      = (if u = ⟨r.val, by omega⟩ then f u else 0) + (if u = 127 then f u else 0) := fun u => by
    have e1 : (u.val = r.val) ↔ u = ⟨r.val, by omega⟩ := ⟨fun h => Fin.ext h, fun h => congrArg Fin.val h⟩
    have e2 : (u.val = 127) ↔ u = 127 := ⟨fun h => Fin.ext h, fun h => congrArg Fin.val h⟩
    rw [EReal.right_distrib_of_nonneg (by split <;> norm_num) (by split <;> norm_num)]
    simp only [e1, e2, ite_mul, one_mul, zero_mul]
  rw [Finset.sum_congr rfl fun u _ => h u, Finset.sum_add_distrib, Finset.sum_ite_eq', Finset.sum_ite_eq', if_pos (Finset.mem_univ _), if_pos (Finset.mem_univ _)]

/-- A sum over 32 columns of which the last seven are zero. -/
theorem sum_wide (f : Fin 32 → EReal) (h : ∀ p : Fin 32, 25 ≤ p.val → f p = 0) : ∑ p, f p = ∑ p : Fin 25, f (wide p) := by
  have e := Fin.sum_univ_add (a := 25) (b := 7) f
  have z : ∑ i : Fin 7, f (Fin.natAdd 25 i) = 0 := Finset.sum_eq_zero fun i _ => h _ (by show 25 ≤ 25 + i.val; omega)
  rw [z, add_zero] at e
  exact e

variable (wp : Fin 66 → Fin 16 → EReal) (bp : Fin 16 → EReal) (we : Fin 416 → Fin 128 → EReal)

/-- The product of a row of bumps and marks with the weights. -/
theorem row_sum (x u : Fin 640 → EReal) (r : Fin 66) (c : Fin 128) (d : Fin 25 → Fin 16 → EReal)
    (hwp : ∀ i e, Fine (wp i e)) (hbp : ∀ e, Fine (bp e)) (hwe : ∀ i c, Fine (we i c))
    (hx : ∀ t p, x (bumpCol t (wide p)) = d p t)
    (hm : ∀ v, x (markCol v) = (if v.val = r.val then (1 : EReal) else 0) + (if v.val = 127 then (1 : EReal) else 0))
    (hu : ∀ t p, u (bumpCol t (wide p)) = we (pairRow p t) c) (hz : ∀ t (p : Fin 32), 25 ≤ p.val → u (bumpCol t p) = 0)
    (hv : ∀ v, u (markCol v) = ∑ e, placed wp bp v e * we (placeRow e) c) :
    ∑ q, x q * u q = ∑ e, (wp r e + bp e) * we (placeRow e) c + ∑ p, ∑ t, d p t * we (pairRow p t) c := by
  have h1 : ∑ q : Fin 640, x q * u q = ∑ k : Fin 512, x ⟨k.val, by omega⟩ * u ⟨k.val, by omega⟩ + ∑ v : Fin 128, x (markCol v) * u (markCol v) :=
    Fin.sum_univ_two_halves 512 128 rfl fun q => x q * u q
  have h2 : ∑ k : Fin 512, x ⟨k.val, by omega⟩ * u ⟨k.val, by omega⟩ = ∑ t : Fin 16, ∑ p : Fin 32, x (bumpCol t p) * u (bumpCol t p) :=
    Fin.sum_univ_tiles 16 32 rfl fun k : Fin 512 => x ⟨k.val, by omega⟩ * u ⟨k.val, by omega⟩
  have h3 : ∀ t, ∑ p : Fin 32, x (bumpCol t p) * u (bumpCol t p) = ∑ p : Fin 25, d p t * we (pairRow p t) c := fun t => by
    rw [sum_wide (fun p => x (bumpCol t p) * u (bumpCol t p)) fun p hp => by rw [hz t p hp, mul_zero]]
    exact Finset.sum_congr rfl fun p _ => by rw [hx, hu]
  have h4 : ∑ v : Fin 128, x (markCol v) * u (markCol v) = ∑ e, (wp r e + bp e) * we (placeRow e) c := by
    rw [Finset.sum_congr rfl fun v _ => congrArg (· * u (markCol v)) (hm v), sum_marks (fun v => u (markCol v)), hv, hv, ← Finset.sum_add_distrib]
    refine Finset.sum_congr rfl fun e _ => ?_
    have p1 : placed wp bp ⟨r.val, by omega⟩ e = wp r e := dif_pos r.isLt
    have p2 : placed wp bp 127 e = bp e := (dif_neg (by decide)).trans (if_pos rfl)
    rw [p1, p2, (hwp r e).add_mul (hbp e) (hwe _ _)]
  rw [h1, h2, h4, Finset.sum_congr rfl fun t _ => h3 t, Finset.sum_comm, add_comm]

variable (X : Coords)

theorem lane_fine (hX : ∀ b i a k, Fine (X b i a k)) (b : Fin 4) (i : Fin 1024) (l : Fin 16) : Fine (lane X b i l) := by
  unfold lane
  split
  · exact atom_fine _ (hX b i) _ _
  · exact ⟨_, rfl⟩

theorem lane_atom (b : Fin 4) (i : Fin 1024) (a : Fin 5) (k : Fin 3) : lane X b i (laneOf a k) = atom (X b i) a k := by
  unfold lane laneOf
  rw [dif_pos (show a.val * 3 + k.val < 15 by omega)]
  exact congrArg₂ (atom (X b i)) (Fin.ext (by show (a.val * 3 + k.val) / 3 = a.val; omega)) (Fin.ext (by show (a.val * 3 + k.val) % 3 = k.val; omega))

/-- What the body leaves: the edge's features, normalised. -/
theorem mix_at (g : ℕ) (X1 : FVec Ideal S1536x16 .f32) (X2 : FVec Ideal S32x16 .f32) (X3 X4 : FVec Ideal S16x96 .bf16) (X5 : FVec Ideal S8x512 .f32)
    (X6 X7 : FVec Ideal S640x128 .bf16) (X8 X9 : FVec Ideal S8x128 .f32) (r : Fin 32) (n : Fin 48) (c : Fin 128) (b : Fin 4) (i j : Fin 1024)
    (sc sh : Fin 128 → EReal)
    (hX : ∀ b i a k, Fine (X b i a k)) (hwp : ∀ i e, Fine (wp i e)) (hbp : ∀ e, Fine (bp e)) (hwe : ∀ i c, Fine (we i c))
    (hg : r.val + g * 32 = i.val + b.val * 1024)
    (h1 : ∀ l, X1 (ix2 (rowAt r n) l) = lane X b j l) (h2 : ∀ l, X2 (ix2 r l) = lane X b i l)
    (h3 : ∀ q l, X3 (ix2 q l) = Ideal.ofBits .f32 (lit0 (S16x96.rowMajor (ix2 q l)))) (h4 : ∀ q l, X4 (ix2 q l) = Ideal.ofBits .f32 (lit1 (S16x96.rowMajor (ix2 q l))))
    (h5 : ∀ q l, X5 (ix2 q l) = Ideal.ofBits .f32 (lit2 (S8x512.rowMajor (ix2 q l))))
    (h6 : ∀ t p c, X6 (ix2 (bumpCol t (wide p)) c) = we (pairRow p t) c) (h6z : ∀ t (p : Fin 32) c, 25 ≤ p.val → X6 (ix2 (bumpCol t p) c) = (0 : EReal))
    (h6m : ∀ v c, X6 (ix2 (markCol v) c) = ∑ e, placed wp bp v e * we (placeRow e) c)
    (h7 : ∀ q c, X7 (ix2 q c) = (0 : EReal)) (h8 : ∀ c, X8 (ix2 0 c) = sc c) (h9 : ∀ c, X9 (ix2 0 c) = sh c) :
    Sc.mix (F := Ideal) (BitVec.ofNat 32 g) X1 X2 X3 X4 X5 X6 X7 X8 X9 (ix4 0 r n c) = norm (edge X wp bp we b i j) sc sh c := by
  have e2 : k2_pay2 (F := Ideal) X1 = X1 := by
    funext q; obtain ⟨a, l, rfl⟩ := ex_ix2 q; pointwise [k2_pay2]
  have e8 : k2_pay8 (F := Ideal) X6 = X6 := by
    funext q; obtain ⟨a, l, rfl⟩ := ex_ix2 q; pointwise [k2_pay8]
  unfold Sc.mix
  rw [pay1_at _ _ _ _ _ r n c h7, e2, e8]
  have w5 : ∀ l, VecWindow.window X5 ![0, 0] S1x512.size inb_S8x512_S1x512_0_0 (ix2 0 l) = X5 (ix2 0 l) := fun l =>
    congrArg X5 (funext fun a => Fin.ext (by match a with | ⟨0, _⟩ => rfl | ⟨1, _⟩ => exact (Nat.zero_add _).trans (Nat.one_mul _)))
  have w8 : (fun c => VecWindow.window X8 ![0, 0] S1x128.size inb_S8x128_S1x128_0_0 (ix2 0 c)) = sc := by
    funext c; rw [← h8]
    exact congrArg X8 (funext fun a => Fin.ext (by match a with | ⟨0, _⟩ => rfl | ⟨1, _⟩ => exact (Nat.zero_add _).trans (Nat.one_mul _)))
  have w9 : (fun c => VecWindow.window X9 ![0, 0] S1x128.size inb_S8x128_S1x128_0_0 (ix2 0 c)) = sh := by
    funext c; rw [← h9]
    exact congrArg X9 (funext fun a => Fin.ext (by match a with | ⟨0, _⟩ => rfl | ⟨1, _⟩ => exact (Nat.zero_add _).trans (Nat.one_mul _)))
  rw [w8, w9]
  congr 1
  funext c
  unfold edge
  refine row_sum wp bp we _ (fun q => X6 (ix2 q c)) (rel i j) c (fun p t => bump (span X b i j p) (Ideal.ofBits FTy.f32 (centre t)))
    hwp hbp hwe (fun t p => ?_) (fun v => ?_) (fun t p => h6 t p c) (fun t p hp => h6z t p c hp) (fun v => h6m v c)
  · rw [bump_at, w5, h5, centres]
    refine congrArg₂ bump ?_ rfl
    unfold span gap
    refine congrArg Ideal.sqrt ?_
    refine congrArg (· + Ideal.ofBits FTy.f32 897988541#32) ?_
    refine (pay56_at X1 X2 X3 X4 r n p (fun l => by rw [h2]; exact lane_fine X hX b i l) (fun l => by rw [h1]; exact lane_fine X hX b j l) h3 h4).trans ?_
    refine Finset.sum_congr rfl fun k _ => ?_
    rw [h1, h2, lane_atom, lane_atom]
  · exact mark_at _ _ _ _ r n v g i j b.val b.isLt hg (by rw [h1]; exact dif_neg (by decide))

end Cert.Proof.Mix

end
-- ==== Proof.Mix.Take.lean ====
/-
  The gather of the edge weights' rows read at an entry.
-/
module

public import proofs.«01_k».proof.Proof.Sc.Region1
public import Idealize.ShloMosaic.Lib.Pointwise

@[expose] public section

noncomputable section

namespace Cert.Proof.Mix

open Cert.KernelIdeal Cert.KernelIdeal.Gen
open Idealize.ShloMosaic Idealize.ShloMosaic.TcCoe Idealize.SL.Sem

/-- The edge weights' rows taken by a table of rows. -/
theorem take_weights {α : Type} (x : S416x128.Idx → α) (idx : IVec S16x32x1 32) (t : Fin 16) (p : Fin 32) (c : Fin 128) (r : Fin 416) (h : min (idx (ix3 t p 0)).toInt.toNat 415 = r.val) :
    Host.gather gather_S416x128_S16x32x1_S16x32x128_2_0_n_n_0_2_1128 x idx (ix3 t p c) = x (ix2 r c) := by
  unfold Host.gather
  congr 1
  funext q
  refine Fin.ext ?_
  show (gather_S416x128_S16x32x1_S16x32x128_2_0_n_n_0_2_1128).start (ix3 t p c) idx q + (gather_S416x128_S16x32x1_S16x32x128_2_0_n_n_0_2_1128).batchCoord (ix3 t p c) q + (gather_S416x128_S16x32x1_S16x32x128_2_0_n_n_0_2_1128).offCoord (ix3 t p c) q = _
  match q with
  | ⟨0, ha⟩ =>
    have hm : (⟨0, ha⟩ : Fin S416x128.rank) ∈ (gather_S416x128_S16x32x1_S16x32x128_2_0_n_n_0_2_1128).startIndexMap := List.mem_singleton.mpr rfl
    have hs : (gather_S416x128_S16x32x1_S16x32x128_2_0_n_n_0_2_1128).siIdx (ix3 t p c) ⟨List.idxOf (⟨0, ha⟩ : Fin S416x128.rank) (gather_S416x128_S16x32x1_S16x32x128_2_0_n_n_0_2_1128).startIndexMap, List.idxOf_lt_length_iff.2 hm⟩ = ix3 t p 0 := by
      funext c
      refine Fin.ext ?_
      match c with
      | ⟨0, _⟩ => rfl
      | ⟨1, _⟩ => rfl
      | ⟨2, _⟩ => rfl
    rw [GatherDims.offCoord_eq_zero _ _ _ (fun h => ((GatherDims.mem_sKept _ _).mp h).1 (List.mem_singleton.mpr rfl)),
      GatherDims.batchCoord_eq_zero _ _ _ (by simp [gather_S416x128_S16x32x1_S16x32x128_2_0_n_n_0_2_1128])]
    unfold GatherDims.start
    rw [dif_pos hm, hs]
    exact h
  | ⟨1, _⟩ => simp [GatherDims.start, GatherDims.batchCoord, gather_S416x128_S16x32x1_S16x32x128_2_0_n_n_0_2_1128]; rfl

end Cert.Proof.Mix

end
-- ==== Proof.Near.Entry.lean ====
/-
  The host code's arrays around the first call, from the atoms; so every row number that the SparseCores fetch lies in
  the table.
-/
module

public import proofs.«01_k».proof.Proof.Sc.Run
public import proofs.«01_k».proof.Proof.Near.Arrays
public import proofs.«01_k».proof.Proof.Near.Scatter
public import Idealize.ShloMosaic.Lib.StableHlo.ReadAt

@[expose] public section

noncomputable section

namespace Cert.Proof.Near

open Cert.KernelIdeal Cert.KernelIdeal.Gen
open Idealize.ShloMosaic Idealize.ShloMosaic.TcCoe Idealize.SL.Sem
open Cert.Proof.Sc

variable (m : (ℓ : Loc nD τ sig) → Buf (Elt Ideal) ℓ) (c : Dev nD)

/-- The atoms' coordinates as the program finds them. -/
def crd : Coords := fun b i a k => (m ((c : Thread nD τ).loc main_arg3) : FVec Ideal S4x1024x5x3 .f32) (ix4 b i a k)

theorem W1_v0 (b : Fin 4) (i : Fin 1024) (a : Fin 5) (k : Fin 3) :
    (W1 m c (dr main_v0) : FVec Ideal S4x1024x15 .f32) (ix3 b i (lane15 a k)) = crd m c b i a k := by
  unfold W1 ops0 dr
  after_reads_simp
  clean_types
  unfold lane15
  pointwise
  rfl

theorem W1_v6 (b : Fin 4) (j : Fin 1024) (k : Fin 3) :
    (W1 m c (dr main_v6) : FVec Ideal S4x8x1024 .f32) (ix3 b (row8 k) j) = crd m c b j 1 k := by
  unfold W1 ops0 dr
  after_reads_simp
  clean_types
  rw [show row8 k = ⟨k.val, by omega⟩ from rfl, set_cols]
  · pointwise
    rfl
  · pointwise

theorem W2_v7_0 : (W2 m c (dr main_v7_0) : IVec S4x1024x48 32) = nbr (crd m c) :=
  (put_ne _ _ (by decide)).trans ((put_ne _ _ (by decide)).trans ((put_self ..).trans
    (arr0_2 (at1 (W1 m)) c (crd m c) (W1_v0 m c) (W1_v6 m c))))
theorem W2_v7_1 : (W2 m c (dr main_v7_1) : IVec S4x1024x48 32) = nbrAll (crd m c) :=
  (put_ne _ _ (by decide)).trans ((put_self ..).trans
    (arr0_3 (at1 (W1 m)) c (crd m c) (W1_v0 m c) (W1_v6 m c)))
theorem W2_v7_2 : (W2 m c (dr main_v7_2) : FVec Ideal S4x1024x16 .f32) = table (crd m c) :=
  (put_self ..).trans (arr0_4 (at1 (W1 m)) c (crd m c) (W1_v0 m c))

/-- A neighbour slot's number over all chains. -/
def slot (b : Fin 4) (i : Fin 1024) (k : Fin 48) : Fin 196608 := ⟨(b.val * 1024 + i.val) * 48 + k.val, by omega⟩
/-- A residue's number over all chains. -/
def resAll (b : Fin 4) (i : Fin 1024) : Fin 4096 := ⟨b.val * 1024 + i.val, by omega⟩

theorem ex_slot (n : Fin 196608) : ∃ b i k, n = slot b i k :=
  ⟨⟨n.val / 49152, by omega⟩, ⟨n.val / 48 % 1024, by omega⟩, ⟨n.val % 48, by omega⟩, Fin.ext (by simp only [slot]; omega)⟩

theorem gi_apply (b : Fin 4) (i : Fin 1024) (k : Fin 48) : gi₃ m c (ix1 (slot b i k)) = nbrAll (crd m c) (ix3 b i k) := by
  unfold gi₃ W3 ops1 dr
  after_reads_simp
  clean_types
  unfold slot
  pointwise
  exact congrFun (W2_v7_1 m c) _

theorem tb_apply (b : Fin 4) (i : Fin 1024) (l : Fin 16) : tb₃ m c (ix2 (resAll b i) l) = lane (crd m c) b i l := by
  unfold tb₃ W3 ops1 dr
  after_reads_simp
  clean_types
  unfold resAll
  pointwise
  exact congrFun (W2_v7_2 m c) _

theorem nbrAll_toNat (X : Coords) (b : Fin 4) (i : Fin 1024) (k : Fin 48) :
    (nbrAll X (ix3 b i k)).toNat = (resAll b (neigh X b i k.val)).val := by
  show (BitVec.ofNat 32 (neigh X b i k.val).val + BitVec.ofNat 32 b.val * 1024#32).toNat = b.val * 1024 + (neigh X b i k.val).val
  have := (neigh X b i k.val).isLt
  rw [← BitVec.ofNat_mul, ← BitVec.ofNat_add, BitVec.toNat_ofNat, Nat.mod_eq_of_lt (by omega)]
  omega

/-- Every row number lies in the table. -/
theorem inRows : InRows (gi₃ m) := fun d q => by
  obtain ⟨n, rfl⟩ := ex_ix1 q
  obtain ⟨b, i, k, rfl⟩ := ex_slot n
  rw [gi_apply, nbrAll_toNat]
  exact (resAll _ _).isLt

/-- What the SparseCores bring into a neighbour's slot: the neighbour's row of the table. -/
theorem gath_apply' (b : Fin 4) (i : Fin 1024) (k : Fin 48) (l : Fin 16) :
    gath (gi₃ m c) (tb₃ m c) (ix2 (slot b i k) l) = lane (crd m c) b (neigh (crd m c) b i k.val) l := by
  rw [← tb_apply]
  show tb₃ m c _ = _
  congr 1
  funext a
  match a with
  | ⟨0, _⟩ =>
    have e : ∀ q : S196608.Idx, q = ix1 (slot b i k) → rowOf (gi₃ m c q) = resAll b (neigh (crd m c) b i k.val) := by
      rintro q rfl
      rw [gi_apply]
      apply Fin.ext
      show _ % 4096 = _
      rw [nbrAll_toNat, Nat.mod_eq_of_lt (resAll _ _).isLt]
    exact e _ (by funext x; match x with | ⟨0, _⟩ => rfl)
  | ⟨1, _⟩ => rfl

end Cert.Proof.Near

end
-- ==== Proof.Mix.Host.lean ====
/-
  The arrays that the host gives the last call, read at an entry.
-/
module

public import proofs.«01_k».proof.Proof.Mix.Value
public import proofs.«01_k».proof.Proof.Mix.Take
public import proofs.«01_k».proof.Proof.Near.Entry
public import Idealize.ShloMosaic.Lib.StableHlo.ReadAt
public import Idealize.ShloMosaic.Lib.Tactic.CleanTypes

@[expose] public section

noncomputable section

namespace Cert.Proof.Mix

open Cert.KernelIdeal Cert.KernelIdeal.Gen
open Idealize.ShloMosaic Idealize.ShloMosaic.TcCoe Idealize.SL.Sem
open Cert.Proof.Near Cert.Proof.Sc

variable (V : Valuation τ sig (Elt Ideal))

/-- The rows of the edge weights that the bumps' columns take, and the columns that take one. -/
def places : IVec S16x32 32 := minsi (broadcastInDim S16x32 ![] bcast_S_S16x32 (id (constantI S_ 32 415#32)))
  (maxsi (broadcastInDim S16x32 ![] bcast_S_S16x32 (id (constantI S_ 32 0#32)))
    (addi
      (addi (broadcastInDim S16x32 ![] bcast_S_S16x32 (constantI S_ 32 16#32))
        (muli (broadcastInDim S16x32 ![1] bcast_S32_S16x32_1 (iotaInDim S32 32 0))
          (broadcastInDim S16x32 ![] bcast_S_S16x32 (constantI S_ 32 16#32))))
      (broadcastInDim S16x32 ![0] bcast_S16_S16x32_0 (iotaInDim S16 32 0))))
def rowsOf : IVec S16x32x1 32 := broadcastInDim S16x32x1 ![0, 1] bcast_S16x32_S16x32x1_0_1
  (select (cmpi CmpIPredicate.slt places (broadcastInDim S16x32 ![] bcast_S_S16x32 (constantI S_ 32 0#32)))
    (addi places (broadcastInDim S16x32 ![] bcast_S_S16x32 (constantI S_ 32 416#32))) places)
def kept : IVec S16x32x1 1 := broadcastInDim S16x32x1 ![0, 1] bcast_S16x32_S16x32x1_0_1
  (cmpi CmpIPredicate.slt (broadcastInDim S16x32 ![1] bcast_S32_S16x32_1 (iotaInDim S32 32 0))
    (broadcastInDim S16x32 ![] bcast_S_S16x32 (constantI S_ 32 25#32)))

theorem rowsOf_at : ∀ (t : Fin 16) (p : Fin 25), min (rowsOf (ix3 t (wide p) 0)).toInt.toNat 415 = (pairRow p t).val := by
  decide +kernel
theorem kept_at : ∀ (t : Fin 16) (p : Fin 32), kept (ix3 t p 0) = if p.val < 25 then 1#1 else 0#1 := by
  decide +kernel

/-- The bumps' weights. -/
def bumpW (w : FVec Ideal S416x128 .f32) : FVec Ideal S512x128 .f32 := shapeCast S512x128
  (select (broadcastInDim S16x32x128 ![0, 1, 2] bcast_S16x32x1_S16x32x128_0_1_2 kept)
    (Host.gather gather_S416x128_S16x32x1_S16x32x128_2_0_n_n_0_2_1128 w rowsOf)
    (broadcastInDim S16x32x128 ![] bcast_S_S16x32x128 (constant S_ FTy.f32 0#32))) shapeCasts_S16x32x128_S512x128
/-- The marks' weights. -/
def padW (a : FVec Ideal S66x16 .f32) (b : FVec Ideal S16 .f32) : FVec Ideal S128x16 .f32 :=
  Host.scatter scatter_S128x16_S1_S16_0_0_0_0 (fun x b => b)
    (Host.scatter scatter_S128x16_S1_S66x16_01_n_0_0 (fun x b => b)
      (broadcastInDim S128x16 ![] bcast_S_S128x16 (constant S_ FTy.f32 0#32))
      (broadcastInDim S1 ![] bcast_S_S1 (constantI S_ 32 0#32)) a)
    (broadcastInDim S1 ![] bcast_S_S1 (constantI S_ 32 127#32)) b
def markW (a : FVec Ideal S66x16 .f32) (b : FVec Ideal S16 .f32) (w : FVec Ideal S416x128 .f32) : FVec Ideal S128x128 .f32 :=
  Host.dotGeneral dot_S128x16_S16x128_S128x128_1_0_0_1_n_n none (padW a b)
    (extractStridedSlice S16x128 ![0, 0] w slices_S416x128_S16x128_0_0)
/-- All the weights, one below the other. -/
def allW (a : FVec Ideal S66x16 .f32) (b : FVec Ideal S16 .f32) (w : FVec Ideal S416x128 .f32) : FVec Ideal S640x128 .f32 :=
  concatenate S640x128 0 [⟨S512x128, bumpW w⟩, ⟨S128x128, markW a b w⟩] concatenates_S512x128_S128x128_S640x128_d0

theorem bumpW_keep (w : FVec Ideal S416x128 .f32) (t : Fin 16) (p : Fin 25) (c : Fin 128) : bumpW w (ix2 (muCol t (wide p)) c) = w (ix2 (pairRow p t) c) := by
  have hk := kept_at t (wide p)
  rw [if_pos (show (wide p).val < 25 from p.isLt)] at hk
  unfold muCol
  pointwise [bumpW]
  rw [hk, take_weights w rowsOf t (wide p) c (pairRow p t) (rowsOf_at t p)]
  rfl

theorem bumpW_drop (w : FVec Ideal S416x128 .f32) (t : Fin 16) (p : Fin 32) (hp : 25 ≤ p.val) (c : Fin 128) : bumpW w (ix2 (muCol t p) c) = (0 : EReal) := by
  have hk := kept_at t p
  rw [if_neg (by omega)] at hk
  unfold muCol
  pointwise [bumpW]
  rw [hk]
  rfl

theorem padW_at (a : FVec Ideal S66x16 .f32) (b : FVec Ideal S16 .f32) (v : Fin 128) (e : Fin 16) :
    padW a b (ix2 v e) = placed (fun i e => a (ix2 i e)) (fun e => b (ix1 e)) v e := by
  unfold padW placed
  rw [set_last _ _ rfl, set_rows _ _ rfl]
  by_cases h : v.val < 66
  · rw [if_neg (by omega), dif_pos h, dif_pos h]
  · rw [dif_neg h, dif_neg h]
    split
    · rfl
    · exact Ideal.ofBits_zero_f32

theorem markW_at (a : FVec Ideal S66x16 .f32) (b : FVec Ideal S16 .f32) (w : FVec Ideal S416x128 .f32) (v c : Fin 128) :
    markW a b w (ix2 v c) = ∑ e, placed (fun i e => a (ix2 i e)) (fun e => b (ix1 e)) v e * w (ix2 (placeRow e) c) := by
  pointwise [markW]
  refine Finset.sum_congr rfl fun e _ => ?_
  rw [padW_at]
  rfl

variable (a : FVec Ideal S66x16 .f32) (b : FVec Ideal S16 .f32) (w : FVec Ideal S416x128 .f32)

theorem allW_bump (t : Fin 16) (p : Fin 32) (c : Fin 128) : allW a b w (ix2 (bumpCol t p) c) = bumpW w (ix2 (muCol t p) c) := by
  unfold bumpCol muCol
  pointwise [allW]
  rw [dif_pos (show t.val * 32 + p.val < 512 by omega)]

theorem allW_mark (v c : Fin 128) : allW a b w (ix2 (markCol v) c) = markW a b w (ix2 v c) := by
  unfold markCol
  pointwise [allW]

theorem ex_col (q : Fin 640) : (∃ t p, q = bumpCol t p) ∨ ∃ v, q = markCol v := by
  by_cases h : q.val < 512
  · exact .inl ⟨⟨q.val / 32, by omega⟩, ⟨q.val % 32, by omega⟩, Fin.ext (by show q.val = q.val / 32 * 32 + q.val % 32; omega)⟩
  · exact .inr ⟨⟨q.val - 512, by omega⟩, Fin.ext (by show q.val = 512 + (q.val - 512); omega)⟩

theorem allW_fine (ha : ∀ q, Fine (a q)) (hb : ∀ q, Fine (b q)) (hw : ∀ q, Fine (w q)) (q : Fin 640) (c : Fin 128) : Fine (allW a b w (ix2 q c)) := by
  rcases ex_col q with ⟨t, p, rfl⟩ | ⟨v, rfl⟩
  · rw [allW_bump]
    by_cases h : p.val < 25
    · exact (congrArg Fine (bumpW_keep w t ⟨p.val, h⟩ c)).mpr (hw _)
    · exact (congrArg Fine (bumpW_drop w t p (by omega) c)).mpr Fine.zero
  · rw [allW_mark, markW_at]
    refine Fine.sum _ fun e => Fine.mul ?_ (hw _)
    unfold placed
    split
    · exact ha _
    · split
      · exact hb _
      · exact Fine.zero

set_option maxHeartbeats 2000000 in
theorem rd_v40 : (StableHlo.after ops2 V (dr main_v40) : FVec Ideal S640x128 .f32) = allW (V (dr main_arg12)) (V (dr main_arg13)) (V (dr main_arg14)) := by
  funext j
  obtain ⟨q, c, rfl⟩ := ex_ix2 (n0 := 640) (n1 := 128) j
  unfold ops2 dr
  after_reads_simp
  clean_types
  simp -implicitDefEqProofs only [StableHlo.TRef.toBuf, StableHlo.TRef.ofBuf, cast_cast, cast_eq]
  rfl
set_option maxHeartbeats 2000000 in
theorem rd_v41 : (StableHlo.after ops2 V (dr main_v41) : FVec Ideal S640x128 .bf16) = truncf .bf16 (allW (V (dr main_arg12)) (V (dr main_arg13)) (V (dr main_arg14))) bitsLt_bf16_f32 := by
  rw [← rd_v40]
  unfold ops2 dr
  after_reads_simp
set_option maxHeartbeats 2000000 in
theorem rd_v44 : (StableHlo.after ops2 V (dr main_v44) : FVec Ideal S640x128 .bf16)
    = truncf .bf16 (subf (allW (V (dr main_arg12)) (V (dr main_arg13)) (V (dr main_arg14))) (extf .f32 (truncf .bf16 (allW (V (dr main_arg12)) (V (dr main_arg13)) (V (dr main_arg14))) bitsLt_bf16_f32) bitsLt_bf16_f32)) bitsLt_bf16_f32 := by
  rw [← rd_v40]
  unfold ops2 dr
  after_reads_simp

theorem rd_v47 (c : Fin 128) : (StableHlo.after ops2 V (dr main_v47) : FVec Ideal S8x128 .f32) (ix2 0 c) = (V (dr main_arg15) : FVec Ideal S128 .f32) (ix1 c) := by
  unfold ops2 dr
  after_reads_simp
  exact set_first _ _ rfl _ c
theorem rd_v50 (c : Fin 128) : (StableHlo.after ops2 V (dr main_v50) : FVec Ideal S8x128 .f32) (ix2 0 c) = (V (dr main_arg16) : FVec Ideal S128 .f32) (ix1 c) := by
  unfold ops2 dr
  after_reads_simp
  exact set_first _ _ rfl _ c
theorem rd_v51 : @Eq (FVec Ideal S16x96 .bf16) (StableHlo.after ops2 V (dr main_v51)) (truncf .bf16 (V (dr main_cst) : FVec Ideal S16x96 .f32) bitsLt_bf16_f32) := by
  unfold ops2 dr
  after_reads_simp
theorem rd_v52 : @Eq (FVec Ideal S16x96 .bf16) (StableHlo.after ops2 V (dr main_v52)) (truncf .bf16 (V (dr main_cst_0) : FVec Ideal S16x96 .f32) bitsLt_bf16_f32) := by
  unfold ops2 dr
  after_reads_simp

end Cert.Proof.Mix

end
-- ==== Proof.Mix.Array.lean ====
/-
  The last call's array: the normalised features of every edge.
-/
module

public import proofs.«01_k».proof.Proof.Mix.Host
public import proofs.«01_k».proof.Proof.Gen.KernelIdeal.Points

@[expose] public section

noncomputable section

namespace Cert.Proof.Mix

open Cert.KernelIdeal Cert.KernelIdeal.Gen
open Idealize.ShloMosaic Idealize.ShloMosaic.TcCoe Idealize.SL.Sem
open Cert.Proof.Near Cert.Proof.Sc

/-- Where the grid's points' blocks lie. -/
theorem idx2_0 : ∀ t : Fin cfg2.N, win2_0.index t 0 = t.val ∧ win2_0.index t 1 = 0 := by decide +kernel
theorem idx2_1 : ∀ t : Fin cfg2.N, win2_1.index t 0 = t.val ∧ win2_1.index t 1 = 0 := by decide +kernel
theorem idx2_2 : ∀ t : Fin cfg2.N, win2_2.index t 0 = 0 ∧ win2_2.index t 1 = 0 := by decide +kernel
theorem idx2_3 : ∀ t : Fin cfg2.N, win2_3.index t 0 = 0 ∧ win2_3.index t 1 = 0 := by decide +kernel
theorem idx2_4 : ∀ t : Fin cfg2.N, win2_4.index t 0 = 0 ∧ win2_4.index t 1 = 0 := by decide +kernel
theorem idx2_5 : ∀ t : Fin cfg2.N, win2_5.index t 0 = 0 ∧ win2_5.index t 1 = 0 := by decide +kernel
theorem idx2_6 : ∀ t : Fin cfg2.N, win2_6.index t 0 = 0 ∧ win2_6.index t 1 = 0 := by decide +kernel
theorem idx2_7 : ∀ t : Fin cfg2.N, win2_7.index t 0 = 0 ∧ win2_7.index t 1 = 0 := by decide +kernel
theorem idx2_8 : ∀ t : Fin cfg2.N, win2_8.index t 0 = 0 ∧ win2_8.index t 1 = 0 := by decide +kernel
theorem idx2_9 : ∀ t : Fin cfg2.N, win2_9.index t 0 = t.val / 32 ∧ win2_9.index t 1 = t.val % 32 ∧ win2_9.index t 2 = 0 ∧ win2_9.index t 3 = 0 := by decide +kernel
theorem crd2 : ∀ t : Fin cfg2.N, (grid2.coords t 0).val = t.val := by decide +kernel

theorem lt_128 (t : Fin cfg2.N) : t.val < 128 := t.isLt

/-- A point's chain, and the residue at one of its rows. -/
def chainAt (t : Fin cfg2.N) : Fin 4 := ⟨t.val / 32, by have := lt_128 t; omega⟩
def resAt (t : Fin cfg2.N) (r : Fin 32) : Fin 1024 := ⟨t.val % 32 * 32 + r.val, by omega⟩

theorem emb2_0 (t : Fin cfg2.N) (r : Fin 32) (n : Fin 48) (l : Fin 16) : ((cfg2.win 0).blk t).view.emb (ix2 (rowAt r n) l) = ix2 (slot (chainAt t) (resAt t r) n) l := by
  obtain ⟨h0, h1⟩ := idx2_0 t
  funext a; apply Fin.ext
  match a with
  | ⟨0, _⟩ => show win2_0.index t (0 : Fin 2) * 1536 + 1 * (r.val * 48 + n.val) = (t.val / 32 * 1024 + (t.val % 32 * 32 + r.val)) * 48 + n.val; omega
  | ⟨1, _⟩ => show win2_0.index t (1 : Fin 2) * 16 + 1 * l.val = l.val; omega
theorem emb2_1 (t : Fin cfg2.N) (r : Fin 32) (l : Fin 16) : ((cfg2.win 1).blk t).view.emb (ix2 r l) = ix2 (resAll (chainAt t) (resAt t r)) l := by
  obtain ⟨h0, h1⟩ := idx2_1 t
  funext a; apply Fin.ext
  match a with
  | ⟨0, _⟩ => show win2_1.index t (0 : Fin 2) * 32 + 1 * r.val = t.val / 32 * 1024 + (t.val % 32 * 32 + r.val); omega
  | ⟨1, _⟩ => show win2_1.index t (1 : Fin 2) * 16 + 1 * l.val = l.val; omega
theorem emb2_2 (t : Fin cfg2.N) (q : Fin 16) (l : Fin 96) : ((cfg2.win 2).blk t).view.emb (ix2 q l) = ix2 q l := by
  obtain ⟨h0, h1⟩ := idx2_2 t
  funext a; apply Fin.ext
  match a with
  | ⟨0, _⟩ => show win2_2.index t (0 : Fin 2) * 16 + 1 * q.val = q.val; omega
  | ⟨1, _⟩ => show win2_2.index t (1 : Fin 2) * 96 + 1 * l.val = l.val; omega
theorem emb2_3 (t : Fin cfg2.N) (q : Fin 16) (l : Fin 96) : ((cfg2.win 3).blk t).view.emb (ix2 q l) = ix2 q l := by
  obtain ⟨h0, h1⟩ := idx2_3 t
  funext a; apply Fin.ext
  match a with
  | ⟨0, _⟩ => show win2_3.index t (0 : Fin 2) * 16 + 1 * q.val = q.val; omega
  | ⟨1, _⟩ => show win2_3.index t (1 : Fin 2) * 96 + 1 * l.val = l.val; omega
theorem emb2_4 (t : Fin cfg2.N) (q : Fin 8) (l : Fin 512) : ((cfg2.win 4).blk t).view.emb (ix2 q l) = ix2 q l := by
  obtain ⟨h0, h1⟩ := idx2_4 t
  funext a; apply Fin.ext
  match a with
  | ⟨0, _⟩ => show win2_4.index t (0 : Fin 2) * 8 + 1 * q.val = q.val; omega
  | ⟨1, _⟩ => show win2_4.index t (1 : Fin 2) * 512 + 1 * l.val = l.val; omega
theorem emb2_5 (t : Fin cfg2.N) (q : Fin 640) (l : Fin 128) : ((cfg2.win 5).blk t).view.emb (ix2 q l) = ix2 q l := by
  obtain ⟨h0, h1⟩ := idx2_5 t
  funext a; apply Fin.ext
  match a with
  | ⟨0, _⟩ => show win2_5.index t (0 : Fin 2) * 640 + 1 * q.val = q.val; omega
  | ⟨1, _⟩ => show win2_5.index t (1 : Fin 2) * 128 + 1 * l.val = l.val; omega
theorem emb2_6 (t : Fin cfg2.N) (q : Fin 640) (l : Fin 128) : ((cfg2.win 6).blk t).view.emb (ix2 q l) = ix2 q l := by
  obtain ⟨h0, h1⟩ := idx2_6 t
  funext a; apply Fin.ext
  match a with
  | ⟨0, _⟩ => show win2_6.index t (0 : Fin 2) * 640 + 1 * q.val = q.val; omega
  | ⟨1, _⟩ => show win2_6.index t (1 : Fin 2) * 128 + 1 * l.val = l.val; omega
theorem emb2_7 (t : Fin cfg2.N) (q : Fin 8) (l : Fin 128) : ((cfg2.win 7).blk t).view.emb (ix2 q l) = ix2 q l := by
  obtain ⟨h0, h1⟩ := idx2_7 t
  funext a; apply Fin.ext
  match a with
  | ⟨0, _⟩ => show win2_7.index t (0 : Fin 2) * 8 + 1 * q.val = q.val; omega
  | ⟨1, _⟩ => show win2_7.index t (1 : Fin 2) * 128 + 1 * l.val = l.val; omega
theorem emb2_8 (t : Fin cfg2.N) (q : Fin 8) (l : Fin 128) : ((cfg2.win 8).blk t).view.emb (ix2 q l) = ix2 q l := by
  obtain ⟨h0, h1⟩ := idx2_8 t
  funext a; apply Fin.ext
  match a with
  | ⟨0, _⟩ => show win2_8.index t (0 : Fin 2) * 8 + 1 * q.val = q.val; omega
  | ⟨1, _⟩ => show win2_8.index t (1 : Fin 2) * 128 + 1 * l.val = l.val; omega
theorem emb2_9 (t : Fin cfg2.N) (r : Fin 32) (n : Fin 48) (c : Fin 128) : ((cfg2.win 9).blk t).view.emb (ix4 0 r n c) = ix4 (chainAt t) (resAt t r) n c := by
  obtain ⟨h0, h1, h2, h3⟩ := idx2_9 t
  funext a; apply Fin.ext
  match a with
  | ⟨0, _⟩ => show win2_9.index t (0 : Fin 4) * 1 + 1 * 0 = t.val / 32; omega
  | ⟨1, _⟩ => show win2_9.index t (1 : Fin 4) * 32 + 1 * r.val = t.val % 32 * 32 + r.val; omega
  | ⟨2, _⟩ => show win2_9.index t (2 : Fin 4) * 48 + 1 * n.val = n.val; omega
  | ⟨3, _⟩ => show win2_9.index t (3 : Fin 4) * 128 + 1 * c.val = c.val; omega

/-- Every residue lies in some point's block. -/
theorem res_cover2 (b : Fin 4) (i : Fin 1024) : ∃ (t : Fin cfg2.N) (r : Fin 32), chainAt t = b ∧ resAt t r = i :=
  ⟨⟨b.val * 32 + i.val / 32, by show _ < 128; omega⟩, ⟨i.val % 32, by omega⟩,
    Fin.ext (show (b.val * 32 + i.val / 32) / 32 = b.val by omega),
    Fin.ext (show (b.val * 32 + i.val / 32) % 32 * 32 + i.val % 32 = i.val by omega)⟩

theorem ex_ix4 {n0 n1 n2 n3 : ℕ} (q : (⟨4, ![n0, n1, n2, n3]⟩ : Shape).Idx) : ∃ (a : Fin n0) (b : Fin n1) (c : Fin n2) (d : Fin n3), q = ix4 a b c d :=
  ⟨q 0, q 1, q 2, q 3, by funext a; match a with | ⟨0, _⟩ => rfl | ⟨1, _⟩ => rfl | ⟨2, _⟩ => rfl | ⟨3, _⟩ => rfl⟩

variable (X : Coords) (a : FVec Ideal S66x16 .f32) (p : FVec Ideal S16 .f32) (w : FVec Ideal S416x128 .f32) (s h : FVec Ideal S128 .f32)

/-- The features of every residue and its neighbours. -/
def feats : FVec Ideal S4x1024x48x128 .f32 := fun q =>
  norm (edge X (fun i e => a (ix2 i e)) (fun e => p (ix1 e)) (fun i c => w (ix2 i c)) (q 0) (q 1) (neigh X (q 0) (q 1) (q 2).val)) (fun c => s (ix1 c)) (fun c => h (ix1 c)) (q 3)

variable (V : (c : Dev nD) → (b : Ref sig .tc) → Buf (Elt Ideal) ((c : Thread nD τ).loc b)) (c : Dev nD)
  (hX : ∀ b i a k, Fine (X b i a k)) (ha : ∀ q, Fine (a q)) (hp : ∀ q, Fine (p q)) (hw : ∀ q, Fine (w q))
  (h10 : ∀ b i (n : Fin 48) l, (V c main_v10 : FVec Ideal S196608x16 .f32) (ix2 (slot b i n) l) = lane X b (neigh X b i n.val) l)
  (h8 : ∀ b i l, (V c main_v8 : FVec Ideal S4096x16 .f32) (ix2 (resAll b i) l) = lane X b i l)
  (h51 : ∀ q l, (V c main_v51 : FVec Ideal S16x96 .bf16) (ix2 q l) = Ideal.ofBits .f32 (lit0 (S16x96.rowMajor (ix2 q l))))
  (h52 : ∀ q l, (V c main_v52 : FVec Ideal S16x96 .bf16) (ix2 q l) = Ideal.ofBits .f32 (lit1 (S16x96.rowMajor (ix2 q l))))
  (hc1 : ∀ q l, (V c main_cst_1 : FVec Ideal S8x512 .f32) (ix2 q l) = Ideal.ofBits .f32 (lit2 (S8x512.rowMajor (ix2 q l))))
  (h41 : ∀ q l, (V c main_v41 : FVec Ideal S640x128 .bf16) (ix2 q l) = allW a p w (ix2 q l))
  (h44 : ∀ q l, (V c main_v44 : FVec Ideal S640x128 .bf16) (ix2 q l) = (0 : EReal))
  (h47 : ∀ l, (V c main_v47 : FVec Ideal S8x128 .f32) (ix2 0 l) = s (ix1 l))
  (h50 : ∀ l, (V c main_v50 : FVec Ideal S8x128 .f32) (ix2 0 l) = h (ix1 l))

include hX ha hp hw h10 h8 h51 h52 hc1 h41 h44 h47 h50 in
theorem blk_at (t : Fin cfg2.N) (r : Fin 32) (n : Fin 48) (k : Fin 128) :
    mix (F := Ideal) (BitVec.ofNat 32 t.val) (rows1 V c t) (own1 V c t) (ra1 V c t) (rb1 V c t) (cen1 V c t) (wh1 V c t) (wl1 V c t) (sc1 V c t) (bi1 V c t) (ix4 0 r n k)
      = feats X a p w s h (ix4 (chainAt t) (resAt t r) n k) := by
  refine mix_at (fun i e => a (ix2 i e)) (fun e => p (ix1 e)) (fun i c => w (ix2 i c)) X t.val _ _ _ _ _ _ _ _ _ r n k (chainAt t) (resAt t r) (neigh X (chainAt t) (resAt t r) n.val)
    (fun c => s (ix1 c)) (fun c => h (ix1 c)) hX (fun i e => ha _) (fun e => hp _) (fun i c => hw _) ?_ (fun l => ?_) (fun l => ?_) (fun q l => ?_) (fun q l => ?_) (fun q l => ?_)
    (fun t' p' k' => ?_) (fun t' p' k' hp' => ?_) (fun v k' => ?_) (fun q l => ?_) (fun l => ?_) (fun l => ?_)
  · show r.val + t.val * 32 = t.val % 32 * 32 + r.val + t.val / 32 * 1024
    omega
  · rw [← h10]; exact congrArg (V c main_v10 : FVec Ideal S196608x16 .f32) (emb2_0 t r n l)
  · rw [← h8]; exact congrArg (V c main_v8 : FVec Ideal S4096x16 .f32) (emb2_1 t r l)
  · rw [← h51]; exact congrArg (V c main_v51 : FVec Ideal S16x96 .bf16) (emb2_2 t q l)
  · rw [← h52]; exact congrArg (V c main_v52 : FVec Ideal S16x96 .bf16) (emb2_3 t q l)
  · rw [← hc1]; exact congrArg (V c main_cst_1 : FVec Ideal S8x512 .f32) (emb2_4 t q l)
  · exact ((congrArg (V c main_v41 : FVec Ideal S640x128 .bf16) (emb2_5 t _ k')).trans (h41 _ _)).trans ((allW_bump ..).trans (bumpW_keep ..))
  · exact ((congrArg (V c main_v41 : FVec Ideal S640x128 .bf16) (emb2_5 t _ k')).trans (h41 _ _)).trans ((allW_bump ..).trans (bumpW_drop _ _ _ hp' _))
  · exact ((congrArg (V c main_v41 : FVec Ideal S640x128 .bf16) (emb2_5 t _ k')).trans (h41 _ _)).trans ((allW_mark ..).trans (markW_at ..))
  · exact (congrArg (V c main_v44 : FVec Ideal S640x128 .bf16) (emb2_6 t q l)).trans (h44 _ _)
  · rw [← h47]; exact congrArg (V c main_v47 : FVec Ideal S8x128 .f32) (emb2_7 t 0 l)
  · rw [← h50]; exact congrArg (V c main_v50 : FVec Ideal S8x128 .f32) (emb2_8 t 0 l)

include hX ha hp hw h10 h8 h51 h52 hc1 h41 h44 h47 h50 in
/-- The last call's array. -/
theorem arr1 : (dat1 V c).arrAt 9 cfg2.N = feats X a p w s h :=
  (dat1 V c).arrAt_eq_of_cover 9 (feats X a p w s h) (fun t _ => by
    funext q
    obtain ⟨z, r, n, k, rfl⟩ := ex_ix4 (n0 := 1) (n1 := 32) (n2 := 48) (n3 := 128) q
    obtain rfl : z = 0 := Subsingleton.elim _ _
    have hr : ((cfg2.win 9).blk t).view.read (Elt Ideal) (feats X a p w s h) (ix4 0 r n k) = feats X a p w s h (ix4 (chainAt t) (resAt t r) n k) := by
      show feats X a p w s h (((cfg2.win 9).blk t).view.emb (ix4 0 r n k)) = _
      rw [emb2_9]
    rw [hr]
    show mix (F := Ideal) (BitVec.ofNat 32 (grid2.coords t 0).val) (rows1 V c t) (own1 V c t) (ra1 V c t) (rb1 V c t) (cen1 V c t) (wh1 V c t) (wl1 V c t) (sc1 V c t) (bi1 V c t) (ix4 0 r n k) = _
    rw [crd2 t]
    exact blk_at X a p w s h V c hX ha hp hw h10 h8 h51 h52 hc1 h41 h44 h47 h50 t r n k) fun (q : S4x1024x48x128.Idx) => by
    obtain ⟨b, i, n, k, rfl⟩ := ex_ix4 (n0 := 4) (n1 := 1024) (n2 := 48) (n3 := 128) q
    obtain ⟨t, r, rfl, rfl⟩ := res_cover2 b i
    refine ⟨t, flush2_9 t, ?_⟩
    have h := ((cfg2.win 9).blk t).view.emb_mem_set (ix4 0 r n k : S1x32x48x128.Idx)
    rwa [emb2_9] at h

end Cert.Proof.Mix

end
-- ==== Proof.Mix.End.lean ====
/-
  What the whole program leaves: the features, the neighbours, and its arguments as they were.
-/
module

public import proofs.«01_k».proof.Proof.Mix.Array

@[expose] public section

noncomputable section

namespace Cert.Proof.Mix

open Cert.KernelIdeal Cert.KernelIdeal.Gen
open Idealize.ShloMosaic Idealize.ShloMosaic.TcCoe Idealize.SL.Sem
open Cert.Proof.Near Cert.Proof.Sc

variable (m : (ℓ : Loc nD τ sig) → Buf (Elt Ideal) ℓ) (c : Dev nD)

/-- What a list of host steps doesn't write stays. -/
theorem kept0 (V : Valuation τ sig (Elt Ideal)) {b : Ref sig .tc} (h : b ∉ writes0) : StableHlo.after ops0 V (dr b) = V (dr b) :=
  StableHlo.after_of_writes_sub ops0 V (StableHlo.forall_writes_sub_of_map ops0_writes) h
theorem kept1 (V : Valuation τ sig (Elt Ideal)) {b : Ref sig .tc} (h : b ∉ writes1) : StableHlo.after ops1 V (dr b) = V (dr b) :=
  StableHlo.after_of_writes_sub ops1 V (StableHlo.forall_writes_sub_of_map ops1_writes) h
theorem kept2 (V : Valuation τ sig (Elt Ideal)) {b : Ref sig .tc} (h : b ∉ writes2) : StableHlo.after ops2 V (dr b) = V (dr b) :=
  StableHlo.after_of_writes_sub ops2 V (StableHlo.forall_writes_sub_of_map ops2_writes) h

/-- What the first two calls don't write is as the first host steps left it. -/
theorem W4_of_W1 {b : Ref sig .tc} (h : b ∉ writes1) (h0 : b ≠ main_v7_0) (h1 : b ≠ main_v7_1) (h2 : b ≠ main_v7_2) (h3 : b ≠ main_v10) :
    W4 m c (dr b) = W1 m c (dr b) :=
  (put_ne _ _ h3).trans ((kept1 _ h).trans ((put_ne _ _ h2).trans ((put_ne _ _ h1).trans (put_ne _ _ h0))))
theorem W4_of_W0 {b : Ref sig .tc} (hw : b ∉ writes0) (h : b ∉ writes1) (h0 : b ≠ main_v7_0) (h1 : b ≠ main_v7_1) (h2 : b ≠ main_v7_2) (h3 : b ≠ main_v10) :
    W4 m c (dr b) = m ((c : Thread nD τ).loc b) :=
  (W4_of_W1 m c h h0 h1 h2 h3).trans (kept0 _ hw)
theorem W6_arg {b : Ref sig .tc} (hw : b ∉ writes0) (h : b ∉ writes1) (hv : b ∉ writes2) (h0 : b ≠ main_v7_0) (h1 : b ≠ main_v7_1) (h2 : b ≠ main_v7_2) (h3 : b ≠ main_v10) (h4 : b ≠ main_v53) :
    W6 m c (dr b) = m ((c : Thread nD τ).loc b) :=
  (put_ne _ _ h4).trans ((kept2 _ hv).trans (W4_of_W0 m c hw h h0 h1 h2 h3))

/-- The second result: the neighbours. -/
theorem W6_nbr : (W6 m c (dr main_v7_0) : IVec S4x1024x48 32) = nbr (crd m c) :=
  (put_ne _ _ (by decide)).trans ((kept2 _ (by decide)).trans ((put_ne _ _ (by decide)).trans ((kept1 _ (by decide)).trans (W2_v7_0 m c))))

theorem W1_cst : (W1 m c (dr main_cst) : FVec Ideal S16x96 .f32) = fun i => Ideal.ofBits .f32 (lit0 (S16x96.rowMajor i)) := by
  unfold W1 ops0 dr
  after_reads_simp
  rfl
theorem W1_cst0 : (W1 m c (dr main_cst_0) : FVec Ideal S16x96 .f32) = fun i => Ideal.ofBits .f32 (lit1 (S16x96.rowMajor i)) := by
  unfold W1 ops0 dr
  after_reads_simp
  rfl
theorem W1_cst1 : (W1 m c (dr main_cst_1) : FVec Ideal S8x512 .f32) = fun i => Ideal.ofBits .f32 (lit2 (S8x512.rowMajor i)) := by
  unfold W1 ops0 dr
  after_reads_simp
  rfl

variable (hX : ∀ q, Fine ((m ((c : Thread nD τ).loc main_arg3) : FVec Ideal S4x1024x5x3 .f32) q))
  (ha : ∀ q, Fine ((m ((c : Thread nD τ).loc main_arg12) : FVec Ideal S66x16 .f32) q))
  (hp : ∀ q, Fine ((m ((c : Thread nD τ).loc main_arg13) : FVec Ideal S16 .f32) q))
  (hw : ∀ q, Fine ((m ((c : Thread nD τ).loc main_arg14) : FVec Ideal S416x128 .f32) q))

include hX ha hp hw in
/-- The first result: the features. -/
theorem W6_feats : (W6 m c (dr main_v53) : FVec Ideal S4x1024x48x128 .f32)
    = feats (crd m c) (m ((c : Thread nD τ).loc main_arg12)) (m ((c : Thread nD τ).loc main_arg13)) (m ((c : Thread nD τ).loc main_arg14))
        (m ((c : Thread nD τ).loc main_arg15)) (m ((c : Thread nD τ).loc main_arg16)) := by
  have e12 := W4_of_W0 m c (b := main_arg12) (by decide) (by decide) (by decide) (by decide) (by decide) (by decide)
  have e13 := W4_of_W0 m c (b := main_arg13) (by decide) (by decide) (by decide) (by decide) (by decide) (by decide)
  have e14 := W4_of_W0 m c (b := main_arg14) (by decide) (by decide) (by decide) (by decide) (by decide) (by decide)
  have e15 := W4_of_W0 m c (b := main_arg15) (by decide) (by decide) (by decide) (by decide) (by decide) (by decide)
  have e16 := W4_of_W0 m c (b := main_arg16) (by decide) (by decide) (by decide) (by decide) (by decide) (by decide)
  refine (put_self ..).trans (arr1 (crd m c) _ _ _ _ _ (at1 (W5 m)) c (fun b i a k => hX _) ha hp hw ?_ ?_ ?_ ?_ ?_ ?_ ?_ ?_ ?_)
  · intro b i n l
    have e : (W5 m c (dr main_v10) : FVec Ideal S196608x16 .f32) = gath (gi₃ m c) (tb₃ m c) :=
      (kept2 (W4 m c) (b := main_v10) (by decide)).trans (put_self (W3 m c) main_v10 (gath (gi₃ m c) (tb₃ m c)))
    exact (congrFun e _).trans (gath_apply' m c b i n l)
  · intro b i l
    have e : (W5 m c (dr main_v8) : FVec Ideal S4096x16 .f32) = tb₃ m c :=
      (kept2 (W4 m c) (b := main_v8) (by decide)).trans (put_ne (W3 m c) (b := main_v10) (gath (gi₃ m c) (tb₃ m c)) (by decide))
    exact (congrFun e _).trans (tb_apply m c b i l)
  · intro q l
    exact congrFun ((rd_v51 (W4 m c)).trans ((W4_of_W1 m c (b := main_cst) (by decide) (by decide) (by decide) (by decide) (by decide)).trans (W1_cst m c))) (ix2 q l)
  · intro q l
    exact congrFun ((rd_v52 (W4 m c)).trans ((W4_of_W1 m c (b := main_cst_0) (by decide) (by decide) (by decide) (by decide) (by decide)).trans (W1_cst0 m c))) (ix2 q l)
  · intro q l
    exact congrFun ((kept2 (W4 m c) (b := main_cst_1) (by decide)).trans ((W4_of_W1 m c (b := main_cst_1) (by decide) (by decide) (by decide) (by decide) (by decide)).trans (W1_cst1 m c))) (ix2 q l)
  · intro q l
    have e := rd_v41 (W4 m c)
    rw [e12, e13, e14] at e
    exact congrFun e (ix2 q l)
  · intro q l
    have e := rd_v44 (W4 m c)
    rw [e12, e13, e14] at e
    exact (congrFun e (ix2 q l)).trans (allW_fine _ _ _ ha hp hw q l).sub_self
  · intro l
    exact (rd_v47 (W4 m c) l).trans (congrFun e15 _)
  · intro l
    exact (rd_v50 (W4 m c) l).trans (congrFun e16 _)

end Cert.Proof.Mix

end
-- ==== Proof.Ref.Near.lean ====
/-
  The reference's neighbours: its stable selection of the 48 greatest negated distances names, where no residue is
  masked and the atoms are finite, the neighbours in order of distance.
-/
module

public import proofs.«01_k».proof.Proof.Gen.ReferenceIdeal.Run
public import proofs.«01_k».proof.Proof.Near.Spec
public import Idealize.ShloMosaic.Lib.Pointwise
public import Idealize.ShloMosaic.Lib.Tactic.CleanTypes

@[expose] public section

noncomputable section

namespace Cert.Proof.Ref

open Cert.ReferenceIdeal Cert.ReferenceIdeal.Gen Cert.ReferenceIdeal.Value
open Idealize.ShloMosaic Idealize.ShloMosaic.TcCoe Idealize.SL.Sem
open Cert.Proof.Near

/-- The order of a row's entries that the selection sorts by. -/
def ahead (D : FVec Ideal S4x1024x1024 .f32) (b : Fin 4) (i : Fin 1024) (j j' : Fin 1024) : Bool :=
  FloatOps.cmpfTotal .gt (D (ix3 b i j)) (D (ix3 b i j')) == 1#1

theorem along3 (b : Fin 4) (i j k : Fin 1024) : (ix3 b i j : S4x1024x1024.Idx).along (2 : Fin 3) k = ix3 b i k := by
  funext a
  match a with
  | ⟨0, _⟩ => rfl
  | ⟨1, _⟩ => rfl
  | ⟨2, _⟩ => rfl

def wide (k : Fin 48) : Fin 1024 := ⟨k.val, by omega⟩

theorem topK_at (D : FVec Ideal S4x1024x1024 .f32) (b : Fin 4) (i : Fin 1024) (k : Fin 48) :
    (Host.topK S4x1024x48 2 (FloatOps.cmpfTotal .gt) D sliceFits_S4x1024x1024_S4x1024x48).1 (ix3 b i k) = D (ix3 b i (sortedFrom (ahead D b i) (wide k)))
    ∧ (Host.topK S4x1024x48 2 (FloatOps.cmpfTotal .gt) D sliceFits_S4x1024x1024_S4x1024x48).2 (ix3 b i k) = BitVec.ofNat 32 (sortedFrom (ahead D b i) (wide k)).val := by
  unfold Host.topK Host.sort2
  constructor
  · pointwise
    simp only [along3]
    rfl
  · pointwise
    simp only [along3]
    rfl

variable (V0 : Valuation τ sig (Elt Ideal))

/-- The atoms' coordinates as the reference finds them. -/
def crd : Coords := fun b i a k => (V0 (Proc.devRef .tc main_arg3) : FVec Ideal S4x1024x5x3 .f32) (ix4 b i a k)

theorem v59_at (b : Fin 4) (i : Fin 1024) (k : Fin 3) : res_main_v59 V0 (ix3 b i k) = crd V0 b i 1 k := by
  unfold res_main_v59; clean_types; pointwise; rfl

theorem v69_at (b : Fin 4) (i j : Fin 1024) (k : Fin 3) : res_main_v69 V0 (ix4 b i j k) = crd V0 b j 1 k - crd V0 b i 1 k := by
  unfold res_main_v69; clean_types; pointwise; rw [v59_at, v59_at]

variable (hm : ∀ (b : Fin 4) (i : Fin 1024), (V0 (Proc.devRef .tc main_arg7) : FVec Ideal S4x1024 .f32) (ix2 b i) = (1 : EReal))

include hm in
theorem v64_at (b : Fin 4) (i j : Fin 1024) : res_main_v64 V0 (ix3 b i j) = (1 : EReal) := by
  unfold res_main_v64; clean_types; pointwise
  have h : ∀ x y : EReal, x = 1 → y = 1 → x * y = 1 := by rintro _ _ rfl rfl; exact one_mul _
  exact h _ _ (hm b j) (hm b i)

include hm in
theorem v75_at (b : Fin 4) (i j : Fin 1024) : res_main_v75 V0 (ix3 b i j) = sep (crd V0) b i j := by
  unfold res_main_v75; clean_types; pointwise
  rw [v64_at V0 hm, one_mul]
  unfold sep gap
  simp only [v69_at, sub_sq_comm (crd V0 b j 1 _)]

include hm in
theorem v83_at (b : Fin 4) (i j : Fin 1024) : res_main_v83 V0 (ix3 b i j) = -sep (crd V0) b i j := by
  unfold res_main_v83; clean_types; pointwise
  rw [v64_at V0 hm, v75_at V0 hm, show (1 : EReal) - 1 = 0 from by rw [← EReal.coe_one, ← EReal.coe_sub, sub_self, EReal.coe_zero], zero_mul, add_zero]

include hm in
theorem picked (hd : ∀ b i j, sep (crd V0) b i j ≠ ⊤) (b : Fin 4) (i : Fin 1024) (k : Fin 48) :
    sortedFrom (ahead (res_main_v83 V0) b i) (wide k) = neigh (crd V0) b i k.val := by
  unfold neigh
  refine (first_rounds_eq (fun j => sep (crd V0) b i j) _ (fun j j' => ?_) (hd b i) (wide k)).symm
  unfold ahead
  rw [Ideal.cmpfTotal_def, v83_at V0 hm, v83_at V0 hm]
  show (BitVec.ofBool (decide (-sep (crd V0) b i j' < -sep (crd V0) b i j)) == 1#1) = true ↔ _
  by_cases h : sep (crd V0) b i j < sep (crd V0) b i j' <;> simp [EReal.neg_lt_neg_iff, h]

include hm in
/-- The reference's second result: the neighbours. -/
theorem indices_at (hd : ∀ b i j, sep (crd V0) b i j ≠ ⊤) (b : Fin 4) (i : Fin 1024) (k : Fin 48) :
    res_main_indices V0 (ix3 b i k) = BitVec.ofNat 32 (neigh (crd V0) b i k.val).val := by
  unfold res_main_indices
  exact (topK_at _ b i k).2.trans (by rw [picked V0 hm hd])

end Cert.Proof.Ref

end
-- ==== Proof.Ref.Take.lean ====
/-
  The reference's three gathers read at an entry: an atom's coordinates taken by a table of atoms, and a neighbour's
  entry taken along a row.
-/
module

public import proofs.«01_k».proof.Proof.Gen.ReferenceIdeal.Run
public import Idealize.ShloMosaic.Lib.Pointwise

@[expose] public section

noncomputable section

namespace Cert.Proof.Ref

open Cert.ReferenceIdeal Cert.ReferenceIdeal.Gen Cert.ReferenceIdeal.Value
open Idealize.ShloMosaic Idealize.ShloMosaic.TcCoe Idealize.SL.Sem

/-- The atoms' coordinates taken by a table of atoms. -/
theorem take_atoms {α : Type} (x : S4x1024x5x3.Idx → α) (idx : IVec S24x1 32) (b : Fin 4) (i : Fin 1024) (p : Fin 24) (k : Fin 3) (a : Fin 5) (h : min (idx (ix2 p 0)).toInt.toNat 4 = a.val) :
    Host.gather gather_S4x1024x5x3_S24x1_S4x1024x24x3_013_2_n_n_2_1_4102413 x idx (ix4 b i p k) = x (ix4 b i a k) := by
  unfold Host.gather
  congr 1
  funext q
  refine Fin.ext ?_
  show (gather_S4x1024x5x3_S24x1_S4x1024x24x3_013_2_n_n_2_1_4102413).start (ix4 b i p k) idx q + (gather_S4x1024x5x3_S24x1_S4x1024x24x3_013_2_n_n_2_1_4102413).batchCoord (ix4 b i p k) q + (gather_S4x1024x5x3_S24x1_S4x1024x24x3_013_2_n_n_2_1_4102413).offCoord (ix4 b i p k) q = _
  match q with
  | ⟨0, _⟩ => simp [GatherDims.start, GatherDims.batchCoord, gather_S4x1024x5x3_S24x1_S4x1024x24x3_013_2_n_n_2_1_4102413]; rfl
  | ⟨1, _⟩ => simp [GatherDims.start, GatherDims.batchCoord, gather_S4x1024x5x3_S24x1_S4x1024x24x3_013_2_n_n_2_1_4102413]; rfl
  | ⟨2, ha⟩ =>
    have hm : (⟨2, ha⟩ : Fin S4x1024x5x3.rank) ∈ (gather_S4x1024x5x3_S24x1_S4x1024x24x3_013_2_n_n_2_1_4102413).startIndexMap := List.mem_singleton.mpr rfl
    have hs : (gather_S4x1024x5x3_S24x1_S4x1024x24x3_013_2_n_n_2_1_4102413).siIdx (ix4 b i p k) ⟨List.idxOf (⟨2, ha⟩ : Fin S4x1024x5x3.rank) (gather_S4x1024x5x3_S24x1_S4x1024x24x3_013_2_n_n_2_1_4102413).startIndexMap, List.idxOf_lt_length_iff.2 hm⟩ = ix2 p 0 := by
      funext c
      refine Fin.ext ?_
      match c with
      | ⟨0, _⟩ => rfl
      | ⟨1, _⟩ => rfl
    rw [GatherDims.offCoord_eq_zero _ _ _ (fun h => ((GatherDims.mem_sKept _ _).mp h).1 (List.mem_singleton.mpr rfl)),
      GatherDims.batchCoord_eq_zero _ _ _ (by simp [gather_S4x1024x5x3_S24x1_S4x1024x24x3_013_2_n_n_2_1_4102413])]
    unfold GatherDims.start
    rw [dif_pos hm, hs]
    exact h
  | ⟨3, _⟩ => simp [GatherDims.start, GatherDims.batchCoord, gather_S4x1024x5x3_S24x1_S4x1024x24x3_013_2_n_n_2_1_4102413]; rfl

/-- A neighbour's entries taken along a row of pairs. -/
theorem take_pairs {α : Type} (x : S4x1024x1024x24.Idx → α) (idx : IVec S4x1024x48x1 32) (b : Fin 4) (i : Fin 1024) (n : Fin 48) (p : Fin 24) (j : Fin 1024) (h : min (idx (ix4 b i n 0)).toInt.toNat 1023 = j.val) :
    Host.gather gather_S4x1024x1024x24_S4x1024x48x1_S4x1024x48x24_3_2_01_01_2_3_11124 x idx (ix4 b i n p) = x (ix4 b i j p) := by
  unfold Host.gather
  congr 1
  funext q
  refine Fin.ext ?_
  show (gather_S4x1024x1024x24_S4x1024x48x1_S4x1024x48x24_3_2_01_01_2_3_11124).start (ix4 b i n p) idx q + (gather_S4x1024x1024x24_S4x1024x48x1_S4x1024x48x24_3_2_01_01_2_3_11124).batchCoord (ix4 b i n p) q + (gather_S4x1024x1024x24_S4x1024x48x1_S4x1024x48x24_3_2_01_01_2_3_11124).offCoord (ix4 b i n p) q = _
  match q with
  | ⟨0, _⟩ => simp [GatherDims.start, GatherDims.batchCoord, gather_S4x1024x1024x24_S4x1024x48x1_S4x1024x48x24_3_2_01_01_2_3_11124]; rfl
  | ⟨1, _⟩ => simp [GatherDims.start, GatherDims.batchCoord, gather_S4x1024x1024x24_S4x1024x48x1_S4x1024x48x24_3_2_01_01_2_3_11124]; rfl
  | ⟨2, ha⟩ =>
    have hm : (⟨2, ha⟩ : Fin S4x1024x1024x24.rank) ∈ (gather_S4x1024x1024x24_S4x1024x48x1_S4x1024x48x24_3_2_01_01_2_3_11124).startIndexMap := List.mem_singleton.mpr rfl
    have hs : (gather_S4x1024x1024x24_S4x1024x48x1_S4x1024x48x24_3_2_01_01_2_3_11124).siIdx (ix4 b i n p) ⟨List.idxOf (⟨2, ha⟩ : Fin S4x1024x1024x24.rank) (gather_S4x1024x1024x24_S4x1024x48x1_S4x1024x48x24_3_2_01_01_2_3_11124).startIndexMap, List.idxOf_lt_length_iff.2 hm⟩ = ix4 b i n 0 := by
      funext c
      refine Fin.ext ?_
      match c with
      | ⟨0, _⟩ => rfl
      | ⟨1, _⟩ => rfl
      | ⟨2, _⟩ => rfl
      | ⟨3, _⟩ => rfl
    rw [GatherDims.offCoord_eq_zero _ _ _ (fun h => ((GatherDims.mem_sKept _ _).mp h).1 (List.mem_singleton.mpr rfl)),
      GatherDims.batchCoord_eq_zero _ _ _ (by simp [gather_S4x1024x1024x24_S4x1024x48x1_S4x1024x48x24_3_2_01_01_2_3_11124])]
    unfold GatherDims.start
    rw [dif_pos hm, hs]
    exact h
  | ⟨3, _⟩ => simp [GatherDims.start, GatherDims.batchCoord, gather_S4x1024x1024x24_S4x1024x48x1_S4x1024x48x24_3_2_01_01_2_3_11124]; rfl

/-- A neighbour's entry taken along a row. -/
theorem take_row {α : Type} (x : S4x1024x1024.Idx → α) (idx : IVec S4x1024x48x1 32) (b : Fin 4) (i : Fin 1024) (n : Fin 48) (j : Fin 1024) (h : min (idx (ix4 b i n 0)).toInt.toNat 1023 = j.val) :
    Host.gather gather_S4x1024x1024_S4x1024x48x1_S4x1024x48_n_2_01_01_2_3_111 x idx (ix3 b i n) = x (ix3 b i j) := by
  unfold Host.gather
  congr 1
  funext q
  refine Fin.ext ?_
  show (gather_S4x1024x1024_S4x1024x48x1_S4x1024x48_n_2_01_01_2_3_111).start (ix3 b i n) idx q + (gather_S4x1024x1024_S4x1024x48x1_S4x1024x48_n_2_01_01_2_3_111).batchCoord (ix3 b i n) q + (gather_S4x1024x1024_S4x1024x48x1_S4x1024x48_n_2_01_01_2_3_111).offCoord (ix3 b i n) q = _
  match q with
  | ⟨0, _⟩ => simp [GatherDims.start, GatherDims.batchCoord, gather_S4x1024x1024_S4x1024x48x1_S4x1024x48_n_2_01_01_2_3_111]; rfl
  | ⟨1, _⟩ => simp [GatherDims.start, GatherDims.batchCoord, gather_S4x1024x1024_S4x1024x48x1_S4x1024x48_n_2_01_01_2_3_111]; rfl
  | ⟨2, ha⟩ =>
    have hm : (⟨2, ha⟩ : Fin S4x1024x1024.rank) ∈ (gather_S4x1024x1024_S4x1024x48x1_S4x1024x48_n_2_01_01_2_3_111).startIndexMap := List.mem_singleton.mpr rfl
    have hs : (gather_S4x1024x1024_S4x1024x48x1_S4x1024x48_n_2_01_01_2_3_111).siIdx (ix3 b i n) ⟨List.idxOf (⟨2, ha⟩ : Fin S4x1024x1024.rank) (gather_S4x1024x1024_S4x1024x48x1_S4x1024x48_n_2_01_01_2_3_111).startIndexMap, List.idxOf_lt_length_iff.2 hm⟩ = ix4 b i n 0 := by
      funext c
      refine Fin.ext ?_
      match c with
      | ⟨0, _⟩ => rfl
      | ⟨1, _⟩ => rfl
      | ⟨2, _⟩ => rfl
      | ⟨3, _⟩ => rfl
    rw [GatherDims.offCoord_eq_zero _ _ _ (fun h => ((GatherDims.mem_sKept _ _).mp h).1 (List.mem_singleton.mpr rfl)),
      GatherDims.batchCoord_eq_zero _ _ _ (by simp [gather_S4x1024x1024_S4x1024x48x1_S4x1024x48_n_2_01_01_2_3_111])]
    unfold GatherDims.start
    rw [dif_pos hm, hs]
    exact h

end Cert.Proof.Ref

end
-- ==== Proof.Ref.Edge.lean ====
/-
  The reference's edge features: of a residue and its neighbour, entry by entry, where no residue is masked, the
  residues are numbered in order and each row is of one chain.
-/
module

public import proofs.«01_k».proof.Proof.Ref.Near
public import proofs.«01_k».proof.Proof.Ref.Take
public import proofs.«01_k».proof.Proof.Near.Edge

@[expose] public section

noncomputable section

namespace Cert.Proof.Ref

open Cert.ReferenceIdeal Cert.ReferenceIdeal.Gen Cert.ReferenceIdeal.Value
open Idealize.ShloMosaic Idealize.ShloMosaic.TcCoe Idealize.SL.Sem
open Cert.Proof.Near

variable (V0 : Valuation τ sig (Elt Ideal)) (b : Fin 4) (i j : Fin 1024) (n : Fin 48) (k : Fin 3)

theorem v4_at : res_main_v4 V0 (ix3 b i k) = bond1 (crd V0 b i) k := by
  unfold res_main_v4; clean_types; pointwise; rfl

theorem v9_at : res_main_v9 V0 (ix3 b i k) = bond2 (crd V0 b i) k := by
  unfold res_main_v9; clean_types; pointwise; rfl

/-- The five atoms. -/
theorem v95_at (a : Fin 5) : res_main_v95 V0 (ix4 b i a k) = atom (crd V0 b i) a k := by
  unfold res_main_v95
  clean_types
  pointwise
  fin_vals a with hk
  all_goals simp only [hk, Nat.reduceSub, Nat.reduceLT, ↓reduceDIte]
  · obtain rfl : a = 0 := Fin.ext hk
    rfl
  · obtain rfl : a = 1 := Fin.ext hk
    exact v59_at V0 b i k
  · obtain rfl : a = 2 := Fin.ext hk
    rfl
  · obtain rfl : a = 3 := Fin.ext hk
    rfl
  · obtain rfl : a = 4 := Fin.ext hk
    simp only [v4_at, v9_at]
    fin_vals k with hk'
    all_goals simp only [hk', Nat.reduceSub, Nat.reduceLT, ↓reduceDIte]
    · obtain rfl : k = 0 := Fin.ext hk'
      rfl
    · obtain rfl : k = 1 := Fin.ext hk'
      rfl
    · obtain rfl : k = 2 := Fin.ext hk'
      rfl

/-- The pairs after the first. -/
def later (p : Fin 24) : Fin 25 := ⟨1 + p.val, by omega⟩

theorem lit0_at : ∀ p : Fin 24, min (lit0 (S24.rowMajor (ix1 p))).toInt.toNat 4 = (pairA (later p)).val := by
  decide +kernel

theorem lit1_at : ∀ p : Fin 24, min (lit1 (S24.rowMajor (ix1 p))).toInt.toNat 4 = (pairB (later p)).val := by
  decide +kernel

theorem lit2_at : ∀ t : Fin 16, lit2 (S16.rowMajor (ix1 t)) = centre t := by
  decide +kernel

theorem v102_at (p : Fin 24) : res_main_v102 V0 (ix5 b i j p k) = atom (crd V0 b i) (pairA (later p)) k - atom (crd V0 b j) (pairB (later p)) k := by
  unfold res_main_v102
  clean_types
  pointwise
  rw [take_atoms _ _ b i p k (pairA (later p)), take_atoms _ _ b j p k (pairB (later p)), v95_at, v95_at]
  · pointwise; exact lit1_at p
  · pointwise; exact lit0_at p

variable (hm : ∀ (b : Fin 4) (i : Fin 1024), (V0 (Proc.devRef .tc main_arg7) : FVec Ideal S4x1024 .f32) (ix2 b i) = (1 : EReal))
  (hd : ∀ b i j, sep (crd V0) b i j ≠ ⊤)

include hm hd

theorem v108_at : res_main_v108 V0 (ix4 b i n 0) = BitVec.ofNat 32 (neigh (crd V0) b i n.val).val := by
  unfold res_main_v108; clean_types; pointwise; exact indices_at V0 hm hd b i n

omit hm hd in
/-- A neighbour's word is kept by the test for negative words, and lies in range. -/
theorem word_kept : ∀ j : Fin 1024, min (Scalar.select (IntOp.cmpi .slt (BitVec.ofNat 32 j.val) 0#32)
    (IntOp.addi (BitVec.ofNat 32 j.val) 1024#32) (BitVec.ofNat 32 j.val)).toInt.toNat 1023 = j.val := by
  decide +kernel

/-- The distances of a neighbour's pairs. -/
theorem v119_first (t : Fin 16) : res_main_v119 V0 (ix5 b i n 0 t)
    = units (span (crd V0) b i (neigh (crd V0) b i n.val) 0) (Ideal.ofBits FTy.f32 (centre t)) := by
  unfold res_main_v119
  clean_types
  pointwise
  rw [(topK_at _ b i n).1, picked V0 hm hd b i n, v83_at V0 hm, neg_neg, lit2_at]
  rfl

theorem v119_later (t : Fin 16) (p : Fin 24) : res_main_v119 V0 (ix5 b i n (later p) t)
    = units (span (crd V0) b i (neigh (crd V0) b i n.val) (later p)) (Ideal.ofBits FTy.f32 (centre t)) := by
  unfold res_main_v119 later
  clean_types
  pointwise
  rw [take_pairs _ _ b i n p (neigh (crd V0) b i n.val), lit2_at]
  · pointwise
    simp only [v102_at]
    rfl
  · pointwise
    rw [v108_at V0 b i n hm hd]
    exact word_kept _

theorem v119_at (t : Fin 16) (p : Fin 25) : res_main_v119 V0 (ix5 b i n p t)
    = units (span (crd V0) b i (neigh (crd V0) b i n.val) p) (Ideal.ofBits FTy.f32 (centre t)) := by
  by_cases h : p = 0
  · subst h; exact v119_first V0 b i n hm hd t
  · have hp : p = later ⟨p.val - 1, by omega⟩ := by
      refine Fin.ext ?_
      have : p.val ≠ 0 := fun h' => h (Fin.ext h')
      show p.val = 1 + (p.val - 1)
      omega
    rw [hp]
    exact v119_later V0 b i n hm hd t _

theorem v136_at (hc : ∀ (b : Fin 4) (i : Fin 1024), (V0 (Proc.devRef .tc main_arg11) : IVec S4x1024 32) (ix2 b i) = (V0 (Proc.devRef .tc main_arg11) : IVec S4x1024 32) (ix2 b 0)) :
    res_main_v136 V0 (ix3 b i n) = 1#32 := by
  unfold res_main_v136
  clean_types
  pointwise
  rw [take_row _ _ b i n (neigh (crd V0) b i n.val)]
  · pointwise
    rw [hc b i, hc b (neigh (crd V0) b i n.val)]
    simp [IntOp.cmpi]
  · pointwise
    rw [indices_at V0 hm hd b i n]
    exact word_kept _

omit hm hd in
/-- The word of two residues' places. -/
theorem rel_word (i j : Fin 1024) : IntOp.minsi 64#32 (IntOp.maxsi 0#32 (IntOp.addi (IntOp.subi (BitVec.ofNat 32 i.val) (BitVec.ofNat 32 j.val)) 32#32))
    = BitVec.ofNat 32 (rel i j).val := by
  have key : ∀ m : Fin 2048, IntOp.minsi 64#32 (IntOp.maxsi 0#32 (BitVec.ofNat 32 m.val - 992#32)) = BitVec.ofNat 32 (min (m.val - 992) 64) := by
    decide +kernel
  have e : IntOp.addi (IntOp.subi (BitVec.ofNat 32 i.val) (BitVec.ofNat 32 j.val)) 32#32 = BitVec.ofNat 32 (i.val + 1024 - j.val) - 992#32 := by
    show (BitVec.ofNat 32 i.val - BitVec.ofNat 32 j.val) + 32#32 = _
    apply BitVec.eq_of_toNat_eq
    have := i.isLt; have := j.isLt
    simp only [BitVec.toNat_add, BitVec.toNat_sub, BitVec.toNat_ofNat]
    omega
  rw [e, key ⟨i.val + 1024 - j.val, by omega⟩]
  show BitVec.ofNat 32 (min (i.val + 1024 - j.val - 992) 64) = BitVec.ofNat 32 (min (i.val + 32 - j.val) 64)
  congr 2
  omega

omit hm hd in
theorem one_word (q x : Fin 66) : (FloatOps.uitofp .f32 (IntOp.cmpi .eq (BitVec.ofNat 32 q.val) (BitVec.ofNat 32 x.val)) : Ideal .f32) = if x = q then (1 : EReal) else 0 := by
  have e : IntOp.cmpi .eq (BitVec.ofNat 32 q.val) (BitVec.ofNat 32 x.val) = if x = q then 1#1 else 0#1 := by
    revert q x; decide +kernel
  rw [e]
  split
  · show (((1#1 : BitVec 1).toNat : ℝ) : EReal) = 1
    simp
  · show (((0#1 : BitVec 1).toNat : ℝ) : EReal) = 0
    simp

omit hm hd in
/-- A residue's word less its neighbour's. -/
theorem place_word {x0 xi xj : BitVec 32} (i j : Fin 1024) (hi : xi = x0 + BitVec.ofNat 32 i.val) (hj : xj = x0 + BitVec.ofNat 32 j.val) :
    IntOp.subi xi xj = IntOp.subi (BitVec.ofNat 32 i.val) (BitVec.ofNat 32 j.val) := by
  subst hi hj
  show (x0 + _) - (x0 + _) = _ - _
  apply BitVec.eq_of_toNat_eq
  simp only [BitVec.toNat_add, BitVec.toNat_sub, BitVec.toNat_ofNat]
  omega

/-- A residue's number as the reference finds it. -/
def number (b : Fin 4) (i : Fin 1024) : BitVec 32 := (V0 (Proc.devRef .tc main_arg9) : IVec S4x1024 32) (ix2 b i)

omit hm hd in
theorem place_all {x0 xi xj : BitVec 32} (i j : Fin 1024) (hi : xi = x0 + BitVec.ofNat 32 i.val) (hj : xj = x0 + BitVec.ofNat 32 j.val) :
    IntOp.addi (IntOp.muli (IntOp.minsi 64#32 (IntOp.maxsi 0#32 (IntOp.addi (IntOp.subi xi xj) 32#32))) 1#32) (IntOp.muli (IntOp.subi 1#32 1#32) 65#32)
      = BitVec.ofNat 32 (rel i j).val := by
  rw [place_word i j hi hj, rel_word]
  show BitVec.ofNat 32 (rel i j).val * 1#32 + (1#32 - 1#32) * 65#32 = _
  simp

variable (hc : ∀ (b : Fin 4) (i : Fin 1024), (V0 (Proc.devRef .tc main_arg11) : IVec S4x1024 32) (ix2 b i) = (V0 (Proc.devRef .tc main_arg11) : IVec S4x1024 32) (ix2 b 0))
  (hr : ∀ (b : Fin 4) (i : Fin 1024), number V0 b i = number V0 b 0 + BitVec.ofNat 32 i.val)

/-- The weights as the reference finds them. -/
def wpos : Fin 66 → Fin 16 → EReal := fun q e => (V0 (Proc.devRef .tc main_arg12) : FVec Ideal S66x16 .f32) (ix2 q e)
def bpos : Fin 16 → EReal := fun e => (V0 (Proc.devRef .tc main_arg13) : FVec Ideal S16 .f32) (ix1 e)
def wedge : Fin 416 → Fin 128 → EReal := fun r c => (V0 (Proc.devRef .tc main_arg14) : FVec Ideal S416x128 .f32) (ix2 r c)
def scale : Fin 128 → EReal := fun c => (V0 (Proc.devRef .tc main_arg15) : FVec Ideal S128 .f32) (ix1 c)
def shift : Fin 128 → EReal := fun c => (V0 (Proc.devRef .tc main_arg16) : FVec Ideal S128 .f32) (ix1 c)

include hc hr in
theorem v152_at (c : Fin 128) : res_main_v152 V0 (ix4 b i n c)
    = edge (crd V0) (wpos V0) (bpos V0) (wedge V0) b i (neigh (crd V0) b i n.val) c := by
  unfold res_main_v152
  clean_types
  pointwise
  rw [v136_at V0 b i n hm hd hc, take_row _ _ b i n (neigh (crd V0) b i n.val)]
  · pointwise
    refine congrArg₂ (· + ·) (Finset.sum_congr rfl fun e _ => congrArg₂ (· * ·) (congrArg₂ (· + ·) ?_ rfl) rfl) ?_
    · refine (Finset.sum_congr rfl fun x _ => congrArg (fun w => (FloatOps.uitofp .f32 (IntOp.cmpi .eq w (BitVec.ofNat 32 x.val)) : Ideal .f32) * wpos V0 x e)
        (place_all i (neigh (crd V0) b i n.val) (hr b i) (hr b _))).trans ?_
      simp only [one_word, ite_mul, one_mul, zero_mul, Finset.sum_ite_eq', Finset.mem_univ, if_true]
    · refine (Fin.sum_univ_tiles 25 16 rfl _).trans (Finset.sum_congr rfl fun p _ => Finset.sum_congr rfl fun t _ => ?_)
      have e1 : (⟨(p.val * 16 + t.val) / 16, by omega⟩ : Fin 25) = p := Fin.ext (by show (p.val * 16 + t.val) / 16 = p.val; omega)
      have e2 : (⟨(p.val * 16 + t.val) % 16, by omega⟩ : Fin 16) = t := Fin.ext (by show (p.val * 16 + t.val) % 16 = t.val; omega)
      have z : ∀ (p' : Fin 25) (t' : Fin 16), p' = p → t' = t → (res_main_v119 V0 (ix5 b i n p' t') : EReal)
          = units (span (crd V0) b i (neigh (crd V0) b i n.val) p) (Ideal.ofBits FTy.f32 (centre t)) := by
        rintro p' t' rfl rfl
        exact v119_at V0 b i n hm hd t' p'
      exact congrArg₂ (fun (u w : EReal) => u * w) (congrArg (fun u : EReal => Ideal.exp (-(u * u))) (z _ _ e1 e2)) rfl
  · pointwise
    rw [indices_at V0 hm hd b i n]
    exact word_kept _

omit hm hd in
theorem mean_at (hE : ∀ c, res_main_v152 V0 (ix4 b i n c) = edge (crd V0) (wpos V0) (bpos V0) (wedge V0) b i j c) :
    res_main_v156 V0 (ix4 b i n 0) = mean (edge (crd V0) (wpos V0) (bpos V0) (wedge V0) b i j) := by
  unfold res_main_v156; clean_types; pointwise; simp only [hE]; rfl

omit hm hd in
/-- The reference's first result, entry by entry. -/
theorem edges_at (hE : ∀ c, res_main_v152 V0 (ix4 b i n c) = edge (crd V0) (wpos V0) (bpos V0) (wedge V0) b i j c) (c : Fin 128)
    (Y : FVec Ideal S4x1024x48x128 .f32)
    (hY : Y = addf (mulf (Host.divf (subf (res_main_v152 V0) (broadcastInDim S4x1024x48x128 ![0, 1, 2, 3] bcast_S4x1024x48x1_S4x1024x48x128_0_1_2_3 (res_main_v156 V0))) (broadcastInDim S4x1024x48x128 ![0, 1, 2, 3] bcast_S4x1024x48x1_S4x1024x48x128_0_1_2_3 (Host.sqrt (addf (Host.divf (broadcastInDim S4x1024x48x1 ![0, 1, 2] bcast_S4x1024x48_S4x1024x48x1_0_1_2 (Host.reduceAdd (mulf (res_main_v158 V0) (res_main_v158 V0)) (constant S_ .f32 0x00000000#32) reducesTo_S4x1024x48x128_S4x1024x48_d3 h_S_)) (broadcastInDim S4x1024x48x1 ![] bcast_S_S4x1024x48x1 (constant S_ .f32 0x43000000#32))) (broadcastInDim S4x1024x48x1 ![] bcast_S_S4x1024x48x1 (constant S_ .f32 0x3727C5AC#32)))))) (broadcastInDim S4x1024x48x128 ![0, 1, 2, 3] bcast_S1x1x1x128_S4x1024x48x128_0_1_2_3 (broadcastInDim S1x1x1x128 ![3] bcast_S128_S1x1x1x128_3 (V0 (Proc.devRef .tc main_arg15))))) (broadcastInDim S4x1024x48x128 ![0, 1, 2, 3] bcast_S1x1x1x128_S4x1024x48x128_0_1_2_3 (broadcastInDim S1x1x1x128 ![3] bcast_S128_S1x1x1x128_3 (V0 (Proc.devRef .tc main_arg16))))) :
    Y (ix4 b i n c) = norm (edge (crd V0) (wpos V0) (bpos V0) (wedge V0) b i j) (scale V0) (shift V0) c := by
  have h8 (c : Fin 128) : res_main_v158 V0 (ix4 b i n c) = off (edge (crd V0) (wpos V0) (bpos V0) (wedge V0) b i j) c := by
    unfold res_main_v158; clean_types; pointwise; rw [hE, mean_at V0 b i j n hE]; rfl
  rw [hY]
  clean_types
  pointwise
  simp only [h8]
  rw [hE, mean_at V0 b i j n hE]
  rfl

end Cert.Proof.Ref

end
-- ==== Proof.Near.Given.lean ====
/-
  What the precondition says: no residue is masked, a chain's residues are numbered in order and are of one chain, and
  the coordinates and the weights that a difference is taken of are real numbers.
-/
module

public import proofs.«01_k».proof.Pre_as_drawn
public import proofs.«01_k».proof.Proof.Near.Consts
public import Idealize.ShloMosaic.Lib.ReduceAll
public import Idealize.ShloMosaic.Lib.Affine
public import Idealize.ShloMosaic.Lib.Pointwise

@[expose] public section

noncomputable section

namespace Cert.Proof.Near

open Cert.Pre_as_drawn
open Idealize.ShloMosaic

variable [Facts]

/-- An extended real whose magnitude is below the pattern of +infinity is a real number. -/
theorem real_of_abs_lt (x : EReal) (h : Ideal.cmp .olt (max x (-x)) (Ideal.ofBits .f32 0x7F800000#32) = 1#1) : ∃ r : ℝ, x = r := by
  rw [ofBits_inf] at h
  induction x using EReal.rec with
  | bot => simp [Ideal.cmp] at h
  | top => simp [Ideal.cmp] at h
  | coe r => exact ⟨r, rfl⟩

theorem word_eq {x y : BitVec 32} (h : IntOp.cmpi .eq x y = 1#1) : x = y := by
  by_contra hne
  simp [IntOp.cmpi, beq_eq_false_iff_ne.mpr hne] at h

/-- The precondition at each of the seven arrays it speaks of. -/
structure Given (X : FVec Ideal S4x1024x5x3 .f32) (mask : FVec Ideal S4x1024 .f32) (res chain : IVec S4x1024 32)
    (wp : FVec Ideal S66x16 .f32) (bp : FVec Ideal S16 .f32) (we : FVec Ideal S416x128 .f32) : Prop where
  mask : ∀ b i, mask (ix2 b i) = (1 : EReal)
  res : ∀ (b : Fin 4) (i : Fin 1024), res (ix2 b i) = res (ix2 b 0) + BitVec.ofNat 32 i.val
  chain : ∀ (b : Fin 4) (i : Fin 1024), chain (ix2 b i) = chain (ix2 b 0)
  X : ∀ q, ∃ r : ℝ, X q = (r : EReal)
  wp : ∀ q, ∃ r : ℝ, wp q = (r : EReal)
  bp : ∀ q, ∃ r : ℝ, bp q = (r : EReal)
  we : ∀ q, ∃ r : ℝ, we q = (r : EReal)

theorem given (a0 : FVec Ideal S4x512x3 .f32) (a1 : FVec Ideal S4x512 .f32) (a2 : IVec S4x512 32) (a3 : FVec Ideal S4x1024x5x3 .f32) (a4 : FVec Ideal S4x1024x25x3 .f32) (a5 : FVec Ideal S4x1024x25 .f32) (a6 : IVec S4 32) (a7 : FVec Ideal S4x1024 .f32) (a8 : FVec Ideal S4x1024x37 .f32) (a9 : IVec S4x1024 32) (a10 : FVec Ideal S4x1024x3 .f32) (a11 : IVec S4x1024 32) (a12 : FVec Ideal S66x16 .f32) (a13 : FVec Ideal S16 .f32) (a14 : FVec Ideal S416x128 .f32) (a15 : FVec Ideal S128 .f32) (a16 : FVec Ideal S128 .f32)
    (h : fn (F := Ideal) a0 a1 a2 a3 a4 a5 a6 a7 a8 a9 a10 a11 a12 a13 a14 a15 a16 = fun _ => 1#1) : Given a3 a7 a9 a11 a12 a13 a14 := by
  have h := congrFun h ix0
  dsimp only [fn, fn_part1, fn_part2, andi] at h
  simp only [IntOp.andi_eq_one] at h
  obtain ⟨⟨⟨⟨⟨⟨h7, h9⟩, h11⟩, h3⟩, h12⟩, h13⟩, h14⟩ := h
  have : Subsingleton S_.Idx := ⟨fun a b => funext fun i => i.elim0⟩
  refine ⟨fun b i => ?_, fun b i => ?_, fun b i => ?_, fun q => ?_, fun q => ?_, fun q => ?_, fun q => ?_⟩
  · have e := Host.reduce_andi_all _ _ _ _ _ h7 (ix2 b i)
    have e : Ideal.cmp .oeq (a7 (ix2 b i)) (Ideal.ofBits .f32 0x3F800000#32) = 1#1 := e
    rw [Ideal.ofBits_one_f32] at e
    by_contra hne
    simp [Ideal.cmp, hne] at e
  · have e := Host.reduce_andi_all _ _ _ _ _ h9 (ix2 b i)
    pointwise at e
    have e := word_eq e
    rw [← e]
    show _ = a9 (ix2 b 0) + (a9 (ix2 b i) - a9 (ix2 b 0))
    rw [BitVec.add_comm, BitVec.sub_add_cancel]
  · have e := Host.reduce_andi_all _ _ _ _ _ h11 (ix2 b i)
    pointwise at e
    exact word_eq e
  · exact real_of_abs_lt _ (Host.reduce_andi_all _ _ _ _ _ h3 q)
  · exact real_of_abs_lt _ (Host.reduce_andi_all _ _ _ _ _ h12 q)
  · exact real_of_abs_lt _ (Host.reduce_andi_all _ _ _ _ _ h13 q)
  · exact real_of_abs_lt _ (Host.reduce_andi_all _ _ _ _ _ h14 q)

end Cert.Proof.Near

end
-- ==== Proof.Written.Unlike.lean ====
/-
  Two facts about a constant first result: it is one number everywhere; and where the scale is zero everywhere and two
  of the shifts are unlike, it is not the reference's first result, whose entries there are the shifts.
-/
module

public import proofs.«01_k».proof.Pre_scaled_away
public import proofs.«01_k».proof.Post_one_number
public import proofs.«01_k».proof.Post_not_the_reference
public import proofs.«01_k».proof.Proof.Near.Given

@[expose] public section

noncomputable section

namespace Cert.Proof.Written

open Idealize.ShloMosaic

theorem cmp_self (x : EReal) : Ideal.cmp .oeq x x = 1#1 := by simp [Ideal.cmp]

theorem eq_of_cmp {x y : EReal} (h : Ideal.cmp .oeq x y = 1#1) : x = y := by
  by_contra hne
  simp [Ideal.cmp, hne] at h

theorem ne_of_cmp {x y : EReal} (h : Ideal.cmp .une x y = 1#1) : x ≠ y := by
  rintro rfl
  simp [Ideal.cmp] at h

section One

open Cert.Post_one_number

variable [Facts]

theorem one_of_const (a0 : FVec Ideal S4x512x3 .f32) (a1 : FVec Ideal S4x512 .f32) (a2 : IVec S4x512 32) (a3 : FVec Ideal S4x1024x5x3 .f32) (a4 : FVec Ideal S4x1024x25x3 .f32) (a5 : FVec Ideal S4x1024x25 .f32) (a6 : IVec S4 32) (a7 : FVec Ideal S4x1024 .f32) (a8 : FVec Ideal S4x1024x37 .f32) (a9 : IVec S4x1024 32) (a10 : FVec Ideal S4x1024x3 .f32) (a11 : IVec S4x1024 32) (a12 : FVec Ideal S66x16 .f32) (a13 : FVec Ideal S16 .f32) (a14 : FVec Ideal S416x128 .f32) (a15 : FVec Ideal S128 .f32) (a16 : FVec Ideal S128 .f32) (x : EReal) (i18 : IVec S4x1024x48 32) :
    fn (F := Ideal) a0 a1 a2 a3 a4 a5 a6 a7 a8 a9 a10 a11 a12 a13 a14 a15 a16 (fun _ => x) i18 = fun _ => 1#1 := by
  funext j
  exact Host.reduce_andi_one _ _ _ _ j rfl fun i => cmp_self x

end One

section Pre

open Cert.Pre_scaled_away

variable [Facts]

theorem scaled_away (a0 : FVec Ideal S4x512x3 .f32) (a1 : FVec Ideal S4x512 .f32) (a2 : IVec S4x512 32) (a3 : FVec Ideal S4x1024x5x3 .f32) (a4 : FVec Ideal S4x1024x25x3 .f32) (a5 : FVec Ideal S4x1024x25 .f32) (a6 : IVec S4 32) (a7 : FVec Ideal S4x1024 .f32) (a8 : FVec Ideal S4x1024x37 .f32) (a9 : IVec S4x1024 32) (a10 : FVec Ideal S4x1024x3 .f32) (a11 : IVec S4x1024 32) (a12 : FVec Ideal S66x16 .f32) (a13 : FVec Ideal S16 .f32) (a14 : FVec Ideal S416x128 .f32) (a15 : FVec Ideal S128 .f32) (a16 : FVec Ideal S128 .f32)
    (h : fn (F := Ideal) a0 a1 a2 a3 a4 a5 a6 a7 a8 a9 a10 a11 a12 a13 a14 a15 a16 = fun _ => 1#1) :
    (∀ q, a15 q = (0 : EReal)) ∧ a16 (ix1 0) ≠ a16 (ix1 1) := by
  have h := congrFun h ix0
  dsimp only [fn, fn_part1, fn_part2, andi] at h
  simp only [IntOp.andi_eq_one] at h
  obtain ⟨⟨-, h15⟩, h16⟩ := h
  have : Subsingleton S_.Idx := ⟨fun a b => funext fun i => i.elim0⟩
  refine ⟨fun q => ?_, ?_⟩
  · have e : Ideal.cmp .oeq (a15 q) (Ideal.ofBits .f32 0x00000000#32) = 1#1 := Host.reduce_andi_all _ _ _ _ _ h15 q
    rw [Ideal.ofBits_zero_f32] at e
    exact eq_of_cmp e
  · pointwise at h16
    exact ne_of_cmp h16

end Pre

theorem not_one {v : BitVec 1} (h : v ≠ 1#1) : ~~~v = 1#1 := by
  revert v; decide

section Post

open Cert.Post_not_the_reference

variable [Facts]

theorem part8 (a15 : FVec Ideal S128 .f32) (a16 : FVec Ideal S128 .f32) (v163 : FVec Ideal S4x1024x48x1 .f32) (v165 : FVec Ideal S4x1024x48x128 .f32) (v166 : FVec Ideal S4x1024x48x1 .f32) (x : EReal)
    (hs : ∀ q, a15 q = (0 : EReal)) (hb : a16 (ix1 0) ≠ a16 (ix1 1)) :
    fn_part8 (F := Ideal) a15 a16 (fun _ => x) v163 v165 v166 = fun _ => 1#1 := by
  unfold fn_part8
  have : Subsingleton S_.Idx := ⟨fun a b => funext fun i => i.elim0⟩
  funext j
  refine not_one fun h => hb ?_
  have at_ (k : Fin 128) : x = a16 (ix1 k) := by
    have e := Host.reduce_andi_all _ _ _ _ j h (ix4 0 0 0 k)
    pointwise at e
    have e := eq_of_cmp e
    rw [hs, mul_zero, zero_add] at e
    exact e
  exact (at_ 0).symm.trans (at_ 1)

theorem part7 (a13 : FVec Ideal S16 .f32) (a14 : FVec Ideal S416x128 .f32) (a15 : FVec Ideal S128 .f32) (a16 : FVec Ideal S128 .f32) (v123 : FVec Ideal S4x1024x48x400 .f32) (v147 : FVec Ideal S4x1024x48x16 .f32) (x : EReal)
    (hs : ∀ q, a15 q = (0 : EReal)) (hb : a16 (ix1 0) ≠ a16 (ix1 1)) :
    fn_part7 (F := Ideal) a13 a14 a15 a16 (fun _ => x) v123 v147 = fun _ => 1#1 := by
  unfold fn_part7
  exact part8 _ _ _ _ _ x hs hb

theorem part6 (a11 : IVec S4x1024 32) (a12 : FVec Ideal S66x16 .f32) (a13 : FVec Ideal S16 .f32) (a14 : FVec Ideal S416x128 .f32) (a15 : FVec Ideal S128 .f32) (a16 : FVec Ideal S128 .f32) (indices : IVec S4x1024x48 32) (v123 : FVec Ideal S4x1024x48x400 .f32) (v128 : IVec S4x1024x1024 32) (x : EReal)
    (hs : ∀ q, a15 q = (0 : EReal)) (hb : a16 (ix1 0) ≠ a16 (ix1 1)) :
    fn_part6 (F := Ideal) a11 a12 a13 a14 a15 a16 (fun _ => x) indices v123 v128 = fun _ => 1#1 := by
  unfold fn_part6
  exact part7 _ _ _ _ _ _ x hs hb

theorem part5 (a9 : IVec S4x1024 32) (a11 : IVec S4x1024 32) (a12 : FVec Ideal S66x16 .f32) (a13 : FVec Ideal S16 .f32) (a14 : FVec Ideal S416x128 .f32) (a15 : FVec Ideal S128 .f32) (a16 : FVec Ideal S128 .f32) (cst : FVec Ideal S16 .f32) (values : FVec Ideal S4x1024x48 .f32) (indices : IVec S4x1024x48 32) (v104 : FVec Ideal S4x1024x1024x24 .f32) (v105 : FVec Ideal S4x1024x1024x24 .f32) (x : EReal)
    (hs : ∀ q, a15 q = (0 : EReal)) (hb : a16 (ix1 0) ≠ a16 (ix1 1)) :
    fn_part5 (F := Ideal) a9 a11 a12 a13 a14 a15 a16 (fun _ => x) cst values indices v104 v105 = fun _ => 1#1 := by
  unfold fn_part5
  exact part6 _ _ _ _ _ _ _ _ _ x hs hb

theorem part4 (a3 : FVec Ideal S4x1024x5x3 .f32) (a9 : IVec S4x1024 32) (a11 : IVec S4x1024 32) (a12 : FVec Ideal S66x16 .f32) (a13 : FVec Ideal S16 .f32) (a14 : FVec Ideal S416x128 .f32) (a15 : FVec Ideal S128 .f32) (a16 : FVec Ideal S128 .f32) (c : IVec S24 32) (c_0 : IVec S24 32) (cst : FVec Ideal S16 .f32) (v57 : FVec Ideal S4x1024x3 .f32) (v59 : FVec Ideal S4x1024x3 .f32) (values : FVec Ideal S4x1024x48 .f32) (indices : IVec S4x1024x48 32) (x : EReal)
    (hs : ∀ q, a15 q = (0 : EReal)) (hb : a16 (ix1 0) ≠ a16 (ix1 1)) :
    fn_part4 (F := Ideal) a3 a9 a11 a12 a13 a14 a15 a16 (fun _ => x) c c_0 cst v57 v59 values indices = fun _ => 1#1 := by
  unfold fn_part4
  exact part5 _ _ _ _ _ _ _ _ _ _ _ _ x hs hb

theorem part3 (a3 : FVec Ideal S4x1024x5x3 .f32) (a9 : IVec S4x1024 32) (a11 : IVec S4x1024 32) (a12 : FVec Ideal S66x16 .f32) (a13 : FVec Ideal S16 .f32) (a14 : FVec Ideal S416x128 .f32) (a15 : FVec Ideal S128 .f32) (a16 : FVec Ideal S128 .f32) (c : IVec S24 32) (c_0 : IVec S24 32) (cst : FVec Ideal S16 .f32) (v57 : FVec Ideal S4x1024x3 .f32) (v59 : FVec Ideal S4x1024x3 .f32) (v64 : FVec Ideal S4x1024x1024 .f32) (v65 : FVec Ideal S4x1x1024x3 .f32) (x : EReal)
    (hs : ∀ q, a15 q = (0 : EReal)) (hb : a16 (ix1 0) ≠ a16 (ix1 1)) :
    fn_part3 (F := Ideal) a3 a9 a11 a12 a13 a14 a15 a16 (fun _ => x) c c_0 cst v57 v59 v64 v65 = fun _ => 1#1 := by
  unfold fn_part3
  exact part4 _ _ _ _ _ _ _ _ _ _ _ _ _ _ _ x hs hb

theorem part2 (a3 : FVec Ideal S4x1024x5x3 .f32) (a7 : FVec Ideal S4x1024 .f32) (a9 : IVec S4x1024 32) (a11 : IVec S4x1024 32) (a12 : FVec Ideal S66x16 .f32) (a13 : FVec Ideal S16 .f32) (a14 : FVec Ideal S416x128 .f32) (a15 : FVec Ideal S128 .f32) (a16 : FVec Ideal S128 .f32) (c : IVec S24 32) (c_0 : IVec S24 32) (cst : FVec Ideal S16 .f32) (v4 : FVec Ideal S4x1024x3 .f32) (v9 : FVec Ideal S4x1024x3 .f32) (v42 : FVec Ideal S4x1024 .f32) (v43 : FVec Ideal S4x1024x1 .f32) (v44 : FVec Ideal S4x1024x1 .f32) (x : EReal)
    (hs : ∀ q, a15 q = (0 : EReal)) (hb : a16 (ix1 0) ≠ a16 (ix1 1)) :
    fn_part2 (F := Ideal) a3 a7 a9 a11 a12 a13 a14 a15 a16 (fun _ => x) c c_0 cst v4 v9 v42 v43 v44 = fun _ => 1#1 := by
  unfold fn_part2
  exact part3 _ _ _ _ _ _ _ _ _ _ _ _ _ _ _ x hs hb

theorem part1 (a3 : FVec Ideal S4x1024x5x3 .f32) (a7 : FVec Ideal S4x1024 .f32) (a9 : IVec S4x1024 32) (a11 : IVec S4x1024 32) (a12 : FVec Ideal S66x16 .f32) (a13 : FVec Ideal S16 .f32) (a14 : FVec Ideal S416x128 .f32) (a15 : FVec Ideal S128 .f32) (a16 : FVec Ideal S128 .f32) (c : IVec S24 32) (c_0 : IVec S24 32) (cst : FVec Ideal S16 .f32) (v4 : FVec Ideal S4x1024x3 .f32) (v9 : FVec Ideal S4x1024x3 .f32) (v20 : FVec Ideal S4x1024 .f32) (x : EReal)
    (hs : ∀ q, a15 q = (0 : EReal)) (hb : a16 (ix1 0) ≠ a16 (ix1 1)) :
    fn_part1 (F := Ideal) a3 a7 a9 a11 a12 a13 a14 a15 a16 (fun _ => x) c c_0 cst v4 v9 v20 = fun _ => 1#1 := by
  unfold fn_part1
  exact part2 _ _ _ _ _ _ _ _ _ _ _ _ _ _ _ _ _ x hs hb

theorem not_reference (a0 : FVec Ideal S4x512x3 .f32) (a1 : FVec Ideal S4x512 .f32) (a2 : IVec S4x512 32) (a3 : FVec Ideal S4x1024x5x3 .f32) (a4 : FVec Ideal S4x1024x25x3 .f32) (a5 : FVec Ideal S4x1024x25 .f32) (a6 : IVec S4 32) (a7 : FVec Ideal S4x1024 .f32) (a8 : FVec Ideal S4x1024x37 .f32) (a9 : IVec S4x1024 32) (a10 : FVec Ideal S4x1024x3 .f32) (a11 : IVec S4x1024 32) (a12 : FVec Ideal S66x16 .f32) (a13 : FVec Ideal S16 .f32) (a14 : FVec Ideal S416x128 .f32) (a15 : FVec Ideal S128 .f32) (a16 : FVec Ideal S128 .f32) (x : EReal) (i18 : IVec S4x1024x48 32)
    (hs : ∀ q, a15 q = (0 : EReal)) (hb : a16 (ix1 0) ≠ a16 (ix1 1)) :
    fn (F := Ideal) a0 a1 a2 a3 a4 a5 a6 a7 a8 a9 a10 a11 a12 a13 a14 a15 a16 (fun _ => x) i18 = fun _ => 1#1 := by
  unfold fn
  exact part1 _ _ _ _ _ _ _ _ _ _ _ _ _ _ _ x hs hb

end Post

end Cert.Proof.Written

end
-- ==== Proof.Written.Setup.lean ====
/-
  For the version as it is written, in the same words as for the kernel.

  The row gather on the SparseCores, set up. Thirty-two tasks (two SparseCores of sixteen tiles); task `(c, s)` owns the
  6144 consecutive rows of the output from row `6144 · (2 s + c)`, and writes them in 48 chunks of 128 rows. Here: the
  program as the launch reads it, the arrays' places, the chunks, what each task is handed and what it gives back.
  Everything is stated over the contents `gi` of the list of row numbers and `tb` of the table, so that the same text
  serves whatever wrote them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.WrittenIdeal
public import proofs.«01_k».proof.Proof.Gen.WrittenIdeal.Skeleton
public import proofs.«01_k».proof.Proof.Gen.WrittenIdeal.Launch

@[expose] public section

noncomputable section

namespace Cert.Proof.Written

open Cert.WrittenIdeal Cert.WrittenIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 2) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are four, none of them scoped, and no buffer is one SparseCore's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The launch's handshakes, the pipelines' rounds, the transfers' counters, side by side. -/
abbrev UU : Type := UH × (UR sig nD τ × Counters)

local notation "𝕄" => MT nD τ sig (HIx 1) (Elt F) ℕ UU ℕ

abbrev EH : Emb UH (MT nD τ sig (HIx 1) (Elt F) ℕ UU ℕ) := embL
/-- The pipelines' rounds, embedded. -/
def EP : Emb (UR sig nD τ) (MT nD τ sig (HIx 1) (Elt F) ℕ UU ℕ) := (Emb.inl : Emb (UR sig nD τ) (UR sig nD τ × Counters)).trans embR

instance EP_landsIn : (EP : Emb (UR sig nD τ) (MT nD τ sig (HIx 1) (Elt F) ℕ UU ℕ)).LandsIn (upEmb : UEmb _ (MT nD τ sig (HIx 1) (Elt F) ℕ UU ℕ)) := by
  unfold EP; infer_instance

abbrev adm (p : Fin 2) : (pcfgs (F := F) p).Adm := (cfgs p).toPCfg_adm

/-! ## The arrays -/

abbrev iLoc (d : Dev nD) : Loc nD τ sig := (SparseCore.T d).loc main_v9
abbrev xLoc (d : Dev nD) : Loc nD τ sig := (SparseCore.T d).loc main_v8
abbrev oLoc (d : Dev nD) : Loc nD τ sig := (SparseCore.T d).loc main_v10

abbrev iV : Memref sig .scVector .hbm S196608 .i32 := Memref.whole main_v9_scv
abbrev xV : Memref sig .scVector .hbm S4096x16 .f32 := Memref.whole main_v8_scv
abbrev oV : Memref sig .scVector .hbm S196608x16 .f32 := Memref.whole main_v10_scv
abbrev sV : Memref sig .scVector .vmem S128 .i32 := Memref.whole cc1_scratch0
abbrev rV : Memref sig .scVector .vmem S128x16 .f32 := Memref.whole cc1_scratch1

/-- The table's row that a word of the list names. -/
def rowOf (w : BitVec 32) : Fin 4096 := ⟨w.toNat % 4096, Nat.mod_lt _ (by norm_num)⟩

/-- The gathered rows: row `n` of the result is the table's row named by entry `n` of the list. -/
def gath (gi : IVec S196608 32) (tb : FVec F S4096x16 .f32) : FVec F S196608x16 .f32 :=
  fun n => tb (fun | 0 => rowOf (gi (fun | 0 => n 0)) | 1 => n 1)

/-! ## The chunks -/

/-- A chunk's number within its task. -/
abbrev Trip : Type := Fin k1_t1_loop.trips

theorem trips_eq : k1_t1_loop.trips = 48 := by decide

/-- The rows of chunk `k` of task `(c, s)`. -/
def chunk (c : Fin 2) (s : Fin 16) (k : Trip) : Finset S196608x16.Idx :=
  Finset.univ.filter fun n => 12288 * s.val + 6144 * c.val + 128 * k.val ≤ (n 0).val ∧ (n 0).val < 12288 * s.val + 6144 * c.val + 128 * k.val + 128

theorem mem_chunk {c : Fin 2} {s : Fin 16} {k : Trip} {n : S196608x16.Idx} :
    n ∈ chunk c s k ↔ 12288 * s.val + 6144 * c.val + 128 * k.val ≤ (n 0).val ∧ (n 0).val < 12288 * s.val + 6144 * c.val + 128 * k.val + 128 := by
  unfold chunk; simp

abbrev Task : Type := Fin 2 × Fin 16
/-- Task and trip together. -/
abbrev Piece : Type := Task × Trip
abbrev pieceSet (p : Piece) : Finset S196608x16.Idx := chunk p.1.1 p.1.2 p.2

theorem pieces_disjoint : ∀ p ∈ (Finset.univ : Finset Piece), ∀ p' ∈ (Finset.univ : Finset Piece), p ≠ p' → Disjoint (pieceSet p) (pieceSet p') := by
  rintro ⟨⟨c, s⟩, k⟩ - ⟨⟨c', s'⟩, k'⟩ - h
  rw [Finset.disjoint_left]
  intro n hn hn'
  rw [mem_chunk] at hn hn'
  have hk := k.isLt; have hk' := k'.isLt
  simp only [trips_eq] at hk hk'
  have hc := c.isLt; have hc' := c'.isLt
  refine h ?_
  simp only at hn hn'
  rw [Prod.mk.injEq, Prod.mk.injEq, Fin.ext_iff, Fin.ext_iff, Fin.ext_iff]
  omega

theorem pieces_cover : (Finset.univ : Finset Piece).biUnion pieceSet = Finset.univ := by
  ext n
  simp only [Finset.mem_biUnion, Finset.mem_univ, true_and, iff_true]
  have hn : (n 0).val < 196608 := (n 0).isLt
  refine ⟨⟨⟨⟨(n 0).val / 6144 % 2, by omega⟩, ⟨(n 0).val / 12288, by omega⟩⟩, ⟨(n 0).val % 6144 / 128, by rw [trips_eq]; omega⟩⟩, ?_⟩
  rw [mem_chunk]
  simp only
  omega

/-! ## What the tasks are handed -/

variable (gi : Dev nD → IVec S196608 32) (tb : Dev nD → FVec F S4096x16 .f32)

/-- Task `(c, s)`'s share of what every task reads: one of the thirty-two parts the full share halves into. -/
def share (c : Fin 2) (s : Fin 16) : PosShare TreeShare :=
  ShareLeaves.leaf 4 (ShareLeaves.leaf 1 fullShare c) s

abbrev iSh (d : Dev nD) (c : Fin 2) (s : Fin 16) : sProp 𝕄 := iLoc d ↦{share c s} gi d
abbrev xSh (d : Dev nD) (c : Fin 2) (s : Fin 16) : sProp 𝕄 := xLoc d ↦{share c s} tb d
/-- A chunk at some contents, and at the gathered rows. -/
abbrev oAny (d : Dev nD) (c : Fin 2) (s : Fin 16) (k : Trip) : sProp 𝕄 := iprop(∃ f, oLoc d ↦[chunk c s k]{fullShare} f)
abbrev oDone (d : Dev nD) (c : Fin 2) (s : Fin 16) (k : Trip) : sProp 𝕄 := oLoc d ↦[chunk c s k]{fullShare} gath (gi d) (tb d)

/-- What a task takes, -/
abbrev takes (d : Dev nD) (c : Fin 2) (s : Fin 16) : sProp 𝕄 :=
  iprop(iSh gi d c s ∗ xSh tb d c s ∗ bigSep Finset.univ fun k => oAny d c s k)
/-- and what it gives back. -/
abbrev brings (d : Dev nD) (c : Fin 2) (s : Fin 16) : sProp 𝕄 :=
  iprop(iSh gi d c s ∗ xSh tb d c s ∗ bigSep Finset.univ fun k => oDone gi tb d c s k)

abbrev nC (c : Fin ((K (F := F)).nCore 0)) : Fin 2 := c
abbrev nS (s : Fin ((K (F := F)).nSub 0)) : Fin 16 := s

/-- The call hands each SparseCore its sixteen tasks' parts, already cut; each task its own. -/
def P : (K (F := F)).Pay (nD := nD) (Val := Elt F) (Name := ℕ) (U := UU) where
  st := fun q d c => match q with | 0 => bigSep Finset.univ fun s => takes gi tb d (nC c) s
  dn := fun q d c => match q with | 0 => bigSep Finset.univ fun s => brings gi tb d (nC c) s
  go := fun q d c s => match q with | 0 => takes gi tb d (nC c) (nS s)
  td := fun q d c s => match q with | 0 => brings gi tb d (nC c) (nS s)
  x := fun _ _ => iprop(emp)

instance P_storable : (P (F := F) gi tb).IsStorable where
  st q d c := match q with
    | 0 => (inferInstance : BI.Storable (upEmb : UEmb _ 𝕄) (bigSep Finset.univ fun s => takes gi tb d (nC c) s))
  dn q d c := match q with
    | 0 => (inferInstance : BI.Storable (upEmb : UEmb _ 𝕄) (bigSep Finset.univ fun s => brings gi tb d (nC c) s))
  go q d c s := match q with
    | 0 => (inferInstance : BI.Storable (upEmb : UEmb _ 𝕄) (takes gi tb d (nC c) (nS s)))
  td q d c s := match q with
    | 0 => (inferInstance : BI.Storable (upEmb : UEmb _ 𝕄) (brings gi tb d (nC c) (nS s)))

/-- Every word of the list names a row of the table. -/
def InRows : Prop := ∀ (d : Dev nD) (j : S196608.Idx), (gi d j).toNat < 4096

end Cert.Proof.Written

end
-- ==== Proof.Written.Host.lean ====
/-
  The host code of the version as it is written, as four straight lines of operations, and the program as those lines with its three
  calls between them.
-/
module

public import proofs.«01_k».proof.Proof.Written.Setup
public import Idealize.ShloMosaic.Lib.Pipeline.Frame

@[expose] public section

noncomputable section

namespace Cert.Proof.Written

open Cert.WrittenIdeal Cert.WrittenIdeal.Gen

open Idealize.ShloMosaic
open Idealize.ShloMosaic.TcCoe
open Idealize.SL Idealize.SL.Sem

variable {F : FTy → Type} [FloatOps F] [Named F]

/-- The operations before the first call: the constants, the coordinates as rows, and the coordinates as columns. -/
def ops0 : List (HloOp τ sig (Elt F)) :=
  [ StableHlo.nullary main_cst (fun i => FloatOps.ofBits .f32 (lit0 (S16x96.rowMajor i))),
    StableHlo.nullary main_cst_0 (fun i => FloatOps.ofBits .f32 (lit1 (S16x96.rowMajor i))),
    StableHlo.nullary main_cst_1 (fun i => FloatOps.ofBits .f32 (lit2 (S8x512.rowMajor i))),
    StableHlo.reshape main_arg3 main_v0 (rfl : (.f32 : EltTy) = .f32) shapeCasts_S4x1024x5x3_S4x1024x15,
    StableHlo.nullary main_cst_2 (constant S_ .f32 0x00000000#32),
    StableHlo.unary main_cst_2 main_v1 (broadcastInDim S4x8x1024 ![] bcast_S_S4x8x1024 : (⟨S_, .f32⟩ : BufTy).Contents (Elt F) → (⟨S4x8x1024, .f32⟩ : BufTy).Contents (Elt F)),
    StableHlo.unary main_arg3 main_v2 ((extractStridedSlice S4x1024x1x3 ![0, 0, 1, 0] · slices_S4x1024x5x3_S4x1024x1x3_0_0_1_0) : (⟨S4x1024x5x3, .f32⟩ : BufTy).Contents (Elt F) → (⟨S4x1024x1x3, .f32⟩ : BufTy).Contents (Elt F)),
    StableHlo.reshape main_v2 main_v3 (rfl : (.f32 : EltTy) = .f32) shapeCasts_S4x1024x1x3_S4x1024x3,
    StableHlo.unary main_v3 main_v4 ((transpose S4x3x1024 [0, 2, 1] · transposes_S4x1024x3_S4x3x1024_0_2_1) : (⟨S4x1024x3, .f32⟩ : BufTy).Contents (Elt F) → (⟨S4x3x1024, .f32⟩ : BufTy).Contents (Elt F)),
    StableHlo.nullary main_c (constantI S_ 32 0#32),
    StableHlo.unary main_c main_v5 (broadcastInDim S1 ![] bcast_S_S1 : (⟨S_, .i32⟩ : BufTy).Contents (Elt F) → (⟨S1, .i32⟩ : BufTy).Contents (Elt F)),
    StableHlo.ternary main_v1 main_v5 main_v4 main_v6 ((fun x i u => Host.scatter scatter_S4x8x1024_S1_S4x3x1024_012_n_1_0 (fun _ b => b) x i u) : (⟨S4x8x1024, .f32⟩ : BufTy).Contents (Elt F) → (⟨S1, .i32⟩ : BufTy).Contents (Elt F) → (⟨S4x3x1024, .f32⟩ : BufTy).Contents (Elt F) → (⟨S4x8x1024, .f32⟩ : BufTy).Contents (Elt F)) ]

/-- What they write. -/
abbrev writes0 : List (Ref sig .tc) :=
  [ main_cst, main_cst_0, main_cst_1, main_v0, main_cst_2, main_v1, main_v2, main_v3, main_v4, main_c, main_v5, main_v6 ]

theorem ops0_writes : (ops0 (F := F)).map HloOp.writes = writes0.map fun r => {Proc.devRef (τ := τ) .tc r} := rfl

theorem ops0_fresh : (ops0 (F := F)).map HloOp.fresh = (ops0 (F := F)).map fun _ => (∅ : Finset (DevRef τ sig)) := rfl

theorem ops0_bufs : (ops0 (F := F)).Forall fun op => op.bufs ⊆ StableHlo.tcRefs τ sig :=
  ⟨StableHlo.nullary_bufs_sub .., StableHlo.nullary_bufs_sub .., StableHlo.nullary_bufs_sub .., StableHlo.reshape_bufs_sub .., StableHlo.nullary_bufs_sub .., StableHlo.unary_bufs_sub .., StableHlo.unary_bufs_sub .., StableHlo.reshape_bufs_sub .., StableHlo.unary_bufs_sub .., StableHlo.nullary_bufs_sub .., StableHlo.unary_bufs_sub .., StableHlo.ternary_bufs_sub ..⟩

/-- The operations between the first call and the SparseCores' call: the two flattenings. -/
def ops1 : List (HloOp τ sig (Elt F)) :=
  [ StableHlo.reshape main_v7_2 main_v8 (rfl : (.f32 : EltTy) = .f32) shapeCasts_S4x1024x16_S4096x16,
    StableHlo.reshape main_v7_1 main_v9 (rfl : (.i32 : EltTy) = .i32) shapeCasts_S4x1024x48_S196608 ]

/-- What they write. -/
abbrev writes1 : List (Ref sig .tc) :=
  [ main_v8, main_v9 ]

theorem ops1_writes : (ops1 (F := F)).map HloOp.writes = writes1.map fun r => {Proc.devRef (τ := τ) .tc r} := rfl

theorem ops1_fresh : (ops1 (F := F)).map HloOp.fresh = (ops1 (F := F)).map fun _ => (∅ : Finset (DevRef τ sig)) := rfl

theorem ops1_bufs : (ops1 (F := F)).Forall fun op => op.bufs ⊆ StableHlo.tcRefs τ sig :=
  ⟨StableHlo.reshape_bufs_sub .., StableHlo.reshape_bufs_sub ..⟩

/-- The operations between the SparseCores' call and the last: the weights' tables. -/
def ops2 : List (HloOp τ sig (Elt F)) :=
  [ StableHlo.nullary main_cst_3 (constant S_ .f32 0x00000000#32),
    StableHlo.unary main_cst_3 main_v11 (broadcastInDim S128x16 ![] bcast_S_S128x16 : (⟨S_, .f32⟩ : BufTy).Contents (Elt F) → (⟨S128x16, .f32⟩ : BufTy).Contents (Elt F)),
    StableHlo.nullary main_c_4 (constantI S_ 32 0#32),
    StableHlo.unary main_c_4 main_v12 (broadcastInDim S1 ![] bcast_S_S1 : (⟨S_, .i32⟩ : BufTy).Contents (Elt F) → (⟨S1, .i32⟩ : BufTy).Contents (Elt F)),
    StableHlo.ternary main_v11 main_v12 main_arg12 main_v13 ((fun x i u => Host.scatter scatter_S128x16_S1_S66x16_01_n_0_0 (fun _ b => b) x i u) : (⟨S128x16, .f32⟩ : BufTy).Contents (Elt F) → (⟨S1, .i32⟩ : BufTy).Contents (Elt F) → (⟨S66x16, .f32⟩ : BufTy).Contents (Elt F) → (⟨S128x16, .f32⟩ : BufTy).Contents (Elt F)),
    StableHlo.nullary main_c_5 (constantI S_ 32 127#32),
    StableHlo.unary main_c_5 main_v14 (broadcastInDim S1 ![] bcast_S_S1 : (⟨S_, .i32⟩ : BufTy).Contents (Elt F) → (⟨S1, .i32⟩ : BufTy).Contents (Elt F)),
    StableHlo.ternary main_v13 main_v14 main_arg13 main_v15 ((fun x i u => Host.scatter scatter_S128x16_S1_S16_0_0_0_0 (fun _ b => b) x i u) : (⟨S128x16, .f32⟩ : BufTy).Contents (Elt F) → (⟨S1, .i32⟩ : BufTy).Contents (Elt F) → (⟨S16, .f32⟩ : BufTy).Contents (Elt F) → (⟨S128x16, .f32⟩ : BufTy).Contents (Elt F)),
    StableHlo.unary main_arg14 main_v16 ((extractStridedSlice S16x128 ![0, 0] · slices_S416x128_S16x128_0_0) : (⟨S416x128, .f32⟩ : BufTy).Contents (Elt F) → (⟨S16x128, .f32⟩ : BufTy).Contents (Elt F)),
    StableHlo.binary main_v15 main_v16 main_v17 ((fun l r => Host.dotGeneral dot_S128x16_S16x128_S128x128_1_0_0_1_n_n none l r) : (⟨S128x16, .f32⟩ : BufTy).Contents (Elt F) → (⟨S16x128, .f32⟩ : BufTy).Contents (Elt F) → (⟨S128x128, .f32⟩ : BufTy).Contents (Elt F)),
    StableHlo.nullary main_v18 (iotaInDim S16 32 0),
    StableHlo.nullary main_v19 (iotaInDim S32 32 0),
    StableHlo.unary main_v18 main_v20 (broadcastInDim S16x32 ![0] bcast_S16_S16x32_0 : (⟨S16, .i32⟩ : BufTy).Contents (Elt F) → (⟨S16x32, .i32⟩ : BufTy).Contents (Elt F)),
    StableHlo.unary main_v19 main_v21 (broadcastInDim S16x32 ![1] bcast_S32_S16x32_1 : (⟨S32, .i32⟩ : BufTy).Contents (Elt F) → (⟨S16x32, .i32⟩ : BufTy).Contents (Elt F)),
    StableHlo.nullary main_c_6 (constantI S_ 32 16#32),
    StableHlo.unary main_c_6 main_v22 (broadcastInDim S16x32 ![] bcast_S_S16x32 : (⟨S_, .i32⟩ : BufTy).Contents (Elt F) → (⟨S16x32, .i32⟩ : BufTy).Contents (Elt F)),
    StableHlo.binary main_v21 main_v22 main_v23 (muli : (⟨S16x32, .i32⟩ : BufTy).Contents (Elt F) → (⟨S16x32, .i32⟩ : BufTy).Contents (Elt F) → (⟨S16x32, .i32⟩ : BufTy).Contents (Elt F)),
    StableHlo.nullary main_c_7 (constantI S_ 32 16#32),
    StableHlo.unary main_c_7 main_v24 (broadcastInDim S16x32 ![] bcast_S_S16x32 : (⟨S_, .i32⟩ : BufTy).Contents (Elt F) → (⟨S16x32, .i32⟩ : BufTy).Contents (Elt F)),
    StableHlo.binary main_v24 main_v23 main_v25 (addi : (⟨S16x32, .i32⟩ : BufTy).Contents (Elt F) → (⟨S16x32, .i32⟩ : BufTy).Contents (Elt F) → (⟨S16x32, .i32⟩ : BufTy).Contents (Elt F)),
    StableHlo.binary main_v25 main_v20 main_v26 (addi : (⟨S16x32, .i32⟩ : BufTy).Contents (Elt F) → (⟨S16x32, .i32⟩ : BufTy).Contents (Elt F) → (⟨S16x32, .i32⟩ : BufTy).Contents (Elt F)),
    StableHlo.nullary main_c_8 (constantI S_ 32 25#32),
    StableHlo.unary main_c_8 main_v27 (broadcastInDim S16x32 ![] bcast_S_S16x32 : (⟨S_, .i32⟩ : BufTy).Contents (Elt F) → (⟨S16x32, .i32⟩ : BufTy).Contents (Elt F)),
    StableHlo.binary main_v21 main_v27 main_v28 (cmpi .slt : (⟨S16x32, .i32⟩ : BufTy).Contents (Elt F) → (⟨S16x32, .i32⟩ : BufTy).Contents (Elt F) → (⟨S16x32, .i1⟩ : BufTy).Contents (Elt F)),
    StableHlo.unary main_v28 main_v29 (broadcastInDim S16x32x1 ![0, 1] bcast_S16x32_S16x32x1_0_1 : (⟨S16x32, .i1⟩ : BufTy).Contents (Elt F) → (⟨S16x32x1, .i1⟩ : BufTy).Contents (Elt F)),
    StableHlo.nullary main_c_9 (constantI S_ 32 0#32),
    StableHlo.nullary main_c_10 (constantI S_ 32 415#32),
    StableHlo.TRef.unary (.of main_c_9 : StableHlo.TRef sig ⟨S_, .i32⟩) main_call0.v0 id,
    StableHlo.TRef.unary main_call0.v0 main_call0.v1 (broadcastInDim S16x32 ![] bcast_S_S16x32),
    StableHlo.TRef.binary main_call0.v1 (.of main_v26 : StableHlo.TRef sig ⟨S16x32, .i32⟩) main_call0.v2 maxsi,
    StableHlo.TRef.unary (.of main_c_10 : StableHlo.TRef sig ⟨S_, .i32⟩) main_call0.v3 id,
    StableHlo.TRef.unary main_call0.v3 main_call0.v4 (broadcastInDim S16x32 ![] bcast_S_S16x32),
    StableHlo.TRef.binary main_call0.v4 main_call0.v2 main_call0.v5 minsi,
    StableHlo.nullary main_c_11 (constantI S_ 32 0#32),
    StableHlo.unary main_c_11 main_v31 (broadcastInDim S16x32 ![] bcast_S_S16x32 : (⟨S_, .i32⟩ : BufTy).Contents (Elt F) → (⟨S16x32, .i32⟩ : BufTy).Contents (Elt F)),
    StableHlo.binary main_v30 main_v31 main_v32 (cmpi .slt : (⟨S16x32, .i32⟩ : BufTy).Contents (Elt F) → (⟨S16x32, .i32⟩ : BufTy).Contents (Elt F) → (⟨S16x32, .i1⟩ : BufTy).Contents (Elt F)),
    StableHlo.nullary main_c_12 (constantI S_ 32 416#32),
    StableHlo.unary main_c_12 main_v33 (broadcastInDim S16x32 ![] bcast_S_S16x32 : (⟨S_, .i32⟩ : BufTy).Contents (Elt F) → (⟨S16x32, .i32⟩ : BufTy).Contents (Elt F)),
    StableHlo.binary main_v30 main_v33 main_v34 (addi : (⟨S16x32, .i32⟩ : BufTy).Contents (Elt F) → (⟨S16x32, .i32⟩ : BufTy).Contents (Elt F) → (⟨S16x32, .i32⟩ : BufTy).Contents (Elt F)),
    StableHlo.ternary main_v32 main_v34 main_v30 main_v35 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    StableHlo.unary main_v35 main_v36 (broadcastInDim S16x32x1 ![0, 1] bcast_S16x32_S16x32x1_0_1 : (⟨S16x32, .i32⟩ : BufTy).Contents (Elt F) → (⟨S16x32x1, .i32⟩ : BufTy).Contents (Elt F)),
    StableHlo.binary main_arg14 main_v36 main_v37 ((fun x i => Host.gather gather_S416x128_S16x32x1_S16x32x128_2_0_n_n_0_2_1128 x i) : (⟨S416x128, .f32⟩ : BufTy).Contents (Elt F) → (⟨S16x32x1, .i32⟩ : BufTy).Contents (Elt F) → (⟨S16x32x128, .f32⟩ : BufTy).Contents (Elt F)),
    StableHlo.nullary main_cst_13 (constant S_ .f32 0x00000000#32),
    StableHlo.TRef.unary (.of main_cst_13 : StableHlo.TRef sig ⟨S_, .f32⟩) main_call1.v0 id,
    StableHlo.TRef.unary (.of main_v29 : StableHlo.TRef sig ⟨S16x32x1, .i1⟩) main_call1.v1 (broadcastInDim S16x32x128 ![0, 1, 2] bcast_S16x32x1_S16x32x128_0_1_2),
    StableHlo.TRef.unary main_call1.v0 main_call1.v2 (broadcastInDim S16x32x128 ![] bcast_S_S16x32x128),
    StableHlo.TRef.ternary main_call1.v1 (.of main_v37 : StableHlo.TRef sig ⟨S16x32x128, .f32⟩) main_call1.v2 main_call1.v3 select,
    StableHlo.reshape main_v38 main_v39 (rfl : (.f32 : EltTy) = .f32) shapeCasts_S16x32x128_S512x128,
    StableHlo.binary main_v39 main_v17 main_v40 ((fun a b => concatenate S640x128 0 [⟨S512x128, a⟩, ⟨S128x128, b⟩] concatenates_S512x128_S128x128_S640x128_d0) : (⟨S512x128, .f32⟩ : BufTy).Contents (Elt F) → (⟨S128x128, .f32⟩ : BufTy).Contents (Elt F) → (⟨S640x128, .f32⟩ : BufTy).Contents (Elt F)),
    StableHlo.unary main_v40 main_v41 ((truncf .bf16 · bitsLt_bf16_f32) : (⟨S640x128, .f32⟩ : BufTy).Contents (Elt F) → (⟨S640x128, .bf16⟩ : BufTy).Contents (Elt F)),
    StableHlo.unary main_v41 main_v42 ((extf .f32 · bitsLt_bf16_f32) : (⟨S640x128, .bf16⟩ : BufTy).Contents (Elt F) → (⟨S640x128, .f32⟩ : BufTy).Contents (Elt F)),
    StableHlo.binary main_v40 main_v42 main_v43 (subf : (⟨S640x128, .f32⟩ : BufTy).Contents (Elt F) → (⟨S640x128, .f32⟩ : BufTy).Contents (Elt F) → (⟨S640x128, .f32⟩ : BufTy).Contents (Elt F)),
    StableHlo.unary main_v43 main_v44 ((truncf .bf16 · bitsLt_bf16_f32) : (⟨S640x128, .f32⟩ : BufTy).Contents (Elt F) → (⟨S640x128, .bf16⟩ : BufTy).Contents (Elt F)),
    StableHlo.nullary main_cst_14 (constant S_ .f32 0x00000000#32),
    StableHlo.unary main_cst_14 main_v45 (broadcastInDim S8x128 ![] bcast_S_S8x128 : (⟨S_, .f32⟩ : BufTy).Contents (Elt F) → (⟨S8x128, .f32⟩ : BufTy).Contents (Elt F)),
    StableHlo.nullary main_c_15 (constantI S_ 32 0#32),
    StableHlo.unary main_c_15 main_v46 (broadcastInDim S1 ![] bcast_S_S1 : (⟨S_, .i32⟩ : BufTy).Contents (Elt F) → (⟨S1, .i32⟩ : BufTy).Contents (Elt F)),
    StableHlo.ternary main_v45 main_v46 main_arg15 main_v47 ((fun x i u => Host.scatter scatter_S8x128_S1_S128_0_0_0_0 (fun _ b => b) x i u) : (⟨S8x128, .f32⟩ : BufTy).Contents (Elt F) → (⟨S1, .i32⟩ : BufTy).Contents (Elt F) → (⟨S128, .f32⟩ : BufTy).Contents (Elt F) → (⟨S8x128, .f32⟩ : BufTy).Contents (Elt F)),
    StableHlo.nullary main_cst_16 (constant S_ .f32 0x00000000#32),
    StableHlo.unary main_cst_16 main_v48 (broadcastInDim S8x128 ![] bcast_S_S8x128 : (⟨S_, .f32⟩ : BufTy).Contents (Elt F) → (⟨S8x128, .f32⟩ : BufTy).Contents (Elt F)),
    StableHlo.nullary main_c_17 (constantI S_ 32 0#32),
    StableHlo.unary main_c_17 main_v49 (broadcastInDim S1 ![] bcast_S_S1 : (⟨S_, .i32⟩ : BufTy).Contents (Elt F) → (⟨S1, .i32⟩ : BufTy).Contents (Elt F)),
    StableHlo.ternary main_v48 main_v49 main_arg16 main_v50 ((fun x i u => Host.scatter scatter_S8x128_S1_S128_0_0_0_0 (fun _ b => b) x i u) : (⟨S8x128, .f32⟩ : BufTy).Contents (Elt F) → (⟨S1, .i32⟩ : BufTy).Contents (Elt F) → (⟨S128, .f32⟩ : BufTy).Contents (Elt F) → (⟨S8x128, .f32⟩ : BufTy).Contents (Elt F)),
    StableHlo.unary main_cst main_v51 ((truncf .bf16 · bitsLt_bf16_f32) : (⟨S16x96, .f32⟩ : BufTy).Contents (Elt F) → (⟨S16x96, .bf16⟩ : BufTy).Contents (Elt F)),
    StableHlo.unary main_cst_0 main_v52 ((truncf .bf16 · bitsLt_bf16_f32) : (⟨S16x96, .f32⟩ : BufTy).Contents (Elt F) → (⟨S16x96, .bf16⟩ : BufTy).Contents (Elt F)) ]

/-- What they write. -/
abbrev writes2 : List (Ref sig .tc) :=
  [ main_cst_3, main_v11, main_c_4, main_v12, main_v13, main_c_5, main_v14, main_v15, main_v16, main_v17, main_v18, main_v19, main_v20, main_v21, main_c_6, main_v22, main_v23, main_c_7, main_v24, main_v25, main_v26, main_c_8, main_v27, main_v28, main_v29, main_c_9, main_c_10, main_call0.v0.ref, main_call0.v1.ref, main_call0.v2.ref, main_call0.v3.ref, main_call0.v4.ref, main_call0.v5.ref, main_c_11, main_v31, main_v32, main_c_12, main_v33, main_v34, main_v35, main_v36, main_v37, main_cst_13, main_call1.v0.ref, main_call1.v1.ref, main_call1.v2.ref, main_call1.v3.ref, main_v39, main_v40, main_v41, main_v42, main_v43, main_v44, main_cst_14, main_v45, main_c_15, main_v46, main_v47, main_cst_16, main_v48, main_c_17, main_v49, main_v50, main_v51, main_v52 ]

theorem ops2_writes : (ops2 (F := F)).map HloOp.writes = writes2.map fun r => {Proc.devRef (τ := τ) .tc r} := rfl

theorem ops2_fresh : (ops2 (F := F)).map HloOp.fresh = (ops2 (F := F)).map fun _ => (∅ : Finset (DevRef τ sig)) := rfl

theorem ops2_bufs : (ops2 (F := F)).Forall fun op => op.bufs ⊆ StableHlo.tcRefs τ sig :=
  ⟨StableHlo.nullary_bufs_sub .., StableHlo.unary_bufs_sub .., StableHlo.nullary_bufs_sub .., StableHlo.unary_bufs_sub .., StableHlo.ternary_bufs_sub .., StableHlo.nullary_bufs_sub .., StableHlo.unary_bufs_sub .., StableHlo.ternary_bufs_sub .., StableHlo.unary_bufs_sub .., StableHlo.binary_bufs_sub .., StableHlo.nullary_bufs_sub .., StableHlo.nullary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.reshape_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.ternary_bufs_sub .., StableHlo.nullary_bufs_sub .., StableHlo.unary_bufs_sub .., StableHlo.nullary_bufs_sub .., StableHlo.unary_bufs_sub .., StableHlo.ternary_bufs_sub .., StableHlo.unary_bufs_sub .., StableHlo.unary_bufs_sub ..⟩

/-- The operations after the last call: its array times zero, and the first gathered number added everywhere. -/
def ops3 : List (HloOp τ sig (Elt F)) :=
  [ StableHlo.nullary main_cst_18 (constant S_ .f32 0x00000000#32),
    StableHlo.unary main_cst_18 main_v54 (broadcastInDim S4x1024x48x128 ![] bcast_S_S4x1024x48x128 : (⟨S_, .f32⟩ : BufTy).Contents (Elt F) → (⟨S4x1024x48x128, .f32⟩ : BufTy).Contents (Elt F)),
    StableHlo.binary main_v53 main_v54 main_v55 (mulf : (⟨S4x1024x48x128, .f32⟩ : BufTy).Contents (Elt F) → (⟨S4x1024x48x128, .f32⟩ : BufTy).Contents (Elt F) → (⟨S4x1024x48x128, .f32⟩ : BufTy).Contents (Elt F)),
    StableHlo.unary main_v10 main_v56 ((extractStridedSlice S1x1 ![0, 0] · slices_S196608x16_S1x1_0_0) : (⟨S196608x16, .f32⟩ : BufTy).Contents (Elt F) → (⟨S1x1, .f32⟩ : BufTy).Contents (Elt F)),
    StableHlo.reshape main_v56 main_v57 (rfl : (.f32 : EltTy) = .f32) shapeCasts_S1x1_S_,
    StableHlo.unary main_v57 main_v58 (broadcastInDim S4x1024x48x128 ![] bcast_S_S4x1024x48x128 : (⟨S_, .f32⟩ : BufTy).Contents (Elt F) → (⟨S4x1024x48x128, .f32⟩ : BufTy).Contents (Elt F)),
    StableHlo.binary main_v55 main_v58 main_v59 (addf : (⟨S4x1024x48x128, .f32⟩ : BufTy).Contents (Elt F) → (⟨S4x1024x48x128, .f32⟩ : BufTy).Contents (Elt F) → (⟨S4x1024x48x128, .f32⟩ : BufTy).Contents (Elt F)) ]

/-- What they write. -/
abbrev writes3 : List (Ref sig .tc) :=
  [ main_cst_18, main_v54, main_v55, main_v56, main_v57, main_v58, main_v59 ]

theorem ops3_writes : (ops3 (F := F)).map HloOp.writes = writes3.map fun r => {Proc.devRef (τ := τ) .tc r} := rfl

theorem ops3_fresh : (ops3 (F := F)).map HloOp.fresh = (ops3 (F := F)).map fun _ => (∅ : Finset (DevRef τ sig)) := rfl

theorem ops3_bufs : (ops3 (F := F)).Forall fun op => op.bufs ⊆ StableHlo.tcRefs τ sig :=
  ⟨StableHlo.nullary_bufs_sub .., StableHlo.unary_bufs_sub .., StableHlo.binary_bufs_sub .., StableHlo.unary_bufs_sub .., StableHlo.reshape_bufs_sub .., StableHlo.unary_bufs_sub .., StableHlo.binary_bufs_sub ..⟩

/-- A call of a TensorCore kernel from @main. -/
abbrev callTc (p : Fin 2) : Prog (TpuEff nD τ sig (Elt F) (SparseCore.Sig (ΛP (F := F)) 1) .tc) PUnit :=
  Prog.lift (.customCall (SparseCore.inner (Pipeline.entry p)) ())

/-- The program: its host lines and its calls, in order. -/
def mainProg (d : Dev nD) : Prog (TpuEff nD τ sig (Elt F) (SparseCore.Sig (ΛP (F := F)) 1) .tc) PUnit :=
  StableHlo.seq ops0 >>= fun _ => callTc 0 >>= fun _ => StableHlo.seq ops1 >>= fun _ => (K (F := F)).run d 0 >>= fun _ =>
    StableHlo.seq ops2 >>= fun _ => callTc 1 >>= fun _ => StableHlo.seq ops3 >>= fun _ => pure ⟨⟩

set_option maxRecDepth 65536 in
set_option maxHeartbeats 4000000 in
theorem main_eq (d : Dev nD) : main (F := F) d = mainProg d := by
  unfold main main_part0 main_part1 mainProg ops0 ops1 ops2 ops3 fn_clip.body fn_where.body
  simp only [StableHlo.seq, pure_bind, bind_assoc]

end Cert.Proof.Written

end
-- ==== Proof.Written.Tile.lean ====
/-
  For the version as it is written, in the same words as for the kernel.

  One task of the row gather: 48 trips, each fetching 128 row numbers, gathering the table's rows they name, and writing
  them out. The loop's invariant says which chunks already hold the gathered rows.
-/
module

public import proofs.«01_k».proof.Proof.Written.Setup

@[expose] public section

noncomputable section

namespace Cert.Proof.Written

open Cert.WrittenIdeal Cert.WrittenIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]
variable (gi : Dev nD → IVec S196608 32) (tb : Dev nD → FVec F S4096x16 .f32)
variable (d : Dev nD) (L : grid1.Coords)

abbrev cV (L : grid1.Coords) : Fin τ.nSC := (L 0).castLE hcore1
abbrev jV (L : grid1.Coords) : Fin τ.nSub := (L 1).castLE hsub1
/-- The task's thread. -/
abbrev thr (d : Dev nD) (L : grid1.Coords) : Thread nD τ := V d (cV L) (jV L)
abbrev c2 (L : grid1.Coords) : Fin 2 := L 0
abbrev s16 (L : grid1.Coords) : Fin 16 := L 1

/-- Trip `k`'s window of the list, -/
abbrev iWin (L : grid1.Coords) (k : Trip) : Memref sig .scVector .hbm S128 .i32 :=
  (iV).slice (Rect.unit (s := S196608) (k1_off1 L k) S128.size (k1_off1_inb L k)) (fun _ => rfl)
/-- and of the output. -/
abbrev oWin (L : grid1.Coords) (k : Trip) : Memref sig .scVector .hbm S128x16 .f32 :=
  (oV).slice (Rect.unit (s := S196608x16) (k1_off2 L k) S128x16.size (k1_off2_inb L k)) (fun _ => rfl)

omit [FloatOps F] [Named F] in
theorem set_oWin (k : Trip) : (oWin L k).view.set = chunk (c2 L) (s16 L) k := by
  show ((View.whole (main_v10_scv : Ref sig .scVector)).slice _).set = _
  rw [View.set_slice]
  refine Finset.map_refl.trans (Finset.ext fun n => ?_)
  rw [Rect.mem_set_unit, mem_chunk, k1_off2_eq]
  constructor
  · exact fun h => h 0
  · intro h a
    match a with
    | 0 => exact h
    | 1 => exact ⟨Nat.zero_le _, show (n 1).val < 0 + 16 by have : (n 1).val < 16 := (n 1).isLt; omega⟩

abbrev cell0 (d : Dev nD) (L : grid1.Coords) : GSem nD τ sig := (thr d L, .dma cc1_scratch2.sem)
abbrev cell1 (d : Dev nD) (L : grid1.Coords) : GSem nD τ sig := (thr d L, .dma cc1_scoped0.sem)
abbrev cell2 (d : Dev nD) (L : grid1.Coords) : GSem nD τ sig := (thr d L, .dma cc1_scoped1.sem)

omit [FloatOps F] [Named F] in
/-- The task's three semaphores are among its own. -/
theorem ownSems0_thr :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc1_scratch2.sem : SemLoc sig).isScoped .scVector = true; decide⟩),
    SparseCore.bigSep_erase' (Finset.mem_erase.mpr ⟨by simp [cell0, cell1]; decide, (mem_ownCells (g := cell1 d L)).mpr ⟨rfl, by
      show (SemLoc.dma cc1_scoped0.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc1_scoped1.sem : SemLoc sig).isScoped .scVector = true; decide⟩⟩⟩)]

omit [FloatOps F] [Named F] in
/-- The two scratch buffers are among the task's own. -/
theorem ownBufs_thr :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- Chunk `j` before trip `k`: the gathered rows if an earlier trip has written it. -/
def oAt (k : Nat) (j : Trip) : sProp 𝕄 :=
  if j.val < k then oDone gi tb d (c2 L) (s16 L) j else oAny d (c2 L) (s16 L) j

/-- The loop's invariant. -/
def inv (O : CellTallies nD τ sig (HIx 1)) (W : Waits sig (HIx 1)) (k : Nat) (_ : PUnit) : sProp 𝕄 :=
  iprop(Transfers.MayWaits (thr d L) (none : HIx 1) O
    ∗ ((iV).view.loc (thr d L) ↦{share (c2 L) (s16 L)} gi d)
    ∗ ((xV).view.loc (thr d L) ↦{share (c2 L) (s16 L)} tb d)
    ∗ (∃ f, (sV).view.loc (thr d L) ↦{fullShare} f)
    ∗ (∃ f, (rV).view.loc (thr d L) ↦{fullShare} f)
    ∗ (bigSep Finset.univ fun j => oAt gi tb d L k j)
    ∗ semVal (cell0 d L) 0 ∗ semVal (cell1 d L) 0 ∗ semVal (cell2 d L) 0
    ∗ ∃ W', ⌜∀ p ∈ W', p ∈ W ∨ p.2 = none⌝ ∗ owes (thr d L) O W')

/-- A fetched window's words name rows of the table. -/
theorem inRows_win (h : InRows gi) (k : Trip) (x : S128.Idx) : ((iWin L k).view.read (Elt F) (gi d) x).toNat < 4096 := by
  rw [show (iWin L k).view.read (Elt F) (gi d) x = gi d ((iWin L k).view.emb x) from (View.read_apply _ _).trans (cast_eq _ _)]
  exact h d _

/-- The list's entry `y` of trip `k`'s window is entry `6144 · task + 128 · k + y` of the list. -/
theorem read_iWin (k : Trip) (y : S128.Idx) :
    (iWin L k).view.read (Elt F) (gi d) y = gi d (fun | 0 => ⟨12288 * (L 1).val + 6144 * (L 0).val + 128 * k.val + (y 0).val, by
      have h1 : (L 1).val < 16 := (L 1).isLt
      have h0 : (L 0).val < 2 := (L 0).isLt
      have hk : k.val < 48 := trips_eq ▸ k.isLt
      have hy : (y 0).val < 128 := (y 0).isLt
      show _ < 196608
      omega⟩) := by
  rw [show (iWin L k).view.read (Elt F) (gi d) y = gi d ((iWin L k).view.emb y) from (View.read_apply _ _).trans (cast_eq _ _)]
  congr 1
  funext a
  match a with
  | 0 =>
    refine Fin.ext ?_
    show k1_off1 L k 0 + 1 * (y 0).val = _
    rw [k1_off1_eq, Nat.one_mul]; rfl

/-- What the gather lands at entry `x` of the row buffer is the gathered rows' entry at `x`'s place in the output. -/
theorem gathered_apply (k : Trip) (x : S128x16.Idx) (l : S128.Idx → Elt F .i32) (hn : S128.numel = S128x16.size gathers_S4096x16_S128x16.axis')
    (hl : ∀ y, (l y).toNat < S4096x16.size gathers_S4096x16_S128x16.axis)
    (hli : ∀ y, l y = (iWin L k).view.read (Elt F) (gi d) y) :
    SparseCore.gatherPayload gathers_S4096x16_S128x16
        (((xV).slice (Rect.unit (s := S4096x16) ![0, 0] S4096x16.size inb_S4096x16_S4096x16_0_0) (fun _ => rfl)).view.read (Elt F) (tb d))
        (SparseCore.rows l hn hl) x
      = gath (gi d) (tb d) ((oWin L k).view.emb x) := by
  unfold SparseCore.gatherPayload gath
  refine ((View.read_apply _ _).trans (cast_eq _ _)).trans (congrArg (tb d) (funext fun a => Fin.ext ?_))
  match a with
  | 0 =>
    show 0 + 1 * (gathers_S4096x16_S128x16.idx (SparseCore.rows l hn hl) x gathers_S4096x16_S128x16.axis).val = _
    rw [Shape.Gathers.idx_axis]
    show 0 + 1 * (l (S128.rowMajor.symm ((x 0).cast hn.symm))).toNat = (rowOf _).val
    have hy : S128.rowMajor.symm ((x 0).cast hn.symm) = (fun | 0 => x 0 : S128.Idx) := by
      rw [Equiv.symm_apply_eq]
      refine Fin.ext ?_
      rw [Shape.rowMajor_val_one]; rfl
    have hlt : (l (S128.rowMajor.symm ((x 0).cast hn.symm))).toNat < 4096 := hl _
    have hrow : l (S128.rowMajor.symm ((x 0).cast hn.symm)) = gi d (fun | 0 => (oWin L k).view.emb x 0) := by
      rw [hli, hy, read_iWin]
      congr 1
      funext a
      match a with
      | 0 =>
        refine Fin.ext ?_
        show _ = k1_off2 L k 0 + 1 * (x 0).val
        rw [k1_off2_eq, Nat.one_mul]; rfl
    refine Eq.trans ?_ (congrArg (fun w => (rowOf w).val) hrow)
    show 0 + 1 * _ = _ % 4096
    rw [Nat.mod_eq_of_lt hlt]; omega
  | 1 =>
    show 0 + 1 * (gathers_S4096x16_S128x16.idx (SparseCore.rows l hn hl) x 1).val = k1_off2 L k 1 + 1 * (x 1).val
    rw [Shape.Gathers.idx_of_ne _ _ _ _ (by decide), k1_off2_eq]
    rfl

set_option maxHeartbeats 4000000 in
/-- One trip: the window fetched, the rows gathered, the rows written out. -/
theorem trip (hpre : InRows gi) (O : CellTallies nD τ sig (HIx 1)) (W : Waits sig (HIx 1)) (k : Trip) :
    inv gi tb d L O W k ⟨⟩
      ⊢ wp frame (wpE (defs₀ (F := F)) 𝒱₀ (thr d L) none) Set.univ
          (k1_t1_body L iV (Memref.isWhole_whole _) xV (Memref.isWhole_whole _) oV (Memref.isWhole_whole _)
            sV (Memref.isWhole_whole _) rV (Memref.isWhole_whole _) cc1_scratch2 cc1_scoped0 cc1_scoped1 k ())
          fun _ => inv gi tb d L O W (k + 1) ⟨⟩ := by
  unfold inv k1_t1_body
  iintro ⟨Hmw, Hi, Hx, ⟨%fs, Hs⟩, ⟨%fr, Hr⟩, Ho, Hc0, Hc1, Hc2, %W', %hW', HO⟩
  ihave Ho' := (bigSep_univ_update (Φ := fun j => oAt gi tb d L k j) (Ψ := fun j => oAt gi tb d L (k + 1) j) k (by
    intro j hj
    have : j.val ≠ k.val := fun e => hj (Fin.ext e)
    unfold oAt
    rcases Nat.lt_or_ge j.val k.val with h | h
    · rw [if_pos h, if_pos (by omega)]
    · rw [if_neg (by omega), if_neg (by omega)])) $$ Ho
  icases Ho' with ⟨Hk, Hback⟩
  ihave Hk' := (Entails.of_eq (show oAt gi tb d L k k = iprop(∃ f, (oWin L k).view.loc (thr d L) ↦[(oWin L k).view.set]{fullShare} f) by
    unfold oAt; rw [if_neg (Nat.lt_irrefl _), set_oWin])) $$ Hk
  icases Hk' with ⟨%fo, Hk⟩
  sl_exec
  have hin : ∀ x, ((sV).view.read (Elt F) (View.write (Elt F) (sV).view fs (trip.sl.dma0 gi d L k) Finset.univ) x).toNat
      < S4096x16.size gathers_S4096x16_S128x16.axis := by
    intro x
    rw [View.write_whole_univ]
    exact inRows_win gi d L hpre k x
  sl_exec
  have hval : ∀ n ∈ (oWin L k).view.set, (oWin L k).view.writes (Elt F) fo [⟨Rect.whole S128x16, trip.sl.dma0_1 gi tb d L k fs fr hin⟩] n
      = gath (gi d) (tb d) n := by
    intro n hn
    obtain ⟨x, -, rfl⟩ := Finset.mem_map.1 hn
    have hw : (oWin L k).view.writes (Elt F) fo [⟨Rect.whole S128x16, trip.sl.dma0_1 gi tb d L k fs fr hin⟩] ((oWin L k).view.emb x)
        = trip.sl.dma0_1 gi tb d L k fs fr hin x :=
      (((View.read_apply _ _).trans (cast_eq _ _)).symm).trans (congrFun (View.read_writes_whole (oWin L k).view fo _) x)
    rw [hw]
    refine (congrFun (View.read_writes_whole (rV).view fr (trip.sl.gather0 gi tb d L k fs hin)) x).trans ?_
    unfold trip.sl.gather0
    exact gathered_apply gi tb d L k x _ _ hin (fun y => by rw [View.write_whole_univ]; rfl)
  sl_step
  isplitl [Hmw]; · iexact Hmw
  isplitl [Hi]; · iexact Hi
  isplitl [Hx]; · iexact Hx
  isplitl [Hs]; · iexists _; iexact Hs
  isplitl [Hr]; · iexists _; iexact Hr
  isplitl [Hback Hk]
  · iapply Hback
    iapply (Entails.of_eq (show ((oWin L k).view.loc (thr d L) ↦[(oWin L k).view.set]{fullShare} _ : sProp 𝕄) = oAt gi tb d L (k + 1) k by
      unfold oAt; rw [if_pos (Nat.lt_succ_self _), pointsTo_congr hval, set_oWin]))
    iexact Hk
  isplitl [Hc0]; · iexact Hc0
  isplitl [Hc1]; · iexact Hc1
  isplitl [Hc2]; · iexact Hc2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 4000000 in
/-- The task: the 48 trips. -/
theorem tile_body (hF : (K (F := F)).Facts) (hpre : InRows gi) (O : CellTallies nD τ sig (HIx 1)) (W : Waits sig (HIx 1)) (hO : ∀ g, O g none = 0) :
    iprop(levAts (K (F := F)).L (K (F := F)).lev ∗ emp
        ∗ takes gi tb d (c2 L) (s16 L)
        ∗ scopedBufs (thr d L) ∗ scopedSems0 (thr d L) ∗ owes (thr d L) O W)
      ⊢ wp frame (wpE (defs₀ (F := F)) 𝒱₀ (thr d L) none) Set.univ
          (cc1_gk L iV (Memref.isWhole_whole _) xV (Memref.isWhole_whole _) oV (Memref.isWhole_whole _)
            sV (Memref.isWhole_whole _) rV (Memref.isWhole_whole _) cc1_scratch2 cc1_scoped0 cc1_scoped1)
          fun _ => iprop(brings gi tb d (c2 L) (s16 L)
            ∗ scopedBufs (thr d L) ∗ scopedSems0 (thr d L)
            ∗ ∃ W', ⌜∀ p ∈ W', p ∈ W ∨ p.2 = none⌝ ∗ owes (thr d L) O W') := by
  simp only [cc1_gk_eq_skeleton]; unfold cc1_gk_skel
  rw [(K (F := F)).scopedBufs_V hF d (cV L) (jV L), SparseCore.Cfg.scopedSems0_V (Val := Elt F) d (cV L) (jV L), ownSems0_thr, ownBufs_thr]
  iintro ⟨#Hlv, -, ⟨Hi, Hx, Ho⟩, ⟨⟨%fs, Hs⟩, ⟨%fr, Hr⟩, Hbufs⟩, ⟨Hc0, Hc1, Hc2, Hsems⟩, HO⟩
  ihave Hmw := (show levAts (K (F := F)).L (K (F := F)).lev ⊢ Transfers.MayWaits (thr d L) (default : HIx 1) O from
    (K (F := F)).mayWaits_none (thr := thr d L) hO) $$ Hlv
  sl_for (inv gi tb d L O W) $$ [Hmw Hi Hx Hs Hr Ho Hc0 Hc1 Hc2 HO]
  case region =>
    intro k _
    exact trip gi tb d L hpre O W k
  · unfold inv
    isplitl [Hmw]; · iexact Hmw
    isplitl [Hi]; · iexact Hi
    isplitl [Hx]; · iexact Hx
    isplitl [Hs]; · iexists _; iexact Hs
    isplitl [Hr]; · iexists _; iexact Hr
    isplitl [Ho]
    · iapply (Entails.of_eq (bigSep_congr fun j _ => show oAny d (c2 L) (s16 L) j = oAt gi tb d L 0 j by
        unfold oAt; rw [if_neg (Nat.not_lt_zero _)]))
      iexact Ho
    isplitl [Hc0]; · iexact Hc0
    isplitl [Hc1]; · iexact Hc1
    isplitl [Hc2]; · iexact Hc2
    iexists W; isplitr
    · ipureintro; exact fun p hp => .inl hp
    · iexact HO
  iintro %_ HI
  unfold inv
  icases HI with ⟨-, Hi, Hx, Hs, Hr, Ho, Hc0, Hc1, Hc2, HO⟩
  sl_step
  isplitl [Hi Hx Ho]
  · isplitl [Hi]; · iexact Hi
    isplitl [Hx]; · iexact Hx
    iapply (Entails.of_eq (bigSep_congr fun j _ => show oAt gi tb d L k1_t1_loop.trips j = oDone gi tb d (c2 L) (s16 L) j by
      unfold oAt; rw [if_pos j.isLt]))
    iexact Ho
  isplitl [Hs Hr Hbufs]
  · isplitl [Hs]; · iexact Hs
    isplitl [Hr]; · iexact Hr
    iexact Hbufs
  isplitl [Hc0 Hc1 Hc2 Hsems]
  · isplitl [Hc0]; · iexact Hc0
    isplitl [Hc1]; · iexact Hc1
    isplitl [Hc2]; · iexact Hc2
    iexact Hsems
  iexact HO

end Cert.Proof.Written

end
-- ==== Proof.Written.Launch.lean ====
/-
  For the version as it is written, in the same words as for the kernel.

  The call of the row gather: what the launch asks of each task and of the split of the arrays among the tasks, and the
  arrays cut into the tasks' parts and joined again.
-/
module

public import proofs.«01_k».proof.Proof.Written.Tile

@[expose] public section

noncomputable section

namespace Cert.Proof.Written

open Cert.WrittenIdeal Cert.WrittenIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]
variable (gi : Dev nD → IVec S196608 32) (tb : Dev nD → FVec F S4096x16 .f32)

/-! ## The tasks' obligations -/

/-- The coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gk (coordsV c s)
          iV (Memref.isWhole_whole _) xV (Memref.isWhole_whole _) oV (Memref.isWhole_whole _)
          sV (Memref.isWhole_whole _) rV (Memref.isWhole_whole _) cc1_scratch2 cc1_scoped0 cc1_scoped1) ⟨⟩ c s := rfl

omit [FloatOps F] [Named F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRows gi) : (K (F := F)).TileObl (D (F := F)) 𝒱 (P gi tb) v₀ 0 := by
  intro d c i O W hO _ _
  simp only [show (P gi tb).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body gi tb d (coordsV ⟨_, hci.1⟩ ⟨_, hci.2⟩) hF hpre O W hO).trans (wp_mono frame _ _ fun _ => obl_post)

/-- Each SparseCore holds its tasks' parts already cut. -/
theorem vecSplit : (K (F := F)).VecSplit' (P gi tb) 0 := by
  intro d c
  show (bigSep Finset.univ fun s => takes gi tb d (nC c) s) ⊢ |={Set.univ}=> iprop(
      (bigSep Finset.univ fun s => takes gi tb d (nC c) s)
      ∗ ((bigSep Finset.univ fun s => brings gi tb d (nC c) s) -∗ (bigSep Finset.univ fun s => brings gi tb d (nC c) s)))
  iintro H; imodintro
  isplitl [H]; · iexact H
  iintro H; iexact H

/-! ## The arrays cut and joined -/

omit [FloatOps F] [Named F] in
/-- What is held at the full share is held at each task's share. -/
theorem pts_shares {ℓ : Loc nD τ sig} (f : Buf (Elt F) ℓ) :
    (ℓ ↦{fullShare} f : sProp 𝕄) = bigSep Finset.univ fun c : Fin 2 => bigSep Finset.univ fun s : Fin 16 => ℓ ↦{share c s} f :=
  (ShareLeaves.pointsTo_leaves Finset.univ f 1 fullShare).trans
    (bigSep_congr fun _ _ => ShareLeaves.pointsTo_leaves Finset.univ f 4 _)

omit [FloatOps F] [Named F] in
/-- The output is its chunks. -/
theorem o_chunks (d : Dev nD) (f : Buf (Elt F) (oLoc d)) :
    (oLoc d ↦{fullShare} f : sProp 𝕄)
      = bigSep Finset.univ fun c : Fin 2 => bigSep Finset.univ fun s : Fin 16 => bigSep Finset.univ fun k : Trip => oLoc d ↦[chunk c s k]{fullShare} f := by
  have h : (oLoc d ↦{fullShare} f : sProp 𝕄) = bigSep Finset.univ fun p : Piece => oLoc d ↦[pieceSet p]{fullShare} f := by
    rw [← pointsTo_biUnion Finset.univ (ℓ := oLoc d) pieceSet pieces_disjoint, pieces_cover]
  rw [h, bigSep_univ_prod (fun p : Task × Trip => (oLoc d ↦[chunk p.1.1 p.1.2 p.2]{fullShare} f : sProp 𝕄)),
    bigSep_univ_prod (fun t : Fin 2 × Fin 16 => bigSep Finset.univ fun k : Trip => (oLoc d ↦[chunk t.1 t.2 k]{fullShare} f : sProp 𝕄))]

/-- The three arrays whole, cut into what the call hands out. -/
theorem st_intro (d : Dev nD) (f : Buf (Elt F) (oLoc d)) :
    iprop((iLoc d ↦{fullShare} gi d) ∗ (xLoc d ↦{fullShare} tb d) ∗ oLoc d ↦{fullShare} f)
      ⊢ (bigSep Finset.univ fun c : Fin ((K (F := F)).nCore 0) => (P gi tb).st 0 d c : sProp 𝕄) := by
  show _ ⊢ (bigSep Finset.univ fun c : Fin 2 => bigSep Finset.univ fun s : Fin 16 => takes gi tb d c s : sProp 𝕄)
  simp only [takes, bigSep_sep']
  rw [pts_shares (F := F) (ℓ := iLoc d), pts_shares (F := F) (ℓ := xLoc d), o_chunks]
  refine Laws.sep_mono_right (Laws.sep_mono_right ?_)
  refine bigSep_mono fun c _ => bigSep_mono fun s _ => bigSep_mono fun k _ => ?_
  exact BIClass.exists_intro (Φ := fun f => (oLoc d ↦[chunk c s k]{fullShare} f : sProp 𝕄)) f

/-- What the call hands back, joined: the list and the table unchanged, the output at the gathered rows. -/
theorem dn_elim (d : Dev nD) :
    (bigSep Finset.univ fun c : Fin ((K (F := F)).nCore 0) => (P gi tb).dn 0 d c : sProp 𝕄)
      ⊢ iprop((iLoc d ↦{fullShare} gi d) ∗ (xLoc d ↦{fullShare} tb d) ∗ oLoc d ↦{fullShare} gath (gi d) (tb d)) := by
  show (bigSep Finset.univ fun c : Fin 2 => bigSep Finset.univ fun s : Fin 16 => brings gi tb d c s : sProp 𝕄) ⊢ _
  simp only [brings, bigSep_sep']
  rw [pts_shares (F := F) (ℓ := iLoc d), pts_shares (F := F) (ℓ := xLoc d), o_chunks]

/-! ## The launch's ghost state -/

omit [FloatOps F] [Named F] in
theorem bigSep_emps {I : Type} (s : Finset I) : (bigSep s fun _ => iprop(emp)) = (iprop(emp) : sProp 𝕄) := bigSep_emp_const s

theorem phinj : Function.Injective (Pipeline.cellOf (nD := nD) (τ := τ) (Pipeline.pin (pcfgs (F := F)) adm)) := cellOf_inj

/-- The launch's ghost state: the handshakes', and the pipelines'. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- What each device is dealt of it: its pipelines' ghost state. -/
abbrev G (d : Dev nD) : sProp 𝕄 := iprop(
  (bigSep Finset.univ fun p => Pipeline.cellsGhost (Pipeline.pin (pcfgs (F := F)) adm) EP p d)
  ∗ bigSep Finset.univ fun p => Pipeline.toksInit (Pipeline.pin (pcfgs (F := F)) adm) EP p d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun t : Thread nD τ => bigSep Finset.univ fun q : Fin 1 => (P gi tb).x q t) := by
  unfold u₀
  iintro Hu
  ihave H := (ownU_pair (initOf (K (F := F)).hsCells (K (F := F)).hsToks) (_ : UR sig nD τ × Counters)) $$ Hu
  icases H with ⟨HH, HR⟩
  ihave H := (own_pair_emb embR (initOf (Pipeline.cells (Pipeline.pin (pcfgs (F := F)) adm) phinj) (Pipeline.launchToks (Pipeline.pin (pcfgs (F := F)) adm) phinj)) (1 : Counters)) $$ HR
  icases H with ⟨HP, -⟩
  imod (show BI.own (((Emb.inl : Emb (UR sig nD τ) (UR sig nD τ × Counters)).trans embR) (initOf (Pipeline.cells (Pipeline.pin (pcfgs (F := F)) adm) phinj) (Pipeline.launchToks (Pipeline.pin (pcfgs (F := F)) adm) phinj))) ⊢ _ from
    Pipeline.fund_ghost (Pipeline.pin (pcfgs (F := F)) adm) EP phinj) $$ HP with ⟨Hg, Ht⟩
  imodintro
  isplitl [HH]; · iexact HH
  isplitl [Hg Ht]
  · simp only [G, bigSep_sep']
    isplitl [Hg] <;> iassumption
  rw [show (bigSep Finset.univ fun t : Thread nD τ => bigSep Finset.univ fun q : Fin 1 => (P (F := F) gi tb).x q t) = bigSep Finset.univ fun _ => iprop(emp) from
    bigSep_congr fun _ _ => bigSep_univ_of_subsingleton (0 : Fin 1), bigSep_emps]
  iempintro

end Cert.Proof.Written

end
-- ==== Proof.Written.Region.lean ====
/-
  For the version as it is written, in the same words as for the kernel.

  A TensorCore call that runs beside the SparseCores' launch: entered with every unscoped buffer at a valuation and
  whatever the launch still owes, left with the buffers at another valuation and the same debts. The call's own waits
  are at the lowest level, so they never stand in the launch's way.
-/
module

public import proofs.«01_k».proof.Proof.Written.Launch
public import Idealize.ShloMosaic.Lib.Pipeline.RegionsLoop
public import Idealize.ShloMosaic.Lib.Pipeline.Frame

@[expose] public section

noncomputable section

namespace Cert.Proof.Written

open Cert.WrittenIdeal Cert.WrittenIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-- The pairs the TensorCore may have recorded before call `n`: those at the levels of the calls before. -/
abbrev within (n : ℕ) (c : Dev nD) : Set (SemLoc sig × HIx 1) := {q | (K (F := F)).lev (T c, q.1) q.2 ≤ 8 * n}

/-- What the TensorCore owes before call `n`. -/
abbrev owing (n : ℕ) (c : Dev nD) : sProp 𝕄 :=
  iprop(∃ W, ⌜(K (F := F)).WBelow (T c) W (8 * n)⌝ ∗ owes (T c) ((K (F := F)).Otc c n) W)

/-- A memref's buffer on core `c`: its contents' type, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole buffer owned at `X` is its cells held at contents that read as `X`. -/
theorem owns_whole {c : Dev nD} {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  obtain ⟨b, rfl, rfl, rfl, h⟩ := h
  obtain rfl := eq_of_heq h
  unfold owns
  rw [View.set_whole]

/-- Proof data for a pipeline that is not run: anything. -/
def junk [∀ e, Nonempty (Elt F e)] {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

theorem owesAt_of_owing {cfg : Cfg sig Λ₀} {c : Dev nD} (dat : Dat τ (Elt F) (HIx 1) ℕ UU ℕ cfg c) (n : ℕ) (t : Fin (cfg.N + 1))
    (ho : dat.owed t = (K (F := F)).Otc c n) (hr : dat.recorded t = within (F := F) n c) :
    owing (F := F) n c ⊢ dat.owesAt none t := by
  unfold owing Pipeline.Dat.owesAt Pipeline.owesWithin
  rw [ho]
  iintro ⟨%W, %hW, HO⟩
  iexists W; isplitr
  · ipureintro; exact fun q hq' => Or.inl (by rw [hr]; exact hW q hq')
  iexact HO

theorem owing_of_owesAt {cfg : Cfg sig Λ₀} {c : Dev nD} (dat : Dat τ (Elt F) (HIx 1) ℕ UU ℕ cfg c) (n : ℕ) (t : Fin (cfg.N + 1))
    (ho : dat.owed t = (K (F := F)).Otc c n) (hr : dat.recorded t = within (F := F) n c) :
    dat.owesAt none t ⊢ owing (F := F) n c := by
  unfold owing Pipeline.Dat.owesAt Pipeline.owesWithin
  rw [ho]
  iintro ⟨%W, %hW, HO⟩
  iexists W; isplitr
  · ipureintro
    intro q hq'
    rcases hW hq' with h | ⟨w, s, h⟩
    · rw [hr] at h; exact h
    · rw [h]; exact Nat.zero_le _
  iexact HO

theorem pref_emp (p : Fin 2) (c : Dev nD) :
    (BI.emp : sProp 𝕄) ⊢ Pipeline.prefHeld (pcfgs (F := F) p).pre c (fun _ => fullShare) (adm (F := F) p).1 := by
  match p with
  | 0 => exact Entails.of_eq (BI.bigSep_empty (M := 𝕄)).symm
  | 1 => exact Entails.of_eq (BI.bigSep_empty (M := 𝕄)).symm

variable (pd : (p : Fin 2) → (c : Dev nD) → Dat τ (Elt F) (HIx 1) ℕ UU ℕ (Pipeline.pin (pcfgs (F := F)) adm p) c)
variable (V V' : (c : Dev nD) → (b : Ref sig .tc) → Buf (Elt F) ((c : Thread nD τ).loc b))

set_option backward.isDefEq.respectTransparency.types false in
/-- The call of pipeline `p`, run before SparseCore call `n`. -/
def reg (p : Fin 2) (n : ℕ) (hl : Pipeline.LaunchFacts (nD := nD) (τ := τ) cfgs p)
    (hb : ∀ c, BodyObligation (pd p c) (defs₀ (F := F)) 𝒱₀ none Set.univ)
    (ho : ∀ c t, (pd p c).owed t = (K (F := F)).Otc c n) (hr : ∀ c t, (pd p c).recorded t = within (F := F) n c)
    (hq : ∀ c w, (pd p c).q w = fullShare)
    (hΦ : ∀ c t, (pd p c).Φ t = Pipeline.scopedRest (Pipeline.pin (pcfgs (F := F)) adm p).spec c)
    (hA : ∀ c w, (pd p c).A w = V c (Pipeline.arrRef (Pipeline.pin (pcfgs (F := F)) adm p).spec w))
    (hw : ∀ c w, (pd p c).arrAt w (Pipeline.pin (pcfgs (F := F)) adm p).N = V' c (Pipeline.arrRef (Pipeline.pin (pcfgs (F := F)) adm p).spec w))
    (hoff : ∀ c b, b ∉ Finset.univ.image (Pipeline.arrRef (Pipeline.pin (pcfgs (F := F)) adm p).spec) → V' c b = V c b) :
    Pipeline.RegionSeg (pcfgs (F := F)) adm pd none defs₀ 𝒱₀ (K (F := F)).L (K (F := F)).lev p where
  win := hl.win.to₀
  block_pos := hl.block_pos
  stage_whole := hl.stage_whole
  K := PEmpty
  osem k := k.elim
  ho := Pipeline.OwnSemFacts.none _
  hbody c := (hb c).loose
  hwaits c := Pipeline.cellsWaits_of_cut _ pd none p c 0 ((K (F := F)).Otc c n) (ho c) (fun _ _ => Finset.mem_univ _)
    (fun _ _ => le_of_eq rfl)
    (fun g i hg => ⟨Finset.mem_univ _, lt_of_lt_of_le (Nat.succ_pos _) (SparseCore.Cfg.lev_of_Otc_pos hg)⟩)
  pre c := iprop(unscopedBufs c (V c) ∗ owing (F := F) n c)
  post c := iprop(unscopedBufs c (V' c) ∗ owing (F := F) n c)
  X _ := BI.emp
  Y _ := BI.emp
  Z c := Pipeline.unscopedRest (Pipeline.pin (pcfgs (F := F)) adm p).spec c (V c)
  hentry c := by
    rw [Pipeline.ownSems0_none]
    have hsplit := Pipeline.arrays_of_unscopedBufs (p := p) (pcfgs (F := F)) adm pd hl.win hl.arr_whole c
      ((pd p c).share_full (hq c)) (V c) (hA c)
    iintro ⟨⟨Hub, HO⟩, -, -⟩
    ihave H := hsplit $$ Hub
    icases H with ⟨Ha, Hrest⟩
    imodintro
    isplitl [Ha]; · iexact Ha
    isplitr; · iapply (pref_emp (F := F) p c); iempintro
    isplitl [HO]; · iapply (owesAt_of_owing (pd p c) n 0 (ho c 0) (hr c 0)); iexact HO
    isplitr; · iempintro
    iexact Hrest
  hin c := by
    iintro ⟨-, -, Hr⟩; iapply (Entails.of_eq (hΦ c 0).symm); iexact Hr
  hout c := by
    rw [Pipeline.ownSems0_none]
    refine (Entails.of_eq (hΦ c _)).trans ?_
    iintro Hr
    isplitr; · iempintro
    isplitr; · iempintro
    iexact Hr
  hexit c := by
    have hjoin := Pipeline.unscopedBufs_of_arrays (p := p) (pcfgs (F := F)) adm hl.win hl.arr_whole c
      pd ((pd p c).share_full (hq c)) (V c) (V' c) ((pd p c).arrAt · (Pipeline.pin (pcfgs (F := F)) adm p).N)
      (hw c) (hoff c)
    iintro ⟨Ha, HO, -, Hrest⟩
    imodintro
    isplitl [Ha Hrest]
    · iapply hjoin; isplitl [Ha] <;> iassumption
    iapply (owing_of_owesAt (pd p c) n _ (ho c _) (hr c _)); iexact HO

end Cert.Proof.Written

end
-- ==== Proof.Written.Rounds.lean ====
/-
  For the version as it is written, in the same words as for the kernel.

  The rounds of the nearest-neighbour search, as the first kernel states them. Each round takes the distances
  still open, finds in every row the least of them, names its first column, and closes that column by writing
  +infinity there. The printed body carries the 48 rounds in 14 parts; here it is restated as one short program
  over the distances after `n` rounds.
-/
module

public import proofs.«01_k».proof.Proof.Gen.WrittenIdeal.Skeleton

@[expose] public section

noncomputable section

namespace Cert.Proof.Written.Near

open Cert.WrittenIdeal Cert.WrittenIdeal.Gen
open Idealize.ShloMosaic
open Idealize.ShloMosaic.TcCoe
open Idealize.SL Idealize.SL.Sem

variable {F : FTy → Type} [FloatOps F] [Named F]

/-- The column numbers. -/
def iot : IVec S256x1024 32 := iota .tc S256x1024 32 [1] iota_S256x1024_d1_w32
/-- One past the last column, everywhere. -/
def big : IVec S256x1024 32 := broadcast S256x1024 1024#32
/-- The closed distance, everywhere. -/
def far : FVec F S256x1024 .f32 := broadcast S256x1024 (Scalar.ofBits .f32 0x7F800000#32)
/-- Each row's least distance. -/
def mn (D : FVec F S256x1024 .f32) : FVec F S256x1 .f32 :=
  shapeCast S256x1 (multiReduction .minimumf [1] S256 D 0x7F800000#32 reduces_S256x1024_S256 (.inl rfl) rfl) shapeCasts_S256_S256x1
/-- Where a row's least distance is attained. -/
def hit (D : FVec F S256x1024 .f32) : IVec S256x1024 1 := cmpf .oeq D (broadcastTo S256x1024 (mn D) broadcasts_S256x1_S256x1024)
/-- Each row's first column attaining it. -/
def ix (D : FVec F S256x1024 .f32) : IVec S256x1 32 :=
  shapeCast S256x1 (multiReductionI .minsi [1] S256 (select (hit D) iot big) 2147483647#32 reduces_S256x1024_S256 rfl) shapeCasts_S256_S256x1
/-- Where that column is. -/
def at' (D : FVec F S256x1024 .f32) : IVec S256x1024 1 := cmpi .eq iot (broadcastTo S256x1024 (ix D) broadcasts_S256x1_S256x1024)
/-- The distances with that column closed. -/
def nx (D : FVec F S256x1024 .f32) : FVec F S256x1024 .f32 := select (at' D) far D
/-- The distances after `n` rounds. -/
def Dn (D : FVec F S256x1024 .f32) : ℕ → FVec F S256x1024 .f32
  | 0 => D
  | n + 1 => nx (Dn D n)

/-- The 48 rounds' columns, side by side. -/
def cols (D : FVec F S256x1024 .f32) : IVec S256x48 32 :=
  concatenate S256x48 1 (⟨S256x1, ix (Dn D 0)⟩ :: ⟨S256x1, ix (Dn D 1)⟩ :: ⟨S256x1, ix (Dn D 2)⟩ :: ⟨S256x1, ix (Dn D 3)⟩ :: ⟨S256x1, ix (Dn D 4)⟩ :: ⟨S256x1, ix (Dn D 5)⟩ :: ⟨S256x1, ix (Dn D 6)⟩ :: ⟨S256x1, ix (Dn D 7)⟩ :: ⟨S256x1, ix (Dn D 8)⟩ :: ⟨S256x1, ix (Dn D 9)⟩ :: ⟨S256x1, ix (Dn D 10)⟩ :: ⟨S256x1, ix (Dn D 11)⟩ :: ⟨S256x1, ix (Dn D 12)⟩ :: ⟨S256x1, ix (Dn D 13)⟩ :: ⟨S256x1, ix (Dn D 14)⟩ :: ⟨S256x1, ix (Dn D 15)⟩ :: ⟨S256x1, ix (Dn D 16)⟩ :: ⟨S256x1, ix (Dn D 17)⟩ :: ⟨S256x1, ix (Dn D 18)⟩ :: ⟨S256x1, ix (Dn D 19)⟩ :: ⟨S256x1, ix (Dn D 20)⟩ :: ⟨S256x1, ix (Dn D 21)⟩ :: ⟨S256x1, ix (Dn D 22)⟩ :: ⟨S256x1, ix (Dn D 23)⟩ :: ⟨S256x1, ix (Dn D 24)⟩ :: ⟨S256x1, ix (Dn D 25)⟩ :: ⟨S256x1, ix (Dn D 26)⟩ :: ⟨S256x1, ix (Dn D 27)⟩ :: ⟨S256x1, ix (Dn D 28)⟩ :: ⟨S256x1, ix (Dn D 29)⟩ :: ⟨S256x1, ix (Dn D 30)⟩ :: ⟨S256x1, ix (Dn D 31)⟩ :: ⟨S256x1, ix (Dn D 32)⟩ :: ⟨S256x1, ix (Dn D 33)⟩ :: ⟨S256x1, ix (Dn D 34)⟩ :: ⟨S256x1, ix (Dn D 35)⟩ :: ⟨S256x1, ix (Dn D 36)⟩ :: ⟨S256x1, ix (Dn D 37)⟩ :: ⟨S256x1, ix (Dn D 38)⟩ :: ⟨S256x1, ix (Dn D 39)⟩ :: ⟨S256x1, ix (Dn D 40)⟩ :: ⟨S256x1, ix (Dn D 41)⟩ :: ⟨S256x1, ix (Dn D 42)⟩ :: ⟨S256x1, ix (Dn D 43)⟩ :: ⟨S256x1, ix (Dn D 44)⟩ :: ⟨S256x1, ix (Dn D 45)⟩ :: ⟨S256x1, ix (Dn D 46)⟩ :: ⟨S256x1, ix (Dn D 47)⟩ :: []) concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x48_d1

/-- The columns as the kernel stores them. -/
def eOut (D : FVec F S256x1024 .f32) : IVec S1x256x48 32 := shapeCast S1x256x48 (cols D) shapeCasts_S256x48_S1x256x48
/-- The columns counted over all chains. -/
def gOut (b : BitVec 32) (D : FVec F S256x1024 .f32) : IVec S1x256x48 32 :=
  shapeCast S1x256x48 (addi (cols D) (broadcast S256x48 (Scalar.muli b 1024#32))) shapeCasts_S256x48_S1x256x48
/-- The row of the table the kernel stores beside them. -/
def pOut (b r : BitVec 32) (v0 : Vec F S1x256x15 .f32) : FVec F S1x256x16 .f32 :=
  k0_pay1 b r (k0_pay116 (k0_pay2 v0)) (k0_pay117 (k0_pay2 v0)) (k0_pay118 (k0_pay2 v0)) (k0_pay119 (k0_pay2 v0)) (k0_pay120 (k0_pay2 v0)) (k0_pay121 (k0_pay2 v0)) (k0_pay122 (k0_pay2 v0)) (k0_pay123 (k0_pay2 v0)) (k0_pay124 (k0_pay2 v0))

section Parts

variable (i : grid0.Coords) (arg2 : Memref sig .tc .vmem S1x256x15 .f32) (harg2 : arg2.IsWhole) (arg3 : Memref sig .tc .vmem S1x8x1024 .f32) (harg3 : arg3.IsWhole) (arg4 : Memref sig .tc .vmem S1x256x48 .i32) (harg4 : arg4.IsWhole) (arg5 : Memref sig .tc .vmem S1x256x48 .i32) (harg5 : arg5.IsWhole) (arg6 : Memref sig .tc .vmem S1x256x16 .f32) (harg6 : arg6.IsWhole)

theorem part2 (D : FVec F S256x1024 .f32) : k0_part2 (F := F) i arg2 harg2 arg3 harg3 arg4 harg4 arg5 harg5 arg6 harg6 iot (Dn D 1) (hit (Dn D 1)) big = pure ⟨ix (Dn D 1), ix (Dn D 2), ix (Dn D 3), ix (Dn D 4), Dn D 5, mn (Dn D 5)⟩ := rfl
theorem part3 (D : FVec F S256x1024 .f32) : k0_part3 (F := F) i arg2 harg2 arg3 harg3 arg4 harg4 arg5 harg5 arg6 harg6 iot (Dn D 5) (mn (Dn D 5)) = pure ⟨ix (Dn D 5), ix (Dn D 6), ix (Dn D 7), Dn D 8, ix (Dn D 8), at' (Dn D 8), far⟩ := rfl
theorem part4 (D : FVec F S256x1024 .f32) : k0_part4 (F := F) i arg2 harg2 arg3 harg3 arg4 harg4 arg5 harg5 arg6 harg6 iot (Dn D 8) (at' (Dn D 8)) far = pure ⟨ix (Dn D 9), ix (Dn D 10), ix (Dn D 11), Dn D 12, ix (Dn D 12)⟩ := rfl
theorem part5 (D : FVec F S256x1024 .f32) : k0_part5 (F := F) i arg2 harg2 arg3 harg3 arg4 harg4 arg5 harg5 arg6 harg6 iot (Dn D 12) (ix (Dn D 12)) = pure ⟨ix (Dn D 13), ix (Dn D 14), ix (Dn D 15), Dn D 16, hit (Dn D 16), big⟩ := rfl
theorem part6 (D : FVec F S256x1024 .f32) : k0_part6 (F := F) i arg2 harg2 arg3 harg3 arg4 harg4 arg5 harg5 arg6 harg6 iot (Dn D 16) (hit (Dn D 16)) big = pure ⟨ix (Dn D 16), ix (Dn D 17), ix (Dn D 18), ix (Dn D 19), Dn D 20, mn (Dn D 20)⟩ := rfl
theorem part7 (D : FVec F S256x1024 .f32) : k0_part7 (F := F) i arg2 harg2 arg3 harg3 arg4 harg4 arg5 harg5 arg6 harg6 iot (Dn D 20) (mn (Dn D 20)) = pure ⟨ix (Dn D 20), ix (Dn D 21), ix (Dn D 22), Dn D 23, ix (Dn D 23), at' (Dn D 23), far⟩ := rfl
theorem part8 (D : FVec F S256x1024 .f32) : k0_part8 (F := F) i arg2 harg2 arg3 harg3 arg4 harg4 arg5 harg5 arg6 harg6 iot (Dn D 23) (at' (Dn D 23)) far = pure ⟨ix (Dn D 24), ix (Dn D 25), ix (Dn D 26), Dn D 27, ix (Dn D 27)⟩ := rfl
theorem part9 (D : FVec F S256x1024 .f32) : k0_part9 (F := F) i arg2 harg2 arg3 harg3 arg4 harg4 arg5 harg5 arg6 harg6 iot (Dn D 27) (ix (Dn D 27)) = pure ⟨ix (Dn D 28), ix (Dn D 29), ix (Dn D 30), Dn D 31, hit (Dn D 31), big⟩ := rfl
theorem part10 (D : FVec F S256x1024 .f32) : k0_part10 (F := F) i arg2 harg2 arg3 harg3 arg4 harg4 arg5 harg5 arg6 harg6 iot (Dn D 31) (hit (Dn D 31)) big = pure ⟨ix (Dn D 31), ix (Dn D 32), ix (Dn D 33), ix (Dn D 34), Dn D 35, mn (Dn D 35)⟩ := rfl
theorem part11 (D : FVec F S256x1024 .f32) : k0_part11 (F := F) i arg2 harg2 arg3 harg3 arg4 harg4 arg5 harg5 arg6 harg6 iot (Dn D 35) (mn (Dn D 35)) = pure ⟨ix (Dn D 35), ix (Dn D 36), ix (Dn D 37), Dn D 38, ix (Dn D 38), at' (Dn D 38), far⟩ := rfl
theorem part12 (D : FVec F S256x1024 .f32) : k0_part12 (F := F) i arg2 harg2 arg3 harg3 arg4 harg4 arg5 harg5 arg6 harg6 iot (Dn D 38) (at' (Dn D 38)) far = pure ⟨ix (Dn D 39), ix (Dn D 40), ix (Dn D 41), Dn D 42, ix (Dn D 42)⟩ := rfl
theorem part13 (D : FVec F S256x1024 .f32) : k0_part13 (F := F) i arg2 harg2 arg3 harg3 arg4 harg4 arg5 harg5 arg6 harg6 iot (Dn D 42) (ix (Dn D 42)) = pure ⟨ix (Dn D 43), ix (Dn D 44), ix (Dn D 45), Dn D 46, hit (Dn D 46), big⟩ := rfl

end Parts

/-- The first kernel's body: two loads, the rounds, three stores. -/
def near (i : grid0.Coords) (arg2 : Memref sig .tc .vmem S1x256x15 .f32) (harg2 : arg2.IsWhole) (arg3 : Memref sig .tc .vmem S1x8x1024 .f32) (harg3 : arg3.IsWhole) (arg4 : Memref sig .tc .vmem S1x256x48 .i32) (harg4 : arg4.IsWhole) (arg5 : Memref sig .tc .vmem S1x256x48 .i32) (harg5 : arg5.IsWhole) (arg6 : Memref sig .tc .vmem S1x256x16 .f32) (harg6 : arg6.IsWhole) :
    Prog (TpuEff nD τ sig (Elt F) Λ₀ .tc) PUnit := do
  let v0 : Vec F S1x256x15 .f32 ← Prog.lift (.load arg2 (Rect.unit (s := S1x256x15) ![0, 0, 0] S1x256x15.size inb_S1x256x15_S1x256x15_0_0_0).toLoadRect (View.loadsAt_vmem h_S1x256x15))
  let v2 : Vec F S1x8x1024 .f32 ← Prog.lift (.load arg3 (Rect.unit (s := S1x8x1024) ![0, 0, 0] S1x8x1024.size inb_S1x8x1024_S1x8x1024_0_0_0).toLoadRect (View.loadsAt_vmem h_S1x8x1024))
  let v601 : Vec F S1x256x48 .i32 ← Prog.lift (.load arg4 (Rect.unit (s := S1x256x48) ![0, 0, 0] S1x256x48.size inb_S1x256x48_S1x256x48_0_0_0).toLoadRect (View.loadsAt_vmem h_S1x256x48))
  Prog.lift (.store arg4 (Rect.unit (s := S1x256x48) ![0, 0, 0] S1x256x48.size inb_S1x256x48_S1x256x48_0_0_0) (eOut (k0_pay3 v0 v2)) Finset.univ (View.stores_vmem_bits_univ h_S1x256x48 rfl) (.inl rfl))
  let v607 : Vec F S1x256x48 .i32 ← Prog.lift (.load arg5 (Rect.unit (s := S1x256x48) ![0, 0, 0] S1x256x48.size inb_S1x256x48_S1x256x48_0_0_0).toLoadRect (View.loadsAt_vmem h_S1x256x48))
  Prog.lift (.store arg5 (Rect.unit (s := S1x256x48) ![0, 0, 0] S1x256x48.size inb_S1x256x48_S1x256x48_0_0_0) (gOut (BitVec.ofNat 32 (i 0).val) (k0_pay3 v0 v2)) Finset.univ (View.stores_vmem_bits_univ h_S1x256x48 rfl) (.inl rfl))
  let v655 : Vec F S1x256x16 .f32 ← Prog.lift (.load arg6 (Rect.unit (s := S1x256x16) ![0, 0, 0] S1x256x16.size inb_S1x256x16_S1x256x16_0_0_0).toLoadRect (View.loadsAt_vmem h_S1x256x16))
  Prog.lift (.store arg6 (Rect.unit (s := S1x256x16) ![0, 0, 0] S1x256x16.size inb_S1x256x16_S1x256x16_0_0_0) (pOut (BitVec.ofNat 32 (i 0).val) (BitVec.ofNat 32 (i 1).val) v0) Finset.univ (View.stores_vmem_bits_univ h_S1x256x16 rfl) (.inl rfl))
  pure ⟨⟩

set_option maxRecDepth 65536 in
theorem part14 (i : grid0.Coords) (arg2 : Memref sig .tc .vmem S1x256x15 .f32) (harg2 : arg2.IsWhole) (arg3 : Memref sig .tc .vmem S1x8x1024 .f32) (harg3 : arg3.IsWhole) (arg4 : Memref sig .tc .vmem S1x256x48 .i32) (harg4 : arg4.IsWhole) (arg5 : Memref sig .tc .vmem S1x256x48 .i32) (harg5 : arg5.IsWhole) (arg6 : Memref sig .tc .vmem S1x256x16 .f32) (harg6 : arg6.IsWhole) (b : BitVec 32) (v1 : FVec F S256x15 .f32) (D : FVec F S256x1024 .f32) :
    k0_part14 (F := F) i arg2 harg2 arg3 harg3 arg4 harg4 arg5 harg5 arg6 harg6 b v1 iot (ix (Dn D 0)) (ix (Dn D 1)) (ix (Dn D 2)) (ix (Dn D 3)) (ix (Dn D 4)) (ix (Dn D 5)) (ix (Dn D 6)) (ix (Dn D 7)) (ix (Dn D 8)) (ix (Dn D 9)) (ix (Dn D 10)) (ix (Dn D 11)) (ix (Dn D 12)) (ix (Dn D 13)) (ix (Dn D 14)) (ix (Dn D 15)) (ix (Dn D 16)) (ix (Dn D 17)) (ix (Dn D 18)) (ix (Dn D 19)) (ix (Dn D 20)) (ix (Dn D 21)) (ix (Dn D 22)) (ix (Dn D 23)) (ix (Dn D 24)) (ix (Dn D 25)) (ix (Dn D 26)) (ix (Dn D 27)) (ix (Dn D 28)) (ix (Dn D 29)) (ix (Dn D 30)) (ix (Dn D 31)) (ix (Dn D 32)) (ix (Dn D 33)) (ix (Dn D 34)) (ix (Dn D 35)) (ix (Dn D 36)) (ix (Dn D 37)) (ix (Dn D 38)) (ix (Dn D 39)) (ix (Dn D 40)) (ix (Dn D 41)) (ix (Dn D 42)) (ix (Dn D 43)) (ix (Dn D 44)) (ix (Dn D 45)) (Dn D 46) (hit (Dn D 46)) big = (do
  let v601 : Vec F S1x256x48 .i32 ← Prog.lift (.load arg4 (Rect.unit (s := S1x256x48) ![0, 0, 0] S1x256x48.size inb_S1x256x48_S1x256x48_0_0_0).toLoadRect (View.loadsAt_vmem h_S1x256x48))
  Prog.lift (.store arg4 (Rect.unit (s := S1x256x48) ![0, 0, 0] S1x256x48.size inb_S1x256x48_S1x256x48_0_0_0) (eOut D) Finset.univ (View.stores_vmem_bits_univ h_S1x256x48 rfl) (.inl rfl))
  let v607 : Vec F S1x256x48 .i32 ← Prog.lift (.load arg5 (Rect.unit (s := S1x256x48) ![0, 0, 0] S1x256x48.size inb_S1x256x48_S1x256x48_0_0_0).toLoadRect (View.loadsAt_vmem h_S1x256x48))
  Prog.lift (.store arg5 (Rect.unit (s := S1x256x48) ![0, 0, 0] S1x256x48.size inb_S1x256x48_S1x256x48_0_0_0) (gOut b D) Finset.univ (View.stores_vmem_bits_univ h_S1x256x48 rfl) (.inl rfl))
  pure ⟨k0_pay116 v1, k0_pay117 v1, k0_pay118 v1, k0_pay119 v1, k0_pay120 v1, k0_pay121 v1, k0_pay122 v1, k0_pay123 v1, k0_pay124 v1⟩) := rfl

set_option maxRecDepth 65536 in
theorem part1 (i : grid0.Coords) (arg2 : Memref sig .tc .vmem S1x256x15 .f32) (harg2 : arg2.IsWhole) (arg3 : Memref sig .tc .vmem S1x8x1024 .f32) (harg3 : arg3.IsWhole) (arg4 : Memref sig .tc .vmem S1x256x48 .i32) (harg4 : arg4.IsWhole) (arg5 : Memref sig .tc .vmem S1x256x48 .i32) (harg5 : arg5.IsWhole) (arg6 : Memref sig .tc .vmem S1x256x16 .f32) (harg6 : arg6.IsWhole) :
    k0_part1 (F := F) i arg2 harg2 arg3 harg3 arg4 harg4 arg5 harg5 arg6 harg6 = (do
  let v0 : Vec F S1x256x15 .f32 ← Prog.lift (.load arg2 (Rect.unit (s := S1x256x15) ![0, 0, 0] S1x256x15.size inb_S1x256x15_S1x256x15_0_0_0).toLoadRect (View.loadsAt_vmem h_S1x256x15))
  let v2 : Vec F S1x8x1024 .f32 ← Prog.lift (.load arg3 (Rect.unit (s := S1x8x1024) ![0, 0, 0] S1x8x1024.size inb_S1x8x1024_S1x8x1024_0_0_0).toLoadRect (View.loadsAt_vmem h_S1x8x1024))
  pure ⟨BitVec.ofNat 32 (i 0).val, BitVec.ofNat 32 (i 1).val, k0_pay2 v0, iot, ix (Dn (k0_pay3 v0 v2) 0), Dn (k0_pay3 v0 v2) 1, hit (Dn (k0_pay3 v0 v2) 1), big⟩) := rfl

set_option maxRecDepth 65536 in
/-- The printed body is that program. -/
theorem body_eq : cc0__stage1_body (F := F) = near (F := F) := by
  funext i arg2 harg2 arg3 harg3 arg4 harg4 arg5 harg5 arg6 harg6
  rw [cc0__stage1_body_eq_skeleton]
  unfold cc0__stage1_body_skel near
  simp only [part1, pure_bind, bind_assoc, part2, part3, part4, part5, part6, part7, part8, part9, part10, part11, part12, part13, part14]
  rfl

end Cert.Proof.Written.Near

end
-- ==== Proof.Written.Region0.lean ====
/-
  For the version as it is written, in the same words as for the kernel.

  The first call: for every block of 256 rows, the 48 nearest columns and the rows' coordinates. Its body run once at
  arbitrary staged blocks, its proof data at an arbitrary entry valuation, the call.
-/
module

public import proofs.«01_k».proof.Proof.Written.Region
public import proofs.«01_k».proof.Proof.Written.Rounds
public import Idealize.ShloMosaic.Lib.VecWindow
public import Idealize.ShloMosaic.Lib.Pipeline.FrameBody

@[expose] public section

noncomputable section

namespace Cert.Proof.Written

open Cert.WrittenIdeal Cert.WrittenIdeal.Gen

open Idealize.ShloMosaic
open Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Cert.Proof.Written.Near

variable {F : FTy → Type} [FloatOps F] [Named F]

local notation "𝕄" => MT nD τ sig (HIx 1) (Elt F) ℕ UU ℕ

section Body
variable (c : Dev nD) (i : grid0.Coords) (arg2 : Memref sig .tc .vmem S1x256x15 .f32) (harg2 : arg2.IsWhole) (arg3 : Memref sig .tc .vmem S1x8x1024 .f32) (harg3 : arg3.IsWhole) (arg4 : Memref sig .tc .vmem S1x256x48 .i32) (harg4 : arg4.IsWhole) (arg5 : Memref sig .tc .vmem S1x256x48 .i32) (harg5 : arg5.IsWhole) (arg6 : Memref sig .tc .vmem S1x256x16 .f32) (harg6 : arg6.IsWhole)

/-- The body, from the staged blocks at `X2` and `X3`: the three results at what the rounds give. -/
theorem nearRun (X2 : FVec F S1x256x15 .f32) (X3 : FVec F S1x8x1024 .f32) (E : Set ℕ) (Q : PUnit → sProp 𝕄) :
    iprop(owns (c : Thread nD τ) arg2 fullShare X2 ∗ owns (c : Thread nD τ) arg3 fullShare X3 ∗ (∃ X, owns (c : Thread nD τ) arg4 fullShare X) ∗ (∃ X, owns (c : Thread nD τ) arg5 fullShare X) ∗ (∃ X, owns (c : Thread nD τ) arg6 fullShare X)
        ∗ (iprop(owns (c : Thread nD τ) arg2 fullShare X2 ∗ owns (c : Thread nD τ) arg3 fullShare X3 ∗ owns (c : Thread nD τ) arg4 fullShare (eOut (k0_pay3 X2 X3))
            ∗ owns (c : Thread nD τ) arg5 fullShare (gOut (BitVec.ofNat 32 (i 0).val) (k0_pay3 X2 X3))
            ∗ owns (c : Thread nD τ) arg6 fullShare (pOut (BitVec.ofNat 32 (i 0).val) (BitVec.ofNat 32 (i 1).val) X2)) -∗ Q ⟨⟩))
      ⊢ wp frame (wpE (defs₀ (F := F)) Variants.none c none) E (cc0__stage1_body i arg2 harg2 arg3 harg3 arg4 harg4 arg5 harg5 arg6 harg6) Q := by
  rw [body_eq]; unfold near
  simp only [owns_whole harg2, owns_whole harg3, owns_whole harg4, owns_whole harg5, owns_whole harg6]
  iintro ⟨⟨%f2, %h2, H2⟩, ⟨%f3, %h3, H3⟩, ⟨%X4, %f4, -, H4⟩, ⟨%X5, %f5, -, H5⟩, ⟨%X6, %f6, -, H6⟩, Hk⟩
  sl_exec!
  sl_step
  iapply Hk
  isplitl [H2]; · iexists f2; isplitr; (· ipureintro; exact h2); iexact H2
  isplitl [H3]; · iexists f3; isplitr; (· ipureintro; exact h3); iexact H3
  isplitl [H4]
  · iexists _; isplitr; swap; (· iexact H4); ipureintro
    refine (View.read_writes_full _ _ _ _ _).trans ?_
    rw [View.readAt_full, View.readAt_full, h2, h3]
  isplitl [H5]
  · iexists _; isplitr; swap; (· iexact H5); ipureintro
    refine (View.read_writes_full _ _ _ _ _).trans ?_
    rw [View.readAt_full, View.readAt_full, h2, h3]
  iexists _; isplitr; swap; (· iexact H6); ipureintro
  refine (View.read_writes_full _ _ _ _ _).trans ?_
  rw [View.readAt_full, h2]

end Body

variable [∀ e, Nonempty (Elt F e)]
variable (V : (c : Dev nD) → (b : Ref sig .tc) → Buf (Elt F) ((c : Thread nD τ).loc b))

/-- What the two input windows stage of their arrays at point `t`: 256 rows' atoms, and the columns' centres. -/
abbrev rows0 (c : Dev nD) (t : Fin cfg0.N) : FVec F S1x256x15 .f32 := ((cfg0.win 0).blk t).view.read (Elt F) (V c main_v0)
abbrev ctrs0 (c : Dev nD) (t : Fin cfg0.N) : FVec F S1x8x1024 .f32 := ((cfg0.win 1).blk t).view.read (Elt F) (V c main_v6)

/-- The proof data of the first call, entered at `V`. -/
def dat0 (c : Dev nD) : Dat τ (Elt F) (HIx 1) ℕ UU ℕ cfg0 c where
  A w := V c (Pipeline.arrRef spec0 w)
  after w t := match w with
    | ⟨0, _⟩ => rows0 V c t
    | ⟨1, _⟩ => ctrs0 V c t
    | ⟨2, _⟩ => eOut (k0_pay3 (rows0 V c t) (ctrs0 V c t))
    | ⟨3, _⟩ => gOut (BitVec.ofNat 32 (grid0.coords t 0).val) (k0_pay3 (rows0 V c t) (ctrs0 V c t))
    | ⟨4, _⟩ => pOut (BitVec.ofNat 32 (grid0.coords t 0).val) (BitVec.ofNat 32 (grid0.coords t 1).val) (rows0 V c t)
  Φ _ := Pipeline.scopedRest spec0 c
  q _ := fullShare
  owed _ := (K (F := F)).Otc c 0
  recorded _ := within (F := F) 0 c

theorem before0_0 (c : Dev nD) (t : Fin cfg0.N) (d) : (dat0 V c).before 0 t d = rows0 V c t :=
  ((dat0 V c).before_in_eq_fetched 0 rfl (fun _ => rfl) (fun _ _ _ => rfl) (fun _ => rfl) t d).trans rfl
theorem before0_1 (c : Dev nD) (t : Fin cfg0.N) (d) : (dat0 V c).before 1 t d = ctrs0 V c t :=
  ((dat0 V c).before_in_eq_fetched 1 rfl (fun _ => rfl) (fun _ _ _ => rfl) (fun _ => rfl) t d).trans rfl

theorem obl0 (c : Dev nD) : BodyObligation (dat0 V c) (defs₀ (F := F)) 𝒱₀ none Set.univ := fun t => by
  rw [bigSep_W0, bigSep_W0]
  rw [show (dat0 V c).Φ t.castSucc = Pipeline.scopedRest spec0 c from rfl, show (dat0 V c).Φ t.succ = Pipeline.scopedRest spec0 c from rfl,
    show (dat0 V c).owesAt none t.succ = (dat0 V c).owesAt none t.castSucc from rfl]
  iintro ⟨HΦ, Howes, ⟨%d0, H0⟩, ⟨%d1, H1⟩, ⟨%d2, H2⟩, ⟨%d3, H3⟩, ⟨%d4, H4⟩⟩
  rw [before0_0, before0_1]
  iapply (nearRun c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (rows0 V c t) (ctrs0 V c t))
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- The proof data of the two pipelines, the first's at `V`. -/
def pd0 : (p : Fin 2) → (c : Dev nD) → Dat τ (Elt F) (HIx 1) ℕ UU ℕ (Pipeline.pin (pcfgs (F := F)) adm p) c
  | ⟨0, _⟩ => fun c => dat0 V c
  | ⟨1, _⟩ => fun c => junk c

theorem rest0 (c : Dev nD) : (Pipeline.scopedRest spec0 c : sProp 𝕄) = Pipeline.scopedRest (Pipeline.pin (pcfgs (F := F)) adm 0).spec c := rfl

set_option backward.isDefEq.respectTransparency.types false in
/-- The first call run before the SparseCores' call: from the arrays at `V` to the arrays at `V'`, which has the
    three results at their blocks and everything else as found. -/
def reg0 (V' : (c : Dev nD) → (b : Ref sig .tc) → Buf (Elt F) ((c : Thread nD τ).loc b))
    (h2 : ∀ c, V' c main_v7_0 = (dat0 V c).arrAt 2 cfg0.N) (h3 : ∀ c, V' c main_v7_1 = (dat0 V c).arrAt 3 cfg0.N)
    (h4 : ∀ c, V' c main_v7_2 = (dat0 V c).arrAt 4 cfg0.N)
    (hoff : ∀ c (b : Ref sig .tc), b ≠ main_v7_0 → b ≠ main_v7_1 → b ≠ main_v7_2 → V' c b = V c b) :
    Pipeline.RegionSeg (pcfgs (F := F)) adm (pd0 V) none defs₀ 𝒱₀ (K (F := F)).L (K (F := F)).lev 0 :=
  reg (pd0 V) V V' 0 0 launch0 (fun c => obl0 V c)
    (fun c t => (rfl : (dat0 V c).owed t = (K (F := F)).Otc c 0)) (fun c t => (rfl : (dat0 V c).recorded t = within (F := F) 0 c))
    (fun c w => (rfl : (dat0 V c).q w = fullShare)) (fun c _ => rest0 c)
    (fun c w => (rfl : (dat0 V c).A w = V c (Pipeline.arrRef spec0 w)))
    (fun c w => match w with
      | ⟨0, _⟩ => ((dat0 V c).arrAt_in 0 rfl _).trans (hoff c main_v0 (by decide) (by decide) (by decide)).symm
      | ⟨1, _⟩ => ((dat0 V c).arrAt_in 1 rfl _).trans (hoff c main_v6 (by decide) (by decide) (by decide)).symm
      | ⟨2, _⟩ => (h2 c).symm
      | ⟨3, _⟩ => (h3 c).symm
      | ⟨4, _⟩ => (h4 c).symm)
    (fun c b hb => hoff c b (fun h => hb (h ▸ Finset.mem_image.mpr ⟨2, Finset.mem_univ _, rfl⟩))
      (fun h => hb (h ▸ Finset.mem_image.mpr ⟨3, Finset.mem_univ _, rfl⟩)) (fun h => hb (h ▸ Finset.mem_image.mpr ⟨4, Finset.mem_univ _, rfl⟩)))

end Cert.Proof.Written

end
-- ==== Proof.Written.Region1.lean ====
/-
  For the version as it is written, in the same words as for the kernel.

  The last call: for every block of 32 rows, from the gathered neighbours' rows and the rows' own, the edge features
  normalised. Its body run once at arbitrary staged blocks, its proof data at an arbitrary entry valuation, the call.
-/
module

public import proofs.«01_k».proof.Proof.Written.Region
public import Idealize.ShloMosaic.Lib.VecWindow
public import Idealize.ShloMosaic.Lib.Pipeline.FrameBody

@[expose] public section

noncomputable section

namespace Cert.Proof.Written

open Cert.WrittenIdeal Cert.WrittenIdeal.Gen

open Idealize.ShloMosaic
open Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-- The body's result from its nine blocks, at grid coordinate `b`. -/
def mix (b : BitVec 32) (X1 : FVec F S1536x16 .f32) (X2 : FVec F S32x16 .f32) (X3 : FVec F S16x96 .bf16) (X4 : FVec F S16x96 .bf16) (X5 : FVec F S8x512 .f32) (X6 : FVec F S640x128 .bf16) (X7 : FVec F S640x128 .bf16) (X8 : FVec F S8x128 .f32) (X9 : FVec F S8x128 .f32) : FVec F S1x32x48x128 .f32 :=
  k2_pay1 (k2_pay7 b (k2_pay2 X1) (k2_pay5 X1 X2 X3 X3 X4 X4) (k2_pay6 X1 X2 X3 X3 X4 X4) (VecWindow.window X5 ![0, 0] S1x512.size inb_S8x512_S1x512_0_0))
    (k2_pay8 X6) X7 (VecWindow.window X8 ![0, 0] S1x128.size inb_S8x128_S1x128_0_0) (VecWindow.window X9 ![0, 0] S1x128.size inb_S8x128_S1x128_0_0)

/-- The last kernel's body: its loads, and one store. -/
def mixProg (i : grid2.Coords) (arg1 : Memref sig .tc .vmem S1536x16 .f32) (harg1 : arg1.IsWhole) (arg2 : Memref sig .tc .vmem S32x16 .f32) (harg2 : arg2.IsWhole) (arg3 : Memref sig .tc .vmem S16x96 .bf16) (harg3 : arg3.IsWhole) (arg4 : Memref sig .tc .vmem S16x96 .bf16) (harg4 : arg4.IsWhole) (arg5 : Memref sig .tc .vmem S8x512 .f32) (harg5 : arg5.IsWhole) (arg6 : Memref sig .tc .vmem S640x128 .bf16) (harg6 : arg6.IsWhole) (arg7 : Memref sig .tc .vmem S640x128 .bf16) (harg7 : arg7.IsWhole) (arg8 : Memref sig .tc .vmem S8x128 .f32) (harg8 : arg8.IsWhole) (arg9 : Memref sig .tc .vmem S8x128 .f32) (harg9 : arg9.IsWhole) (arg10 : Memref sig .tc .vmem S1x32x48x128 .f32) (harg10 : arg10.IsWhole) :
    Prog (TpuEff nD τ sig (Elt F) Λ₀ .tc) PUnit := do
  let v0 : Vec F S1536x16 .f32 ← Prog.lift (.load arg1 (Rect.unit (s := S1536x16) ![0, 0] S1536x16.size inb_S1536x16_S1536x16_0_0).toLoadRect (View.loadsAt_vmem h_S1536x16))
  let v2 : Vec F S32x16 .f32 ← Prog.lift (.load arg2 (Rect.unit (s := S32x16) ![0, 0] S32x16.size inb_S32x16_S32x16_0_0).toLoadRect (View.loadsAt_vmem h_S32x16))
  let v8 : Vec F S16x96 .bf16 ← Prog.lift (.load arg3 (Rect.unit (s := S16x96) ![0, 0] S16x96.size inb_S16x96_S16x96_0_0).toLoadRect (View.loadsAt_vmem h_S16x96))
  let v11 : Vec F S16x96 .bf16 ← Prog.lift (.load arg3 (Rect.unit (s := S16x96) ![0, 0] S16x96.size inb_S16x96_S16x96_0_0).toLoadRect (View.loadsAt_vmem h_S16x96))
  let v19 : Vec F S16x96 .bf16 ← Prog.lift (.load arg4 (Rect.unit (s := S16x96) ![0, 0] S16x96.size inb_S16x96_S16x96_0_0).toLoadRect (View.loadsAt_vmem h_S16x96))
  let v22 : Vec F S16x96 .bf16 ← Prog.lift (.load arg4 (Rect.unit (s := S16x96) ![0, 0] S16x96.size inb_S16x96_S16x96_0_0).toLoadRect (View.loadsAt_vmem h_S16x96))
  let v48 : Vec F S1x512 .f32 ← Prog.lift (.load arg5 (Rect.unit (s := S8x512) ![0, 0] S1x512.size inb_S8x512_S1x512_0_0).toLoadRect (View.loadsAt_vmem h_S1x512))
  let v89 : Vec F S640x128 .bf16 ← Prog.lift (.load arg6 (Rect.unit (s := S640x128) ![0, 0] S640x128.size inb_S640x128_S640x128_0_0).toLoadRect (View.loadsAt_vmem h_S640x128))
  let v92 : Vec F S640x128 .bf16 ← Prog.lift (.load arg7 (Rect.unit (s := S640x128) ![0, 0] S640x128.size inb_S640x128_S640x128_0_0).toLoadRect (View.loadsAt_vmem h_S640x128))
  let v112 : Vec F S1x128 .f32 ← Prog.lift (.load arg8 (Rect.unit (s := S8x128) ![0, 0] S1x128.size inb_S8x128_S1x128_0_0).toLoadRect (View.loadsAt_vmem h_S1x128))
  let v116 : Vec F S1x128 .f32 ← Prog.lift (.load arg9 (Rect.unit (s := S8x128) ![0, 0] S1x128.size inb_S8x128_S1x128_0_0).toLoadRect (View.loadsAt_vmem h_S1x128))
  let v121 : Vec F S1x32x48x128 .f32 ← Prog.lift (.load arg10 (Rect.unit (s := S1x32x48x128) ![0, 0, 0, 0] S1x32x48x128.size inb_S1x32x48x128_S1x32x48x128_0_0_0_0).toLoadRect (View.loadsAt_vmem h_S1x32x48x128))
  Prog.lift (.store arg10 (Rect.unit (s := S1x32x48x128) ![0, 0, 0, 0] S1x32x48x128.size inb_S1x32x48x128_S1x32x48x128_0_0_0_0) (k2_pay1 (k2_pay7 (BitVec.ofNat 32 (i 0).val) (k2_pay2 v0) (k2_pay5 v0 v2 v8 v11 v19 v22) (k2_pay6 v0 v2 v8 v11 v19 v22) v48) (k2_pay8 v89) v92 v112 v116) Finset.univ (View.stores_vmem_bits_univ h_S1x32x48x128 rfl) (.inl rfl))
  pure ⟨⟩

set_option maxRecDepth 65536 in
/-- The printed body is that program. -/
theorem body2_eq : cc2__stage3_body (F := F) = mixProg (F := F) := by
  rw [cc2__stage3_body_eq_skeleton]
  funext i arg1 harg1 arg2 harg2 arg3 harg3 arg4 harg4 arg5 harg5 arg6 harg6 arg7 harg7 arg8 harg8 arg9 harg9 arg10 harg10
  unfold cc2__stage3_body_skel mixProg
  rw [k2_part1_eq_skeleton, k2_part2_eq_skeleton]
  unfold k2_part1_skel k2_part2_skel
  simp only [pure_bind, bind_assoc]

section Body
variable (c : Dev nD) (i : grid2.Coords) (arg1 : Memref sig .tc .vmem S1536x16 .f32) (harg1 : arg1.IsWhole) (arg2 : Memref sig .tc .vmem S32x16 .f32) (harg2 : arg2.IsWhole) (arg3 : Memref sig .tc .vmem S16x96 .bf16) (harg3 : arg3.IsWhole) (arg4 : Memref sig .tc .vmem S16x96 .bf16) (harg4 : arg4.IsWhole) (arg5 : Memref sig .tc .vmem S8x512 .f32) (harg5 : arg5.IsWhole) (arg6 : Memref sig .tc .vmem S640x128 .bf16) (harg6 : arg6.IsWhole) (arg7 : Memref sig .tc .vmem S640x128 .bf16) (harg7 : arg7.IsWhole) (arg8 : Memref sig .tc .vmem S8x128 .f32) (harg8 : arg8.IsWhole) (arg9 : Memref sig .tc .vmem S8x128 .f32) (harg9 : arg9.IsWhole) (arg10 : Memref sig .tc .vmem S1x32x48x128 .f32) (harg10 : arg10.IsWhole)

set_option maxRecDepth 65536 in
set_option maxHeartbeats 1600000 in
/-- The body, from the nine staged blocks: the result at `mix` of them. -/
theorem mixRun (X1 : FVec F S1536x16 .f32) (X2 : FVec F S32x16 .f32) (X3 : FVec F S16x96 .bf16) (X4 : FVec F S16x96 .bf16) (X5 : FVec F S8x512 .f32) (X6 : FVec F S640x128 .bf16) (X7 : FVec F S640x128 .bf16) (X8 : FVec F S8x128 .f32) (X9 : FVec F S8x128 .f32) (E : Set ℕ) (Q : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ X, owns (c : Thread nD τ) arg10 fullShare X)
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare (mix (BitVec.ofNat 32 (i 0).val) X1 X2 X3 X4 X5 X6 X7 X8 X9)) -∗ Q ⟨⟩))
      ⊢ wp frame (wpE (defs₀ (F := F)) Variants.none c none) E (cc2__stage3_body i arg1 harg1 arg2 harg2 arg3 harg3 arg4 harg4 arg5 harg5 arg6 harg6 arg7 harg7 arg8 harg8 arg9 harg9 arg10 harg10) Q := by
  rw [body2_eq]; unfold mixProg
  simp only [owns_whole harg1, owns_whole harg2, owns_whole harg3, owns_whole harg4, owns_whole harg5, owns_whole harg6, owns_whole harg7, owns_whole harg8, owns_whole harg9, owns_whole harg10]
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%X10, %f10, -, H10⟩, Hk⟩
  sl_exec!
  sl_step
  iapply Hk
  isplitl [H1]; · iexists f1; isplitr; (· ipureintro; exact h1); iexact H1
  isplitl [H2]; · iexists f2; isplitr; (· ipureintro; exact h2); iexact H2
  isplitl [H3]; · iexists f3; isplitr; (· ipureintro; exact h3); iexact H3
  isplitl [H4]; · iexists f4; isplitr; (· ipureintro; exact h4); iexact H4
  isplitl [H5]; · iexists f5; isplitr; (· ipureintro; exact h5); iexact H5
  isplitl [H6]; · iexists f6; isplitr; (· ipureintro; exact h6); iexact H6
  isplitl [H7]; · iexists f7; isplitr; (· ipureintro; exact h7); iexact H7
  isplitl [H8]; · iexists f8; isplitr; (· ipureintro; exact h8); iexact H8
  isplitl [H9]; · iexists f9; isplitr; (· ipureintro; exact h9); iexact H9
  iexists _; isplitr; swap; (· iexact H10); ipureintro
  refine (View.read_writes_full _ _ _ _ _).trans ?_
  rw [View.readAt_full, View.readAt_full, View.readAt_full, View.readAt_full, View.readAt_full, View.readAt_full]
  rw [View.readAt_unit arg5.view f5 inb_S8x512_S1x512_0_0 rfl inb_S8x512_S1x512_0_0,
    View.readAt_unit arg8.view f8 inb_S8x128_S1x128_0_0 rfl inb_S8x128_S1x128_0_0,
    View.readAt_unit arg9.view f9 inb_S8x128_S1x128_0_0 rfl inb_S8x128_S1x128_0_0,
    h1, h2, h3, h4, h5, h6, h7, h8, h9]
  unfold mix
  rfl

end Body

variable [∀ e, Nonempty (Elt F e)]
variable (V : (c : Dev nD) → (b : Ref sig .tc) → Buf (Elt F) ((c : Thread nD τ).loc b))

/-! What each input window stages of its array at point `t`. -/

abbrev rows1 (c : Dev nD) (t : Fin cfg2.N) : FVec F S1536x16 .f32 := ((cfg2.win 0).blk t).view.read (Elt F) (V c main_v10)
abbrev own1 (c : Dev nD) (t : Fin cfg2.N) : FVec F S32x16 .f32 := ((cfg2.win 1).blk t).view.read (Elt F) (V c main_v8)
abbrev ra1 (c : Dev nD) (t : Fin cfg2.N) : FVec F S16x96 .bf16 := ((cfg2.win 2).blk t).view.read (Elt F) (V c main_v51)
abbrev rb1 (c : Dev nD) (t : Fin cfg2.N) : FVec F S16x96 .bf16 := ((cfg2.win 3).blk t).view.read (Elt F) (V c main_v52)
abbrev cen1 (c : Dev nD) (t : Fin cfg2.N) : FVec F S8x512 .f32 := ((cfg2.win 4).blk t).view.read (Elt F) (V c main_cst_1)
abbrev wh1 (c : Dev nD) (t : Fin cfg2.N) : FVec F S640x128 .bf16 := ((cfg2.win 5).blk t).view.read (Elt F) (V c main_v41)
abbrev wl1 (c : Dev nD) (t : Fin cfg2.N) : FVec F S640x128 .bf16 := ((cfg2.win 6).blk t).view.read (Elt F) (V c main_v44)
abbrev sc1 (c : Dev nD) (t : Fin cfg2.N) : FVec F S8x128 .f32 := ((cfg2.win 7).blk t).view.read (Elt F) (V c main_v47)
abbrev bi1 (c : Dev nD) (t : Fin cfg2.N) : FVec F S8x128 .f32 := ((cfg2.win 8).blk t).view.read (Elt F) (V c main_v50)

/-- The proof data of the last call, entered at `V`. -/
def dat1 (c : Dev nD) : Dat τ (Elt F) (HIx 1) ℕ UU ℕ cfg2 c where
  A w := V c (Pipeline.arrRef spec2 w)
  after w t := match w with
    | ⟨0, _⟩ => rows1 V c t
    | ⟨1, _⟩ => own1 V c t
    | ⟨2, _⟩ => ra1 V c t
    | ⟨3, _⟩ => rb1 V c t
    | ⟨4, _⟩ => cen1 V c t
    | ⟨5, _⟩ => wh1 V c t
    | ⟨6, _⟩ => wl1 V c t
    | ⟨7, _⟩ => sc1 V c t
    | ⟨8, _⟩ => bi1 V c t
    | ⟨9, _⟩ => mix (BitVec.ofNat 32 (grid2.coords t 0).val) (rows1 V c t) (own1 V c t) (ra1 V c t) (rb1 V c t) (cen1 V c t) (wh1 V c t) (wl1 V c t) (sc1 V c t) (bi1 V c t)
  Φ _ := Pipeline.scopedRest spec2 c
  q _ := fullShare
  owed _ := (K (F := F)).Otc c 1
  recorded _ := within (F := F) 1 c

theorem before1_0 (c : Dev nD) (t : Fin cfg2.N) (d) : (dat1 V c).before 0 t d = rows1 V c t :=
  ((dat1 V c).before_in_eq_fetched 0 rfl (fun _ => rfl) (fun _ _ _ => rfl) (fun _ => rfl) t d).trans rfl
theorem before1_1 (c : Dev nD) (t : Fin cfg2.N) (d) : (dat1 V c).before 1 t d = own1 V c t :=
  ((dat1 V c).before_in_eq_fetched 1 rfl (fun _ => rfl) (fun _ _ _ => rfl) (fun _ => rfl) t d).trans rfl
theorem before1_2 (c : Dev nD) (t : Fin cfg2.N) (d) : (dat1 V c).before 2 t d = ra1 V c t :=
  ((dat1 V c).before_in_eq_fetched 2 rfl (fun _ => rfl) (fun _ _ _ => rfl) (fun _ => rfl) t d).trans rfl
theorem before1_3 (c : Dev nD) (t : Fin cfg2.N) (d) : (dat1 V c).before 3 t d = rb1 V c t :=
  ((dat1 V c).before_in_eq_fetched 3 rfl (fun _ => rfl) (fun _ _ _ => rfl) (fun _ => rfl) t d).trans rfl
theorem before1_4 (c : Dev nD) (t : Fin cfg2.N) (d) : (dat1 V c).before 4 t d = cen1 V c t :=
  ((dat1 V c).before_in_eq_fetched 4 rfl (fun _ => rfl) (fun _ _ _ => rfl) (fun _ => rfl) t d).trans rfl
theorem before1_5 (c : Dev nD) (t : Fin cfg2.N) (d) : (dat1 V c).before 5 t d = wh1 V c t :=
  ((dat1 V c).before_in_eq_fetched 5 rfl (fun _ => rfl) (fun _ _ _ => rfl) (fun _ => rfl) t d).trans rfl
theorem before1_6 (c : Dev nD) (t : Fin cfg2.N) (d) : (dat1 V c).before 6 t d = wl1 V c t :=
  ((dat1 V c).before_in_eq_fetched 6 rfl (fun _ => rfl) (fun _ _ _ => rfl) (fun _ => rfl) t d).trans rfl
theorem before1_7 (c : Dev nD) (t : Fin cfg2.N) (d) : (dat1 V c).before 7 t d = sc1 V c t :=
  ((dat1 V c).before_in_eq_fetched 7 rfl (fun _ => rfl) (fun _ _ _ => rfl) (fun _ => rfl) t d).trans rfl
theorem before1_8 (c : Dev nD) (t : Fin cfg2.N) (d) : (dat1 V c).before 8 t d = bi1 V c t :=
  ((dat1 V c).before_in_eq_fetched 8 rfl (fun _ => rfl) (fun _ _ _ => rfl) (fun _ => rfl) t d).trans rfl

theorem obl1 (c : Dev nD) : BodyObligation (dat1 V c) (defs₀ (F := F)) 𝒱₀ none Set.univ := fun t => by
  rw [bigSep_W2, bigSep_W2]
  rw [show (dat1 V c).Φ t.castSucc = Pipeline.scopedRest spec2 c from rfl, show (dat1 V c).Φ t.succ = Pipeline.scopedRest spec2 c from rfl,
    show (dat1 V c).owesAt none t.succ = (dat1 V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before1_0, before1_1, before1_2, before1_3, before1_4, before1_5, before1_6, before1_7, before1_8]
  iapply (mixRun c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) _ (hstage2_6 ((cfg2.slots t 6).cast nbuf2_6)) _ (hstage2_7 ((cfg2.slots t 7).cast nbuf2_7)) _ (hstage2_8 ((cfg2.slots t 8).cast nbuf2_8)) _ (hstage2_9 ((cfg2.slots t 9).cast nbuf2_9)) (rows1 V c t) (own1 V c t) (ra1 V c t) (rb1 V c t) (cen1 V c t) (wh1 V c t) (wl1 V c t) (sc1 V c t) (bi1 V c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The proof data of the two pipelines, the second's at `V`. -/
def pd1 : (p : Fin 2) → (c : Dev nD) → Dat τ (Elt F) (HIx 1) ℕ UU ℕ (Pipeline.pin (pcfgs (F := F)) adm p) c
  | ⟨0, _⟩ => fun c => junk c
  | ⟨1, _⟩ => fun c => dat1 V c

/-! The arrays the last call leaves, window by window. -/

theorem arr1_0 (V' : (c : Dev nD) → (b : Ref sig .tc) → Buf (Elt F) ((c : Thread nD τ).loc b))
    (hoff : ∀ c (b : Ref sig .tc), b ≠ main_v53 → V' c b = V c b) (c : Dev nD) : (dat1 V c).arrAt 0 cfg2.N = V' c main_v10 :=
  ((dat1 V c).arrAt_in 0 rfl cfg2.N).trans (hoff c main_v10 (by decide)).symm
theorem arr1_1 (V' : (c : Dev nD) → (b : Ref sig .tc) → Buf (Elt F) ((c : Thread nD τ).loc b))
    (hoff : ∀ c (b : Ref sig .tc), b ≠ main_v53 → V' c b = V c b) (c : Dev nD) : (dat1 V c).arrAt 1 cfg2.N = V' c main_v8 :=
  ((dat1 V c).arrAt_in 1 rfl cfg2.N).trans (hoff c main_v8 (by decide)).symm
theorem arr1_2 (V' : (c : Dev nD) → (b : Ref sig .tc) → Buf (Elt F) ((c : Thread nD τ).loc b))
    (hoff : ∀ c (b : Ref sig .tc), b ≠ main_v53 → V' c b = V c b) (c : Dev nD) : (dat1 V c).arrAt 2 cfg2.N = V' c main_v51 :=
  ((dat1 V c).arrAt_in 2 rfl cfg2.N).trans (hoff c main_v51 (by decide)).symm
theorem arr1_3 (V' : (c : Dev nD) → (b : Ref sig .tc) → Buf (Elt F) ((c : Thread nD τ).loc b))
    (hoff : ∀ c (b : Ref sig .tc), b ≠ main_v53 → V' c b = V c b) (c : Dev nD) : (dat1 V c).arrAt 3 cfg2.N = V' c main_v52 :=
  ((dat1 V c).arrAt_in 3 rfl cfg2.N).trans (hoff c main_v52 (by decide)).symm
theorem arr1_4 (V' : (c : Dev nD) → (b : Ref sig .tc) → Buf (Elt F) ((c : Thread nD τ).loc b))
    (hoff : ∀ c (b : Ref sig .tc), b ≠ main_v53 → V' c b = V c b) (c : Dev nD) : (dat1 V c).arrAt 4 cfg2.N = V' c main_cst_1 :=
  ((dat1 V c).arrAt_in 4 rfl cfg2.N).trans (hoff c main_cst_1 (by decide)).symm
theorem arr1_5 (V' : (c : Dev nD) → (b : Ref sig .tc) → Buf (Elt F) ((c : Thread nD τ).loc b))
    (hoff : ∀ c (b : Ref sig .tc), b ≠ main_v53 → V' c b = V c b) (c : Dev nD) : (dat1 V c).arrAt 5 cfg2.N = V' c main_v41 :=
  ((dat1 V c).arrAt_in 5 rfl cfg2.N).trans (hoff c main_v41 (by decide)).symm
theorem arr1_6 (V' : (c : Dev nD) → (b : Ref sig .tc) → Buf (Elt F) ((c : Thread nD τ).loc b))
    (hoff : ∀ c (b : Ref sig .tc), b ≠ main_v53 → V' c b = V c b) (c : Dev nD) : (dat1 V c).arrAt 6 cfg2.N = V' c main_v44 :=
  ((dat1 V c).arrAt_in 6 rfl cfg2.N).trans (hoff c main_v44 (by decide)).symm
theorem arr1_7 (V' : (c : Dev nD) → (b : Ref sig .tc) → Buf (Elt F) ((c : Thread nD τ).loc b))
    (hoff : ∀ c (b : Ref sig .tc), b ≠ main_v53 → V' c b = V c b) (c : Dev nD) : (dat1 V c).arrAt 7 cfg2.N = V' c main_v47 :=
  ((dat1 V c).arrAt_in 7 rfl cfg2.N).trans (hoff c main_v47 (by decide)).symm
theorem arr1_8 (V' : (c : Dev nD) → (b : Ref sig .tc) → Buf (Elt F) ((c : Thread nD τ).loc b))
    (hoff : ∀ c (b : Ref sig .tc), b ≠ main_v53 → V' c b = V c b) (c : Dev nD) : (dat1 V c).arrAt 8 cfg2.N = V' c main_v50 :=
  ((dat1 V c).arrAt_in 8 rfl cfg2.N).trans (hoff c main_v50 (by decide)).symm

theorem arr1 (V' : (c : Dev nD) → (b : Ref sig .tc) → Buf (Elt F) ((c : Thread nD τ).loc b))
    (h9 : ∀ c, V' c main_v53 = (dat1 V c).arrAt 9 cfg2.N)
    (hoff : ∀ c (b : Ref sig .tc), b ≠ main_v53 → V' c b = V c b) (c : Dev nD) :
    ∀ w : Fin 10, (dat1 V c).arrAt w cfg2.N = V' c (Pipeline.arrRef spec2 w)
  | ⟨0, _⟩ => arr1_0 V V' hoff c
  | ⟨1, _⟩ => arr1_1 V V' hoff c
  | ⟨2, _⟩ => arr1_2 V V' hoff c
  | ⟨3, _⟩ => arr1_3 V V' hoff c
  | ⟨4, _⟩ => arr1_4 V V' hoff c
  | ⟨5, _⟩ => arr1_5 V V' hoff c
  | ⟨6, _⟩ => arr1_6 V V' hoff c
  | ⟨7, _⟩ => arr1_7 V V' hoff c
  | ⟨8, _⟩ => arr1_8 V V' hoff c
  | ⟨9, _⟩ => (h9 c).symm

theorem rest1 (c : Dev nD) : (Pipeline.scopedRest spec2 c : sProp 𝕄) = Pipeline.scopedRest (Pipeline.pin (pcfgs (F := F)) adm 1).spec c := rfl

set_option backward.isDefEq.respectTransparency.types false in
/-- The last call run after the SparseCores' call: from the arrays at `V` to the arrays at `V'`, which has the
    result at its blocks and everything else as found. -/
def reg1 (V' : (c : Dev nD) → (b : Ref sig .tc) → Buf (Elt F) ((c : Thread nD τ).loc b))
    (h9 : ∀ c, V' c main_v53 = (dat1 V c).arrAt 9 cfg2.N)
    (hoff : ∀ c (b : Ref sig .tc), b ≠ main_v53 → V' c b = V c b) :
    Pipeline.RegionSeg (pcfgs (F := F)) adm (pd1 V) none defs₀ 𝒱₀ (K (F := F)).L (K (F := F)).lev 1 :=
  reg (pd1 V) V V' 1 1 launch2 (fun c => obl1 V c)
    (fun c t => (rfl : (dat1 V c).owed t = (K (F := F)).Otc c 1)) (fun c t => (rfl : (dat1 V c).recorded t = within (F := F) 1 c))
    (fun c w => (rfl : (dat1 V c).q w = fullShare)) (fun c _ => rest1 c)
    (fun c w => (rfl : (dat1 V c).A w = V c (Pipeline.arrRef spec2 w)))
    (fun c w => arr1 V V' h9 hoff c w)
    (fun c b hb => hoff c b (fun h => hb (h ▸ Finset.mem_image.mpr ⟨9, Finset.mem_univ _, rfl⟩)))

end Cert.Proof.Written

end
-- ==== Proof.Written.Run.lean ====
/-
  For the version as it is written.

  The whole program run from a launch memory. The arrays go through seven valuations: the launch's, then after the first
  host line, the first call, the flattenings, the SparseCores' call, the weights' tables, the last call, and
  the host line after it. The run ends
  with every array at the last of them and every semaphore at zero.
-/
module

public import proofs.«01_k».proof.Proof.Written.Host
public import proofs.«01_k».proof.Proof.Written.Region0
public import proofs.«01_k».proof.Proof.Written.Region1

@[expose] public section

noncomputable section

namespace Cert.Proof.Written

open Cert.WrittenIdeal Cert.WrittenIdeal.Gen

open Idealize.ShloMosaic
open Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- A TensorCore reference's buffer among a device's. -/
abbrev dr (b : Ref sig .tc) : DevRef τ sig := Proc.devRef .tc b

/-- A valuation read at the TensorCore's references. -/
abbrev at1 (W : Dev nD → Valuation τ sig (Elt F)) (c : Dev nD) (b : Ref sig .tc) : Buf (Elt F) ((c : Thread nD τ).loc b) := W c (dr b)

/-- A valuation with one buffer changed. -/
abbrev put (W : Valuation τ sig (Elt F)) (b : Ref sig .tc) (x : (dr b).ty.Contents (Elt F)) : Valuation τ sig (Elt F) :=
  Function.update W (dr b) x

theorem put_self (W : Valuation τ sig (Elt F)) (b : Ref sig .tc) (x) : put W b x (dr b) = x := Function.update_self ..
theorem put_ne (W : Valuation τ sig (Elt F)) {b b' : Ref sig .tc} (x) (h : b' ≠ b) : put W b x (dr b') = W (dr b') :=
  Function.update_of_ne (StableHlo.devRef_ne_of_ne h) ..

variable [∀ e, Nonempty (Elt F e)]
variable (m : (ℓ : Loc nD τ sig) → Buf (Elt F) ℓ) (ρ : Dev nD → PrngReg)

/-! ## The valuations -/

abbrev W0 (c : Dev nD) : Valuation τ sig (Elt F) := fun b => m (c, b)
def W1 (c : Dev nD) : Valuation τ sig (Elt F) := StableHlo.after ops0 (W0 m c)
def W2 (c : Dev nD) : Valuation τ sig (Elt F) :=
  put (put (put (W1 m c) main_v7_0 ((dat0 (at1 (W1 m)) c).arrAt 2 cfg0.N)) main_v7_1 ((dat0 (at1 (W1 m)) c).arrAt 3 cfg0.N))
    main_v7_2 ((dat0 (at1 (W1 m)) c).arrAt 4 cfg0.N)
def W3 (c : Dev nD) : Valuation τ sig (Elt F) := StableHlo.after ops1 (W2 m c)
/-- The list of row numbers and the table at the SparseCores' call. -/
abbrev gi₃ (c : Dev nD) : IVec S196608 32 := W3 m c (dr main_v9)
abbrev tb₃ (c : Dev nD) : FVec F S4096x16 .f32 := W3 m c (dr main_v8)
def W4 (c : Dev nD) : Valuation τ sig (Elt F) := put (W3 m c) main_v10 (gath (gi₃ m c) (tb₃ m c))
def W5 (c : Dev nD) : Valuation τ sig (Elt F) := StableHlo.after ops2 (W4 m c)
def W6 (c : Dev nD) : Valuation τ sig (Elt F) := put (W5 m c) main_v53 ((dat1 (at1 (W5 m)) c).arrAt 9 cfg2.N)
def W7 (c : Dev nD) : Valuation τ sig (Elt F) := StableHlo.after ops3 (W6 m c)

/-! ## The steps -/

omit [FloatOps F] [Named F] [∀ e, Nonempty (Elt F e)] in
theorem take_one {I : Type} [DecidableEq I] {s : Finset I} {i : I} (h : i ∈ s) {Φ : I → sProp 𝕄} :
    bigSep s Φ = iprop(Φ i ∗ bigSep (s.erase i) Φ) := BI.bigSep_erase h

/-- The call of a kernel, in the kernels' own signature. -/
abbrev innerCall (p : Fin 2) : Prog (TpuEff nD τ sig (Elt F) (ΛP (F := F)) .tc) PUnit := .op (.customCall (Pipeline.entry p) ()) fun _ => .ret ⟨⟩

omit [Named F] [∀ e, Nonempty (Elt F e)] in
theorem callTc_eq : ∀ p : Fin 2, callTc (F := F) p = SparseCore.liftProg (Q := 1) (innerCall p)
  | 0 => rfl
  | 1 => rfl

theorem call_step (p : Fin 2) (n : ℕ) (pd : (p : Fin 2) → (c : Dev nD) → Pipeline.Dat τ (Elt F) (HIx 1) ℕ UU ℕ (Pipeline.pin (pcfgs (F := F)) adm p) c)
    (R : Pipeline.RegionSeg (pcfgs (F := F)) adm pd none defs₀ 𝒱₀ (K (F := F)).L (K (F := F)).lev p)
    (V V' : (c : Dev nD) → (b : Ref sig .tc) → Buf (Elt F) ((c : Thread nD τ).loc b))
    (hpre : ∀ c, R.pre c = iprop(unscopedBufs c (V c) ∗ owing (F := F) n c))
    (hpost : ∀ c, R.post c = iprop(unscopedBufs c (V' c) ∗ owing (F := F) n c))
    (gi : Dev nD → IVec S196608 32) (tb : Dev nD → FVec F S4096x16 .f32) (κ : GSem nD τ sig → ℕ) (d : Dev nD) :
    iprop((K (F := F)).ctx EH (P gi tb) κ ∗ boundary (T d) ∗ unscopedBufs d (V d) ∗ (K (F := F)).tcSt EH d n
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ (callTc (F := F) p)
          fun _ => iprop(boundary (T d) ∗ unscopedBufs d (V' d) ∗ (K (F := F)).tcSt EH d n) := by
  rw [callTc_eq]
  unfold SparseCore.Cfg.tcSt
  iintro ⟨#Hctx, Hb, Hu, ⟨HO, Hrest⟩, Hg, Ht⟩
  iapply ((K (F := F)).wp_liftProg (D (F := F)) 𝒱 (T d) Set.univ none (innerCall p) _)
  ihave Hlev := (SparseCore.Cfg.ctx_levAts (K := K (F := F)) (EH := EH) (P := P gi tb) κ) $$ Hctx
  iapply (Pipeline.RegionSeg.wp (pcfgs (F := F)) adm pd none phinj EP defs₀ 𝒱₀ (K (F := F)).L (K (F := F)).lev R d none (fun _ h => nomatch h) _ _)
  rw [hpre, hpost]
  isplitl [Hrest]
  · iintro ⟨Hb, Hu, HO⟩
    rw [wp_ret]; imodintro
    isplitl [Hb]; · iexact Hb
    isplitl [Hu]; · iexact Hu
    isplitl [HO]; · iexact HO
    iexact Hrest
  isplitl [Hb]; · iexact Hb
  isplitl [Hu HO]
  · isplitl [Hu]; · iexact Hu
    iexact HO
  isplitl [Hlev]; · iexact Hlev
  isplitl [Hg] <;> iassumption

/-- A host line between the calls. -/
theorem host_step (ops : List (HloOp τ sig (Elt F))) (hb : ops.Forall fun op => op.bufs ⊆ StableHlo.tcRefs τ sig)
    (hf : ops.map HloOp.fresh = ops.map fun _ => (∅ : Finset (DevRef τ sig)))
    (W : Dev nD → Valuation τ sig (Elt F)) (d : Dev nD) {β : Type}
    (k : Prog (TpuEff nD τ sig (Elt F) (SparseCore.Sig (ΛP (F := F)) 1) .tc) β) (Q : β → sProp 𝕄) :
    iprop(boundary (T d) ∗ unscopedBufs d (at1 W d))
      ⊢ iprop(((boundary (T d) ∗ unscopedBufs d (at1 (fun c => StableHlo.after ops (W c)) d))
          -∗ wp frame (wpE ((K (F := F)).defs (D (F := F))) 𝒱 (T d) none) Set.univ k Q)
        -∗ wp frame (wpE ((K (F := F)).defs (D (F := F))) 𝒱 (T d) none) Set.univ (StableHlo.seq ops >>= fun _ => k) Q) := by
  have h := StableHlo.wp_seq (defs := (K (F := F)).defs (D (F := F))) 𝒱 none Set.univ d (Pipeline.ucRefs τ sig) (fun _ => k) (K := Q) ops
    (fun op ho => Pipeline.sub_ucRefs op ((List.forall_iff_forall_mem.mp hb) op ho))
    (fun op ho => (List.forall_iff_forall_mem.mp (StableHlo.forall_fresh_of_map hf)) op ho) (W d)
  rw [← Pipeline.unscopedBufs_held, ← Pipeline.unscopedBufs_held] at h
  exact h

/-- The three arrays of the SparseCores' call among all. -/
theorem split3 (d : Dev nD) (V : (b : Ref sig .tc) → Buf (Elt F) ((d : Thread nD τ).loc b)) :
    (unscopedBufs d V : sProp 𝕄) = iprop((iLoc d ↦{fullShare} V main_v9) ∗ (xLoc d ↦{fullShare} V main_v8) ∗ (oLoc d ↦{fullShare} V main_v10)
      ∗ bigSep ((((Finset.univ.filter fun b : Ref sig .tc => ¬ b.isScoped).erase main_v9).erase main_v8).erase main_v10)
          fun b => ((d : Thread nD τ).loc b) ↦{fullShare} V b) := by
  unfold unscopedBufs
  rw [take_one (i := main_v9) (by decide), take_one (i := main_v8) (by decide), take_one (i := main_v10) (by decide)]

theorem rest3 (d : Dev nD) (V V' : (b : Ref sig .tc) → Buf (Elt F) ((d : Thread nD τ).loc b)) (h : ∀ b, b ≠ main_v10 → V' b = V b) :
    (bigSep ((((Finset.univ.filter fun b : Ref sig .tc => ¬ b.isScoped).erase main_v9).erase main_v8).erase main_v10)
      fun b => ((d : Thread nD τ).loc b) ↦{fullShare} V b : sProp 𝕄)
    = bigSep ((((Finset.univ.filter fun b : Ref sig .tc => ¬ b.isScoped).erase main_v9).erase main_v8).erase main_v10)
      fun b => ((d : Thread nD τ).loc b) ↦{fullShare} V' b :=
  bigSep_congr fun b hb => by rw [h b (Finset.ne_of_mem_erase hb)]

/-- What the TensorCore keeps to the end. -/
abbrev FIN (d : Dev nD) : sProp 𝕄 := unscopedBufs d (at1 (W7 m) d)

theorem G_two (d : Dev nD) : (G (F := F) d : sProp 𝕄) = iprop(
    (Pipeline.cellsGhost (Pipeline.pin (pcfgs (F := F)) adm) EP 0 d ∗ Pipeline.cellsGhost (Pipeline.pin (pcfgs (F := F)) adm) EP 1 d)
    ∗ Pipeline.toksInit (Pipeline.pin (pcfgs (F := F)) adm) EP 0 d ∗ Pipeline.toksInit (Pipeline.pin (pcfgs (F := F)) adm) EP 1 d) := by
  unfold G
  rw [bigSep_fin_two, bigSep_fin_two]
  rfl

theorem hmain (κ : GSem nD τ sig → ℕ) (d : Dev nD) :
    iprop((K (F := F)).ctx EH (P (gi₃ m) (tb₃ m)) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  have hr0 := call_step (F := F) 0 0 _ (reg0 (at1 (W1 m)) (at1 (W2 m))
    (fun c => (put_ne _ _ (by decide)).trans ((put_ne _ _ (by decide)).trans (put_self ..)))
    (fun c => (put_ne _ _ (by decide)).trans (put_self ..)) (fun c => put_self ..)
    (fun c b h0 h1 h2 => (put_ne _ _ h2).trans ((put_ne _ _ h1).trans (put_ne _ _ h0)))) (at1 (W1 m)) (at1 (W2 m)) (fun _ => rfl) (fun _ => rfl) (gi₃ m) (tb₃ m) κ d
  have hr1 := call_step (F := F) 1 1 _ (reg1 (at1 (W5 m)) (at1 (W6 m)) (fun c => put_self ..) (fun c b h => put_ne _ _ h))
    (at1 (W5 m)) (at1 (W6 m)) (fun _ => rfl) (fun _ => rfl) (gi₃ m) (tb₃ m) κ d
  rw [main_eq]
  rw [G_two]
  unfold SparseCore.Cfg.tcRes SparseCore.Cfg.tcEnd mainProg
  iintro ⟨#Hctx, Hst, ⟨Hb, Hm, Hts, -⟩, ⟨Hg0, Hg1⟩, Ht0, Ht1⟩
  iapply (host_step (F := F) ops0 ops0_bufs ops0_fresh (W0 m) d _ _) $$ [Hb Hm]
  · isplitl [Hb]; · iexact Hb
    iexact Hm
  iintro ⟨Hb, Hm⟩
  rw [wp_bind]
  iapply (wp_wand_r _ _ _)
  isplitl [Hb Hm Hst Hg0 Ht0]
  · iapply hr0
    isplitr; · iexact Hctx
    isplitl [Hb]; · iexact Hb
    isplitl [Hm]; · iexact Hm
    isplitl [Hst]; · iexact Hst
    isplitl [Hg0] <;> iassumption
  iintro %_ ⟨Hb, Hm, Hst⟩
  iapply (host_step (F := F) ops1 ops1_bufs ops1_fresh (W2 m) d _ _) $$ [Hb Hm]
  · isplitl [Hb]; · iexact Hb
    iexact Hm
  iintro ⟨Hb, Hm⟩
  rw [wp_bind]
  ihave Hm := (show unscopedBufs d (at1 (fun c => StableHlo.after ops1 (W2 m c)) d) ⊢ _ from Entails.of_eq (split3 (F := F) d (at1 (W3 m) d))) $$ Hm
  icases Hm with ⟨Hi, Hx, Ho, Hrest⟩
  iapply ((K (F := F)).wp_run (D (F := F)) 𝒱 (EH := EH) (P := P (gi₃ m) (tb₃ m)) κ d 0)
  isplitr; · iexact Hctx
  isplitl [Hst]; · iexact Hst
  isplitl [Hi Hx Ho]
  · iapply (st_intro (gi₃ m) (tb₃ m) d (W3 m d (dr main_v10)))
    isplitl [Hi]; · iexact Hi
    isplitl [Hx]; · iexact Hx
    iexact Ho
  iintro ⟨Hst, Hdn⟩
  ihave Hdn' := (dn_elim (gi₃ m) (tb₃ m) d) $$ Hdn
  icases Hdn' with ⟨Hi, Hx, Ho⟩
  ihave Hrest := (Entails.of_eq (rest3 (F := F) d (at1 (W3 m) d) (at1 (W4 m) d) (fun b h => put_ne _ _ h))) $$ Hrest
  ihave Hm := (Entails.of_eq (split3 (F := F) d (at1 (W4 m) d)).symm) $$ [Hi Hx Ho Hrest]
  · rw [show at1 (W4 m) d main_v9 = gi₃ m d from put_ne _ _ (by decide), show at1 (W4 m) d main_v8 = tb₃ m d from put_ne _ _ (by decide),
      show at1 (W4 m) d main_v10 = gath (gi₃ m d) (tb₃ m d) from put_self ..]
    isplitl [Hi]; · iexact Hi
    isplitl [Hx]; · iexact Hx
    isplitl [Ho]; · iexact Ho
    iexact Hrest
  iapply (host_step (F := F) ops2 ops2_bufs ops2_fresh (W4 m) d _ _) $$ [Hb Hm]
  · isplitl [Hb]; · iexact Hb
    iexact Hm
  iintro ⟨Hb, Hm⟩
  rw [wp_bind]
  iapply (wp_wand_r _ _ _)
  isplitl [Hb Hm Hst Hg1 Ht1]
  · iapply hr1
    isplitr; · iexact Hctx
    isplitl [Hb]; · iexact Hb
    isplitl [Hm]; · iexact Hm
    isplitl [Hst]; · iexact Hst
    isplitl [Hg1] <;> iassumption
  iintro %_ ⟨Hb, Hm, Hst⟩
  iapply (host_step (F := F) ops3 ops3_bufs ops3_fresh (W6 m) d _ _) $$ [Hb Hm]
  · isplitl [Hb]; · iexact Hb
    iexact Hm
  iintro ⟨Hb, Hm⟩
  rw [wp_pure]; imodintro
  isplitl [Hst]; · iexact Hst
  isplitl [Hm]; · iexact Hm
  isplitl [Hb] <;> iassumption

def fq (d : Dev nD) (s' : Phys nD τ sig (Elt F)) : Prop :=
  ∀ b : Ref sig .tc, b.isScoped = false → s'.mem.mem ((d : Thread nD τ).loc b) = W7 m d (dr b)

theorem hfin (d : Dev nD) (s' : Phys nD τ sig (Elt F)) : iprop(FIN m d ∗ SI s') ⊢ (⌜fq m d s'⌝ : sProp 𝕄) := by
  have key : ∀ (b : Ref sig .tc) (hb : b.isScoped = false),
      iprop(FIN m d ∗ SI s') ⊢ (⌜s'.mem.mem ((d : Thread nD τ).loc b) = W7 m d (dr b)⌝ : sProp 𝕄) := fun b hb => by
    unfold FIN unscopedBufs
    rw [take_one (i := b) (Finset.mem_filter.mpr ⟨Finset.mem_univ _, by simp [hb]⟩)]
    iintro ⟨⟨H, -⟩, HSI⟩
    ihave H := (SI_pointsTo_agree (st := s') (ℓ := (d : Thread nD τ).loc b) (I := Finset.univ) (q := fullShare) (f := W7 m d (dr b))) $$ [HSI H]
    · isplitl [HSI] <;> iassumption
    icases H with %h
    ipureintro
    exact funext fun i => h i (Finset.mem_univ i)
  exact (forall_intro fun b => (forall_intro fun hb => key b hb).trans pure_forall.2).trans pure_forall.2

def QC : PUnit × MemSt nD τ sig (Elt F) → Prop := fun r =>
  (∀ (c : Dev nD) (b : Ref sig .tc), b.isScoped = false → r.2.mem ((c : Thread nD τ).loc b) = W7 m c (dr b)) ∧ r.2.sem = fun _ => 0

/-- The run. -/
theorem run_main (hpre : InRows (gi₃ m)) :
    θ_run (Cert.WrittenIdeal.defs (F := F)) (Cert.WrittenIdeal.threads (F := F)) ⟨m, fun _ => 0, ρ⟩ (QC m) :=
  SparseCore.Cfg.θ_run_sc_quiescent (K := K (F := F)) (D := D (F := F)) (𝒱 := 𝒱) (EH := EH) (P := P (gi₃ m) (tb₃ m)) (A := ∅) facts v₀
    (fun q hq => match q with | 0 => nomatch hq)
    (fun q _ => match q with | 0 => tileObl (gi₃ m) (tb₃ m) facts hpre)
    (fun q _ => match q with | 0 => SparseCore.Cfg.VecSplit.of_plain (vecSplit (gi₃ m) (tb₃ m)))
    m ρ main (G (F := F)) (FIN m) (u₀ (F := F)) (sep_elim_left.trans (hu₀ (gi₃ m) (tb₃ m))) (hmain m ρ) (fq m) (hfin m) (QC m) (fun _ h hz => ⟨h, hz⟩)

end Cert.Proof.Written

end
-- ==== Proof.Written.Value.lean ====
/-
  For the version as it is written, in the same words as for the kernel.

  The rounds of the nearest-neighbour search over the extended reals: the column that a round names is the first
  column of the row's least entry.
-/
module

public import proofs.«01_k».proof.Proof.Written.Rounds
public import proofs.«01_k».proof.Proof.Near.Pick
public import proofs.«01_k».proof.Proof.Near.Consts
public import Idealize.ShloMosaic.Lib.Pointwise

@[expose] public section

noncomputable section

namespace Cert.Proof.Written.Near

open Cert.WrittenIdeal Cert.WrittenIdeal.Gen
open Idealize.ShloMosaic
open Cert.Proof.Near

theorem toInt_small {n : ℕ} (h : n ≤ 1024) : (BitVec.ofNat 32 n).toInt = n := by
  have h1 : (BitVec.ofNat 32 n).toNat = n := by rw [BitVec.toNat_ofNat]; omega
  rw [BitVec.toInt_eq_toNat_of_lt (by omega), h1]

theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.1 h)]

variable (D : FVec Ideal S256x1024 .f32) (r : Fin 256)

/-- A row's least distance. -/
theorem mn_apply {i : Fin 1024} (hi : IsFirst (fun j => D (ix2 r j)) i) : mn D (ix2 r 0) = D (ix2 r i) := by
  pointwise [mn]
  rw [ofBits_inf]
  refine le_antisymm (Finset.fold_min_le _ |>.2 (.inr ⟨i, Finset.mem_univ _, le_refl _⟩)) ((Finset.le_fold_min _).2 ⟨le_top, fun j _ => ?_⟩)
  rcases hi j with h | h
  · exact h.le
  · exact h.1.le

/-- The column that a round names is the first column of the row's least distance. -/
theorem ix_apply : ix D (ix2 r 0) = BitVec.ofNat 32 (first fun j => D (ix2 r j)).val := by
  have hi := isFirst_first fun j : Fin 1024 => D (ix2 r j)
  revert hi
  generalize (first fun j : Fin 1024 => D (ix2 r j)) = i
  intro hi
  have hm := mn_apply D r hi
  pointwise [ix, hit, iot, big]
  rw [hm]
  refine BitVec.eq_of_toInt_eq ?_
  rw [← Finset.fold_hom (op' := min) (m := BitVec.toInt) toInt_minsi, toInt_small i.isLt.le]
  refine le_antisymm (Finset.fold_min_le _ |>.2 (.inr ⟨i, Finset.mem_univ _, ?_⟩)) ((Finset.le_fold_min _).2 ⟨?_, fun j _ => ?_⟩)
  · rw [if_pos rfl, toInt_small i.isLt.le]
  · have := i.isLt
    rw [show (2147483647#32).toInt = 2147483647 from by decide]; omega
  · split
    · rename_i h
      rw [toInt_small j.isLt.le]
      rcases hi j with h' | h'
      · have h'' : D (ix2 r i) < D (ix2 r j) := h'
        rw [h] at h''
        exact absurd h'' (lt_irrefl _)
      · exact Int.ofNat_le.2 h'.2
    · have := i.isLt
      rw [show (1024#32).toInt = 1024 from by decide]; omega

/-- A round closes the column that it names. -/
theorem nx_apply (j : Fin 1024) :
    nx D (ix2 r j) = Function.update (fun j => D (ix2 r j)) (first fun j => D (ix2 r j)) ⊤ j := by
  pointwise [nx, at', iot, far, ix_apply D r]
  rw [ofBits_inf]
  generalize (first fun j : Fin 1024 => D (ix2 r j)) = i
  by_cases h : j = i
  · rw [h, Function.update_self]
    simp [IntOp.cmpi, Scalar.select]
  · rw [Function.update_of_ne h]
    have hne : BitVec.ofNat 32 j.val ≠ BitVec.ofNat 32 i.val := fun h' => h (Fin.ext (by
      have := congrArg BitVec.toNat h'
      rw [BitVec.toNat_ofNat, BitVec.toNat_ofNat] at this
      have := i.isLt; have := j.isLt
      omega))
    have hb : (BitVec.ofNat 32 j.val == BitVec.ofNat 32 i.val) = false := beq_eq_false_iff_ne.2 hne
    simp [IntOp.cmpi, Scalar.select, hb]

/-- The distances after `n` rounds. -/
theorem Dn_apply (n : ℕ) : (fun j => Dn D n (ix2 r j)) = rounds (fun j => D (ix2 r j)) n := by
  induction n with
  | zero => rfl
  | succ n ih =>
    funext j
    show nx (Dn D n) (ix2 r j) = _
    rw [nx_apply, ih, rounds]

/-- The column named in round `n` of row `r`. -/
def pick (n : ℕ) : Fin 1024 := first (rounds (fun j => D (ix2 r j)) n)

theorem ix_Dn (n : ℕ) : ix (Dn D n) (ix2 r 0) = BitVec.ofNat 32 (pick D r n).val := by
  rw [ix_apply, Dn_apply]; rfl

/-- The 48 columns, side by side. -/
theorem cols_apply (k : Fin 48) : cols D (ix2 r k) = BitVec.ofNat 32 (pick D r k.val).val := by
  rw [← ix_Dn]
  unfold cols
  fin_cases k <;> pointwise
  all_goals rfl

end Cert.Proof.Written.Near

end
-- ==== Proof.Written.Arrays.lean ====
/-
  For the version as it is written, in the same words as for the kernel.

  The second array of the first call, from the atoms: the neighbours counted over all chains.
-/
module

public import proofs.«01_k».proof.Proof.Written.Region0
public import proofs.«01_k».proof.Proof.Gen.WrittenIdeal.Points
public import proofs.«01_k».proof.Proof.Written.Value
public import proofs.«01_k».proof.Proof.Near.Spec

@[expose] public section

noncomputable section

namespace Cert.Proof.Written.Near

open Cert.WrittenIdeal Cert.WrittenIdeal.Gen
open Idealize.ShloMosaic Idealize.ShloMosaic.TcCoe Idealize.SL.Sem
open Cert.Proof.Near
open Cert.Proof.Written (dat0 rows0 ctrs0)

/-- The distances of one block of rows. -/
theorem pay3_apply (x : FVec Ideal S1x256x15 .f32) (y : FVec Ideal S1x8x1024 .f32) (i : Fin 256) (j : Fin 1024) :
    k0_pay3 (F := Ideal) x y (ix2 i j)
      = gap ![x (ix3 0 i 3), x (ix3 0 i 4), x (ix3 0 i 5)] ![y (ix3 0 0 j), y (ix3 0 1 j), y (ix3 0 2 j)] := by
  pointwise [k0_pay3, k0_pay2]
  unfold gap
  rw [Fin.sum_univ_three]
  rfl

/-- Where an atom's coordinate lies in a residue's row of 15, and where a coordinate's columns lie. -/
def lane15 (a : Fin 5) (k : Fin 3) : Fin 15 := ⟨a.val * 3 + k.val, by omega⟩
def row8 (k : Fin 3) : Fin 8 := ⟨k.val, by omega⟩

variable (V : (c : Dev nD) → (b : Ref sig .tc) → Buf (Elt Ideal) ((c : Thread nD τ).loc b)) (c : Dev nD)

/-- Where the grid's points' blocks lie. -/
theorem idx0_0 : ∀ t : Fin cfg0.N, win0_0.index t 0 = t.val / 4 ∧ win0_0.index t 1 = t.val % 4 ∧ win0_0.index t 2 = 0 := by
  decide +kernel
theorem idx0_1 : ∀ t : Fin cfg0.N, win0_1.index t 0 = t.val / 4 ∧ win0_1.index t 1 = 0 ∧ win0_1.index t 2 = 0 := by
  decide +kernel
theorem idx0_3 : ∀ t : Fin cfg0.N, win0_3.index t 0 = t.val / 4 ∧ win0_3.index t 1 = t.val % 4 ∧ win0_3.index t 2 = 0 := by
  decide +kernel
theorem crd0 : ∀ t : Fin cfg0.N, (grid0.coords t 0).val = t.val / 4 ∧ (grid0.coords t 1).val = t.val % 4 := by
  decide +kernel

/-- A point's chain, and the residue at one of its rows. -/
def chainOf (t : Fin cfg0.N) : Fin 4 := ⟨t.val / 4, by have : t.val < 16 := t.isLt; omega⟩
def resOf (t : Fin cfg0.N) (i : Fin 256) : Fin 1024 := ⟨t.val % 4 * 256 + i.val, by omega⟩

theorem emb0_0 (t : Fin cfg0.N) (i : Fin 256) (l : Fin 15) : ((cfg0.win 0).blk t).view.emb (ix3 0 i l) = ix3 (chainOf t) (resOf t i) l := by
  obtain ⟨h0, h1, h2⟩ := idx0_0 t
  funext a; apply Fin.ext
  match a with
  | ⟨0, _⟩ => show win0_0.index t (0 : Fin 3) * 1 + 1 * 0 = t.val / 4; omega
  | ⟨1, _⟩ => show win0_0.index t (1 : Fin 3) * 256 + 1 * i.val = t.val % 4 * 256 + i.val; omega
  | ⟨2, _⟩ => show win0_0.index t (2 : Fin 3) * 15 + 1 * l.val = l.val; omega
theorem emb0_1 (t : Fin cfg0.N) (i : Fin 8) (l : Fin 1024) : ((cfg0.win 1).blk t).view.emb (ix3 0 i l) = ix3 (chainOf t) i l := by
  obtain ⟨h0, h1, h2⟩ := idx0_1 t
  funext a; apply Fin.ext
  match a with
  | ⟨0, _⟩ => show win0_1.index t (0 : Fin 3) * 1 + 1 * 0 = t.val / 4; omega
  | ⟨1, _⟩ => show win0_1.index t (1 : Fin 3) * 8 + 1 * i.val = i.val; omega
  | ⟨2, _⟩ => show win0_1.index t (2 : Fin 3) * 1024 + 1 * l.val = l.val; omega
theorem emb0_3 (t : Fin cfg0.N) (i : Fin 256) (l : Fin 48) : ((cfg0.win 3).blk t).view.emb (ix3 0 i l) = ix3 (chainOf t) (resOf t i) l := by
  obtain ⟨h0, h1, h2⟩ := idx0_3 t
  funext a; apply Fin.ext
  match a with
  | ⟨0, _⟩ => show win0_3.index t (0 : Fin 3) * 1 + 1 * 0 = t.val / 4; omega
  | ⟨1, _⟩ => show win0_3.index t (1 : Fin 3) * 256 + 1 * i.val = t.val % 4 * 256 + i.val; omega
  | ⟨2, _⟩ => show win0_3.index t (2 : Fin 3) * 48 + 1 * l.val = l.val; omega
theorem rows0_apply (t : Fin cfg0.N) (i : Fin 256) (l : Fin 15) :
    rows0 V c t (ix3 0 i l) = V c main_v0 (ix3 (chainOf t) (resOf t i) l) := by
  show V c main_v0 (((cfg0.win 0).blk t).view.emb (ix3 0 i l)) = _
  rw [emb0_0]
theorem ctrs0_apply (t : Fin cfg0.N) (i : Fin 8) (l : Fin 1024) :
    ctrs0 V c t (ix3 0 i l) = V c main_v6 (ix3 (chainOf t) i l) := by
  show V c main_v6 (((cfg0.win 1).blk t).view.emb (ix3 0 i l)) = _
  rw [emb0_1]

/-- Every residue lies in some point's block. -/
theorem res_cover (b : Fin 4) (i : Fin 1024) : ∃ (t : Fin cfg0.N) (i' : Fin 256), chainOf t = b ∧ resOf t i' = i :=
  ⟨⟨b.val * 4 + i.val / 256, by show _ < 16; omega⟩, ⟨i.val % 256, by omega⟩,
    Fin.ext (show (b.val * 4 + i.val / 256) / 4 = b.val by omega),
    Fin.ext (show (b.val * 4 + i.val / 256) % 4 * 256 + i.val % 256 = i.val by omega)⟩

variable (X : Coords)
  (hA : ∀ b i (a : Fin 5) (k : Fin 3), V c main_v0 (ix3 b i (lane15 a k)) = X b i a k)
  (hB : ∀ b j (k : Fin 3), V c main_v6 (ix3 b (row8 k) j) = X b j 1 k)

include hA hB in
/-- A block's distances are the residues'. -/
theorem dist_blk (t : Fin cfg0.N) (i : Fin 256) (j : Fin 1024) :
    k0_pay3 (F := Ideal) (rows0 V c t) (ctrs0 V c t) (ix2 i j) = sep X (chainOf t) (resOf t i) j := by
  rw [pay3_apply]
  unfold sep
  congr 1
  · funext k
    rw [← hA (chainOf t) (resOf t i) 1 k]
    match k with
    | 0 => exact rows0_apply V c t i 3
    | 1 => exact rows0_apply V c t i 4
    | 2 => exact rows0_apply V c t i 5
  · funext k
    rw [← hB (chainOf t) j k]
    match k with
    | 0 => exact ctrs0_apply V c t 0 j
    | 1 => exact ctrs0_apply V c t 1 j
    | 2 => exact ctrs0_apply V c t 2 j

/-- The neighbours counted over all chains. -/
def nbrAll : IVec S4x1024x48 32 := fun q => BitVec.ofNat 32 (neigh X (q 0) (q 1) (q 2).val).val + BitVec.ofNat 32 (q 0).val * 1024#32

include hA hB in
theorem pick_blk (t : Fin cfg0.N) (i : Fin 256) (n : ℕ) :
    pick (k0_pay3 (F := Ideal) (rows0 V c t) (ctrs0 V c t)) i n = neigh X (chainOf t) (resOf t i) n := by
  unfold pick neigh
  congr 2
  funext j
  exact dist_blk V c X hA hB t i j

include hA hB in
theorem flushed0_3 (t : Fin cfg0.N) : (dat0 V c).flushed 3 t = ((cfg0.win 3).blk t).view.read (Elt Ideal) (nbrAll X) := by
  funext q
  obtain ⟨z, i, l, rfl⟩ : ∃ z i l, q = ix3 z i l := ⟨q 0, q 1, q 2, by funext a; match a with | ⟨0, _⟩ => rfl | ⟨1, _⟩ => rfl | ⟨2, _⟩ => rfl⟩
  obtain rfl : z = 0 := Subsingleton.elim _ _
  have hr : ((cfg0.win 3).blk t).view.read (Elt Ideal) (nbrAll X) (ix3 0 i l) = nbrAll X (ix3 (chainOf t) (resOf t i) l) := by
    show nbrAll X (((cfg0.win 3).blk t).view.emb (ix3 0 i l)) = _
    rw [emb0_3]
  rw [hr]
  show gOut (BitVec.ofNat 32 (grid0.coords t 0).val) (k0_pay3 (F := Ideal) (rows0 V c t) (ctrs0 V c t)) (ix3 0 i l) = _
  rw [(crd0 t).1]
  have : gOut (BitVec.ofNat 32 (t.val / 4)) (k0_pay3 (F := Ideal) (rows0 V c t) (ctrs0 V c t)) (ix3 0 i l)
      = cols (k0_pay3 (F := Ideal) (rows0 V c t) (ctrs0 V c t)) (ix2 i l) + BitVec.ofNat 32 (t.val / 4) * 1024#32 := by
    pointwise [gOut]
    rfl
  rw [this, cols_apply, pick_blk V c X hA hB]
  rfl

include hA hB in
/-- The first call's second array: the neighbours counted over all chains. -/
theorem arr0_3 : (dat0 V c).arrAt 3 cfg0.N = nbrAll X :=
  (dat0 V c).arrAt_eq_of_cover 3 (nbrAll X) (fun t _ => flushed0_3 V c X hA hB t) fun (q : S4x1024x48.Idx) => by
    obtain ⟨b, i, l, rfl⟩ : ∃ b i l, q = ix3 b i l := ⟨q 0, q 1, q 2, by funext a; match a with | ⟨0, _⟩ => rfl | ⟨1, _⟩ => rfl | ⟨2, _⟩ => rfl⟩
    obtain ⟨t, i', rfl, rfl⟩ := res_cover b i
    refine ⟨t, flush0_3 t, ?_⟩
    have h := ((cfg0.win 3).blk t).view.emb_mem_set (ix3 0 i' l : S1x256x48.Idx)
    rwa [emb0_3] at h

end Cert.Proof.Written.Near

end
-- ==== Proof.Written.Scatter.lean ====
/-
  For the version as it is written, in the same words as for the kernel.

  The host code's writes of one array into another: a window set at a start.
-/
module

public import proofs.«01_k».proof.Proof.Gen.WrittenIdeal.Skeleton
public import Idealize.ShloMosaic.Lib.Routing.OpsPair
public import Idealize.ShloMosaic.Lib.Routing.OpsSet
public import Idealize.ShloMosaic.Lib.Pointwise

@[expose] public section

noncomputable section

namespace Cert.Proof.Written.Near

open Cert.WrittenIdeal Cert.WrittenIdeal.Gen
open Idealize.ShloMosaic

variable {α : Type}

theorem eq_ix1 (q : S1.Idx) : q = ix1 0 := by
  funext a; match a with | ⟨0, _⟩ => exact Subsingleton.elim (α := Fin 1) _ _

/-- A window's start, where one start index is given. -/
theorem start_one {t u : Shape} (d : ScatterDims t S1 u) (j : u.Idx) (s : S1.Idx → BitVec 32) (a : Fin t.rank) :
    d.start j s a = if a ∈ d.scatterDimsToOperandDims then (s (ix1 0)).toInt else 0 := by
  unfold ScatterDims.start
  split
  · rw [eq_ix1 (d.siIdx _ _)]
  · rfl

theorem ex_ix1 {n : ℕ} (q : (⟨1, ![n]⟩ : Shape).Idx) : ∃ a : Fin n, q = ix1 a :=
  ⟨q 0, by funext a; match a with | ⟨0, _⟩ => rfl⟩
theorem ex_ix2 {n0 n1 : ℕ} (q : (⟨2, ![n0, n1]⟩ : Shape).Idx) : ∃ (a : Fin n0) (b : Fin n1), q = ix2 a b :=
  ⟨q 0, q 1, by funext a; match a with | ⟨0, _⟩ => rfl | ⟨1, _⟩ => rfl⟩
theorem ex_ix3 {n0 n1 n2 : ℕ} (q : (⟨3, ![n0, n1, n2]⟩ : Shape).Idx) : ∃ (a : Fin n0) (b : Fin n1) (c : Fin n2), q = ix3 a b c :=
  ⟨q 0, q 1, q 2, by funext a; match a with | ⟨0, _⟩ => rfl | ⟨1, _⟩ => rfl | ⟨2, _⟩ => rfl⟩

/-- Three rows of columns set on top of eight. -/
theorem set_cols (x : S4x8x1024.Idx → α) (s : S1.Idx → BitVec 32) (hs : s (ix1 0) = 0#32) (u : S4x3x1024.Idx → α) (b : Fin 4) (k : Fin 3) (j : Fin 1024) :
    Host.scatter scatter_S4x8x1024_S1_S4x3x1024_012_n_1_0 (fun _ b => b) x s u (ix3 b ⟨k.val, by omega⟩ j) = u (ix3 b k j) := by
  have key : ∀ (b' : Fin 4) (k' : Fin 3) (j' : Fin 1024), scatter_S4x8x1024_S1_S4x3x1024_012_n_1_0.resultIdx? (ix3 b' k' j') s = some (ix3 b ⟨k.val, by omega⟩ j) ↔ b' = b ∧ k' = k ∧ j' = j := by
    intro b' k' j'
    rw [Routing.resultIdx?_eq_some]
    simp only [start_one, hs]
    constructor
    · intro h
      have h0 := h 0
      have h1 := h 1
      have h2 := h 2
      refine ⟨Fin.ext ?_, Fin.ext ?_, Fin.ext ?_⟩
      · have : (0 : ℤ) + (b'.val : ℤ) = b.val := h0; omega
      · have : (0 : ℤ) + (k'.val : ℤ) = k.val := h1; omega
      · have : (0 : ℤ) + (j'.val : ℤ) = j.val := h2; omega
    · rintro ⟨rfl, rfl, rfl⟩ a
      match a with
      | ⟨0, _⟩ => show (0 : ℤ) + (b'.val : ℤ) = b'.val; omega
      | ⟨1, _⟩ => show (0 : ℤ) + (k'.val : ℤ) = k'.val; omega
      | ⟨2, _⟩ => show (0 : ℤ) + (j'.val : ℤ) = j'.val; omega
  refine Routing.scatter_set_hit _ x s u _ _ (fun q hq => ?_) (ix3 b k j) ((key b k j).2 ⟨rfl, rfl, rfl⟩)
  obtain ⟨b', k', j', rfl⟩ := ex_ix3 q
  obtain ⟨rfl, rfl, rfl⟩ := (key b' k' j').1 hq
  rfl

end Cert.Proof.Written.Near

end
-- ==== Proof.Written.Entry.lean ====
/-
  For the version as it is written, in the same words as for the kernel.

  The host code's arrays around the first call, from the atoms; so every row number that the SparseCores fetch lies in
  the table.
-/
module

public import proofs.«01_k».proof.Proof.Written.Run
public import proofs.«01_k».proof.Proof.Written.Arrays
public import proofs.«01_k».proof.Proof.Written.Scatter
public import Idealize.ShloMosaic.Lib.StableHlo.ReadAt

@[expose] public section

noncomputable section

namespace Cert.Proof.Written.Near

open Cert.WrittenIdeal Cert.WrittenIdeal.Gen
open Idealize.ShloMosaic Idealize.ShloMosaic.TcCoe Idealize.SL.Sem
open Cert.Proof.Written
open Cert.Proof.Near

variable (m : (ℓ : Loc nD τ sig) → Buf (Elt Ideal) ℓ) (c : Dev nD)

/-- The atoms' coordinates as the program finds them. -/
def crd : Coords := fun b i a k => (m ((c : Thread nD τ).loc main_arg3) : FVec Ideal S4x1024x5x3 .f32) (ix4 b i a k)

theorem W1_v0 (b : Fin 4) (i : Fin 1024) (a : Fin 5) (k : Fin 3) :
    (W1 m c (dr main_v0) : FVec Ideal S4x1024x15 .f32) (ix3 b i (lane15 a k)) = crd m c b i a k := by
  unfold W1 ops0 dr
  after_reads_simp
  clean_types
  unfold lane15
  pointwise
  rfl

theorem W1_v6 (b : Fin 4) (j : Fin 1024) (k : Fin 3) :
    (W1 m c (dr main_v6) : FVec Ideal S4x8x1024 .f32) (ix3 b (row8 k) j) = crd m c b j 1 k := by
  unfold W1 ops0 dr
  after_reads_simp
  clean_types
  rw [show row8 k = ⟨k.val, by omega⟩ from rfl, set_cols]
  · pointwise
    rfl
  · pointwise

theorem W2_v7_1 : (W2 m c (dr main_v7_1) : IVec S4x1024x48 32) = nbrAll (crd m c) :=
  (put_ne _ _ (by decide)).trans ((put_self ..).trans
    (arr0_3 (at1 (W1 m)) c (crd m c) (W1_v0 m c) (W1_v6 m c)))
/-- A neighbour slot's number over all chains. -/
def slot (b : Fin 4) (i : Fin 1024) (k : Fin 48) : Fin 196608 := ⟨(b.val * 1024 + i.val) * 48 + k.val, by omega⟩
/-- A residue's number over all chains. -/
def resAll (b : Fin 4) (i : Fin 1024) : Fin 4096 := ⟨b.val * 1024 + i.val, by omega⟩

theorem ex_slot (n : Fin 196608) : ∃ b i k, n = slot b i k :=
  ⟨⟨n.val / 49152, by omega⟩, ⟨n.val / 48 % 1024, by omega⟩, ⟨n.val % 48, by omega⟩, Fin.ext (by simp only [slot]; omega)⟩

theorem gi_apply (b : Fin 4) (i : Fin 1024) (k : Fin 48) : gi₃ m c (ix1 (slot b i k)) = nbrAll (crd m c) (ix3 b i k) := by
  unfold gi₃ W3 ops1 dr
  after_reads_simp
  clean_types
  unfold slot
  pointwise
  exact congrFun (W2_v7_1 m c) _

theorem nbrAll_toNat (X : Coords) (b : Fin 4) (i : Fin 1024) (k : Fin 48) :
    (nbrAll X (ix3 b i k)).toNat = (resAll b (neigh X b i k.val)).val := by
  show (BitVec.ofNat 32 (neigh X b i k.val).val + BitVec.ofNat 32 b.val * 1024#32).toNat = b.val * 1024 + (neigh X b i k.val).val
  have := (neigh X b i k.val).isLt
  rw [← BitVec.ofNat_mul, ← BitVec.ofNat_add, BitVec.toNat_ofNat, Nat.mod_eq_of_lt (by omega)]
  omega

/-- Every row number lies in the table. -/
theorem inRows : InRows (gi₃ m) := fun d q => by
  obtain ⟨n, rfl⟩ := ex_ix1 q
  obtain ⟨b, i, k, rfl⟩ := ex_slot n
  rw [gi_apply, nbrAll_toNat]
  exact (resAll _ _).isLt

end Cert.Proof.Written.Near

end
-- ==== Proof.Written.End.lean ====
/-
  What the version leaves as it is written: its arguments as they were, and one number everywhere in the first
  result, which the reference's first result is not.
-/
module

public import proofs.«01_k».proof.Defs
public import proofs.«01_k».proof.Proof.Gen.Post_one_number
public import proofs.«01_k».proof.Proof.Gen.Pre_scaled_away
public import proofs.«01_k».proof.Proof.Gen.Post_not_the_reference
public import proofs.«01_k».proof.Proof.Written.Unlike
public import proofs.«01_k».proof.Proof.Written.Entry
public import Idealize.ShloMosaic.Lib.ReduceAll

@[expose] public section

noncomputable section

namespace Cert.Proof.Written

open Cert.WrittenIdeal Cert.WrittenIdeal.Gen
open Idealize.ShloMosaic Idealize.ShloMosaic.TcCoe Idealize.SL.Sem
open Cert.Proof.Written.Near

variable (m : (ℓ : Loc nD τ sig) → Buf (Elt Ideal) ℓ) (c : Dev nD)

theorem kept0 (V : Valuation τ sig (Elt Ideal)) {b : Ref sig .tc} (h : b ∉ writes0) : StableHlo.after ops0 V (dr b) = V (dr b) :=
  StableHlo.after_of_writes_sub ops0 V (StableHlo.forall_writes_sub_of_map ops0_writes) h
theorem kept1 (V : Valuation τ sig (Elt Ideal)) {b : Ref sig .tc} (h : b ∉ writes1) : StableHlo.after ops1 V (dr b) = V (dr b) :=
  StableHlo.after_of_writes_sub ops1 V (StableHlo.forall_writes_sub_of_map ops1_writes) h
theorem kept2 (V : Valuation τ sig (Elt Ideal)) {b : Ref sig .tc} (h : b ∉ writes2) : StableHlo.after ops2 V (dr b) = V (dr b) :=
  StableHlo.after_of_writes_sub ops2 V (StableHlo.forall_writes_sub_of_map ops2_writes) h
theorem kept3 (V : Valuation τ sig (Elt Ideal)) {b : Ref sig .tc} (h : b ∉ writes3) : StableHlo.after ops3 V (dr b) = V (dr b) :=
  StableHlo.after_of_writes_sub ops3 V (StableHlo.forall_writes_sub_of_map ops3_writes) h

theorem W7_arg {b : Ref sig .tc} (h : b ∉ writes0 ++ writes1 ++ writes2 ++ writes3 ++ [main_v7_0, main_v7_1, main_v7_2, main_v10, main_v53]) :
    W7 m c (dr b) = m ((c : Thread nD τ).loc b) := by
  simp only [List.mem_append, List.mem_cons, List.not_mem_nil, or_false, not_or] at h
  obtain ⟨⟨⟨⟨h0, h1⟩, h2⟩, h3⟩, n0, n1, n2, n3, n4⟩ := h
  exact (kept3 _ (by simp only [List.mem_cons, List.not_mem_nil, or_false, not_or]; exact h3)).trans ((put_ne _ _ n4).trans ((kept2 _ (by simp only [List.mem_cons, List.not_mem_nil, or_false, not_or]; exact h2)).trans ((put_ne _ _ n3).trans
    ((kept1 _ (by simp only [List.mem_cons, List.not_mem_nil, or_false, not_or]; exact h1)).trans ((put_ne _ _ n2).trans ((put_ne _ _ n1).trans ((put_ne _ _ n0).trans (kept0 _ (by simp only [List.mem_cons, List.not_mem_nil, or_false, not_or]; exact h0)))))))))

/-- The first result: times zero, and one number added. -/
theorem W7_one : ∃ x : EReal, (W7 m c (dr main_v59) : FVec Ideal S4x1024x48x128 .f32) = fun _ => x := by
  refine ⟨(W6 m c (dr main_v10) : FVec Ideal S196608x16 .f32) (ix2 0 0), ?_⟩
  funext q
  unfold W7 ops3 dr
  after_reads_simp
  clean_types
  pointwise
  rw [mul_zero, zero_add]

/-- The memory at the end, read at one of the program's arrays. -/
theorem last_at {r : PUnit × MemSt nD τ sig (Elt Ideal)} (h : QC m r) (c : Dev nD) (b : Ref sig .tc) (hb : b.isScoped = false) :
    r.2.mem ((c.tc : Thread nD τ).loc b) = W7 m c (dr b) := h.1 c b hb

/-- The arguments at the end. -/
theorem args_last {r : PUnit × MemSt nD τ sig (Elt Ideal)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨(last_at m h c main_arg0 rfl).trans (W7_arg m c (by decide)),
    (last_at m h c main_arg1 rfl).trans (W7_arg m c (by decide)),
    (last_at m h c main_arg2 rfl).trans (W7_arg m c (by decide)),
    (last_at m h c main_arg3 rfl).trans (W7_arg m c (by decide)),
    (last_at m h c main_arg4 rfl).trans (W7_arg m c (by decide)),
    (last_at m h c main_arg5 rfl).trans (W7_arg m c (by decide)),
    (last_at m h c main_arg6 rfl).trans (W7_arg m c (by decide)),
    (last_at m h c main_arg7 rfl).trans (W7_arg m c (by decide)),
    (last_at m h c main_arg8 rfl).trans (W7_arg m c (by decide)),
    (last_at m h c main_arg9 rfl).trans (W7_arg m c (by decide)),
    (last_at m h c main_arg10 rfl).trans (W7_arg m c (by decide)),
    (last_at m h c main_arg11 rfl).trans (W7_arg m c (by decide)),
    (last_at m h c main_arg12 rfl).trans (W7_arg m c (by decide)),
    (last_at m h c main_arg13 rfl).trans (W7_arg m c (by decide)),
    (last_at m h c main_arg14 rfl).trans (W7_arg m c (by decide)),
    (last_at m h c main_arg15 rfl).trans (W7_arg m c (by decide)),
    (last_at m h c main_arg16 rfl).trans (W7_arg m c (by decide))⟩

theorem frame : Cert.quiescent_WrittenIdeal := fun m ρ _ =>
  (θ_run Cert.WrittenIdeal.defs _ _).mono (fun _ h => ⟨fun c => args_last m h c, h.2⟩) (run_main (F := Ideal) m ρ (Near.inRows m))

theorem value : Cert.holds_WrittenIdeal_one_number := by
  intro m ρ _
  refine (θ_run Cert.WrittenIdeal.defs _ _).mono (fun _ h c => ?_) (run_main (F := Ideal) m ρ (Near.inRows m))
  obtain ⟨x, hx⟩ := W7_one m c
  have h59 := (last_at m h c main_v59 rfl).trans hx
  obtain ⟨a0, a1, a2, a3, a4, a5, a6, a7, a8, a9, a10, a11, a12, a13, a14, a15, a16⟩ := args_last m h c
  refine ⟨a0, a1, a2, a3, a4, a5, a6, a7, a8, a9, a10, a11, a12, a13, a14, a15, a16, ?_⟩
  rw [h59]
  exact one_of_const _ _ _ _ _ _ _ _ _ _ _ _ _ _ _ _ _ x _

/-- Where the scale is zero everywhere and two of the shifts are unlike, the first result is not the reference's. -/
theorem unlike : Cert.holds_WrittenIdeal_not_the_reference_pre_scaled_away := by
  intro m ρ hpre
  refine (θ_run Cert.WrittenIdeal.defs _ _).mono (fun _ h c => ?_) (run_main (F := Ideal) m ρ (Near.inRows m))
  obtain ⟨x, hx⟩ := W7_one m c
  have h59 := (last_at m h c main_v59 rfl).trans hx
  obtain ⟨hs, hb⟩ := scaled_away _ _ _ _ _ _ _ _ _ _ _ _ _ _ _ _ _ (hpre c)
  obtain ⟨a0, a1, a2, a3, a4, a5, a6, a7, a8, a9, a10, a11, a12, a13, a14, a15, a16⟩ := args_last m h c
  refine ⟨a0, a1, a2, a3, a4, a5, a6, a7, a8, a9, a10, a11, a12, a13, a14, a15, a16, ?_⟩
  rw [h59]
  exact not_reference _ _ _ _ _ _ _ _ _ _ _ _ _ _ _ _ _ x _ hs hb

end Cert.Proof.Written

end
-- ==== Proof.lean ====
/-
  The claims, assembled: the frames from the two programs' runs, the two results of the kernel against the
  reference's, the claims about each of the three calls alone, and those about the version as it is written.
-/
module

public import proofs.«01_k».proof.Defs
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_as_drawn
public import proofs.«01_k».proof.Proof.Gen.Gather
public import proofs.«01_k».proof.Proof.Gather.Value
public import proofs.«01_k».proof.Proof.Gen.Nearest
public import proofs.«01_k».proof.Proof.Gen.Nearest.Frame
public import proofs.«01_k».proof.Proof.Gen.NearestIdeal
public import proofs.«01_k».proof.Proof.Gen.NearestIdeal.Frame
public import proofs.«01_k».proof.Proof.Gen.Mixed
public import proofs.«01_k».proof.Proof.Gen.Mixed.Frame
public import proofs.«01_k».proof.Proof.Gen.MixedIdeal
public import proofs.«01_k».proof.Proof.Gen.MixedIdeal.Frame
public import proofs.«01_k».proof.Proof.Sc.Run
public import proofs.«01_k».proof.Proof.Mix.End
public import proofs.«01_k».proof.Proof.Ref.Edge
public import proofs.«01_k».proof.Proof.Gen.WrittenIdeal
public import proofs.«01_k».proof.Proof.Gen.Pre_scaled_away
public import proofs.«01_k».proof.Proof.Gen.Post_one_number
public import proofs.«01_k».proof.Proof.Gen.Post_not_the_reference
public import proofs.«01_k».proof.Proof.Written.End
public import proofs.«01_k».proof.Proof.Near.Given
public import proofs.«01_k».proof.Proof.Near.Real
public import Idealize.ShloMosaic.Lib.Quiescent
public import Idealize.ShloMosaic.Adequacy
public import Idealize.ShloMosaic.Init

@[expose] public section

noncomputable section

namespace Cert.Proof

open Idealize.ShloMosaic Idealize.SL.Sem
open Cert.Proof.Near

section Kernel

open Cert.KernelIdeal

variable (m : (ℓ : Loc nD τ sig) → Buf (Elt Ideal) ℓ)

/-- The memory at the end, read at one of the program's arrays. -/
theorem last_at {r : PUnit × MemSt nD τ sig (Elt Ideal)} (h : Sc.QC m r) (c : Dev nD) (b : Ref sig .tc) (hb : b.isScoped = false) :
    r.2.mem ((c.tc : Thread nD τ).loc b) = Sc.W6 m c (Sc.dr b) := h.1 c b hb

/-- The arguments at the end. -/
theorem args_last {r : PUnit × MemSt nD τ sig (Elt Ideal)} (h : Sc.QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨(last_at m h c main_arg0 rfl).trans (Mix.W6_arg m c (by decide) (by decide) (by decide) (by decide) (by decide) (by decide) (by decide) (by decide)),
    (last_at m h c main_arg1 rfl).trans (Mix.W6_arg m c (by decide) (by decide) (by decide) (by decide) (by decide) (by decide) (by decide) (by decide)),
    (last_at m h c main_arg2 rfl).trans (Mix.W6_arg m c (by decide) (by decide) (by decide) (by decide) (by decide) (by decide) (by decide) (by decide)),
    (last_at m h c main_arg3 rfl).trans (Mix.W6_arg m c (by decide) (by decide) (by decide) (by decide) (by decide) (by decide) (by decide) (by decide)),
    (last_at m h c main_arg4 rfl).trans (Mix.W6_arg m c (by decide) (by decide) (by decide) (by decide) (by decide) (by decide) (by decide) (by decide)),
    (last_at m h c main_arg5 rfl).trans (Mix.W6_arg m c (by decide) (by decide) (by decide) (by decide) (by decide) (by decide) (by decide) (by decide)),
    (last_at m h c main_arg6 rfl).trans (Mix.W6_arg m c (by decide) (by decide) (by decide) (by decide) (by decide) (by decide) (by decide) (by decide)),
    (last_at m h c main_arg7 rfl).trans (Mix.W6_arg m c (by decide) (by decide) (by decide) (by decide) (by decide) (by decide) (by decide) (by decide)),
    (last_at m h c main_arg8 rfl).trans (Mix.W6_arg m c (by decide) (by decide) (by decide) (by decide) (by decide) (by decide) (by decide) (by decide)),
    (last_at m h c main_arg9 rfl).trans (Mix.W6_arg m c (by decide) (by decide) (by decide) (by decide) (by decide) (by decide) (by decide) (by decide)),
    (last_at m h c main_arg10 rfl).trans (Mix.W6_arg m c (by decide) (by decide) (by decide) (by decide) (by decide) (by decide) (by decide) (by decide)),
    (last_at m h c main_arg11 rfl).trans (Mix.W6_arg m c (by decide) (by decide) (by decide) (by decide) (by decide) (by decide) (by decide) (by decide)),
    (last_at m h c main_arg12 rfl).trans (Mix.W6_arg m c (by decide) (by decide) (by decide) (by decide) (by decide) (by decide) (by decide) (by decide)),
    (last_at m h c main_arg13 rfl).trans (Mix.W6_arg m c (by decide) (by decide) (by decide) (by decide) (by decide) (by decide) (by decide) (by decide)),
    (last_at m h c main_arg14 rfl).trans (Mix.W6_arg m c (by decide) (by decide) (by decide) (by decide) (by decide) (by decide) (by decide) (by decide)),
    (last_at m h c main_arg15 rfl).trans (Mix.W6_arg m c (by decide) (by decide) (by decide) (by decide) (by decide) (by decide) (by decide) (by decide)),
    (last_at m h c main_arg16 rfl).trans (Mix.W6_arg m c (by decide) (by decide) (by decide) (by decide) (by decide) (by decide) (by decide) (by decide))⟩

end Kernel

theorem frame_kernel : Cert.quiescent_KernelIdeal := fun m ρ _ =>
  (θ_run Cert.KernelIdeal.defs _ _).mono (fun _ h => ⟨fun c => args_last m h c, h.2⟩) (Sc.run_main (F := Ideal) m ρ (Near.inRows m))

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

section Reference

open Cert.KernelIdeal

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The two programs' arguments are the same. -/
def Same : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)
  ∧ m' ((c.tc : Thread Cert.ReferenceIdeal.nD Cert.ReferenceIdeal.τ).loc Cert.ReferenceIdeal.main_arg8) = m ((c.tc : Thread nD τ).loc main_arg8)
  ∧ m' ((c.tc : Thread Cert.ReferenceIdeal.nD Cert.ReferenceIdeal.τ).loc Cert.ReferenceIdeal.main_arg9) = m ((c.tc : Thread nD τ).loc main_arg9)
  ∧ m' ((c.tc : Thread Cert.ReferenceIdeal.nD Cert.ReferenceIdeal.τ).loc Cert.ReferenceIdeal.main_arg10) = m ((c.tc : Thread nD τ).loc main_arg10)
  ∧ m' ((c.tc : Thread Cert.ReferenceIdeal.nD Cert.ReferenceIdeal.τ).loc Cert.ReferenceIdeal.main_arg11) = m ((c.tc : Thread nD τ).loc main_arg11)
  ∧ m' ((c.tc : Thread Cert.ReferenceIdeal.nD Cert.ReferenceIdeal.τ).loc Cert.ReferenceIdeal.main_arg12) = m ((c.tc : Thread nD τ).loc main_arg12)
  ∧ m' ((c.tc : Thread Cert.ReferenceIdeal.nD Cert.ReferenceIdeal.τ).loc Cert.ReferenceIdeal.main_arg13) = m ((c.tc : Thread nD τ).loc main_arg13)
  ∧ m' ((c.tc : Thread Cert.ReferenceIdeal.nD Cert.ReferenceIdeal.τ).loc Cert.ReferenceIdeal.main_arg14) = m ((c.tc : Thread nD τ).loc main_arg14)
  ∧ m' ((c.tc : Thread Cert.ReferenceIdeal.nD Cert.ReferenceIdeal.τ).loc Cert.ReferenceIdeal.main_arg15) = m ((c.tc : Thread nD τ).loc main_arg15)
  ∧ m' ((c.tc : Thread Cert.ReferenceIdeal.nD Cert.ReferenceIdeal.τ).loc Cert.ReferenceIdeal.main_arg16) = m ((c.tc : Thread nD τ).loc main_arg16)

variable (G : Near.Given (m ((c.tc : Thread nD τ).loc main_arg3)) (m ((c.tc : Thread nD τ).loc main_arg7)) (m ((c.tc : Thread nD τ).loc main_arg9))
    (m ((c.tc : Thread nD τ).loc main_arg11)) (m ((c.tc : Thread nD τ).loc main_arg12)) (m ((c.tc : Thread nD τ).loc main_arg13)) (m ((c.tc : Thread nD τ).loc main_arg14)))
  (S : Same m m' c)

/-- The reference's arrays at the start. -/
abbrev start : Valuation Cert.ReferenceIdeal.τ Cert.ReferenceIdeal.sig (Elt Ideal) := StableHlo.launchContents m' c

include S in
theorem ref_crd : Ref.crd (start m' c) = Near.crd m c := by
  obtain ⟨-, -, -, e3, -⟩ := S
  funext b i a k
  exact congrFun e3 _

include G S in
theorem ref_sep (b : Fin 4) (i j : Fin 1024) : sep (Ref.crd (start m' c)) b i j ≠ ⊤ := by
  rw [ref_crd m m' c S]
  exact sep_ne_top _ (fun b i a k => G.X _) b i j

include G S in
theorem ref_mask (b : Fin 4) (i : Fin 1024) :
    (start m' c (Proc.devRef .tc Cert.ReferenceIdeal.main_arg7) : FVec Ideal Cert.ReferenceIdeal.S4x1024 .f32) (ix2 b i) = (1 : EReal) := by
  obtain ⟨-, -, -, -, -, -, -, e7, -⟩ := S
  exact (congrFun e7 _).trans (G.mask b i)

include G S in
theorem ref_chain (b : Fin 4) (i : Fin 1024) :
    (start m' c (Proc.devRef .tc Cert.ReferenceIdeal.main_arg11) : IVec Cert.ReferenceIdeal.S4x1024 32) (ix2 b i)
      = (start m' c (Proc.devRef .tc Cert.ReferenceIdeal.main_arg11) : IVec Cert.ReferenceIdeal.S4x1024 32) (ix2 b 0) := by
  obtain ⟨-, -, -, -, -, -, -, -, -, -, -, e11, -⟩ := S
  exact ((congrFun e11 _).trans (G.chain b i)).trans (congrFun e11 _).symm

include G S in
theorem ref_res (b : Fin 4) (i : Fin 1024) : Ref.number (start m' c) b i = Ref.number (start m' c) b 0 + BitVec.ofNat 32 i.val := by
  obtain ⟨-, -, -, -, -, -, -, -, -, e9, -⟩ := S
  exact ((congrFun e9 _).trans (G.res b i)).trans (congrArg (· + BitVec.ofNat 32 i.val) (congrFun e9 _).symm)

include S in
theorem ref_wpos : Ref.wpos (start m' c) = fun i e => (m ((c.tc : Thread nD τ).loc main_arg12) : FVec Ideal S66x16 .f32) (ix2 i e) := by
  obtain ⟨-, -, -, -, -, -, -, -, -, -, -, -, e12, e13, e14, e15, e16⟩ := S
  funext i e; exact congrFun e12 _
include S in
theorem ref_bpos : Ref.bpos (start m' c) = fun e => (m ((c.tc : Thread nD τ).loc main_arg13) : FVec Ideal S16 .f32) (ix1 e) := by
  obtain ⟨-, -, -, -, -, -, -, -, -, -, -, -, e12, e13, e14, e15, e16⟩ := S
  funext e; exact congrFun e13 _
include S in
theorem ref_wedge : Ref.wedge (start m' c) = fun i e => (m ((c.tc : Thread nD τ).loc main_arg14) : FVec Ideal S416x128 .f32) (ix2 i e) := by
  obtain ⟨-, -, -, -, -, -, -, -, -, -, -, -, e12, e13, e14, e15, e16⟩ := S
  funext i e; exact congrFun e14 _
include S in
theorem ref_scale : Ref.scale (start m' c) = fun e => (m ((c.tc : Thread nD τ).loc main_arg15) : FVec Ideal S128 .f32) (ix1 e) := by
  obtain ⟨-, -, -, -, -, -, -, -, -, -, -, -, e12, e13, e14, e15, e16⟩ := S
  funext e; exact congrFun e15 _
include S in
theorem ref_shift : Ref.shift (start m' c) = fun e => (m ((c.tc : Thread nD τ).loc main_arg16) : FVec Ideal S128 .f32) (ix1 e) := by
  obtain ⟨-, -, -, -, -, -, -, -, -, -, -, -, e12, e13, e14, e15, e16⟩ := S
  funext e; exact congrFun e16 _

end Reference

theorem value : Cert.algebraic_KernelIdeal_ReferenceIdeal_pre_as_drawn := by
  intro m ρ m' ρ' hpre hargs
  have G := fun c => Near.given _ _ _ _ _ _ _ _ _ _ _ _ _ _ _ _ _ (hpre c)
  refine ⟨fun c => Mix.feats (Near.crd m c) (m ((c.tc : Thread _ _).loc Cert.KernelIdeal.main_arg12)) (m ((c.tc : Thread _ _).loc Cert.KernelIdeal.main_arg13))
      (m ((c.tc : Thread _ _).loc Cert.KernelIdeal.main_arg14)) (m ((c.tc : Thread _ _).loc Cert.KernelIdeal.main_arg15)) (m ((c.tc : Thread _ _).loc Cert.KernelIdeal.main_arg16)),
    fun c => Near.nbr (Near.crd m c), ?_, ?_⟩
  · exact (θ_run Cert.KernelIdeal.defs _ _).mono (fun _ h c =>
      ⟨(last_at m h c Cert.KernelIdeal.main_v53 rfl).trans (Mix.W6_feats m c (G c).X (G c).wp (G c).bp (G c).we),
        (last_at m h c Cert.KernelIdeal.main_v7_0 rfl).trans (Mix.W6_nbr m c), args_last m h c⟩)
      (Sc.run_main (F := Ideal) m ρ (Near.inRows m))
  · refine (θ_run Cert.ReferenceIdeal.defs _ _).mono (fun _ h c => ⟨(h c).1.trans ?_, (h c).2.1.trans ?_, (h c).2.2⟩)
      (Cert.ReferenceIdeal.Value.run (F := Ideal) m' ρ')
    · funext q
      obtain ⟨b, i, n, k, rfl⟩ := Mix.ex_ix4 (n0 := 4) (n1 := 1024) (n2 := 48) (n3 := 128) q
      refine (Ref.edges_at _ b i _ n (fun k => Ref.v152_at _ b i n (ref_mask m m' c (G c) (hargs c)) (ref_sep m m' c (G c) (hargs c)) (ref_chain m m' c (G c) (hargs c)) (ref_res m m' c (G c) (hargs c)) k) k _ rfl).trans ?_
      rw [ref_crd m m' c (hargs c), ref_wpos m m' c (hargs c), ref_bpos m m' c (hargs c), ref_wedge m m' c (hargs c), ref_scale m m' c (hargs c), ref_shift m m' c (hargs c)]
      rfl
    · funext q
      obtain ⟨b, i, n, rfl⟩ := ex_ix3 (n0 := 4) (n1 := 1024) (n2 := 48) q
      refine (Ref.indices_at _ (ref_mask m m' c (G c) (hargs c)) (ref_sep m m' c (G c) (hargs c)) b i n).trans ?_
      rw [ref_crd m m' c (hargs c)]
      rfl

/-- The one rewrite of the last call: the literal nearest to 4/5 is named as the real number. -/
theorem sigma_named : Cert.preserves_Mixed_MixedIdeal := IdealRules.named_const.statement _ _ _ _ _ rfl

theorem claim : Cert.Claim := ⟨Cert.KernelIdeal.Gen.facts, Cert.ReferenceIdeal.Gen.facts, Cert.Gather.Gen.facts, Cert.GatherIdeal.Gen.facts,
  Cert.RowsIdeal.Gen.facts, Cert.Nearest.Gen.facts, Cert.NearestIdeal.Gen.facts, Cert.Mixed.Gen.facts, Cert.MixedIdeal.Gen.facts,
  Cert.WrittenIdeal.Gen.facts, Cert.Pre_as_drawn.Gen.facts, Cert.Pre_rows_named.Gen.facts, Cert.Pre_scaled_away.Gen.facts,
  Cert.Post_one_number.Gen.facts, Cert.Post_not_the_reference.Gen.facts,
  frame_kernel, fun m ρ _ => frame_kernel m ρ trivial, frame_reference, fun m ρ _ => frame_reference m ρ trivial,
  Rows.frame_gather, Rows.frame_ideal, Rows.frame_rows,
  fun m ρ _ => Cert.Nearest.Gen.frame m ρ, fun m ρ _ => Cert.NearestIdeal.Gen.frame m ρ,
  fun m ρ _ => Cert.Mixed.Gen.frame m ρ, fun m ρ _ => Cert.MixedIdeal.Gen.frame m ρ,
  Written.frame, fun m ρ _ => Written.frame m ρ trivial,
  value, trivial, Rows.value, trivial, sigma_named, Written.value, Written.unlike⟩

end Cert.Proof

end
